-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3)
      ∧ r.2.mem ((c.tc : Thread Cert.Kernel39.nD Cert.Kernel39.τ).loc Cert.Kernel39.main_arg4) = m ((c.tc : Thread Cert.Kernel39.nD Cert.Kernel39.τ).loc Cert.Kernel39.main_arg4)
      ∧ r.2.mem ((c.tc : Thread Cert.Kernel39.nD Cert.Kernel39.τ).loc Cert.Kernel39.main_arg5) = m ((c.tc : Thread Cert.Kernel39.nD Cert.Kernel39.τ).loc Cert.Kernel39.main_arg5)
      ∧ r.2.mem ((c.tc : Thread Cert.Kernel39.nD Cert.Kernel39.τ).loc Cert.Kernel39.main_arg6) = m ((c.tc : Thread Cert.Kernel39.nD Cert.Kernel39.τ).loc Cert.Kernel39.main_arg6))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
      ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
      ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
      ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3)
      ∧ r.2.mem ((c.tc : Thread Cert.Reference39Ideal.nD Cert.Reference39Ideal.τ).loc Cert.Reference39Ideal.main_arg4) = m ((c.tc : Thread Cert.Reference39Ideal.nD Cert.Reference39Ideal.τ).loc Cert.Reference39Ideal.main_arg4)
      ∧ r.2.mem ((c.tc : Thread Cert.Reference39Ideal.nD Cert.Reference39Ideal.τ).loc Cert.Reference39Ideal.main_arg5) = m ((c.tc : Thread Cert.Reference39Ideal.nD Cert.Reference39Ideal.τ).loc Cert.Reference39Ideal.main_arg5)
      ∧ r.2.mem ((c.tc : Thread Cert.Reference39Ideal.nD Cert.Reference39Ideal.τ).loc Cert.Reference39Ideal.main_arg6) = m ((c.tc : Thread Cert.Reference39Ideal.nD Cert.Reference39Ideal.τ).loc Cert.Reference39Ideal.main_arg6))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_v11) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v40) = v0 c
          ∧ r.2.mem ((c.tc : Thread Cert.Reference3Ideal.nD Cert.Reference3Ideal.τ).loc Cert.Reference3Ideal.main_v41) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_v25) = v1 c
          ∧ r.2.mem ((c.tc : Thread Cert.Reference12Ideal.nD Cert.Reference12Ideal.τ).loc Cert.Reference12Ideal.main_v6) = v2 c
          ∧ r.2.mem ((c.tc : Thread Cert.Reference12Ideal.nD Cert.Reference12Ideal.τ).loc Cert.Reference12Ideal.main_v12) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_v25) = v1 c
          ∧ r.2.mem ((c.tc : Thread Cert.Reference15Ideal.nD Cert.Reference15Ideal.τ).loc Cert.Reference15Ideal.main_v6) = v2 c
          ∧ r.2.mem ((c.tc : Thread Cert.Reference15Ideal.nD Cert.Reference15Ideal.τ).loc Cert.Reference15Ideal.main_v12) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v1) = v0 c
          ∧ r.2.mem ((c.tc : Thread Cert.Reference17Ideal.nD Cert.Reference17Ideal.τ).loc Cert.Reference17Ideal.main_v25) = v1 c
          ∧ r.2.mem ((c.tc : Thread Cert.Reference17Ideal.nD Cert.Reference17Ideal.τ).loc Cert.Reference17Ideal.main_v6) = v2 c
          ∧ r.2.mem ((c.tc : Thread Cert.Reference17Ideal.nD Cert.Reference17Ideal.τ).loc Cert.Reference17Ideal.main_v12) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v0) = v0 c
          ∧ r.2.mem ((c.tc : Thread Cert.Reference20Ideal.nD Cert.Reference20Ideal.τ).loc Cert.Reference20Ideal.main_v24) = v1 c
          ∧ r.2.mem ((c.tc : Thread Cert.Reference20Ideal.nD Cert.Reference20Ideal.τ).loc Cert.Reference20Ideal.main_v5) = v2 c
          ∧ r.2.mem ((c.tc : Thread Cert.Reference20Ideal.nD Cert.Reference20Ideal.τ).loc Cert.Reference20Ideal.main_v11) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v36) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v54) = v0 c
          ∧ r.2.mem ((c.tc : Thread Cert.Reference22Ideal.nD Cert.Reference22Ideal.τ).loc Cert.Reference22Ideal.main_v55) = v1 c
          ∧ r.2.mem ((c.tc : Thread Cert.Reference22Ideal.nD Cert.Reference22Ideal.τ).loc Cert.Reference22Ideal.main_v56) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v6) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v7) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v5) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v5) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v3) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v3) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v4) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v3) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v3) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v19) = v0 c
          ∧ r.2.mem ((c.tc : Thread Cert.Reference35Ideal.nD Cert.Reference35Ideal.τ).loc Cert.Reference35Ideal.main_v22) = v1 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v12) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v12) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v16) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)
      ∧ m' ((c.tc : Thread Cert.Reference39Ideal.nD Cert.Reference39Ideal.τ).loc Cert.Reference39Ideal.main_arg4) = m ((c.tc : Thread Cert.Kernel39Ideal.nD Cert.Kernel39Ideal.τ).loc Cert.Kernel39Ideal.main_arg4)
      ∧ m' ((c.tc : Thread Cert.Reference39Ideal.nD Cert.Reference39Ideal.τ).loc Cert.Reference39Ideal.main_arg5) = m ((c.tc : Thread Cert.Kernel39Ideal.nD Cert.Kernel39Ideal.τ).loc Cert.Kernel39Ideal.main_arg5)
      ∧ m' ((c.tc : Thread Cert.Reference39Ideal.nD Cert.Reference39Ideal.τ).loc Cert.Reference39Ideal.main_arg6) = m ((c.tc : Thread Cert.Kernel39Ideal.nD Cert.Kernel39Ideal.τ).loc Cert.Kernel39Ideal.main_arg6)) →
    ∃ (v0 : (c : Dev Cert.Kernel39Ideal.nD) → Buf (Elt Ideal) ((c.tc : Thread Cert.Kernel39Ideal.nD Cert.Kernel39Ideal.τ).loc Cert.Kernel39Ideal.main_v0_0)) (v1 : (c : Dev Cert.Kernel39Ideal.nD) → Buf (Elt Ideal) ((c.tc : Thread Cert.Kernel39Ideal.nD Cert.Kernel39Ideal.τ).loc Cert.Kernel39Ideal.main_v0_1)) (v2 : (c : Dev Cert.Kernel39Ideal.nD) → Buf (Elt Ideal) ((c.tc : Thread Cert.Kernel39Ideal.nD Cert.Kernel39Ideal.τ).loc Cert.Kernel39Ideal.main_v0_2)) (v3 : (c : Dev Cert.Kernel39Ideal.nD) → Buf (Elt Ideal) ((c.tc : Thread Cert.Kernel39Ideal.nD Cert.Kernel39Ideal.τ).loc Cert.Kernel39Ideal.main_v0_3)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v0_0) = v0 c
          ∧ r.2.mem ((c.tc : Thread Cert.Kernel39Ideal.nD Cert.Kernel39Ideal.τ).loc Cert.Kernel39Ideal.main_v0_1) = v1 c
          ∧ r.2.mem ((c.tc : Thread Cert.Kernel39Ideal.nD Cert.Kernel39Ideal.τ).loc Cert.Kernel39Ideal.main_v0_2) = v2 c
          ∧ r.2.mem ((c.tc : Thread Cert.Kernel39Ideal.nD Cert.Kernel39Ideal.τ).loc Cert.Kernel39Ideal.main_v0_3) = v3 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3)
          ∧ r.2.mem ((c.tc : Thread Cert.Kernel39Ideal.nD Cert.Kernel39Ideal.τ).loc Cert.Kernel39Ideal.main_arg4) = m ((c.tc : Thread Cert.Kernel39Ideal.nD Cert.Kernel39Ideal.τ).loc Cert.Kernel39Ideal.main_arg4)
          ∧ r.2.mem ((c.tc : Thread Cert.Kernel39Ideal.nD Cert.Kernel39Ideal.τ).loc Cert.Kernel39Ideal.main_arg5) = m ((c.tc : Thread Cert.Kernel39Ideal.nD Cert.Kernel39Ideal.τ).loc Cert.Kernel39Ideal.main_arg5)
          ∧ r.2.mem ((c.tc : Thread Cert.Kernel39Ideal.nD Cert.Kernel39Ideal.τ).loc Cert.Kernel39Ideal.main_arg6) = m ((c.tc : Thread Cert.Kernel39Ideal.nD Cert.Kernel39Ideal.τ).loc Cert.Kernel39Ideal.main_arg6))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v34) = v0 c
          ∧ r.2.mem ((c.tc : Thread Cert.Reference39Ideal.nD Cert.Reference39Ideal.τ).loc Cert.Reference39Ideal.main_v35) = v1 c
          ∧ r.2.mem ((c.tc : Thread Cert.Reference39Ideal.nD Cert.Reference39Ideal.τ).loc Cert.Reference39Ideal.main_v36) = v2 c
          ∧ r.2.mem ((c.tc : Thread Cert.Reference39Ideal.nD Cert.Reference39Ideal.τ).loc Cert.Reference39Ideal.main_v37) = v3 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3)
          ∧ r.2.mem ((c.tc : Thread Cert.Reference39Ideal.nD Cert.Reference39Ideal.τ).loc Cert.Reference39Ideal.main_arg4) = m' ((c.tc : Thread Cert.Reference39Ideal.nD Cert.Reference39Ideal.τ).loc Cert.Reference39Ideal.main_arg4)
          ∧ r.2.mem ((c.tc : Thread Cert.Reference39Ideal.nD Cert.Reference39Ideal.τ).loc Cert.Reference39Ideal.main_arg5) = m' ((c.tc : Thread Cert.Reference39Ideal.nD Cert.Reference39Ideal.τ).loc Cert.Reference39Ideal.main_arg5)
          ∧ r.2.mem ((c.tc : Thread Cert.Reference39Ideal.nD Cert.Reference39Ideal.τ).loc Cert.Reference39Ideal.main_arg6) = m' ((c.tc : Thread Cert.Reference39Ideal.nD Cert.Reference39Ideal.τ).loc Cert.Reference39Ideal.main_arg6))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v0_0)) (v1 : (c : Dev Cert.Kernel40Ideal.nD) → Buf (Elt Ideal) ((c.tc : Thread Cert.Kernel40Ideal.nD Cert.Kernel40Ideal.τ).loc Cert.Kernel40Ideal.main_v0_1)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v0_0) = v0 c
          ∧ r.2.mem ((c.tc : Thread Cert.Kernel40Ideal.nD Cert.Kernel40Ideal.τ).loc Cert.Kernel40Ideal.main_v0_1) = v1 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v19) = v0 c
          ∧ r.2.mem ((c.tc : Thread Cert.Reference40Ideal.nD Cert.Reference40Ideal.τ).loc Cert.Reference40Ideal.main_v22) = v1 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)) →
    ∃ (v0 : (c : Dev Cert.Kernel41Ideal.nD) → Buf (Elt Ideal) ((c.tc : Thread Cert.Kernel41Ideal.nD Cert.Kernel41Ideal.τ).loc Cert.Kernel41Ideal.main_v0)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v0) = v0 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v25) = v0 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
-- ==== Pre_finite.lean ====
abbrev S8192x10752 : Shape := ⟨2, ![8192, 10752]⟩
abbrev S256x512 : Shape := ⟨2, ![256, 512]⟩
abbrev S8192x256 : Shape := ⟨2, ![8192, 256]⟩
abbrev S_ : Shape := ⟨0, ![]⟩

class Facts : Prop where
  slices_S8192x10752_S8192x256_0_10240 : S8192x10752.Slices ![0, 10240] S8192x256
  bitsLt_bf16_f32 : FTy.bits .bf16 < FTy.bits .f32
  bcast_S_S8192x256 : S_.BroadcastsInDim S8192x256 (![] : Fin 0 → Fin S8192x256.rank)
  reducesTo_S8192x256_S_d0_1 : S8192x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_

variable [Facts]

def fn {F : FTy → Type} [FloatOps F] (main_arg0 : FVec F S8192x10752 .bf16) (main_arg1 : FVec F S256x512 .bf16) (main_arg2 : FVec F S8192x256 .bf16) (main_arg3 : FVec F S8192x10752 .bf16) : IVec S_ 1 :=
  let main_v0 : FVec F S8192x256 .bf16 := (extractStridedSlice S8192x256 ![0, 10240] · slices_S8192x10752_S8192x256_0_10240) main_arg0
  let main_v1 : FVec F S8192x256 .f32 := (extf .f32 · bitsLt_bf16_f32) main_v0
  let main_v2 : FVec F S8192x256 .f32 := Host.absf main_v1
  let main_cst : FVec F S_ .f32 := constant S_ .f32 0x7F800000#32
  let main_v3 : FVec F S8192x256 .f32 := broadcastInDim S8192x256 ![] bcast_S_S8192x256 main_cst
  let main_v4 : IVec S8192x256 1 := cmpf .olt main_v2 main_v3
  let main_c : IVec S_ 1 := constantI S_ 1 1#1
  let main_v5 : IVec S_ 1 := (fun x v => Host.reduce IntOp.andi x v reducesTo_S8192x256_S_d0_1 h_S_) main_v4 main_c
  let main_v6 : FVec F S256x512 .f32 := (extf .f32 · bitsLt_bf16_f32) main_arg1
  let main_v7 : FVec F S256x512 .f32 := Host.absf main_v6
  let main_cst_0 : FVec F S_ .f32 := constant S_ .f32 0x7F800000#32
  let main_v8 : FVec F S256x512 .f32 := broadcastInDim S256x512 ![] bcast_S_S256x512 main_cst_0
  let main_v9 : IVec S256x512 1 := cmpf .olt main_v7 main_v8
  let main_c_1 : IVec S_ 1 := constantI S_ 1 1#1
  let main_v10 : IVec S_ 1 := (fun x v => Host.reduce IntOp.andi x v reducesTo_S256x512_S_d0_1 h_S_) main_v9 main_c_1
  let main_v11 : IVec S_ 1 := andi main_v5 main_v10
  main_v11
-- ==== Pre_finite2.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bitsLt_bf16_f32 : FTy.bits .bf16 < FTy.bits .f32
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v3 main_v8
  let main_v10 : FVec F S8192x2816 .f32 := (extf .f32 · bitsLt_bf16_f32) main_arg3
  let main_v11 : FVec F S8192x2816 .f32 := Host.absf main_v10
  let main_cst_2 : FVec F S_ .f32 := constant S_ .f32 0x7F800000#32
  let main_v12 : FVec F S8192x2816 .f32 := broadcastInDim S8192x2816 ![] bcast_S_S8192x2816 main_cst_2
  let main_v13 : IVec S8192x2816 1 := cmpf .olt main_v11 main_v12
  let main_c_3 : IVec S_ 1 := constantI S_ 1 1#1
  let main_v14 : IVec S_ 1 := (fun x v => Host.reduce IntOp.andi x v reducesTo_S8192x2816_S_d0_1 h_S_) main_v13 main_c_3
  let main_v15 : IVec S_ 1 := andi main_v9 main_v14
  main_v15
-- ==== Kernel.lean ====
abbrev S8192x10752 : Shape := ⟨2, ![8192, 10752]⟩
abbrev S256x512 : Shape := ⟨2, ![256, 512]⟩
abbrev S8192x256 : Shape := ⟨2, ![8192, 256]⟩
abbrev S4096x256 : Shape := ⟨2, ![4096, 256]⟩
abbrev S256x256 : Shape := ⟨2, ![256, 256]⟩
abbrev S4096 : Shape := ⟨1, ![4096]⟩
abbrev S4096x1 : Shape := ⟨2, ![4096, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x10752, .bf16⟩
  | .hbm, ⟨1, _⟩ => ⟨S256x512, .bf16⟩
  | .hbm, ⟨2, _⟩ => ⟨S8192x256, .bf16⟩
  | .hbm, ⟨3, _⟩ => ⟨S8192x10752, .bf16⟩
  | .hbm, ⟨4, _⟩ => ⟨S8192x10752, .bf16⟩
  | .hbm, ⟨5, _⟩ => ⟨S256x512, .f32⟩
  | .local _ .vmem, ⟨0, _⟩ => ⟨S4096x256, .bf16⟩
  | .local _ .vmem, ⟨1, _⟩ => ⟨S4096x256, .bf16⟩
  | .local _ .vmem, ⟨2, _⟩ => ⟨S256x512, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x512, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S8192x10752 : Shape := ⟨2, ![8192, 10752]⟩
abbrev S256x512 : Shape := ⟨2, ![256, 512]⟩
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩

abbrev nBuf : Space → Nat
  | .hbm => 92
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S256x512, .bf16⟩
  | .hbm, ⟨2, _⟩ => ⟨S8192x256, .bf16⟩
  | .hbm, ⟨3, _⟩ => ⟨S8192x10752, .bf16⟩
  | .hbm, ⟨4, _⟩ => ⟨S8192x256, .bf16⟩
  | .hbm, ⟨5, _⟩ => ⟨S8192x256, .f32⟩
  | .hbm, ⟨6, _⟩ => ⟨S256x512, .f32⟩
  | .hbm, ⟨7, _⟩ => ⟨S256x256, .f32⟩
  | .hbm, ⟨8, _⟩ => ⟨S256x256, .f32⟩
  | .hbm, ⟨9, _⟩ => ⟨S8192x4x64, .f32⟩
  | .hbm, ⟨10, _⟩ => ⟨S256x4x64, .f32⟩
  | .hbm, ⟨11, _⟩ => ⟨S256x4x64, .f32⟩
  | .hbm, ⟨12, _⟩ => ⟨S4x8192x256, .f32⟩
  | .hbm, ⟨13, _⟩ => ⟨S_, .f32⟩
  | .hbm, ⟨14, _⟩ => ⟨S4x8192x256, .f32⟩
  | .hbm, ⟨15, _⟩ => ⟨S4x8192x256, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .i1⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S_, .f32⟩
  | .hbm, ⟨28, _⟩ => ⟨S4x8192, .f32⟩
  | .hbm, ⟨29, _⟩ => ⟨S4x8192, .i1⟩
  | .hbm, ⟨30, _⟩ => ⟨S_, .f32⟩
  | .hbm, ⟨31, _⟩ => ⟨S4x8192, .f32⟩
  | .hbm, ⟨32, _⟩ => ⟨S4x8192, .i1⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S_, .f32⟩
  | .hbm, ⟨38, _⟩ => ⟨S4x8192, .f32⟩
  | .hbm, ⟨39, _⟩ => ⟨S4x8192, .f32⟩
  | .hbm, ⟨40, _⟩ => ⟨S4x8192, .f32⟩
  | .hbm, ⟨41, _⟩ => ⟨S4x8192x1, .f32⟩
  | .hbm, ⟨42, _⟩ => ⟨S4x8192x256, .f32⟩
  | .hbm, ⟨43, _⟩ => ⟨S4x8192x256, .f32⟩
  | .hbm, ⟨44, _⟩ => ⟨S4x8192x256, .f32⟩
  | .hbm, ⟨45, _⟩ => ⟨S_, .f32⟩
  | .hbm, ⟨46, _⟩ => ⟨S4x8192, .f32⟩
  | .hbm, ⟨47, _⟩ => ⟨S4x8192x1, .f32⟩
  | .hbm, ⟨48, _⟩ => ⟨S4x8192x256, .f32⟩
  | .hbm, ⟨49, _⟩ => ⟨S4x8192x256, .f32⟩
  | .hbm, ⟨50, _⟩ => ⟨S4x8192x1, .f32⟩
  | .hbm, ⟨51, _⟩ => ⟨S_, .f32⟩
  | .hbm, ⟨52, _⟩ => ⟨S4x8192x1, .f32⟩
  | .hbm, ⟨53, _⟩ => ⟨S4x8192x1, .f32⟩
  | .hbm, ⟨54, _⟩ => ⟨S4x64x8192, .f32⟩
  | .hbm, ⟨55, _⟩ => ⟨S8192x4x64, .f32⟩
  | .hbm, ⟨56, _⟩ => ⟨S8192x256, .f32⟩
  | .hbm, ⟨57, _⟩ => ⟨S8192x256, .f32⟩
  | .hbm, ⟨58, _⟩ => ⟨S8192x4x64, .f32⟩
  | .hbm, ⟨59, _⟩ => ⟨S4x64x8192, .f32⟩
  | .hbm, ⟨60, _⟩ => ⟨S4x8192x256, .f32⟩
  | .hbm, ⟨61, _⟩ => ⟨S4x64x256, .f32⟩
  | .hbm, ⟨62, _⟩ => ⟨S256x4x64, .f32⟩
  | .hbm, ⟨63, _⟩ => ⟨S4x8192x256, .f32⟩
  | .hbm, ⟨64, _⟩ => ⟨S4x8192x256, .f32⟩
  | .hbm, ⟨65, _⟩ => ⟨S4x8192x256, .f32⟩
  | .hbm, ⟨66, _⟩ => ⟨S_, .f32⟩
  | .hbm, ⟨67, _⟩ => ⟨S4x8192, .f32⟩
  | .hbm, ⟨68, _⟩ => ⟨S4x8192x1, .f32⟩
  | .hbm, ⟨69, _⟩ => ⟨S4x8192x1, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192, .f32⟩
  | .hbm, ⟨74, _⟩ => ⟨S4x8192x256, .f32⟩
  | .hbm, ⟨75, _⟩ => ⟨S4x8192x256, .f32⟩
  | .hbm, ⟨76, _⟩ => ⟨S4x8192x256, .f32⟩
  | .hbm, ⟨77, _⟩ => ⟨S_, .f32⟩
  | .hbm, ⟨78, _⟩ => ⟨S4x8192x256, .f32⟩
  | .hbm, ⟨79, _⟩ => ⟨S4x8192x256, .f32⟩
  | .hbm, ⟨80, _⟩ => ⟨S4x256x64, .f32⟩
  | .hbm, ⟨81, _⟩ => ⟨S256x4x64, .f32⟩
  | .hbm, ⟨82, _⟩ => ⟨S4x8192x64, .f32⟩
  | .hbm, ⟨83, _⟩ => ⟨S8192x4x64, .f32⟩
  | .hbm, ⟨84, _⟩ => ⟨S256x256, .f32⟩
  | .hbm, ⟨85, _⟩ => ⟨S256x256, .f32⟩
  | .hbm, ⟨86, _⟩ => ⟨S8192x256, .f32⟩
  | .hbm, ⟨87, _⟩ => ⟨S256x512, .f32⟩
  | .hbm, ⟨88, _⟩ => ⟨S8192x256, .bf16⟩
  | .hbm, ⟨89, _⟩ => ⟨S_, .i32⟩
  | .hbm, ⟨90, _⟩ => ⟨S_, .i32⟩
  | .hbm, ⟨91, _⟩ => ⟨S8192x10752, .bf16⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_c : Ref sig .tc := ⟨.hbm, 89, rfl⟩
abbrev main_c_13 : Ref sig .tc := ⟨.hbm, 90, rfl⟩
abbrev main_v71 : Ref sig .tc := ⟨.hbm, 91, rfl⟩

abbrev nD : Nat := 1
abbrev τ : Topo := Topo.v7x

variable {F : FTy → Type} [FloatOps F]
-- ==== Kernel2.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .f32⟩
  | .local _ .vmem, ⟨1, _⟩ => ⟨S1024x1024, .f32⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S8192x2816, .bf16⟩
  | .hbm, ⟨36, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x2816, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S2816x1024 : Shape := ⟨2, ![2816, 1024]⟩
abbrev S1024x2816 : Shape := ⟨2, ![1024, 2816]⟩
abbrev S_ : Shape := ⟨0, ![]⟩
abbrev S8192x1024 : Shape := ⟨2, ![8192, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S1024x2816, .bf16⟩
  | .hbm, ⟨3, _⟩ => ⟨S1024x2816, .f32⟩
  | .hbm, ⟨4, _⟩ => ⟨S_, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S8192x10752 : Shape := ⟨2, ![8192, 10752]⟩
abbrev S8192x1024 : Shape := ⟨2, ![8192, 1024]⟩
abbrev S10752x1024 : Shape := ⟨2, ![10752, 1024]⟩
abbrev S2048x1536 : Shape := ⟨2, ![2048, 1536]⟩
abbrev S2048x1024 : Shape := ⟨2, ![2048, 1024]⟩
abbrev S1536x1024 : Shape := ⟨2, ![1536, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x10752, .bf16⟩
  | .hbm, ⟨1, _⟩ => ⟨S8192x1024, .bf16⟩
  | .hbm, ⟨2, _⟩ => ⟨S10752x1024, .bf16⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .bf16⟩
  | .local _ .vmem, ⟨5, _⟩ => ⟨S1536x1024, .bf16⟩
  | .local _ .vmem, ⟨6, _⟩ => ⟨S1536x1024, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![7, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x10752 : Shape := ⟨2, ![8192, 10752]⟩
abbrev S8192x1024 : Shape := ⟨2, ![8192, 1024]⟩
abbrev S_ : Shape := ⟨0, ![]⟩
abbrev S1024x10752 : Shape := ⟨2, ![1024, 10752]⟩
abbrev S10752x1024 : Shape := ⟨2, ![10752, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x10752, .f32⟩
  | .hbm, ⟨5, _⟩ => ⟨S8192x10752, .f32⟩
  | .hbm, ⟨6, _⟩ => ⟨S8192x10752, .f32⟩
  | .hbm, ⟨7, _⟩ => ⟨S10752x1024, .f32⟩
  | .hbm, ⟨8, _⟩ => ⟨S1024x10752, .f32⟩
  | .hbm, ⟨9, _⟩ => ⟨S10752x1024, .f32⟩
  | .hbm, ⟨10, _⟩ => ⟨S10752x1024, .bf16⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩
abbrev S512x1024 : Shape := ⟨2, ![512, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference9Ideal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S1024x2816, .bf16⟩
  | .hbm, ⟨5, _⟩ => ⟨S1024x2816, .f32⟩
  | .hbm, ⟨6, _⟩ => ⟨S8192x2816, .f32⟩
  | .hbm, ⟨7, _⟩ => ⟨S1024x2816, .bf16⟩
  | .hbm, ⟨8, _⟩ => ⟨S1024x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== Kernel10.lean ====
abbrev S8192x1024 : Shape := ⟨2, ![8192, 1024]⟩
abbrev S10752x1024 : Shape := ⟨2, ![10752, 1024]⟩
abbrev S8192x10752 : Shape := ⟨2, ![8192, 10752]⟩
abbrev S2048x1024 : Shape := ⟨2, ![2048, 1024]⟩
abbrev S1536x1024 : Shape := ⟨2, ![1536, 1024]⟩
abbrev S2048x1536 : Shape := ⟨2, ![2048, 1536]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S10752x1024, .bf16⟩
  | .hbm, ⟨2, _⟩ => ⟨S8192x10752, .bf16⟩
  | .local _ .vmem, ⟨0, _⟩ => ⟨S2048x1024, .bf16⟩
  | .local _ .vmem, ⟨1, _⟩ => ⟨S2048x1024, .bf16⟩
  | .local _ .vmem, ⟨2, _⟩ => ⟨S1536x1024, .bf16⟩
  | .local _ .vmem, ⟨3, _⟩ => ⟨S1536x1024, .bf16⟩
  | .local _ .vmem, ⟨4, _⟩ => ⟨S2048x1536, .bf16⟩
  | .local _ .vmem, ⟨5, _⟩ => ⟨S2048x1536, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S10752x1024 : Shape := ⟨2, ![10752, 1024]⟩
abbrev S1024x10752 : Shape := ⟨2, ![1024, 10752]⟩
abbrev S8192x10752 : Shape := ⟨2, ![8192, 10752]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S10752x1024, .bf16⟩
  | .hbm, ⟨2, _⟩ => ⟨S8192x1024, .f32⟩
  | .hbm, ⟨3, _⟩ => ⟨S1024x10752, .bf16⟩
  | .hbm, ⟨4, _⟩ => ⟨S1024x10752, .f32⟩
  | .hbm, ⟨5, _⟩ => ⟨S8192x10752, .f32⟩
  | .hbm, ⟨6, _⟩ => ⟨S8192x10752, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference3Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x1024, .f32⟩
  | .hbm, ⟨6, _⟩ => ⟨S1024x2816, .bf16⟩
  | .hbm, ⟨7, _⟩ => ⟨S1024x2816, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel4.lean ====
abbrev S8192x10752 : Shape := ⟨2, ![8192, 10752]⟩
abbrev S10752x1024 : Shape := ⟨2, ![10752, 1024]⟩
abbrev S8192x1024 : Shape := ⟨2, ![8192, 1024]⟩
abbrev S1x1024 : Shape := ⟨2, ![1, 1024]⟩
abbrev S8x1024 : Shape := ⟨2, ![8, 1024]⟩
abbrev S1024x1792 : Shape := ⟨2, ![1024, 1792]⟩
abbrev S1792x1024 : Shape := ⟨2, ![1792, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S8192x10752, .bf16⟩
  | .hbm, ⟨1, _⟩ => ⟨S10752x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S8x1024, .f32⟩
  | .local _ .vmem, ⟨12, _⟩ => ⟨S1024x1024, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 6], ![false, false, false]⟩

def k0_cond3 (i : grid0.Coords) : BitVec 1 :=
  let arg2 : BitVec 32 := BitVec.ofNat 32 (i 2).val
  let c5_i32_3 : BitVec 32 := 5#32
  let v8 : BitVec 1 := Scalar.cmpi .eq arg2 c5_i32_3
  let v9 : BitVec 32 := Scalar.extui v8
  let c0_i32_4 : BitVec 32 := 0#32
  let v10 : BitVec 1 := Scalar.cmpi .ne v9 c0_i32_4
  v10

def k0_cond4 (i : grid0.Coords) : BitVec 1 :=
  let arg0 : BitVec 32 := BitVec.ofNat 32 (i 0).val
  let c0_i32_22 : BitVec 32 := 0#32
  let v45 : BitVec 1 := Scalar.cmpi .eq arg0 c0_i32_22
  let v46 : BitVec 32 := Scalar.extui v45
  let c0_i32_23 : BitVec 32 := 0#32
  let v47 : BitVec 1 := Scalar.cmpi .ne v46 c0_i32_23
  v47

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== Reference4Ideal.lean ====
abbrev S8192x10752 : Shape := ⟨2, ![8192, 10752]⟩
abbrev S10752x1024 : Shape := ⟨2, ![10752, 1024]⟩
abbrev S8192x1024 : Shape := ⟨2, ![8192, 1024]⟩
abbrev S1x1024 : Shape := ⟨2, ![1, 1024]⟩
abbrev S1024x10752 : Shape := ⟨2, ![1024, 10752]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S10752x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S1024x10752, .bf16⟩
  | .hbm, ⟨6, _⟩ => ⟨S1024x10752, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x10752, .f32⟩
  | .hbm, ⟨27, _⟩ => ⟨S8192x10752, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8x1024, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel12.lean ====
abbrev S8x352x1024 : Shape := ⟨3, ![8, 352, 1024]⟩
abbrev S352x1024 : Shape := ⟨2, ![352, 1024]⟩
abbrev S8x352x256 : Shape := ⟨3, ![8, 352, 256]⟩
abbrev S352x256 : Shape := ⟨2, ![352, 256]⟩
abbrev S1x352x256 : Shape := ⟨3, ![1, 352, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x352x256, .bf16⟩
  | .local _ .vmem, ⟨1, _⟩ => ⟨S8x352x256, .bf16⟩
  | .local _ .vmem, ⟨2, _⟩ => ⟨S352x256, .f32⟩
  | .local _ .vmem, ⟨3, _⟩ => ⟨S352x256, .f32⟩
  | .local _ .vmem, ⟨4, _⟩ => ⟨S352x256, .f32⟩
  | .local _ .vmem, ⟨5, _⟩ => ⟨S352x256, .f32⟩
  | .local _ .vmem, ⟨6, _⟩ => ⟨S352x256, .f32⟩
  | .local _ .vmem, ⟨7, _⟩ => ⟨S352x256, .f32⟩
  | .local _ .vmem, ⟨8, _⟩ => ⟨S352x256, .f32⟩
  | .local _ .vmem, ⟨9, _⟩ => ⟨S352x256, .f32⟩
  | .local _ .vmem, ⟨10, _⟩ => ⟨S352x256, .f32⟩
  | .local _ .vmem, ⟨11, _⟩ => ⟨S352x256, .f32⟩
  | .local _ .vmem, ⟨12, _⟩ => ⟨S352x256, .f32⟩
  | .local _ .vmem, ⟨13, _⟩ => ⟨S352x256, .f32⟩
  | .local _ .vmem, ⟨14, _⟩ => ⟨S352x256, .f32⟩
  | .local _ .vmem, ⟨15, _⟩ => ⟨S352x256, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x352x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel13.lean ====
abbrev S8x1316x1024 : Shape := ⟨3, ![8, 1316, 1024]⟩
abbrev S1316x1024 : Shape := ⟨2, ![1316, 1024]⟩
abbrev S8x1316x256 : Shape := ⟨3, ![8, 1316, 256]⟩
abbrev S1316x256 : Shape := ⟨2, ![1316, 256]⟩
abbrev S1x1316x256 : Shape := ⟨3, ![1, 1316, 256]⟩

abbrev nBuf : Space → Nat
  | .hbm => 8
  | .vmem => 16
  | .smem => 0
  | _ => 0

abbrev bufTy : (tb : Table) → Fin (tcTables nBuf tb) → BufTy
  | .hbm, ⟨0, _⟩ => ⟨S8x1316x1024, .bf16⟩
  | .hbm, ⟨1, _⟩ => ⟨S1316x1024, .f32⟩
  | .hbm, ⟨2, _⟩ => ⟨S1316x1024, .f32⟩
  | .hbm, ⟨3, _⟩ => ⟨S1316x1024, .f32⟩
  | .hbm, ⟨4, _⟩ => ⟨S1316x1024, .f32⟩
  | .hbm, ⟨5, _⟩ => ⟨S1316x1024, .f32⟩
  | .hbm, ⟨6, _⟩ => ⟨S1316x1024, .f32⟩
  | .hbm, ⟨7, _⟩ => ⟨S1316x1024, .f32⟩
  | .local _ .vmem, ⟨0, _⟩ => ⟨S8x1316x256, .bf16⟩
  | .local _ .vmem, ⟨1, _⟩ => ⟨S8x1316x256, .bf16⟩
  | .local _ .vmem, ⟨2, _⟩ => ⟨S1316x256, .f32⟩
  | .local _ .vmem, ⟨3, _⟩ => ⟨S1316x256, .f32⟩
  | .local _ .vmem, ⟨4, _⟩ => ⟨S1316x256, .f32⟩
  | .local _ .vmem, ⟨5, _⟩ => ⟨S1316x256, .f32⟩
  | .local _ .vmem, ⟨6, _⟩ => ⟨S1316x256, .f32⟩
  | .local _ .vmem, ⟨7, _⟩ => ⟨S1316x256, .f32⟩
  | .local _ .vmem, ⟨8, _⟩ => ⟨S1316x256, .f32⟩
  | .local _ .vmem, ⟨9, _⟩ => ⟨S1316x256, .f32⟩
  | .local _ .vmem, ⟨10, _⟩ => ⟨S1316x256, .f32⟩
  | .local _ .vmem, ⟨11, _⟩ => ⟨S1316x256, .f32⟩
  | .local _ .vmem, ⟨12, _⟩ => ⟨S1316x256, .f32⟩
  | .local _ .vmem, ⟨13, _⟩ => ⟨S1316x256, .f32⟩
  | .local _ .vmem, ⟨14, _⟩ => ⟨S1316x256, .f32⟩
  | .local _ .vmem, ⟨15, _⟩ => ⟨S1316x256, .f32⟩
  | _, _ => ⟨S8x1316x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x1316x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1316x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1316x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1316x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1316x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1316x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1316x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1316x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8x1316x1024 : Shape := ⟨3, ![8, 1316, 1024]⟩
abbrev S1316x1024 : Shape := ⟨2, ![1316, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1316x1024, .bf16⟩
  | .hbm, ⟨1, _⟩ => ⟨S1316x1024, .f32⟩
  | .hbm, ⟨2, _⟩ => ⟨S1316x1024, .f32⟩
  | .hbm, ⟨3, _⟩ => ⟨S1316x1024, .f32⟩
  | .hbm, ⟨4, _⟩ => ⟨S8x1316x1024, .f32⟩
  | .hbm, ⟨5, _⟩ => ⟨S_, .f32⟩
  | .hbm, ⟨6, _⟩ => ⟨S1316x1024, .f32⟩
  | .hbm, ⟨7, _⟩ => ⟨S_, .f32⟩
  | .hbm, ⟨8, _⟩ => ⟨S1316x1024, .f32⟩
  | .hbm, ⟨9, _⟩ => ⟨S1316x1024, .f32⟩
  | .hbm, ⟨10, _⟩ => ⟨S_, .f32⟩
  | .hbm, ⟨11, _⟩ => ⟨S1316x1024, .f32⟩
  | .hbm, ⟨12, _⟩ => ⟨S1316x1024, .f32⟩
  | .hbm, ⟨13, _⟩ => ⟨S1316x1024, .f32⟩
  | .hbm, ⟨14, _⟩ => ⟨S_, .f32⟩
  | .hbm, ⟨15, _⟩ => ⟨S1316x1024, .f32⟩
  | .hbm, ⟨16, _⟩ => ⟨S1316x1024, .f32⟩
  | .hbm, ⟨17, _⟩ => ⟨S1316x1024, .f32⟩
  | .hbm, ⟨18, _⟩ => ⟨S_, .f32⟩
  | .hbm, ⟨19, _⟩ => ⟨S1316x1024, .f32⟩
  | .hbm, ⟨20, _⟩ => ⟨S1316x1024, .f32⟩
  | .hbm, ⟨21, _⟩ => ⟨S1316x1024, .f32⟩
  | .hbm, ⟨22, _⟩ => ⟨S_, .f32⟩
  | .hbm, ⟨23, _⟩ => ⟨S1316x1024, .f32⟩
  | .hbm, ⟨24, _⟩ => ⟨S1316x1024, .f32⟩
  | .hbm, ⟨25, _⟩ => ⟨S_, .f32⟩
  | .hbm, ⟨26, _⟩ => ⟨S1316x1024, .f32⟩
  | .hbm, ⟨27, _⟩ => ⟨S1316x1024, .f32⟩
  | .hbm, ⟨28, _⟩ => ⟨S1316x1024, .f32⟩
  | .hbm, ⟨29, _⟩ => ⟨S_, .f32⟩
  | .hbm, ⟨30, _⟩ => ⟨S1316x1024, .f32⟩
  | .hbm, ⟨31, _⟩ => ⟨S1316x1024, .f32⟩
  | .hbm, ⟨32, _⟩ => ⟨S1316x1024, .f32⟩
  | .hbm, ⟨33, _⟩ => ⟨S_, .f32⟩
  | .hbm, ⟨34, _⟩ => ⟨S1316x1024, .f32⟩
  | .hbm, ⟨35, _⟩ => ⟨S1316x1024, .f32⟩
  | .hbm, ⟨36, _⟩ => ⟨S1316x1024, .f32⟩
  | .hbm, ⟨37, _⟩ => ⟨S_, .f32⟩
  | .hbm, ⟨38, _⟩ => ⟨S1316x1024, .f32⟩
  | .hbm, ⟨39, _⟩ => ⟨S1316x1024, .f32⟩
  | _, _ => ⟨S8x1316x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S8x256x1024, .bf16⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference14Ideal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x1024, .bf16⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .f32⟩
  | .hbm, ⟨5, _⟩ => ⟨S_, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S_, .f32⟩
  | .hbm, ⟨11, _⟩ => ⟨S256x1024, .f32⟩
  | .hbm, ⟨12, _⟩ => ⟨S256x1024, .f32⟩
  | .hbm, ⟨13, _⟩ => ⟨S256x1024, .f32⟩
  | .hbm, ⟨14, _⟩ => ⟨S_, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S_, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S_, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S_, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S_, .f32⟩
  | .hbm, ⟨38, _⟩ => ⟨S256x1024, .f32⟩
  | .hbm, ⟨39, _⟩ => ⟨S256x1024, .f32⟩
  | _, _ => ⟨S8x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference15Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel16.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference16Ideal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference17Ideal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel18.lean ====
abbrev S8x4x384 : Shape := ⟨3, ![8, 4, 384]⟩
abbrev S4x384 : Shape := ⟨2, ![4, 384]⟩
abbrev S1x4x384 : Shape := ⟨3, ![1, 4, 384]⟩

abbrev nBuf : Space → Nat
  | .hbm => 8
  | .vmem => 8
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .local _ .vmem, ⟨0, _⟩ => ⟨S8x4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference18Ideal.lean ====
abbrev S8x4x384 : Shape := ⟨3, ![8, 4, 384]⟩
abbrev S4x384 : Shape := ⟨2, ![4, 384]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S_, .f32⟩
  | .hbm, ⟨7, _⟩ => ⟨S4x384, .f32⟩
  | .hbm, ⟨8, _⟩ => ⟨S4x384, .f32⟩
  | .hbm, ⟨9, _⟩ => ⟨S_, .f32⟩
  | .hbm, ⟨10, _⟩ => ⟨S4x384, .f32⟩
  | .hbm, ⟨11, _⟩ => ⟨S4x384, .f32⟩
  | .hbm, ⟨12, _⟩ => ⟨S4x384, .f32⟩
  | .hbm, ⟨13, _⟩ => ⟨S_, .f32⟩
  | .hbm, ⟨14, _⟩ => ⟨S4x384, .f32⟩
  | .hbm, ⟨15, _⟩ => ⟨S4x384, .f32⟩
  | .hbm, ⟨16, _⟩ => ⟨S4x384, .f32⟩
  | .hbm, ⟨17, _⟩ => ⟨S_, .f32⟩
  | .hbm, ⟨18, _⟩ => ⟨S4x384, .f32⟩
  | .hbm, ⟨19, _⟩ => ⟨S4x384, .f32⟩
  | .hbm, ⟨20, _⟩ => ⟨S4x384, .f32⟩
  | .hbm, ⟨21, _⟩ => ⟨S_, .f32⟩
  | .hbm, ⟨22, _⟩ => ⟨S4x384, .f32⟩
  | .hbm, ⟨23, _⟩ => ⟨S4x384, .f32⟩
  | .hbm, ⟨24, _⟩ => ⟨S_, .f32⟩
  | .hbm, ⟨25, _⟩ => ⟨S4x384, .f32⟩
  | .hbm, ⟨26, _⟩ => ⟨S4x384, .f32⟩
  | .hbm, ⟨27, _⟩ => ⟨S4x384, .f32⟩
  | .hbm, ⟨28, _⟩ => ⟨S_, .f32⟩
  | .hbm, ⟨29, _⟩ => ⟨S4x384, .f32⟩
  | .hbm, ⟨30, _⟩ => ⟨S4x384, .f32⟩
  | .hbm, ⟨31, _⟩ => ⟨S4x384, .f32⟩
  | .hbm, ⟨32, _⟩ => ⟨S_, .f32⟩
  | .hbm, ⟨33, _⟩ => ⟨S4x384, .f32⟩
  | .hbm, ⟨34, _⟩ => ⟨S4x384, .f32⟩
  | .hbm, ⟨35, _⟩ => ⟨S4x384, .f32⟩
  | .hbm, ⟨36, _⟩ => ⟨S_, .f32⟩
  | .hbm, ⟨37, _⟩ => ⟨S4x384, .f32⟩
  | .hbm, ⟨38, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8x1136x128 : Shape := ⟨3, ![8, 1136, 128]⟩
abbrev S1136x128 : Shape := ⟨2, ![1136, 128]⟩
abbrev S1x1136x128 : Shape := ⟨3, ![1, 1136, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S1136x128, .f32⟩
  | .hbm, ⟨5, _⟩ => ⟨S1136x128, .f32⟩
  | .hbm, ⟨6, _⟩ => ⟨S1136x128, .f32⟩
  | .hbm, ⟨7, _⟩ => ⟨S1136x128, .f32⟩
  | .local _ .vmem, ⟨0, _⟩ => ⟨S8x1136x128, .f32⟩
  | .local _ .vmem, ⟨1, _⟩ => ⟨S1136x128, .f32⟩
  | .local _ .vmem, ⟨2, _⟩ => ⟨S1136x128, .f32⟩
  | .local _ .vmem, ⟨3, _⟩ => ⟨S1136x128, .f32⟩
  | .local _ .vmem, ⟨4, _⟩ => ⟨S1136x128, .f32⟩
  | .local _ .vmem, ⟨5, _⟩ => ⟨S1136x128, .f32⟩
  | .local _ .vmem, ⟨6, _⟩ => ⟨S1136x128, .f32⟩
  | .local _ .vmem, ⟨7, _⟩ => ⟨S1136x128, .f32⟩
  | _, _ => ⟨S8x1136x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1136x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1136x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1136x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1136x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1136x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1136x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1136x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1136x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference19Ideal.lean ====
abbrev S8x1136x128 : Shape := ⟨3, ![8, 1136, 128]⟩
abbrev S1136x128 : Shape := ⟨2, ![1136, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x1136x128, .f32⟩
  | .hbm, ⟨1, _⟩ => ⟨S1136x128, .f32⟩
  | .hbm, ⟨2, _⟩ => ⟨S1136x128, .f32⟩
  | .hbm, ⟨3, _⟩ => ⟨S1136x128, .f32⟩
  | .hbm, ⟨4, _⟩ => ⟨S_, .f32⟩
  | .hbm, ⟨5, _⟩ => ⟨S1136x128, .f32⟩
  | .hbm, ⟨6, _⟩ => ⟨S_, .f32⟩
  | .hbm, ⟨7, _⟩ => ⟨S1136x128, .f32⟩
  | .hbm, ⟨8, _⟩ => ⟨S1136x128, .f32⟩
  | .hbm, ⟨9, _⟩ => ⟨S_, .f32⟩
  | .hbm, ⟨10, _⟩ => ⟨S1136x128, .f32⟩
  | .hbm, ⟨11, _⟩ => ⟨S1136x128, .f32⟩
  | .hbm, ⟨12, _⟩ => ⟨S1136x128, .f32⟩
  | .hbm, ⟨13, _⟩ => ⟨S_, .f32⟩
  | .hbm, ⟨14, _⟩ => ⟨S1136x128, .f32⟩
  | .hbm, ⟨15, _⟩ => ⟨S1136x128, .f32⟩
  | .hbm, ⟨16, _⟩ => ⟨S1136x128, .f32⟩
  | .hbm, ⟨17, _⟩ => ⟨S_, .f32⟩
  | .hbm, ⟨18, _⟩ => ⟨S1136x128, .f32⟩
  | .hbm, ⟨19, _⟩ => ⟨S1136x128, .f32⟩
  | .hbm, ⟨20, _⟩ => ⟨S1136x128, .f32⟩
  | .hbm, ⟨21, _⟩ => ⟨S_, .f32⟩
  | .hbm, ⟨22, _⟩ => ⟨S1136x128, .f32⟩
  | .hbm, ⟨23, _⟩ => ⟨S1136x128, .f32⟩
  | .hbm, ⟨24, _⟩ => ⟨S_, .f32⟩
  | .hbm, ⟨25, _⟩ => ⟨S1136x128, .f32⟩
  | .hbm, ⟨26, _⟩ => ⟨S1136x128, .f32⟩
  | .hbm, ⟨27, _⟩ => ⟨S1136x128, .f32⟩
  | .hbm, ⟨28, _⟩ => ⟨S_, .f32⟩
  | .hbm, ⟨29, _⟩ => ⟨S1136x128, .f32⟩
  | .hbm, ⟨30, _⟩ => ⟨S1136x128, .f32⟩
  | .hbm, ⟨31, _⟩ => ⟨S1136x128, .f32⟩
  | .hbm, ⟨32, _⟩ => ⟨S_, .f32⟩
  | .hbm, ⟨33, _⟩ => ⟨S1136x128, .f32⟩
  | .hbm, ⟨34, _⟩ => ⟨S1136x128, .f32⟩
  | .hbm, ⟨35, _⟩ => ⟨S1136x128, .f32⟩
  | .hbm, ⟨36, _⟩ => ⟨S_, .f32⟩
  | .hbm, ⟨37, _⟩ => ⟨S1136x128, .f32⟩
  | .hbm, ⟨38, _⟩ => ⟨S1136x128, .f32⟩
  | _, _ => ⟨S8x1136x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .local _ .vmem, ⟨0, _⟩ => ⟨S8x8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | _, _ => ⟨S8x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference20Ideal.lean ====
abbrev S8x8x128 : Shape := ⟨3, ![8, 8, 128]⟩
abbrev S8x128 : Shape := ⟨2, ![8, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S_, .f32⟩
  | .hbm, ⟨5, _⟩ => ⟨S8x128, .f32⟩
  | .hbm, ⟨6, _⟩ => ⟨S_, .f32⟩
  | .hbm, ⟨7, _⟩ => ⟨S8x128, .f32⟩
  | .hbm, ⟨8, _⟩ => ⟨S8x128, .f32⟩
  | .hbm, ⟨9, _⟩ => ⟨S_, .f32⟩
  | .hbm, ⟨10, _⟩ => ⟨S8x128, .f32⟩
  | .hbm, ⟨11, _⟩ => ⟨S8x128, .f32⟩
  | .hbm, ⟨12, _⟩ => ⟨S8x128, .f32⟩
  | .hbm, ⟨13, _⟩ => ⟨S_, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S_, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .f32⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S8x128, .f32⟩
  | .hbm, ⟨28, _⟩ => ⟨S_, .f32⟩
  | .hbm, ⟨29, _⟩ => ⟨S8x128, .f32⟩
  | .hbm, ⟨30, _⟩ => ⟨S8x128, .f32⟩
  | .hbm, ⟨31, _⟩ => ⟨S8x128, .f32⟩
  | .hbm, ⟨32, _⟩ => ⟨S_, .f32⟩
  | .hbm, ⟨33, _⟩ => ⟨S8x128, .f32⟩
  | .hbm, ⟨34, _⟩ => ⟨S8x128, .f32⟩
  | .hbm, ⟨35, _⟩ => ⟨S8x128, .f32⟩
  | .hbm, ⟨36, _⟩ => ⟨S_, .f32⟩
  | .hbm, ⟨37, _⟩ => ⟨S8x128, .f32⟩
  | .hbm, ⟨38, _⟩ => ⟨S8x128, .f32⟩
  | _, _ => ⟨S8x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel21.lean ====
abbrev S8192x10752 : Shape := ⟨2, ![8192, 10752]⟩
abbrev S1x1024 : Shape := ⟨2, ![1, 1024]⟩
abbrev S8x128x128 : Shape := ⟨3, ![8, 128, 128]⟩
abbrev S8x128 : Shape := ⟨2, ![8, 128]⟩
abbrev S128x8 : Shape := ⟨2, ![128, 8]⟩
abbrev S128x8x128 : Shape := ⟨3, ![128, 8, 128]⟩
abbrev S128x1024 : Shape := ⟨2, ![128, 1024]⟩
abbrev S8192x1024 : Shape := ⟨2, ![8192, 1024]⟩
abbrev S512x1024 : Shape := ⟨2, ![512, 1024]⟩
abbrev S128x128 : Shape := ⟨2, ![128, 128]⟩
abbrev S512 : Shape := ⟨1, ![512]⟩
abbrev S512x1 : Shape := ⟨2, ![512, 1]⟩
abbrev S1x128x128 : Shape := ⟨3, ![1, 128, 128]⟩

abbrev nBuf : Space → Nat
  | .hbm => 8
  | .vmem => 9
  | .smem => 0
  | _ => 0

abbrev bufTy : (tb : Table) → Fin (tcTables nBuf tb) → BufTy
  | .hbm, ⟨0, _⟩ => ⟨S8192x10752, .bf16⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S128x8, .f32⟩
  | .hbm, ⟨5, _⟩ => ⟨S128x8x128, .f32⟩
  | .hbm, ⟨6, _⟩ => ⟨S128x1024, .f32⟩
  | .hbm, ⟨7, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S8x128x128, .f32⟩
  | .local _ .vmem, ⟨6, _⟩ => ⟨S128x1024, .f32⟩
  | .local _ .vmem, ⟨7, _⟩ => ⟨S512x1024, .bf16⟩
  | .local _ .vmem, ⟨8, _⟩ => ⟨S512x1024, .bf16⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference21Ideal.lean ====
abbrev S8192x10752 : Shape := ⟨2, ![8192, 10752]⟩
abbrev S1x1024 : Shape := ⟨2, ![1, 1024]⟩
abbrev S8x128x128 : Shape := ⟨3, ![8, 128, 128]⟩
abbrev S8x128 : Shape := ⟨2, ![8, 128]⟩
abbrev S8192x2048 : Shape := ⟨2, ![8192, 2048]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S1x128x8x1 : Shape := ⟨4, ![1, 128, 8, 1]⟩

abbrev nBuf : Space → Nat
  | .hbm => 59
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S1x1024, .f32⟩
  | .hbm, ⟨2, _⟩ => ⟨S8x128x128, .f32⟩
  | .hbm, ⟨3, _⟩ => ⟨S8x128, .f32⟩
  | .hbm, ⟨4, _⟩ => ⟨S8192x2048, .bf16⟩
  | .hbm, ⟨5, _⟩ => ⟨S8192x2048, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S64x128x8x128, .f32⟩
  | .hbm, ⟨33, _⟩ => ⟨S_, .i1⟩
  | .hbm, ⟨34, _⟩ => ⟨S128x128, .i1⟩
  | .hbm, ⟨35, _⟩ => ⟨S128x128, .i32⟩
  | .hbm, ⟨36, _⟩ => ⟨S_, .i32⟩
  | .hbm, ⟨37, _⟩ => ⟨S128x128, .i32⟩
  | .hbm, ⟨38, _⟩ => ⟨S128x128, .i32⟩
  | .hbm, ⟨39, _⟩ => ⟨S128x128, .i32⟩
  | .hbm, ⟨40, _⟩ => ⟨S128x128, .i1⟩
  | .hbm, ⟨41, _⟩ => ⟨S_, .i1⟩
  | .hbm, ⟨42, _⟩ => ⟨S128x128, .i1⟩
  | .hbm, ⟨43, _⟩ => ⟨S128x128, .i1⟩
  | .hbm, ⟨44, _⟩ => ⟨S1x128x128, .i1⟩
  | .hbm, ⟨45, _⟩ => ⟨S_, .i32⟩
  | .hbm, ⟨46, _⟩ => ⟨S_, .f32⟩
  | .hbm, ⟨47, _⟩ => ⟨S8x128x128, .i1⟩
  | .hbm, ⟨48, _⟩ => ⟨S8x128x128, .f32⟩
  | .hbm, ⟨49, _⟩ => ⟨S8x128x128, .f32⟩
  | .hbm, ⟨50, _⟩ => ⟨S8x64x128x128, .f32⟩
  | .hbm, ⟨51, _⟩ => ⟨S64x128x8x128, .f32⟩
  | .hbm, ⟨52, _⟩ => ⟨S128x8, .f32⟩
  | .hbm, ⟨53, _⟩ => ⟨S1x128x8x1, .f32⟩
  | .hbm, ⟨54, _⟩ => ⟨S64x128x8x128, .f32⟩
  | .hbm, ⟨55, _⟩ => ⟨S64x128x8x128, .f32⟩
  | .hbm, ⟨56, _⟩ => ⟨S8192x1024, .f32⟩
  | .hbm, ⟨57, _⟩ => ⟨S8192x1024, .f32⟩
  | .hbm, ⟨58, _⟩ => ⟨S8192x1024, .bf16⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c : Ref sig .tc := ⟨.hbm, 33, rfl⟩
abbrev main_v24 : Ref sig .tc := ⟨.hbm, 34, rfl⟩
abbrev main_call0_v0 : Ref sig .tc := ⟨.hbm, 35, rfl⟩
abbrev main_call0_c : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_c_0 : Ref sig .tc := ⟨.hbm, 41, rfl⟩
abbrev main_call0_v5 : Ref sig .tc := ⟨.hbm, 42, rfl⟩
abbrev main_v25 : Ref sig .tc := ⟨.hbm, 43, rfl⟩
abbrev main_v26 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩

abbrev nD : Nat := 1
abbrev τ : Topo := Topo.v7x

variable {F : FTy → Type} [FloatOps F]
-- ==== Kernel22.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S8x1024 : Shape := ⟨2, ![8, 1024]⟩
abbrev S1024x2816 : Shape := ⟨2, ![1024, 2816]⟩
abbrev S1024x1024 : Shape := ⟨2, ![1024, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S8x1024, .f32⟩
  | .hbm, ⟨7, _⟩ => ⟨S8x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S8x1024, .f32⟩
  | .local _ .vmem, ⟨11, _⟩ => ⟨S8x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference22Ideal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S_, .f32⟩
  | .hbm, ⟨39, _⟩ => ⟨S8192, .f32⟩
  | .hbm, ⟨40, _⟩ => ⟨S8192, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S8192, .f32⟩
  | .hbm, ⟨49, _⟩ => ⟨S_, .f32⟩
  | .hbm, ⟨50, _⟩ => ⟨S8192, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8x1024, .f32⟩
  | .hbm, ⟨78, _⟩ => ⟨S8x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel23.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference23Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S8192x2048 : Shape := ⟨2, ![8192, 2048]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S_, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference25Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S8192x1024 : Shape := ⟨2, ![8192, 1024]⟩
abbrev S8192x256 : Shape := ⟨2, ![8192, 256]⟩
abbrev S1024x256 : Shape := ⟨2, ![1024, 256]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference26Ideal.lean ====
abbrev S8192x1024 : Shape := ⟨2, ![8192, 1024]⟩
abbrev S8192x256 : Shape := ⟨2, ![8192, 256]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x256, .bf16⟩
  | .hbm, ⟨2, _⟩ => ⟨S8192x256, .f32⟩
  | .hbm, ⟨3, _⟩ => ⟨S_, .f32⟩
  | .hbm, ⟨4, _⟩ => ⟨S256x1024, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel27.lean ====
abbrev S256x1024 : Shape := ⟨2, ![256, 1024]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S1024x512, .bf16⟩
  | .local _ .vmem, ⟨0, _⟩ => ⟨S256x1024, .bf16⟩
  | .local _ .vmem, ⟨1, _⟩ => ⟨S256x512, .f32⟩
  | .local _ .vmem, ⟨2, _⟩ => ⟨S1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference27Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S256x1024, .f32⟩
  | .hbm, ⟨3, _⟩ => ⟨S_, .f32⟩
  | .hbm, ⟨4, _⟩ => ⟨S1024x512, .f32⟩
  | .hbm, ⟨5, _⟩ => ⟨S256x512, .f32⟩
  | .hbm, ⟨6, _⟩ => ⟨S512x1024, .f32⟩
  | .hbm, ⟨7, _⟩ => ⟨S1024x512, .f32⟩
  | .hbm, ⟨8, _⟩ => ⟨S1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel28.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel29.lean ====
abbrev S8192x1024 : Shape := ⟨2, ![8192, 1024]⟩
abbrev S1024x256 : Shape := ⟨2, ![1024, 256]⟩
abbrev S8192x256 : Shape := ⟨2, ![8192, 256]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S8192x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S8192x1024 : Shape := ⟨2, ![8192, 1024]⟩
abbrev S1024x256 : Shape := ⟨2, ![1024, 256]⟩
abbrev S256x1024 : Shape := ⟨2, ![256, 1024]⟩
abbrev S_ : Shape := ⟨0, ![]⟩
abbrev S8192x256 : Shape := ⟨2, ![8192, 256]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x256, .bf16⟩
  | .hbm, ⟨2, _⟩ => ⟨S256x1024, .bf16⟩
  | .hbm, ⟨3, _⟩ => ⟨S256x1024, .f32⟩
  | .hbm, ⟨4, _⟩ => ⟨S_, .f32⟩
  | .hbm, ⟨5, _⟩ => ⟨S8192x256, .f32⟩
  | .hbm, ⟨6, _⟩ => ⟨S8192x1024, .f32⟩
  | .hbm, ⟨7, _⟩ => ⟨S8192x1024, .f32⟩
  | .hbm, ⟨8, _⟩ => ⟨S8192x256, .f32⟩
  | .hbm, ⟨9, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S256x512 : Shape := ⟨2, ![256, 512]⟩
abbrev S1024x512 : Shape := ⟨2, ![1024, 512]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x512, .f32⟩
  | .hbm, ⟨1, _⟩ => ⟨S1024x512, .bf16⟩
  | .hbm, ⟨2, _⟩ => ⟨S256x1024, .f32⟩
  | .local _ .vmem, ⟨0, _⟩ => ⟨S256x512, .f32⟩
  | .local _ .vmem, ⟨1, _⟩ => ⟨S1024x512, .bf16⟩
  | .local _ .vmem, ⟨2, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference30Ideal.lean ====
abbrev S256x512 : Shape := ⟨2, ![256, 512]⟩
abbrev S1024x512 : Shape := ⟨2, ![1024, 512]⟩
abbrev S_ : Shape := ⟨0, ![]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1024x512, .bf16⟩
  | .hbm, ⟨2, _⟩ => ⟨S1024x512, .f32⟩
  | .hbm, ⟨3, _⟩ => ⟨S_, .f32⟩
  | .hbm, ⟨4, _⟩ => ⟨S256x1024, .f32⟩
  | .hbm, ⟨5, _⟩ => ⟨S256x512, .f32⟩
  | .hbm, ⟨6, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel31.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel32.lean ====
abbrev S8192x256 : Shape := ⟨2, ![8192, 256]⟩
abbrev S1024x256 : Shape := ⟨2, ![1024, 256]⟩
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference32Ideal.lean ====
abbrev S8192x256 : Shape := ⟨2, ![8192, 256]⟩
abbrev S1024x256 : Shape := ⟨2, ![1024, 256]⟩
abbrev S256x1024 : Shape := ⟨2, ![256, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x256, .f32⟩
  | .hbm, ⟨3, _⟩ => ⟨S256x1024, .bf16⟩
  | .hbm, ⟨4, _⟩ => ⟨S256x1024, .f32⟩
  | .hbm, ⟨5, _⟩ => ⟨S8192x1024, .f32⟩
  | .hbm, ⟨6, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel33.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x512, .bf16⟩
  | .local _ .vmem, ⟨0, _⟩ => ⟨S256x1024, .bf16⟩
  | .local _ .vmem, ⟨1, _⟩ => ⟨S1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference33Ideal.lean ====
abbrev S256x1024 : Shape := ⟨2, ![256, 1024]⟩
abbrev S1024x512 : Shape := ⟨2, ![1024, 512]⟩
abbrev S256x512 : Shape := ⟨2, ![256, 512]⟩

abbrev nBuf : Space → Nat
  | .hbm => 6
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1024x512, .bf16⟩
  | .hbm, ⟨2, _⟩ => ⟨S256x1024, .f32⟩
  | .hbm, ⟨3, _⟩ => ⟨S1024x512, .f32⟩
  | .hbm, ⟨4, _⟩ => ⟨S256x512, .f32⟩
  | .hbm, ⟨5, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel34.lean ====
abbrev S8192x1024 : Shape := ⟨2, ![8192, 1024]⟩
abbrev S128x1024 : Shape := ⟨2, ![128, 1024]⟩
abbrev S8192x128 : Shape := ⟨2, ![8192, 128]⟩
abbrev S1024x1024 : Shape := ⟨2, ![1024, 1024]⟩
abbrev S1024x128 : Shape := ⟨2, ![1024, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S128x1024, .bf16⟩
  | .local _ .vmem, ⟨3, _⟩ => ⟨S1024x128, .f32⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference34Ideal.lean ====
abbrev S8192x1024 : Shape := ⟨2, ![8192, 1024]⟩
abbrev S128x1024 : Shape := ⟨2, ![128, 1024]⟩
abbrev S1024x128 : Shape := ⟨2, ![1024, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S128x1024, .bf16⟩
  | .hbm, ⟨2, _⟩ => ⟨S8192x1024, .f32⟩
  | .hbm, ⟨3, _⟩ => ⟨S1024x128, .bf16⟩
  | .hbm, ⟨4, _⟩ => ⟨S1024x128, .f32⟩
  | .hbm, ⟨5, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel35.lean ====
abbrev S8192x10752 : Shape := ⟨2, ![8192, 10752]⟩
abbrev S8192x1024 : Shape := ⟨2, ![8192, 1024]⟩
abbrev S1024x1024 : Shape := ⟨2, ![1024, 1024]⟩
abbrev S512x1024 : Shape := ⟨2, ![512, 1024]⟩

abbrev nBuf : Space → Nat
  | .hbm => 8
  | .vmem => 19
  | .smem => 0
  | _ => 0

abbrev bufTy : (tb : Table) → Fin (tcTables nBuf tb) → BufTy
  | .hbm, ⟨0, _⟩ => ⟨S8192x10752, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x1024, .f32⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference35Ideal.lean ====
abbrev S8192x10752 : Shape := ⟨2, ![8192, 10752]⟩
abbrev S8192x1024 : Shape := ⟨2, ![8192, 1024]⟩
abbrev S1024x1024 : Shape := ⟨2, ![1024, 1024]⟩
abbrev S8192x3072 : Shape := ⟨2, ![8192, 3072]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S1024x1024, .bf16⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x3072, .bf16⟩
  | .hbm, ⟨10, _⟩ => ⟨S8192x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S_, .f32⟩
  | .hbm, ⟨17, _⟩ => ⟨S8192x3072, .f32⟩
  | .hbm, ⟨18, _⟩ => ⟨S8192x3072, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .bf16⟩
  | .hbm, ⟨28, _⟩ => ⟨S1024x1024, .f32⟩
  | .hbm, ⟨29, _⟩ => ⟨S8192x1024, .f32⟩
  | .hbm, ⟨30, _⟩ => ⟨S8192x1024, .f32⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Kernel36.lean ====
abbrev S8192x1024 : Shape := ⟨2, ![8192, 1024]⟩
abbrev S1x1024 : Shape := ⟨2, ![1, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference36Ideal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel37.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference37Ideal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel38.lean ====
abbrev S256x1024 : Shape := ⟨2, ![256, 1024]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S1x1024 : Shape := ⟨2, ![1, 1024]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference38Ideal.lean ====
abbrev S256x1024 : Shape := ⟨2, ![256, 1024]⟩
abbrev S_ : Shape := ⟨0, ![]⟩
abbrev S1x1024 : Shape := ⟨2, ![1, 1024]⟩
abbrev S256 : Shape := ⟨1, ![256]⟩
abbrev S256x1 : Shape := ⟨2, ![256, 1]⟩
abbrev S1024 : Shape := ⟨1, ![1024]⟩
abbrev S8x1024 : Shape := ⟨2, ![8, 1024]⟩

abbrev nBuf : Space → Nat
  | .hbm => 24
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S_, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S8x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel39.lean ====
abbrev S8192x1024 : Shape := ⟨2, ![8192, 1024]⟩
abbrev S1024x1024 : Shape := ⟨2, ![1024, 1024]⟩
abbrev S8192x10752 : Shape := ⟨2, ![8192, 10752]⟩
abbrev S512x1024 : Shape := ⟨2, ![512, 1024]⟩
abbrev S512x3072 : Shape := ⟨2, ![512, 3072]⟩
abbrev S256x1024 : Shape := ⟨2, ![256, 1024]⟩
abbrev S256x3072 : Shape := ⟨2, ![256, 3072]⟩

abbrev nBuf : Space → Nat
  | .hbm => 11
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x10752, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x10752, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x10752, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x3072, .bf16⟩
  | .local _ .vmem, ⟨22, _⟩ => ⟨S512x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Reference39Ideal.lean ====
abbrev S8192x1024 : Shape := ⟨2, ![8192, 1024]⟩
abbrev S1024x1024 : Shape := ⟨2, ![1024, 1024]⟩
abbrev S8192x10752 : Shape := ⟨2, ![8192, 10752]⟩
abbrev S8192x3072 : Shape := ⟨2, ![8192, 3072]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x10752, .bf16⟩
  | .hbm, ⟨3, _⟩ => ⟨S8192x1024, .bf16⟩
  | .hbm, ⟨4, _⟩ => ⟨S8192x1024, .bf16⟩
  | .hbm, ⟨5, _⟩ => ⟨S8192x1024, .bf16⟩
  | .hbm, ⟨6, _⟩ => ⟨S8192x10752, .bf16⟩
  | .hbm, ⟨7, _⟩ => ⟨S8192x3072, .bf16⟩
  | .hbm, ⟨8, _⟩ => ⟨S8192x3072, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x3072, .f32⟩
  | .hbm, ⟨13, _⟩ => ⟨S8192x3072, .f32⟩
  | .hbm, ⟨14, _⟩ => ⟨S_, .f32⟩
  | .hbm, ⟨15, _⟩ => ⟨S8192x3072, .f32⟩
  | .hbm, ⟨16, _⟩ => ⟨S8192x3072, .f32⟩
  | .hbm, ⟨17, _⟩ => ⟨S_, .f32⟩
  | .hbm, ⟨18, _⟩ => ⟨S8192x3072, .f32⟩
  | .hbm, ⟨19, _⟩ => ⟨S8192x3072, .f32⟩
  | .hbm, ⟨20, _⟩ => ⟨S_, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S1024x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x3072, .f32⟩
  | .hbm, ⟨42, _⟩ => ⟨S8192x3072, .f32⟩
  | .hbm, ⟨43, _⟩ => ⟨S8192x3072, .bf16⟩
  | .hbm, ⟨44, _⟩ => ⟨S8192x1024, .bf16⟩
  | .hbm, ⟨45, _⟩ => ⟨S8192x1024, .bf16⟩
  | .hbm, ⟨46, _⟩ => ⟨S8192x1024, .bf16⟩
  | .hbm, ⟨47, _⟩ => ⟨S_, .i32⟩
  | .hbm, ⟨48, _⟩ => ⟨S_, .i32⟩
  | .hbm, ⟨49, _⟩ => ⟨S8192x10752, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c : Ref sig .tc := ⟨.hbm, 47, rfl⟩
abbrev main_c_2 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== Kernel40.lean ====
abbrev S8192x2048 : Shape := ⟨2, ![8192, 2048]⟩
abbrev S8192x10752 : Shape := ⟨2, ![8192, 10752]⟩
abbrev S1x2048 : Shape := ⟨2, ![1, 2048]⟩
abbrev S2048x1024 : Shape := ⟨2, ![2048, 1024]⟩
abbrev S8192x1024 : Shape := ⟨2, ![8192, 1024]⟩
abbrev S1024x2048 : Shape := ⟨2, ![1024, 2048]⟩
abbrev S1024x1024 : Shape := ⟨2, ![1024, 1024]⟩
abbrev S512x2048 : Shape := ⟨2, ![512, 2048]⟩
abbrev S512x512 : Shape := ⟨2, ![512, 512]⟩
abbrev S512 : Shape := ⟨1, ![512]⟩
abbrev S512x1 : Shape := ⟨2, ![512, 1]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S8192x10752, .bf16⟩
  | .hbm, ⟨2, _⟩ => ⟨S1x2048, .f32⟩
  | .hbm, ⟨3, _⟩ => ⟨S2048x1024, .bf16⟩
  | .hbm, ⟨4, _⟩ => ⟨S8192x2048, .bf16⟩
  | .hbm, ⟨5, _⟩ => ⟨S8192x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048, .f32⟩
  | .local _ .vmem, ⟨5, _⟩ => ⟨S2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference40Ideal.lean ====
abbrev S8192x2048 : Shape := ⟨2, ![8192, 2048]⟩
abbrev S8192x10752 : Shape := ⟨2, ![8192, 10752]⟩
abbrev S1x2048 : Shape := ⟨2, ![1, 2048]⟩
abbrev S2048x1024 : Shape := ⟨2, ![2048, 1024]⟩
abbrev S_ : Shape := ⟨0, ![]⟩
abbrev S8192x4x512 : Shape := ⟨3, ![8192, 4, 512]⟩
abbrev S8192x4 : Shape := ⟨2, ![8192, 4]⟩
abbrev S8192x4x1 : Shape := ⟨3, ![8192, 4, 1]⟩
abbrev S8192x1024 : Shape := ⟨2, ![8192, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x10752, .bf16⟩
  | .hbm, ⟨2, _⟩ => ⟨S1x2048, .f32⟩
  | .hbm, ⟨3, _⟩ => ⟨S2048x1024, .bf16⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192x2048, .f32⟩
  | .hbm, ⟨11, _⟩ => ⟨S8192x2048, .f32⟩
  | .hbm, ⟨12, _⟩ => ⟨S_, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x4x512, .f32⟩
  | .hbm, ⟨18, _⟩ => ⟨S8192x4x512, .f32⟩
  | .hbm, ⟨19, _⟩ => ⟨S_, .f32⟩
  | .hbm, ⟨20, _⟩ => ⟨S8192x4, .f32⟩
  | .hbm, ⟨21, _⟩ => ⟨S8192x4x1, .f32⟩
  | .hbm, ⟨22, _⟩ => ⟨S_, .f32⟩
  | .hbm, ⟨23, _⟩ => ⟨S8192x4x1, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S8192x4x1, .f32⟩
  | .hbm, ⟨29, _⟩ => ⟨S8192x4x512, .f32⟩
  | .hbm, ⟨30, _⟩ => ⟨S8192x4x512, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .bf16⟩
  | .hbm, ⟨35, _⟩ => ⟨S2048x1024, .f32⟩
  | .hbm, ⟨36, _⟩ => ⟨S8192x1024, .f32⟩
  | .hbm, ⟨37, _⟩ => ⟨S8192x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩

abbrev nD : Nat := 1
abbrev τ : Topo := Topo.v7x

variable {F : FTy → Type} [FloatOps F]
-- ==== Kernel41.lean ====
abbrev S8192x10752 : Shape := ⟨2, ![8192, 10752]⟩
abbrev S256x512 : Shape := ⟨2, ![256, 512]⟩
abbrev S8192x256 : Shape := ⟨2, ![8192, 256]⟩
abbrev S4096x256 : Shape := ⟨2, ![4096, 256]⟩
abbrev S256x256 : Shape := ⟨2, ![256, 256]⟩
abbrev S4096 : Shape := ⟨1, ![4096]⟩
abbrev S4096x1 : Shape := ⟨2, ![4096, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x10752, .bf16⟩
  | .hbm, ⟨1, _⟩ => ⟨S256x512, .bf16⟩
  | .hbm, ⟨2, _⟩ => ⟨S8192x256, .bf16⟩
  | .local _ .vmem, ⟨0, _⟩ => ⟨S4096x256, .bf16⟩
  | .local _ .vmem, ⟨1, _⟩ => ⟨S4096x256, .bf16⟩
  | .local _ .vmem, ⟨2, _⟩ => ⟨S256x512, .bf16⟩
  | .local _ .vmem, ⟨3, _⟩ => ⟨S4096x256, .bf16⟩
  | .local _ .vmem, ⟨4, _⟩ => ⟨S4096x256, .bf16⟩
  | _, _ => ⟨S8192x10752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c40_i32 : BitVec 32 := 40#32
  let c0_i32 : BitVec 32 := 0#32
  ![arg0.toNat, c40_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference41Ideal.lean ====
abbrev S8192x10752 : Shape := ⟨2, ![8192, 10752]⟩
abbrev S256x512 : Shape := ⟨2, ![256, 512]⟩
abbrev S8192x256 : Shape := ⟨2, ![8192, 256]⟩
abbrev S256x256 : Shape := ⟨2, ![256, 256]⟩
abbrev S8192x4x64 : Shape := ⟨3, ![8192, 4, 64]⟩
abbrev S256x4x64 : Shape := ⟨3, ![256, 4, 64]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x64x8192 : Shape := ⟨3, ![4, 64, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x10752, .bf16⟩
  | .hbm, ⟨1, _⟩ => ⟨S256x512, .bf16⟩
  | .hbm, ⟨2, _⟩ => ⟨S8192x256, .bf16⟩
  | .hbm, ⟨3, _⟩ => ⟨S8192x256, .f32⟩
  | .hbm, ⟨4, _⟩ => ⟨S256x512, .f32⟩
  | .hbm, ⟨5, _⟩ => ⟨S256x256, .f32⟩
  | .hbm, ⟨6, _⟩ => ⟨S256x256, .f32⟩
  | .hbm, ⟨7, _⟩ => ⟨S8192x4x64, .f32⟩
  | .hbm, ⟨8, _⟩ => ⟨S256x4x64, .f32⟩
  | .hbm, ⟨9, _⟩ => ⟨S256x4x64, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x64x8192, .f32⟩
  | .hbm, ⟨29, _⟩ => ⟨S8192x4x64, .f32⟩
  | .hbm, ⟨30, _⟩ => ⟨S8192x256, .f32⟩
  | .hbm, ⟨31, _⟩ => ⟨S8192x256, .bf16⟩
  | _, _ => ⟨S8192x10752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Proof.Att.Softmax.lean ====
module

public import Idealize.ShloMosaic.PureOps.Ideal
public import Idealize.ShloMosaic.PureOps.Ideal.Laws

@[expose] public section

noncomputable section

/-! # The gradient of a softmax row over the extended reals

A row of scores `s`, all of them real numbers, is turned into weights `exp (s k - max s) / ∑ exp (s j - max s)`.
The backward pass of a whole step is given the gradient `d k` of each weight, which may be any extended real. One
text of it multiplies the weight with `d k - ∑ d j * w j`; the derivative rules applied to the quotient one by one give
`(d k / S - ∑ d j * (1 / S²) * e j) * e k`. The two are equal because `e k` and `S` are positive real numbers, and
multiplication by such a number distributes over every sum of extended reals. -/

namespace Cert.Att

open Idealize.ShloMosaic

/-- The greatest score of a row. -/
def top (s : Fin 256 → EReal) : EReal := Finset.univ.fold max ⊥ s

/-- The exponential of a score, less the greatest score of its row. -/
def wt (s : Fin 256 → EReal) (k : Fin 256) : EReal := Ideal.exp (s k - top s)

/-- The sum of a row's exponentials. -/
def tot (s : Fin 256 → EReal) : EReal := ∑ k, wt s k

/-- The weight of entry `k`: its exponential over the sum of all. -/
def prob (s : Fin 256 → EReal) (k : Fin 256) : EReal := Ideal.div (wt s k) (tot s)

/-- The gradient of score `k`, given the gradients `d` of the weights. -/
def dscore (s d : Fin 256 → EReal) (k : Fin 256) : EReal := prob s k * (d k - ∑ j, d j * prob s j)

/-- The greatest of real scores is a real number. -/
theorem top_real (s : Fin 256 → EReal) (hs : ∀ k, ∃ r : ℝ, s k = r) : ∃ r : ℝ, top s = r := by
  have key : ∀ t : Finset (Fin 256), t.fold max ⊥ s = ⊥ ∧ t = ∅ ∨ ∃ r : ℝ, t.fold max ⊥ s = r := by
    intro t
    induction t using Finset.induction_on with
    | empty => exact Or.inl ⟨rfl, rfl⟩
    | insert a t ha ih =>
      right
      rw [Finset.fold_insert ha]
      obtain ⟨x, hx⟩ := hs a
      rcases ih with ⟨h, -⟩ | ⟨r, h⟩
      · exact ⟨x, by rw [h, hx]; exact max_bot_right _⟩
      · exact ⟨max x r, by rw [h, hx]; exact (EReal.coe_strictMono.monotone.map_max).symm⟩
  rcases key Finset.univ with ⟨-, h⟩ | h
  · exact absurd h (Finset.univ_nonempty).ne_empty
  · exact h

/-- Each exponential of a row of real scores is a positive real number. -/
theorem wt_pos (s : Fin 256 → EReal) (hs : ∀ k, ∃ r : ℝ, s k = r) (k : Fin 256) : ∃ r : ℝ, 0 < r ∧ wt s k = r := by
  obtain ⟨t, ht⟩ := top_real s hs
  obtain ⟨x, hx⟩ := hs k
  refine ⟨Real.exp (x - t), Real.exp_pos _, ?_⟩
  rw [wt, ht, hx, ← EReal.coe_sub, Ideal.exp_coe]

/-- A sum of real numbers, read among the extended reals, is their real sum. -/
theorem sum_real {ι : Type} (t : Finset ι) (f : ι → EReal) (g : ι → ℝ) (h : ∀ i, f i = g i) :
    ∑ i ∈ t, f i = ((∑ i ∈ t, g i : ℝ) : EReal) := by
  classical
  induction t using Finset.induction_on with
  | empty => simp
  | insert a t ha ih => rw [Finset.sum_insert ha, Finset.sum_insert ha, ih, h, EReal.coe_add]

/-- The sum of the exponentials of a row of real scores is a positive real number. -/
theorem tot_pos (s : Fin 256 → EReal) (hs : ∀ k, ∃ r : ℝ, s k = r) : ∃ r : ℝ, 0 < r ∧ tot s = r := by
  choose g hg hw using wt_pos s hs
  exact ⟨∑ k, g k, Finset.sum_pos (fun k _ => hg k) Finset.univ_nonempty, sum_real _ _ _ hw⟩

/-- Multiplication by a positive real number distributes over a finite sum of extended reals. -/
theorem mul_sum_pos {ι : Type} (t : Finset ι) (a : ℝ) (ha : 0 < a) (f : ι → EReal) :
    (a : EReal) * ∑ i ∈ t, f i = ∑ i ∈ t, (a : EReal) * f i := by
  classical
  induction t using Finset.induction_on with
  | empty => simp
  | insert b t hb ih =>
    rw [Finset.sum_insert hb, Finset.sum_insert hb, ← ih]
    exact EReal.left_distrib_of_nonneg_of_ne_top (EReal.coe_nonneg.mpr ha.le) (EReal.coe_ne_top a) _ _

/-- The two texts of a softmax row's gradient agree, for real scores and any gradients of the weights. -/
theorem vjp_eq_dscore (s d : Fin 256 → EReal) (hs : ∀ k, ∃ r : ℝ, s k = r) (k : Fin 256) :
    (Ideal.div (d k) (tot s) + -(∑ j, d j * Ideal.div 1 (tot s * tot s) * wt s j)) * wt s k = dscore s d k := by
  obtain ⟨S, hS, eS⟩ := tot_pos s hs
  choose g hg hw using wt_pos s hs
  have hS' : S ≠ 0 := hS.ne'
  have e1 : ∀ x : EReal, Ideal.div x (S : EReal) = ((1 / S : ℝ) : EReal) * x := fun x => by
    rw [Ideal.div_coe hS', mul_comm]
  have e2 : Ideal.div 1 ((S : EReal) * (S : EReal)) = ((1 / S * (1 / S) : ℝ) : EReal) := by
    rw [← EReal.coe_mul, Ideal.div_coe (mul_ne_zero hS' hS'), one_mul]
    congr 1; field_simp
  have e3 : ∀ j, d j * ((1 / S * (1 / S) : ℝ) : EReal) * (g j : EReal)
      = ((1 / S : ℝ) : EReal) * (d j * (((1 / S : ℝ) : EReal) * (g j : EReal))) := fun j => by
    rw [EReal.coe_mul]; ac_rfl
  have hp : 0 < 1 / S := by positivity
  simp only [dscore, prob, eS, hw, e1, e2, e3]
  rw [← mul_sum_pos _ _ hp]
  generalize (∑ j, d j * (((1 / S : ℝ) : EReal) * (g j : EReal))) = T
  have e4 : ((1 / S : ℝ) : EReal) * d k + -(((1 / S : ℝ) : EReal) * T) = ((1 / S : ℝ) : EReal) * (d k - T) := by
    rw [sub_eq_add_neg, EReal.left_distrib_of_nonneg_of_ne_top (EReal.coe_nonneg.mpr hp.le) (EReal.coe_ne_top _), mul_neg]
  rw [e4]; ac_rfl

end Cert.Att

end
-- ==== Proof.Att.Tile.lean ====
module

public import proofs.«01_k».proof.Proof.Att.Softmax
public import proofs.«01_k».proof.Proof.Gen.KernelIdeal.Value
public import Idealize.ShloMosaic.Lib.Pointwise
public import Idealize.ShloMosaic.Lib.Tactic
public import Idealize.ShloMosaic.Lib.Pipeline.ReadBack

@[expose] public section

noncomputable section

namespace Cert.Att

open Cert.KernelIdeal Cert.KernelIdeal.Gen Idealize.ShloMosaic Idealize.ShloMosaic.TcCoe Idealize.SL.Sem

/-- The lanes `lo ≤ l < hi` of a tile of 4096 rows. -/
def lanesR (lo hi : BitVec 32) : IVec S4096x256 1 :=
  andi (cmpi .sge (iota .tc S4096x256 32 [1] iota_S4096x256_d1_w32) (broadcast S4096x256 lo))
    (cmpi .slt (iota .tc S4096x256 32 [1] iota_S4096x256_d1_w32) (broadcast S4096x256 hi))

/-- The lanes `lo ≤ l < hi` of a tile of 256 rows. -/
def lanesM (lo hi : BitVec 32) : IVec S256x256 1 :=
  andi (cmpi .sge (iota .tc S256x256 32 [1] iota_S256x256_d1_w32) (broadcast S256x256 lo))
    (cmpi .slt (iota .tc S256x256 32 [1] iota_S256x256_d1_w32) (broadcast S256x256 hi))

/-- A tile of zeros. -/
abbrev zeroR : FVec Ideal S4096x256 .f32 := broadcast S4096x256 (Scalar.ofBits .f32 0x00000000#32)
abbrev zeroM : FVec Ideal S256x256 .f32 := broadcast S256x256 (Scalar.ofBits .f32 0x00000000#32)

/-- Products of the rows of `a`, on the lanes of `msk` alone, with the rows of `b`. -/
def headDot (msk : IVec S4096x256 1) (a : FVec Ideal S4096x256 .f32) (b : FVec Ideal S256x256 .bf16) : FVec Ideal S4096x256 .f32 :=
  matmul dot_S4096x256_S256x256_S4096x256_1_1_0_0_n_n none (truncf .bf16 (select msk a zeroR) bitsLt_bf16_f32) b
    (constant S4096x256 .f32 0x00000000#32)

/-- The scores of one head. -/
def scoresT (msk : IVec S4096x256 1) (a : FVec Ideal S4096x256 .f32) (b : FVec Ideal S256x256 .bf16) : FVec Ideal S4096x256 .f32 :=
  mulf (headDot msk a b) (broadcast S4096x256 (Scalar.ofBits .f32 0x3E000000#32))

/-- The weights of rows of scores. -/
def probsT (s : FVec Ideal S4096x256 .f32) : FVec Ideal S4096x256 .f32 :=
  divf (exp (subf s (broadcastTo S4096x256 (shapeCast S4096x1 (multiReduction .maximumf [1] S4096 s 0xFF800000#32 reduces_S4096x256_S4096 (.inl rfl) rfl) shapeCasts_S4096_S4096x1) broadcasts_S4096x1_S4096x256)))
    (broadcastTo S4096x256 (shapeCast S4096x1 (multiReduction .add [1] S4096 (exp (subf s (broadcastTo S4096x256 (shapeCast S4096x1 (multiReduction .maximumf [1] S4096 s 0xFF800000#32 reduces_S4096x256_S4096 (.inl rfl) rfl) shapeCasts_S4096_S4096x1) broadcasts_S4096x1_S4096x256))) 0x00000000#32 reduces_S4096x256_S4096 (.inl rfl) rfl) shapeCasts_S4096_S4096x1) broadcasts_S4096x1_S4096x256)

/-- The gradients of the scores from the weights `p` and the weights' gradients `g`. -/
def dscoresT (p g : FVec Ideal S4096x256 .f32) : FVec Ideal S4096x256 .f32 :=
  mulf (mulf p (subf g (broadcastTo S4096x256 (shapeCast S4096x1 (multiReduction .add [1] S4096 (mulf g p) 0x00000000#32 reduces_S4096x256_S4096 (.inl rfl) rfl) shapeCasts_S4096_S4096x1) broadcasts_S4096x1_S4096x256)))
    (broadcast S4096x256 (Scalar.ofBits .f32 0x3E000000#32))

/-- One head's part of the gradient of the queries. -/
def dqPart (msk : IVec S4096x256 1) (ds : FVec Ideal S4096x256 .f32) (k : FVec Ideal S256x256 .bf16) : FVec Ideal S4096x256 .f32 :=
  select msk (matmul dot_S4096x256_S256x256_S4096x256_1_0_0_1_n_n none (truncf .bf16 ds bitsLt_bf16_f32) k (constant S4096x256 .f32 0x00000000#32)) zeroR

/-- One head's part of the gradient of the keys (of `ds` and the queries) or of the values (of the weights and the given gradient). -/
def dkPart (msk : IVec S256x256 1) (ds a : FVec Ideal S4096x256 .f32) : FVec Ideal S256x256 .f32 :=
  select msk (matmul dot_S4096x256_S4096x256_S256x256_0_0_1_1_n_n none (truncf .bf16 ds bitsLt_bf16_f32) (truncf .bf16 a bitsLt_bf16_f32) (constant S256x256 .f32 0x00000000#32)) zeroM

/-- The weights of the head on lanes `lo ≤ l < hi`. -/
def probsH (lo hi : BitVec 32) (q : FVec Ideal S4096x256 .f32) (k : FVec Ideal S256x256 .bf16) : FVec Ideal S4096x256 .f32 :=
  probsT (scoresT (lanesR lo hi) q k)

/-- The score gradients of the head on lanes `lo ≤ l < hi`. -/
def dscoresH (lo hi : BitVec 32) (q d : FVec Ideal S4096x256 .f32) (k v : FVec Ideal S256x256 .bf16) : FVec Ideal S4096x256 .f32 :=
  dscoresT (probsH lo hi q k) (headDot (lanesR lo hi) d v)

/-- The gradient of the queries of a tile: the four heads' parts added up. -/
def dqTile (q d : FVec Ideal S4096x256 .f32) (k v : FVec Ideal S256x256 .bf16) : FVec Ideal S4096x256 .f32 :=
  addf (addf (addf (addf zeroR (dqPart (lanesR 0#32 64#32) (dscoresH 0#32 64#32 q d k v) k))
    (dqPart (lanesR 64#32 128#32) (dscoresH 64#32 128#32 q d k v) k))
    (dqPart (lanesR 128#32 192#32) (dscoresH 128#32 192#32 q d k v) k))
    (dqPart (lanesR 192#32 256#32) (dscoresH 192#32 256#32 q d k v) k)

/-- A tile's part of the gradient of the keys. -/
def dkTile (q d : FVec Ideal S4096x256 .f32) (k v : FVec Ideal S256x256 .bf16) : FVec Ideal S256x256 .f32 :=
  addf (addf (addf (addf zeroM (dkPart (lanesM 0#32 64#32) (dscoresH 0#32 64#32 q d k v) q))
    (dkPart (lanesM 64#32 128#32) (dscoresH 64#32 128#32 q d k v) q))
    (dkPart (lanesM 128#32 192#32) (dscoresH 128#32 192#32 q d k v) q))
    (dkPart (lanesM 192#32 256#32) (dscoresH 192#32 256#32 q d k v) q)

/-- A tile's part of the gradient of the values. -/
def dvTile (q d : FVec Ideal S4096x256 .f32) (k : FVec Ideal S256x256 .bf16) : FVec Ideal S256x256 .f32 :=
  addf (addf (addf (addf zeroM (dkPart (lanesM 0#32 64#32) (probsH 0#32 64#32 q k) d))
    (dkPart (lanesM 64#32 128#32) (probsH 64#32 128#32 q k) d))
    (dkPart (lanesM 128#32 192#32) (probsH 128#32 192#32 q k) d))
    (dkPart (lanesM 192#32 256#32) (probsH 192#32 256#32 q k) d)

theorem zeroOffsets : (![0, 0] : Fin 2 → Nat) = fun _ => 0 := funext fun a => by fin_cases a <;> rfl

/-- The half of a 256 by 512 block that holds the keys. -/
abbrev keysRect : Rect S256x512 := Rect.unit ![0, 0] ![256, 256] inb_S256x512_S256x256_0_0
/-- The half of a 256 by 512 block that holds the values. -/
abbrev valsRect : Rect S256x512 := Rect.unit ![0, 256] ![256, 256] inb_S256x512_S256x256_0_256

/-- The keys of a block. -/
abbrev keysOf {e : EltTy} (x : Vec Ideal S256x512 e) : Vec Ideal S256x256 e := View.ld x keysRect
/-- The values of a block. -/
abbrev valsOf {e : EltTy} (x : Vec Ideal S256x512 e) : Vec Ideal S256x256 e := View.ld x valsRect

/-- The piece that fills the keys' half. -/
abbrev keysPiece (y : FVec Ideal S256x256 .f32) : View.Piece (Elt Ideal) S256x512 .f32 := ⟨keysRect, y⟩
/-- The piece that fills the values' half. -/
abbrev valsPiece (y : FVec Ideal S256x256 .f32) : View.Piece (Elt Ideal) S256x512 .f32 := ⟨valsRect, y⟩

/-- Storing both halves leaves the one and the other. -/
theorem keysOf_canon (y z : FVec Ideal S256x256 .f32) (L : List (View.Piece (Elt Ideal) S256x512 .f32)) (x : keysRect.shape.Idx) :
    View.canon (valsPiece z :: keysPiece y :: L) (keysRect.emb x) = y x :=
  (View.canon_cons_of_not_mem (valsPiece z) _ (LoadRect.idx_not_mem_of_disj (p := valsRect) (B := keysRect.toLoadRect) (by decide) x)).trans
    (View.canon_cons_emb keysRect y L x)

theorem valsOf_canon (z : FVec Ideal S256x256 .f32) (L : List (View.Piece (Elt Ideal) S256x512 .f32)) (x : valsRect.shape.Idx) :
    View.canon (valsPiece z :: L) (valsRect.emb x) = z x :=
  View.canon_cons_emb valsRect z L x

theorem out_B_3 (c : Dev nD) (i : grid0.Coords) (a1 : Memref sig .tc .vmem S4096x256 .bf16) (h1 : a1.IsWhole)
    (a2 : Memref sig .tc .vmem S256x512 .bf16) (h2 : a2.IsWhole) (a3 : Memref sig .tc .vmem S4096x256 .bf16) (h3 : a3.IsWhole)
    (a5 : Memref sig .tc .vmem S4096x256 .bf16) (h5 : a5.IsWhole) (a6 : Memref sig .tc .vmem S256x512 .f32) (h6 : a6.IsWhole) (hc : ¬cond0_0 i)
    (x0 : Vec Ideal S4096x256 .bf16) (x1 : Vec Ideal S256x512 .bf16) (x2 : Vec Ideal S4096x256 .bf16) (xo : Vec Ideal S256x512 .f32) :
    out0_B_3 c i a1 h1 a2 h2 a3 h3 a5 h5 a6 h6 hc x0 x1 x2 xo
      = truncf .bf16 (dqTile (extf .f32 x0 bitsLt_bf16_f32) (extf .f32 x2 bitsLt_bf16_f32) (keysOf (e := .bf16) x1) (valsOf (e := .bf16) x1)) bitsLt_bf16_f32 := by
  unfold out0_B_3
  rw [View.read_writes_eq_canon _ _ _ (cover0_B_3 c i a1 h1 a2 h2 a3 h3 a5 h5 a6 h6 hc x0 x1 x2 xo)]
  unfold kernelRun0_B
  dsimp only
  rw [View.canon_unit_zero zeroOffsets]
  sl_unfold_words
  simp only [View.readAt_eq_ld, h1.read_unread, h2.read_unread, h3.read_unread, View.ld_unit_zero (S := S4096x256) zeroOffsets, shapeCast_self]
  unfold_payloads
  simp only [shapeCast_self, keysOf, valsOf, dqTile, dkTile, dvTile, dqPart, dkPart, probsH, dscoresH, dscoresT, probsT, scoresT, headDot, lanesR, lanesM, zeroR, zeroM]

theorem out_B_4 (c : Dev nD) (i : grid0.Coords) (a1 : Memref sig .tc .vmem S4096x256 .bf16) (h1 : a1.IsWhole)
    (a2 : Memref sig .tc .vmem S256x512 .bf16) (h2 : a2.IsWhole) (a3 : Memref sig .tc .vmem S4096x256 .bf16) (h3 : a3.IsWhole)
    (a5 : Memref sig .tc .vmem S4096x256 .bf16) (h5 : a5.IsWhole) (a6 : Memref sig .tc .vmem S256x512 .f32) (h6 : a6.IsWhole) (hc : ¬cond0_0 i)
    (x0 : Vec Ideal S4096x256 .bf16) (x1 : Vec Ideal S256x512 .bf16) (x2 : Vec Ideal S4096x256 .bf16) (xo : Vec Ideal S256x512 .f32) :
    out0_B_4 c i a1 h1 a2 h2 a3 h3 a5 h5 a6 h6 hc x0 x1 x2 xo
      = View.canon [valsPiece (addf (valsOf (e := .f32) xo) (dvTile (extf .f32 x0 bitsLt_bf16_f32) (extf .f32 x2 bitsLt_bf16_f32) (keysOf (e := .bf16) x1))),
          keysPiece (addf (keysOf (e := .f32) xo) (dkTile (extf .f32 x0 bitsLt_bf16_f32) (extf .f32 x2 bitsLt_bf16_f32) (keysOf (e := .bf16) x1) (valsOf (e := .bf16) x1)))] := by
  unfold out0_B_4
  rw [View.read_writes_eq_canon _ _ _ (cover0_B_4 c i a1 h1 a2 h2 a3 h3 a5 h5 a6 h6 hc x0 x1 x2 xo)]
  unfold kernelRun0_B
  dsimp only
  sl_unfold_words
  simp only [View.readAt_eq_ld, h1.read_unread, h2.read_unread, h3.read_unread, h6.read_unread, View.ld_unit_zero (S := S4096x256) zeroOffsets, shapeCast_self]
  unfold_payloads
  simp only [shapeCast_self, keysOf, valsOf, dqTile, dkTile, dvTile, dqPart, dkPart, probsH, dscoresH, dscoresT, probsT, scoresT, headDot, lanesR, lanesM, zeroR, zeroM]

theorem out_A_3 (c : Dev nD) (i : grid0.Coords) (a1 : Memref sig .tc .vmem S4096x256 .bf16) (h1 : a1.IsWhole)
    (a2 : Memref sig .tc .vmem S256x512 .bf16) (h2 : a2.IsWhole) (a3 : Memref sig .tc .vmem S4096x256 .bf16) (h3 : a3.IsWhole)
    (a5 : Memref sig .tc .vmem S4096x256 .bf16) (h5 : a5.IsWhole) (a6 : Memref sig .tc .vmem S256x512 .f32) (h6 : a6.IsWhole) (hc : cond0_0 i)
    (x0 : Vec Ideal S4096x256 .bf16) (x1 : Vec Ideal S256x512 .bf16) (x2 : Vec Ideal S4096x256 .bf16) :
    out0_A_3 c i a1 h1 a2 h2 a3 h3 a5 h5 a6 h6 hc x0 x1 x2
      = truncf .bf16 (dqTile (extf .f32 x0 bitsLt_bf16_f32) (extf .f32 x2 bitsLt_bf16_f32) (keysOf (e := .bf16) x1) (valsOf (e := .bf16) x1)) bitsLt_bf16_f32 := by
  unfold out0_A_3
  rw [View.read_writes_eq_canon _ _ _ (cover0_A_3 c i a1 h1 a2 h2 a3 h3 a5 h5 a6 h6 hc x0 x1 x2)]
  unfold kernelRun0_A
  dsimp only
  rw [View.canon_unit_zero zeroOffsets]
  sl_unfold_words
  simp only [View.readAt_eq_ld, h1.read_unread, h2.read_unread, h3.read_unread, View.ld_unit_zero (S := S4096x256) zeroOffsets, shapeCast_self]
  unfold_payloads
  simp only [shapeCast_self, keysOf, valsOf, dqTile, dkTile, dvTile, dqPart, dkPart, probsH, dscoresH, dscoresT, probsT, scoresT, headDot, lanesR, lanesM, zeroR, zeroM]

/-- A block of zeros. -/
abbrev zeroKV : FVec Ideal S256x512 .f32 := broadcast S256x512 (Scalar.ofBits .f32 0x00000000#32)

theorem out_A_4 (c : Dev nD) (i : grid0.Coords) (a1 : Memref sig .tc .vmem S4096x256 .bf16) (h1 : a1.IsWhole)
    (a2 : Memref sig .tc .vmem S256x512 .bf16) (h2 : a2.IsWhole) (a3 : Memref sig .tc .vmem S4096x256 .bf16) (h3 : a3.IsWhole)
    (a5 : Memref sig .tc .vmem S4096x256 .bf16) (h5 : a5.IsWhole) (a6 : Memref sig .tc .vmem S256x512 .f32) (h6 : a6.IsWhole) (hc : cond0_0 i)
    (x0 : Vec Ideal S4096x256 .bf16) (x1 : Vec Ideal S256x512 .bf16) (x2 : Vec Ideal S4096x256 .bf16) :
    out0_A_4 c i a1 h1 a2 h2 a3 h3 a5 h5 a6 h6 hc x0 x1 x2
      = View.canon [valsPiece (addf (valsOf (e := .f32) zeroKV) (dvTile (extf .f32 x0 bitsLt_bf16_f32) (extf .f32 x2 bitsLt_bf16_f32) (keysOf (e := .bf16) x1))),
          keysPiece (addf (keysOf (e := .f32) zeroKV) (dkTile (extf .f32 x0 bitsLt_bf16_f32) (extf .f32 x2 bitsLt_bf16_f32) (keysOf (e := .bf16) x1) (valsOf (e := .bf16) x1))),
          ⟨Rect.unit ![0, 0] ![256, 512] inb_S256x512_S256x512_0_0, zeroKV⟩] := by
  unfold out0_A_4
  rw [View.read_writes_eq_canon _ _ _ (cover0_A_4 c i a1 h1 a2 h2 a3 h3 a5 h5 a6 h6 hc x0 x1 x2)]
  unfold kernelRun0_A
  dsimp only
  sl_unfold_words
  simp only [View.readAt_eq_ld, h1.read_unread, h2.read_unread, h3.read_unread, View.ld_unit_zero (S := S4096x256) zeroOffsets, shapeCast_self]
  have hz : ∀ j : Fin 2, (![0, 0] : Fin 2 → Nat) j = 0 := fun j => by fin_cases j <;> rfl
  have hk : ∀ y : FVec Ideal S256x512 .f32, a6.view.readCov [⟨Rect.unit ![0, 0] ![256, 512] inb_S256x512_S256x512_0_0, y⟩]
      (Rect.unit ![0, 0] ![256, 256] inb_S256x512_S256x256_0_0).toLoadRect = keysOf (e := .f32) y := fun y => View.readCov_fill _ _ _ _ _ hz
  have hv : ∀ (z : FVec Ideal S256x256 .f32) (y : FVec Ideal S256x512 .f32), a6.view.readCov [keysPiece z, ⟨Rect.unit ![0, 0] ![256, 512] inb_S256x512_S256x512_0_0, y⟩]
      (Rect.unit ![0, 256] ![256, 256] inb_S256x512_S256x256_0_256).toLoadRect = valsOf (e := .f32) y := fun z y =>
    (View.readCov_skip _ _ _ _ _ (by decide)).trans (View.readCov_fill _ _ _ _ _ hz)
  rw [hv, hk]
  unfold_payloads
  simp only [shapeCast_self, keysOf, valsOf, dqTile, dkTile, dvTile, dqPart, dkPart, probsH, dscoresH, dscoresT, probsT, scoresT, headDot, lanesR, lanesM, zeroR, zeroM]

end Cert.Att

end
-- ==== Proof.Att.Heads.lean ====
module

public import proofs.«01_k».proof.Proof.Att.Tile

@[expose] public section

noncomputable section

/-! # What the attention's gradients are, head by head

Four heads of 64 lanes lie side by side in 256 lanes. `Q`, `D`, `K`, `V` are the queries, the given gradient, the keys
and the values, each as rows of 256 lanes; `c` scales the scores. The tile's masked products over all 256 lanes are
products over one head's 64 lanes. -/

namespace Cert.Att

open Cert.KernelIdeal Cert.KernelIdeal.Gen Idealize.ShloMosaic Idealize.ShloMosaic.TcCoe Idealize.SL.Sem

/-- Lane `i` of head `h`. -/
def lane (h : Fin 4) (i : Fin 64) : Fin 256 := ⟨64 * h.val + i.val, by omega⟩

/-- The head of a lane. -/
def headOf (l : Fin 256) : Fin 4 := ⟨l.val / 64, by omega⟩

theorem headOf_lane (h : Fin 4) (i : Fin 64) : headOf (lane h i) = h := Fin.ext (by simp only [headOf, lane]; omega)

/-- A sum over the lanes of head `h` alone. -/
theorem sum_lanes (h : Fin 4) (f : Fin 256 → EReal) :
    (∑ l, if headOf l = h then f l else 0) = ∑ i : Fin 64, f (lane h i) := by
  rw [← Finset.sum_filter]
  refine (Finset.sum_nbij (fun i => lane h i) (fun i _ => ?_) (fun i _ j _ e => ?_) (fun l hl => ?_) fun _ _ => rfl).symm
  · simp [headOf_lane]
  · have := congrArg Fin.val e
    simp only [lane] at this
    exact Fin.ext (by omega)
  · have hl' : headOf l = h := by simpa using hl
    refine ⟨⟨l.val % 64, by omega⟩, by simp, Fin.ext ?_⟩
    subst hl'
    simp only [lane, headOf]
    omega

variable {N : Nat}

/-- The score of row `r` and memory `m` in head `h`. -/
def score (c : EReal) (Q : Fin N → Fin 256 → EReal) (K : Fin 256 → Fin 256 → EReal) (h : Fin 4) (r : Fin N) (m : Fin 256) : EReal :=
  (∑ i : Fin 64, Q r (lane h i) * K m (lane h i)) * c

/-- The gradient of a weight: the given gradient's row times the value's row. -/
def dprob (D : Fin N → Fin 256 → EReal) (V : Fin 256 → Fin 256 → EReal) (h : Fin 4) (r : Fin N) (m : Fin 256) : EReal :=
  ∑ i : Fin 64, D r (lane h i) * V m (lane h i)

/-- The gradient of a product of a query and a key. -/
def ds (c : EReal) (Q D : Fin N → Fin 256 → EReal) (K V : Fin 256 → Fin 256 → EReal) (h : Fin 4) (r : Fin N) (m : Fin 256) : EReal :=
  dscore (score c Q K h r) (dprob D V h r) m * c

/-- The gradient of the queries. -/
def gradQ (c : EReal) (Q D : Fin N → Fin 256 → EReal) (K V : Fin 256 → Fin 256 → EReal) (r : Fin N) (l : Fin 256) : EReal :=
  ∑ m, ds c Q D K V (headOf l) r m * K m l

/-- The gradient of the keys. -/
def gradK (c : EReal) (Q D : Fin N → Fin 256 → EReal) (K V : Fin 256 → Fin 256 → EReal) (m l : Fin 256) : EReal :=
  ∑ r, ds c Q D K V (headOf l) r m * Q r l

/-- The gradient of the values. -/
def gradV (c : EReal) (Q D : Fin N → Fin 256 → EReal) (K : Fin 256 → Fin 256 → EReal) (m l : Fin 256) : EReal :=
  ∑ r, prob (score c Q K (headOf l) r) m * D r l

/-- The scale, as the programs' constant reads. -/
def scale : EReal := Ideal.ofBits .f32 0x3E000000#32

/-- The bits that name −∞. -/
theorem bot_bits : Ideal.ofBits .f32 0xFF800000#32 = ⊥ := by simp [Ideal.ofBits, Ideal.ieee]

/-- The rows of a tile, lane by lane. -/
abbrev rows {n : Nat} {φ : FTy} (x : FVec Ideal ⟨2, ![n, 256]⟩ φ) : Fin n → Fin 256 → EReal := fun r l => x (ix2 r l)

/-- Where head `h`'s lanes begin. -/
abbrev lo (h : Fin 4) : BitVec 32 := BitVec.ofNat 32 (64 * h.val)
/-- Where they end. -/
abbrev hi (h : Fin 4) : BitVec 32 := BitVec.ofNat 32 (64 * h.val + 64)

theorem mask_bits : ∀ (h : Fin 4) (l : Fin 256), IntOp.andi (IntOp.cmpi .sge (BitVec.ofNat 32 l.val) (lo h)) (IntOp.cmpi .slt (BitVec.ofNat 32 l.val) (hi h))
    = BitVec.ofBool (decide (headOf l = h)) := by decide +kernel

/-- A choice by a decided bit is a choice by the proposition. -/
theorem mask_select (p : Prop) [Decidable p] (a b : EReal) : Scalar.select (BitVec.ofBool (decide p)) a b = if p then a else b := by
  by_cases h : p <;> simp [h, Scalar.select]

theorem lanesR_apply (h : Fin 4) (r : Fin 4096) (l : Fin 256) : lanesR (lo h) (hi h) (ix2 r l) = BitVec.ofBool (decide (headOf l = h)) := by
  rw [← mask_bits]; pointwise [lanesR]

theorem lanesM_apply (h : Fin 4) (r : Fin 256) (l : Fin 256) : lanesM (lo h) (hi h) (ix2 r l) = BitVec.ofBool (decide (headOf l = h)) := by
  rw [← mask_bits]; pointwise [lanesM]

/-- The masked product over 256 lanes is the product over one head's lanes. -/
theorem headDot_apply (h : Fin 4) (a : FVec Ideal S4096x256 .f32) (b : FVec Ideal S256x256 .bf16) (r : Fin 4096) (m : Fin 256) :
    headDot (lanesR (lo h) (hi h)) a b (ix2 r m) = dprob (rows a) (rows b) h r m := by
  pointwise [headDot]
  simp only [lanesR_apply, mask_select]
  exact sum_lanes h fun l => a (ix2 r l) * b (ix2 m l)

theorem scoresT_apply (h : Fin 4) (a : FVec Ideal S4096x256 .f32) (b : FVec Ideal S256x256 .bf16) (r : Fin 4096) (m : Fin 256) :
    scoresT (lanesR (lo h) (hi h)) a b (ix2 r m) = score scale (rows a) (rows b) h r m := by
  rw [score, ← dprob, ← headDot_apply]; rfl

theorem probsT_apply (s : FVec Ideal S4096x256 .f32) (r : Fin 4096) (m : Fin 256) :
    probsT s (ix2 r m) = prob (fun k => s (ix2 r k)) m := by
  pointwise [probsT]
  rw [bot_bits]; rfl

theorem dscoresT_apply (p g : FVec Ideal S4096x256 .f32) (r : Fin 4096) (m : Fin 256) :
    dscoresT p g (ix2 r m) = p (ix2 r m) * (g (ix2 r m) - ∑ j, g (ix2 r j) * p (ix2 r j)) * scale := by
  pointwise [dscoresT]
  rfl

theorem probsH_apply (h : Fin 4) (q : FVec Ideal S4096x256 .f32) (k : FVec Ideal S256x256 .bf16) (r : Fin 4096) (m : Fin 256) :
    probsH (lo h) (hi h) q k (ix2 r m) = prob (score scale (rows q) (rows k) h r) m := by
  rw [probsH, probsT_apply]
  simp only [scoresT_apply]

theorem dscoresH_apply (h : Fin 4) (q d : FVec Ideal S4096x256 .f32) (k v : FVec Ideal S256x256 .bf16) (r : Fin 4096) (m : Fin 256) :
    dscoresH (lo h) (hi h) q d k v (ix2 r m) = ds scale (rows q) (rows d) (rows k) (rows v) h r m := by
  rw [dscoresH, dscoresT_apply]
  simp only [probsH_apply, headDot_apply]
  rfl

/-- Four parts, each on its own head's lanes, add up to the lane's own head's part. -/
theorem sum_heads (f : Fin 4 → EReal) (h : Fin 4) :
    0 + (if h = 0 then f 0 else 0) + (if h = 1 then f 1 else 0) + (if h = 2 then f 2 else 0) + (if h = 3 then f 3 else 0) = f h := by
  fin_cases h <;> simp

theorem dqPart_apply (h : Fin 4) (g : FVec Ideal S4096x256 .f32) (k : FVec Ideal S256x256 .bf16) (r : Fin 4096) (l : Fin 256) :
    dqPart (lanesR (lo h) (hi h)) g k (ix2 r l) = if headOf l = h then ∑ m, g (ix2 r m) * k (ix2 m l) else 0 := by
  pointwise [dqPart]
  rw [lanesR_apply, mask_select]

theorem dkPart_apply (h : Fin 4) (g a : FVec Ideal S4096x256 .f32) (m : Fin 256) (l : Fin 256) :
    dkPart (lanesM (lo h) (hi h)) g a (ix2 m l) = if headOf l = h then ∑ r, g (ix2 r m) * a (ix2 r l) else 0 := by
  pointwise [dkPart]
  rw [lanesM_apply, mask_select]

/-- Head `h`'s part of a tile's gradient of the queries. -/
theorem dqHead (h : Fin 4) (a b : BitVec 32) (ha : a = lo h) (hb : b = hi h) (q d : FVec Ideal S4096x256 .f32) (k v : FVec Ideal S256x256 .bf16)
    (r : Fin 4096) (l : Fin 256) : dqPart (lanesR a b) (dscoresH a b q d k v) k (ix2 r l)
      = if headOf l = h then ∑ m, ds scale (rows q) (rows d) (rows k) (rows v) h r m * k (ix2 m l) else 0 := by
  subst ha hb; rw [dqPart_apply]; simp only [dscoresH_apply]

/-- Head `h`'s part of a tile's gradient of the keys. -/
theorem dkHead (h : Fin 4) (a b : BitVec 32) (ha : a = lo h) (hb : b = hi h) (q d : FVec Ideal S4096x256 .f32) (k v : FVec Ideal S256x256 .bf16)
    (m l : Fin 256) : dkPart (lanesM a b) (dscoresH a b q d k v) q (ix2 m l)
      = if headOf l = h then ∑ r, ds scale (rows q) (rows d) (rows k) (rows v) h r m * q (ix2 r l) else 0 := by
  subst ha hb; rw [dkPart_apply]; simp only [dscoresH_apply]

/-- Head `h`'s part of a tile's gradient of the values. -/
theorem dvHead (h : Fin 4) (a b : BitVec 32) (ha : a = lo h) (hb : b = hi h) (q d : FVec Ideal S4096x256 .f32) (k : FVec Ideal S256x256 .bf16)
    (m l : Fin 256) : dkPart (lanesM a b) (probsH a b q k) d (ix2 m l)
      = if headOf l = h then ∑ r, prob (score scale (rows q) (rows k) h r) m * d (ix2 r l) else 0 := by
  subst ha hb; rw [dkPart_apply]; simp only [probsH_apply]

/-- A tile's gradient of the queries. -/
theorem dqTile_apply (q d : FVec Ideal S4096x256 .f32) (k v : FVec Ideal S256x256 .bf16) (r : Fin 4096) (l : Fin 256) :
    dqTile q d k v (ix2 r l) = gradQ scale (rows q) (rows d) (rows k) (rows v) r l := by
  have e := sum_heads (fun h => ∑ m, ds scale (rows q) (rows d) (rows k) (rows v) h r m * k (ix2 m l)) (headOf l)
  rw [zero_add] at e
  pointwise [dqTile]
  rw [dqHead 0 _ _ (by decide) (by decide), dqHead 1 _ _ (by decide) (by decide), dqHead 2 _ _ (by decide) (by decide), dqHead 3 _ _ (by decide) (by decide)]
  exact e

/-- A tile's part of the gradient of the keys. -/
theorem dkTile_apply (q d : FVec Ideal S4096x256 .f32) (k v : FVec Ideal S256x256 .bf16) (m : Fin 256) (l : Fin 256) :
    dkTile q d k v (ix2 m l) = gradK scale (rows q) (rows d) (rows k) (rows v) m l := by
  have e := sum_heads (fun h => ∑ r, ds scale (rows q) (rows d) (rows k) (rows v) h r m * q (ix2 r l)) (headOf l)
  rw [zero_add] at e
  pointwise [dkTile]
  rw [dkHead 0 _ _ (by decide) (by decide), dkHead 1 _ _ (by decide) (by decide), dkHead 2 _ _ (by decide) (by decide), dkHead 3 _ _ (by decide) (by decide)]
  exact e

/-- A tile's part of the gradient of the values. -/
theorem dvTile_apply (q d : FVec Ideal S4096x256 .f32) (k : FVec Ideal S256x256 .bf16) (m : Fin 256) (l : Fin 256) :
    dvTile q d k (ix2 m l) = gradV scale (rows q) (rows d) (rows k) m l := by
  have e := sum_heads (fun h => ∑ r, prob (score scale (rows q) (rows k) h r) m * d (ix2 r l)) (headOf l)
  rw [zero_add] at e
  pointwise [dvTile]
  rw [dvHead 0 _ _ (by decide) (by decide), dvHead 1 _ _ (by decide) (by decide), dvHead 2 _ _ (by decide) (by decide), dvHead 3 _ _ (by decide) (by decide)]
  exact e

end Cert.Att

end
-- ==== Proof.Att.Array.lean ====
module

public import proofs.«01_k».proof.Proof.Att.Heads
public import Idealize.ShloMosaic.Lib.Pipeline.ValueKit

@[expose] public section

set_option maxRecDepth 16384

noncomputable section

/-! # What the kernel leaves in its two arrays

Each of the two points of the grid takes 4096 rows. The queries' gradient is written block by block; the keys' and the
values' gradients are added up over the two points. -/

namespace Cert.Att

open Cert.KernelIdeal Cert.KernelIdeal.Gen Idealize.ShloMosaic Idealize.ShloMosaic.TcCoe Idealize.SL.Sem

/-- A row's gradient of the queries depends on that row of the queries and of the given gradient alone. -/
theorem gradQ_congr {N N' : Nat} (c : EReal) (Q D : Fin N → Fin 256 → EReal) (Q' D' : Fin N' → Fin 256 → EReal) (K V : Fin 256 → Fin 256 → EReal)
    (r : Fin N) (r' : Fin N') (hq : Q r = Q' r') (hd : D r = D' r') (l : Fin 256) : gradQ c Q D K V r l = gradQ c Q' D' K V r' l := by
  unfold gradQ ds score dprob
  simp only [hq, hd]

variable (m : (ℓ : Loc nD τ sig) → Buf (Elt Ideal) ℓ)

/-- The queries: lanes 10240 to 10495 of the first argument. -/
def queries (c : Dev nD) (r : Fin 8192) (l : Fin 256) : EReal := m ((c : Thread nD τ).loc main_arg0) (ix2 r (⟨10240 + l.val, by omega⟩ : Fin 10752))
/-- The keys: the first half of the second argument. -/
def keys (c : Dev nD) (a l : Fin 256) : EReal := m ((c : Thread nD τ).loc main_arg1) (ix2 a (⟨l.val, by omega⟩ : Fin 512))
/-- The values: its second half. -/
def vals (c : Dev nD) (a l : Fin 256) : EReal := m ((c : Thread nD τ).loc main_arg1) (ix2 a (⟨256 + l.val, by omega⟩ : Fin 512))
/-- The given gradient: the third argument. -/
def given (c : Dev nD) (r : Fin 8192) (l : Fin 256) : EReal := m ((c : Thread nD τ).loc main_arg2) (ix2 r l)

/-- Row `r` of point `t`'s tile. -/
def rowOf (t : Fin cfg0.N) (r : Fin 4096) : Fin 8192 := ⟨4096 * t.val + r.val, by have := t.isLt; have : cfg0.N = 2 := N_0; omega⟩

theorem idx : ∀ t : Fin cfg0.N, win0_0.index t = ![t.val, 40] ∧ win0_1.index t = ![0, 0] ∧ win0_2.index t = ![t.val, 0] ∧ win0_3.index t = ![t.val, 40]
    ∧ win0_4.index t = ![0, 0] := by decide +kernel

theorem iblk0 (c : Dev nD) (t : Fin cfg0.N) (r : Fin 4096) (l : Fin 256) : (iblk m c 0 t : S4096x256.Idx → EReal) (ix2 r l) = queries m c (rowOf t r) l := by
  unfold queries rowOf
  blk_ext! [iblk, V, idx t]

theorem iblk2 (c : Dev nD) (t : Fin cfg0.N) (r : Fin 4096) (l : Fin 256) : (iblk m c 2 t : S4096x256.Idx → EReal) (ix2 r l) = given m c (rowOf t r) l := by
  unfold given rowOf
  blk_ext! [iblk, V, idx t]

theorem keysRect_idx (a l : Fin 256) : keysRect.idx (ix2 a l) = ix2 a (⟨l.val, by omega⟩ : Fin 512) := by
  funext k
  refine Fin.ext ((Rect.idx_unit_val _ _ _ _ k).trans ?_)
  fin_cases k
  · exact Nat.zero_add _
  · exact Nat.zero_add _

theorem valsRect_idx (a l : Fin 256) : valsRect.idx (ix2 a l) = ix2 a (⟨256 + l.val, by omega⟩ : Fin 512) := by
  funext k
  refine Fin.ext ((Rect.idx_unit_val _ _ _ _ k).trans ?_)
  fin_cases k
  · exact Nat.zero_add _
  · rfl

theorem keys1 (c : Dev nD) (t : Fin cfg0.N) (a l : Fin 256) : keysOf (e := .bf16) (iblk m c 1 t) (ix2 a l) = keys m c a l := by
  unfold keys keysOf View.ld
  rw [keysRect_idx]
  blk_ext! [iblk, V, idx t]

theorem vals1 (c : Dev nD) (t : Fin cfg0.N) (a l : Fin 256) : valsOf (e := .bf16) (iblk m c 1 t) (ix2 a l) = vals m c a l := by
  unfold vals valsOf View.ld
  rw [valsRect_idx]
  blk_ext! [iblk, V, idx t]

/-- The queries of point `t`'s tile. -/
abbrev qT (c : Dev nD) (t : Fin cfg0.N) : FVec Ideal S4096x256 .f32 := extf .f32 (iblk m c 0 t) bitsLt_bf16_f32
/-- The given gradient of point `t`'s tile. -/
abbrev dT (c : Dev nD) (t : Fin cfg0.N) : FVec Ideal S4096x256 .f32 := extf .f32 (iblk m c 2 t) bitsLt_bf16_f32
/-- The keys, as point `t` reads them. -/
abbrev kT (c : Dev nD) (t : Fin cfg0.N) : FVec Ideal S256x256 .bf16 := keysOf (e := .bf16) (iblk m c 1 t)
/-- The values, as point `t` reads them. -/
abbrev vT (c : Dev nD) (t : Fin cfg0.N) : FVec Ideal S256x256 .bf16 := valsOf (e := .bf16) (iblk m c 1 t)

theorem rows_q (c : Dev nD) (t : Fin cfg0.N) : rows (qT m c t) = fun r => queries m c (rowOf t r) := funext fun r => funext fun l => iblk0 m c t r l
theorem rows_d (c : Dev nD) (t : Fin cfg0.N) : rows (dT m c t) = fun r => given m c (rowOf t r) := funext fun r => funext fun l => iblk2 m c t r l
theorem rows_k (c : Dev nD) (t : Fin cfg0.N) : rows (kT m c t) = keys m c := funext fun r => funext fun l => keys1 m c t r l
theorem rows_v (c : Dev nD) (t : Fin cfg0.N) : rows (vT m c t) = vals m c := funext fun r => funext fun l => vals1 m c t r l

/-- Both kinds of point leave the tile's gradient of the queries. -/
theorem outs_3 (c : Dev nD) (t : Fin cfg0.N) :
    (outsAt0 m c t.val t.isLt).1 = truncf .bf16 (dqTile (qT m c t) (dT m c t) (kT m c t) (vT m c t)) bitsLt_bf16_f32 := by
  by_cases h : t.val % 2 = 0
  · rw [outsAt0_A m c t h, out_A_3]
  · rw [outsAt0_B m c t h, out_B_3]

/-- The whole gradient of the queries. -/
def dQ (c : Dev nD) : Fin 8192 → Fin 256 → EReal := gradQ scale (queries m c) (given m c) (keys m c) (vals m c)
/-- The whole gradient of the keys. -/
def dK (c : Dev nD) : Fin 256 → Fin 256 → EReal := gradK scale (queries m c) (given m c) (keys m c) (vals m c)
/-- The whole gradient of the values. -/
def dV (c : Dev nD) : Fin 256 → Fin 256 → EReal := gradV scale (queries m c) (given m c) (keys m c)

theorem tile_dq (c : Dev nD) (t : Fin cfg0.N) (r : Fin 4096) (l : Fin 256) :
    dqTile (qT m c t) (dT m c t) (kT m c t) (vT m c t) (ix2 r l) = dQ m c (rowOf t r) l := by
  rw [dqTile_apply, rows_q, rows_d, rows_k, rows_v]
  exact gradQ_congr _ _ _ _ _ _ _ r (rowOf t r) rfl rfl l

theorem row_swap (a b : Nat) : 4096 * a + b = a * 4096 + b := by omega

theorem lane_mod (l : Fin 256) : (40 * 256 + l.val) % 256 = l.val := by omega

/-- The first array after the run: the queries' gradient in lanes 10240 to 10495, the fourth argument elsewhere. -/
theorem final3 (c : Dev nD) : (dats m 0 c).arrAt 3 cfg0.N
    = fun i : S8192x10752.Idx => if (i 1 : Nat) / 256 = 40 then dQ m c (i 0) (⟨(i 1).val % 256, Nat.mod_lt _ (by decide)⟩) else (dats m 0 c).A 3 i := by
  refine (dats m 0 c).arrAt_eq_of_coversWhere 3 (fun i : S8192x10752.Idx => dQ m c (i 0) (⟨(i 1).val % 256, Nat.mod_lt _ (by decide)⟩)) (fun β => β (1 : Fin 2) = 40) (by decide +kernel) (fun t hf y => ?_) (fun j => Iff.rfl)
  blk_simp
  rw [after0_3, outs_3]
  idx_vars y
  refine (tile_dq m c t _ _).trans ?_
  refine congrArg₂ (dQ m c) (Fin.ext ?_) (Fin.ext ?_)
  · blk_simp [idx t, rowOf]
    exact row_swap t.val y0.val
  · blk_simp [idx t]
    exact (lane_mod y1).symm

/-- What the second array's block holds after point `n`. -/
abbrev acc (c : Dev nD) (t : Fin cfg0.N) : FVec Ideal S256x512 .f32 := (outsAt0 m c t.val t.isLt).2

theorem acc0 (c : Dev nD) : acc m c t0_0
    = View.canon [valsPiece (addf (valsOf (e := .f32) zeroKV) (dvTile (qT m c t0_0) (dT m c t0_0) (kT m c t0_0))),
        keysPiece (addf (keysOf (e := .f32) zeroKV) (dkTile (qT m c t0_0) (dT m c t0_0) (kT m c t0_0) (vT m c t0_0))),
        ⟨Rect.unit ![0, 0] ![256, 512] inb_S256x512_S256x512_0_0, zeroKV⟩] := by
  unfold acc
  rw [outsAt0_A m c t0_0 rfl, out_A_4]

theorem acc1 (c : Dev nD) : acc m c t0_1
    = View.canon [valsPiece (addf (valsOf (e := .f32) (acc m c t0_0)) (dvTile (qT m c t0_1) (dT m c t0_1) (kT m c t0_1))),
        keysPiece (addf (keysOf (e := .f32) (acc m c t0_0)) (dkTile (qT m c t0_1) (dT m c t0_1) (kT m c t0_1) (vT m c t0_1)))] := by
  unfold acc
  rw [outsAt0_B m c t0_1 (by decide), out_B_4]
  rfl

/-- The sum over all rows is the sum over the first point's and the second point's. -/
theorem sum_rows (f : Fin 8192 → EReal) : 0 + (∑ r, f (rowOf t0_0 r)) + (∑ r, f (rowOf t0_1 r)) = ∑ r, f r := by
  rw [Fin.sum_univ_two_halves 4096 4096 rfl f, zero_add]
  rfl

theorem keys_acc (c : Dev nD) (a l : Fin 256) : keysOf (e := .f32) (acc m c t0_1) (ix2 a l) = dK m c a l := by
  have h0 : keysOf (e := .f32) (acc m c t0_0) (ix2 a l) = 0 + dkTile (qT m c t0_0) (dT m c t0_0) (kT m c t0_0) (vT m c t0_0) (ix2 a l) := by
    rw [acc0]
    refine (keysOf_canon _ _ _ _).trans ?_
    show Ideal.ofBits .f32 0x00000000#32 + _ = _
    rw [Ideal.ofBits_zero_f32]
  have h1 : keysOf (e := .f32) (acc m c t0_1) (ix2 a l) = keysOf (e := .f32) (acc m c t0_0) (ix2 a l) + dkTile (qT m c t0_1) (dT m c t0_1) (kT m c t0_1) (vT m c t0_1) (ix2 a l) := by
    rw [acc1]
    exact keysOf_canon _ _ _ _
  rw [h1, h0, dkTile_apply, dkTile_apply]
  simp only [rows_q, rows_d, rows_k, rows_v]
  exact sum_rows fun r => ds scale (queries m c) (given m c) (keys m c) (vals m c) (headOf l) r a * queries m c r l

theorem vals_acc (c : Dev nD) (a l : Fin 256) : valsOf (e := .f32) (acc m c t0_1) (ix2 a l) = dV m c a l := by
  have h0 : valsOf (e := .f32) (acc m c t0_0) (ix2 a l) = 0 + dvTile (qT m c t0_0) (dT m c t0_0) (kT m c t0_0) (ix2 a l) := by
    rw [acc0]
    refine (valsOf_canon _ _ _).trans ?_
    show Ideal.ofBits .f32 0x00000000#32 + _ = _
    rw [Ideal.ofBits_zero_f32]
  have h1 : valsOf (e := .f32) (acc m c t0_1) (ix2 a l) = valsOf (e := .f32) (acc m c t0_0) (ix2 a l) + dvTile (qT m c t0_1) (dT m c t0_1) (kT m c t0_1) (ix2 a l) := by
    rw [acc1]
    exact valsOf_canon _ _ _
  rw [h1, h0, dvTile_apply, dvTile_apply]
  simp only [rows_q, rows_d, rows_k]
  exact sum_rows fun r => prob (score scale (queries m c) (keys m c) (headOf l) r) a * given m c r l

/-- The second array after the run: the keys' gradient beside the values'. -/
theorem final4 (c : Dev nD) : (dats m 0 c).arrAt 4 cfg0.N
    = fun i : S256x512.Idx => if h : (i 1 : Nat) < 256 then dK m c (i 0) ⟨(i 1).val, h⟩ else dV m c (i 0) ⟨(i 1).val - 256, by have : (i 1).val < 512 := (i 1).isLt; omega⟩ := by
  refine (dats m 0 c).arrAt_eq_of_after_last 4 t0_1 (by decide +kernel) _ fun j => ?_
  blk_simp
  rw [after0_4]
  idx_vars j
  split
  · rename_i h
    exact (congrArg (acc m c t0_1) (keysRect_idx j0 (⟨j1.val, h⟩ : Fin 256)).symm).trans (keys_acc m c j0 ⟨j1.val, h⟩)
  · rename_i h
    have h' : ¬ j1.val < 256 := h
    have hj : j1 = (⟨256 + (j1.val - 256), by omega⟩ : Fin 512) := Fin.ext (by dsimp only; omega)
    exact ((congrArg (fun k => acc m c t0_1 (ix2 j0 k)) hj).trans (congrArg (acc m c t0_1) (valsRect_idx j0 (⟨j1.val - 256, by omega⟩ : Fin 256)).symm)).trans
      (vals_acc m c j0 ⟨j1.val - 256, by omega⟩)

end Cert.Att

end
-- ==== Proof.Att.Reference.lean ====
module

public import proofs.«01_k».proof.Proof.Att.Heads
public import proofs.«01_k».proof.Proof.Gen.ReferenceIdeal.Read
public import Idealize.ShloMosaic.Lib.Pointwise

@[expose] public section

set_option maxRecDepth 16384

noncomputable section

/-! # What the reference computes

The reference is the derivative jax takes of the attention. Its steps are read here one at a time, at an index. -/

namespace Cert.Att.Ref

open Cert.ReferenceIdeal Cert.ReferenceIdeal.Read Idealize.ShloMosaic

variable (x0 x3 : S8192x10752.Idx → EReal) (x1 : S256x512.Idx → EReal) (x2 : S8192x256.Idx → EReal)

/-- The queries. -/
def rq (r : Fin 8192) (l : Fin 256) : EReal := x0 (ix2 r (⟨10240 + l.val, by omega⟩ : Fin 10752))
/-- The keys. -/
def rk (a l : Fin 256) : EReal := x1 (ix2 a (⟨l.val, by omega⟩ : Fin 512))
/-- The values. -/
def rv (a l : Fin 256) : EReal := x1 (ix2 a (⟨256 + l.val, by omega⟩ : Fin 512))
/-- The given gradient. -/
def rd (r : Fin 8192) (l : Fin 256) : EReal := x2 (ix2 r l)

/-- Lanes are cut into heads of 64. -/
theorem lane_eq (h : Fin 4) (i : Fin 64) : lane h i = ⟨h.val * 64 + i.val, by omega⟩ := Fin.ext (by simp only [lane]; omega)

/-- The scores. -/
theorem v10 (h : Fin 4) (r : Fin 8192) (a : Fin 256) : val_main_v10 (F := Ideal) x0 x1 (ix3 h r a) = score scale (rq x0) (rk x1) h r a := by
  pointwise [val_main_v10, val_main_v8, val_main_v5, val_main_v6, val_main_v1, val_main_v0, val_main_v3, val_main_v2, val_main_v9, val_main_cst]
  simp only [score, scale, rq, rk, lane_eq]

/-- The greatest score of a row. -/
theorem v11 (h : Fin 4) (r : Fin 8192) : val_main_v11 (F := Ideal) x0 x1 (ix2 h r) = top (score scale (rq x0) (rk x1) h r) := by
  pointwise [val_main_v11, val_main_cst_0]
  simp only [v10, bot_bits, top]

/-- The greatest score again, against −∞. -/
theorem v18 (h : Fin 4) (r : Fin 8192) : val_main_v18 (F := Ideal) x0 x1 (ix2 h r) = top (score scale (rq x0) (rk x1) h r) := by
  rw [val_main_v18_apply, v11, val_main_v17_apply, val_main_cst_2_apply]
  show max (Ideal.ofBits .f32 0xFF800000#32) _ = _
  rw [bot_bits, max_eq_right bot_le]

theorem v29 (h : Fin 4) (r : Fin 8192) (a : Fin 256) : val_main_v29 (F := Ideal) x0 x1 (ix3 h r a) = top (score scale (rq x0) (rk x1) h r) := by
  rw [val_main_v29_apply, val_main_v28_apply, ← v18]
  refine congrArg _ (funext fun k => ?_)
  fin_cases k <;> rfl

/-- The exponentials. -/
theorem v31 (h : Fin 4) (r : Fin 8192) (a : Fin 256) : val_main_v31 (F := Ideal) x0 x1 (ix3 h r a) = wt (score scale (rq x0) (rk x1) h r) a := by
  rw [val_main_v31_apply, val_main_v30_apply, v10, v29]
  rfl

/-- Their sum. -/
theorem v33 (h : Fin 4) (r : Fin 8192) (j : Fin 1) : val_main_v33 (F := Ideal) x0 x1 (ix3 h r j) = tot (score scale (rq x0) (rk x1) h r) := by
  pointwise [val_main_v33, val_main_v32, val_main_cst_8]
  simp only [v31, Ideal.ofBits_zero_f32, zero_add, tot]

/-- The weights. -/
theorem v35 (h : Fin 4) (r : Fin 8192) (a : Fin 256) : val_main_v35 (F := Ideal) x0 x1 (ix3 h r a) = prob (score scale (rq x0) (rk x1) h r) a := by
  pointwise [val_main_v35, val_main_v34]
  simp only [v31, v33, prob]

/-- The weights' gradients. -/
theorem v45 (h : Fin 4) (r : Fin 8192) (a : Fin 256) : val_main_v45 (F := Ideal) x1 x2 (ix3 h r a) = dprob (rd x2) (rv x1) h r a := by
  pointwise [val_main_v45, val_main_v44, val_main_v43, val_main_v42, val_main_v7, val_main_v4, val_main_v2]
  simp only [dprob, rd, rv, lane_eq]

theorem one_bits : Ideal.ofBits .f32 0x3F800000#32 = 1 := by
  simp [Ideal.ofBits, Ideal.ieee]
  exact_mod_cast (by norm_num : (8388608 : ℝ) * ((2 : ℝ) ^ 23)⁻¹ = 1)

/-- The gradients of the products of queries and keys. -/
theorem v61 (h : Fin 4) (r : Fin 8192) (a : Fin 256) (hs : ∀ k, ∃ y : ℝ, score scale (rq x0) (rk x1) h r k = y) :
    val_main_v61 (F := Ideal) x0 x1 x2 (ix3 h r a) = ds scale (rq x0) (rd x2) (rk x1) (rv x1) h r a := by
  pointwise [val_main_v61, val_main_v60, val_main_cst_12, val_main_v59, val_main_v58, val_main_v57, val_main_v56, val_main_cst_11, val_main_v55, val_main_v54,
    val_main_v53, val_main_v52, val_main_v51, val_main_cst_10, val_main_v50, val_main_v49, val_main_v48, val_main_v38, val_main_v37, val_main_cst_9, val_main_v36]
  simp only [v31, v33, v45, one_bits, Ideal.ofBits_zero_f32, zero_add]
  rw [ds, ← vjp_eq_dscore _ _ hs, Fin.sum_univ_one]
  rfl

/-- The queries' gradient. -/
theorem v68 (hs : ∀ h r k, ∃ y : ℝ, score scale (rq x0) (rk x1) h r k = y) (r : Fin 8192) (l : Fin 256) :
    val_main_v68 (F := Ideal) x0 x1 x2 (ix2 r l) = gradQ scale (rq x0) (rd x2) (rk x1) (rv x1) r l := by
  pointwise [val_main_v68, val_main_v65, val_main_v64, val_main_v6, val_main_v3, val_main_v2]
  exact Finset.sum_congr rfl fun x _ => congrArg (· * _) (v61 x0 x1 x2 _ r x (hs _ r))

/-- The keys' gradient. -/
theorem v67 (hs : ∀ h r k, ∃ y : ℝ, score scale (rq x0) (rk x1) h r k = y) (a l : Fin 256) :
    val_main_v67 (F := Ideal) x0 x1 x2 (ix2 a l) = gradK scale (rq x0) (rd x2) (rk x1) (rv x1) a l := by
  pointwise [val_main_v67, val_main_v63, val_main_v62, val_main_v5, val_main_v1, val_main_v0]
  exact Finset.sum_congr rfl fun x _ => congrArg (· * _) (v61 x0 x1 x2 _ x a (hs _ x))

/-- The values' gradient. -/
theorem v66 (a l : Fin 256) : val_main_v66 (F := Ideal) x0 x1 x2 (ix2 a l) = gradV scale (rq x0) (rd x2) (rk x1) a l := by
  pointwise [val_main_v66, val_main_v47, val_main_v46, val_main_v44, val_main_v43, val_main_v42]
  simp only [v35, gradV]
  exact Finset.sum_congr rfl fun x _ => mul_comm _ _

/-- The reference's first result: the fourth argument with the queries' gradient put in its place. -/
theorem out0 (hs : ∀ h r k, ∃ y : ℝ, score scale (rq x0) (rk x1) h r k = y) (r : Fin 8192) (l : Fin 10752) :
    val_main_v71 (F := Ideal) x0 x1 x2 x3 (ix2 r l)
      = if l.val / 256 = 40 then gradQ scale (rq x0) (rd x2) (rk x1) (rv x1) r ⟨l.val % 256, by omega⟩ else x3 (ix2 r l) := by
  pointwise [val_main_v71, val_main_c, val_main_c_13]
  have s0 : ∀ z, Host.clampedStart S8192x10752 S8192x256 z
      (fun k => BitVec.toInt (![constantI S_ 32 0#32, constantI S_ 32 10240#32] k (Shape.Idx.first Gen.h_S_))) 0 = 0 :=
    fun z => Host.clampedStart_of_le z _ 0 0 rfl (by show 0 + 8192 ≤ 8192; omega)
  have s1 : ∀ z, Host.clampedStart S8192x10752 S8192x256 z
      (fun k => BitVec.toInt (![constantI S_ 32 0#32, constantI S_ 32 10240#32] k (Shape.Idx.first Gen.h_S_))) 1 = 10240 :=
    fun z => Host.clampedStart_of_le z _ 1 10240 rfl (by show 10240 + 256 ≤ 10752; omega)
  split
  · rename_i h
    have h1 := h.2.1
    have h2 := h.2.2
    rw [s1] at h1 h2
    rw [if_pos (by omega)]
    refine (congrArg (val_main_v70 (F := Ideal) x0 x1 x2) (?_ : _ = ix2 r (⟨l.val % 256, by omega⟩ : Fin 256))).trans ?_
    · refine congrArg₂ ix2 ?_ ?_
      · exact Fin.ext (by show r.val - _ = r.val; rw [s0]; omega)
      · exact Fin.ext (by show l.val - _ = l.val % 256; rw [s1]; omega)
    · exact v68 x0 x1 x2 hs r _
  · rename_i h
    rw [if_neg]
    intro e
    refine h ⟨?_, ?_, ?_⟩
    · rw [s0]; omega
    · rw [s1]; omega
    · rw [s1]; omega

/-- Its second: the keys' gradient beside the values'. -/
theorem out1 (hs : ∀ h r k, ∃ y : ℝ, score scale (rq x0) (rk x1) h r k = y) (a : Fin 256) (l : Fin 512) :
    val_main_v69 (F := Ideal) x0 x1 x2 (ix2 a l)
      = if h : l.val < 256 then gradK scale (rq x0) (rd x2) (rk x1) (rv x1) a ⟨l.val, h⟩
        else gradV scale (rq x0) (rd x2) (rk x1) a ⟨l.val - 256, by omega⟩ := by
  pointwise [val_main_v69]
  simp only [v66, v67 x0 x1 x2 hs]

end Cert.Att.Ref
-- ==== Proof.Att.Finite.lean ====
module

public import proofs.«01_k».proof.Pre_finite
public import proofs.«01_k».proof.Proof.Att.Array
public import Idealize.ShloMosaic.Lib.ReduceAll
public import Idealize.ShloMosaic.Lib.Pointwise

@[expose] public section

set_option maxRecDepth 16384

noncomputable section

/-! # Finite queries and keys have real scores -/

namespace Cert.Att

open Idealize.ShloMosaic

/-- The precondition's shapes fit. -/
theorem preFacts : Cert.Pre_finite.Facts where
  slices_S8192x10752_S8192x256_0_10240 := by decide
  bitsLt_bf16_f32 := by decide
  bcast_S_S8192x256 := by decide
  reducesTo_S8192x256_S_d0_1 := by decide
  h_S_ := by decide
  bcast_S_S256x512 := by decide
  reducesTo_S256x512_S_d0_1 := by decide

/-- The bits that name +∞. -/
theorem top_bits : Ideal.ofBits .f32 0x7F800000#32 = ⊤ := by simp [Ideal.ofBits, Ideal.ieee]

/-- A number whose size is below +∞ is real. -/
theorem real_of_abs_lt (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

/-- A conjunction of two bits that is one has both. -/
theorem both (a b : BitVec 1) (h : IntOp.andi a b = 1#1) : a = 1#1 ∧ b = 1#1 := by
  revert a b
  decide

attribute [local instance] preFacts

variable {x0 : FVec Ideal Cert.Pre_finite.S8192x10752 .bf16} {x1 : FVec Ideal Cert.Pre_finite.S256x512 .bf16} {x2 : FVec Ideal Cert.Pre_finite.S8192x256 .bf16}
  {x3 : FVec Ideal Cert.Pre_finite.S8192x10752 .bf16}

/-- The queries are real. -/
theorem real_q (h : Cert.Pre_finite.fn (F := Ideal) x0 x1 x2 x3 = fun _ => 1#1)
    (r : Fin 8192) (l : Fin 256) : ∃ y : ℝ, (x0 (ix2 r (⟨10240 + l.val, by omega⟩ : Fin 10752)) : EReal) = y := by
  dsimp only [Cert.Pre_finite.fn] at h
  have h1 := (both _ _ (congrFun h (Shape.Idx.first Cert.Pre_finite.Facts.h_S_))).1
  have h2 := Host.reduce_andi_all _ _ _ _ _ h1 (ix2 r l)
  refine real_of_abs_lt _ ?_
  rw [← top_bits, ← h2]
  pointwise []
  rfl

/-- The keys and the values are real. -/
theorem real_kv (h : Cert.Pre_finite.fn (F := Ideal) x0 x1 x2 x3 = fun _ => 1#1)
    (a : Fin 256) (l : Fin 512) : ∃ y : ℝ, (x1 (ix2 a l) : EReal) = y := by
  dsimp only [Cert.Pre_finite.fn] at h
  have h1 := (both _ _ (congrFun h (Shape.Idx.first Cert.Pre_finite.Facts.h_S_))).2
  have h2 := Host.reduce_andi_all _ _ _ _ _ h1 (ix2 a l)
  refine real_of_abs_lt _ ?_
  rw [← top_bits, ← h2]
  pointwise []
  rfl

/-- The scale is real. -/
theorem scale_real : ∃ y : ℝ, scale = y := by
  refine ⟨1 / 8, ?_⟩
  simp [scale, Ideal.ofBits, Ideal.ieee]
  norm_cast
  norm_num

/-- Real queries and keys have real scores. -/
theorem score_real {N : Nat} (Q : Fin N → Fin 256 → EReal) (K : Fin 256 → Fin 256 → EReal) (hQ : ∀ r l, ∃ y : ℝ, Q r l = y) (hK : ∀ a l, ∃ y : ℝ, K a l = y)
    (h : Fin 4) (r : Fin N) (k : Fin 256) : ∃ y : ℝ, score scale Q K h r k = y := by
  obtain ⟨c, hc⟩ := scale_real
  choose q hq using hQ
  choose p hp using hK
  refine ⟨(∑ i : Fin 64, q r (lane h i) * p k (lane h i)) * c, ?_⟩
  unfold score
  rw [hc, EReal.coe_mul]
  refine congrArg (· * _) ?_
  simp only [hq, hp, ← EReal.coe_mul]
  exact (map_sum (⟨⟨Real.toEReal, EReal.coe_zero⟩, EReal.coe_add⟩ : ℝ →+ EReal) _ _).symm

end Cert.Att
-- ==== Proof.Att.Equation.lean ====
module

public import proofs.«01_k».proof.Defs
public import proofs.«01_k».proof.Proof.Gen.KernelIdeal.Value
public import proofs.«01_k».proof.Proof.Gen.ReferenceIdeal.Run
public import proofs.«01_k».proof.Proof.Att.Array
public import proofs.«01_k».proof.Proof.Att.Reference
public import proofs.«01_k».proof.Proof.Att.Finite

@[expose] public section

set_option maxRecDepth 16384

noncomputable section

/-! # The attention's gradient: kernel and reference agree -/

namespace Cert.Att

open Idealize.ShloMosaic Idealize.ShloMosaic.TcCoe Idealize.SL.Sem

/-- The fourth argument as the region finds it: the copy the program makes of it. -/
theorem entry3 (m : (ℓ : Loc KernelIdeal.nD KernelIdeal.τ KernelIdeal.sig) → Buf (Elt Ideal) ℓ) (c : Dev KernelIdeal.nD) :
    (KernelIdeal.Gen.dats m 0 c).A 3 = m ((c : Thread KernelIdeal.nD KernelIdeal.τ).loc KernelIdeal.main_arg3) := by
  rw [KernelIdeal.Gen.A_eq]
  entry_read
  rfl

/-- The gradient of the attention: the kernel's two arrays are the reference's two results. -/
theorem algebraic : Cert.algebraic_KernelIdeal_ReferenceIdeal_pre_finite (hKernelIdeal := KernelIdeal.Gen.facts) (hReferenceIdeal := ReferenceIdeal.Gen.facts) (hPre_finite := preFacts) := by
  intro m g m' g' hpre hagree
  refine ⟨fun c => (KernelIdeal.Gen.dats m 0 c).arrAt 3 KernelIdeal.cfg0.N, fun c => (KernelIdeal.Gen.dats m 0 c).arrAt 4 KernelIdeal.cfg0.N,
    KernelIdeal.Value.run_blocks m g, ?_⟩
  refine (θ_run ReferenceIdeal.defs _ _).mono (fun r h c => ?_) (ReferenceIdeal.Value.run (F := Ideal) m' g')
  obtain ⟨e0, e1, k0, k1, k2, k3⟩ := h c
  obtain ⟨a0, a1, a2, a3⟩ := hagree c
  have hs : ∀ h r k, ∃ y : ℝ, score scale (Ref.rq (m' ((c.tc : Thread ReferenceIdeal.nD ReferenceIdeal.τ).loc ReferenceIdeal.main_arg0)))
      (Ref.rk (m' ((c.tc : Thread ReferenceIdeal.nD ReferenceIdeal.τ).loc ReferenceIdeal.main_arg1))) h r k = y := by
    rw [a0, a1]
    exact score_real _ _ (fun r l => real_q (hpre c) r l) (fun a l => real_kv (hpre c) a _)
  refine ⟨e0.trans ?_, e1.trans ?_, k0, k1, k2, k3⟩
  · rw [ReferenceIdeal.Read.val_main_v71_eq]
    refine Eq.trans ?_ (final3 m c).symm
    funext i
    idx_vars i
    refine (Ref.out0 _ _ _ _ hs i0 i1).trans ?_
    rw [a0, a1, a2, a3, entry3]
    rfl
  · rw [ReferenceIdeal.Read.val_main_v69_eq]
    refine Eq.trans ?_ (final4 m c).symm
    funext i
    idx_vars i
    refine (Ref.out1 _ _ _ hs i0 i1).trans ?_
    rw [a0, a1, a2]
    rfl

end Cert.Att
-- ==== Proof.Ffn.Common.lean ====
module

public import Idealize.ShloMosaic.Lib.Pointwise
public import Idealize.ShloMosaic.Lib.Tactic
public import Idealize.ShloMosaic.Lib.ReduceAll
public import Mathlib.Analysis.SpecialFunctions.Trigonometric.DerivHyp

@[expose] public section

noncomputable section

/-! # Facts of numbers the products share -/

namespace Cert.Ffn

open Idealize.ShloMosaic

/-- The bits that name a half. -/
theorem half_bits : Ideal.ofBits .f32 0x3F000000#32 = ((1 / 2 : ℝ) : EReal) := by
  simp [Ideal.ofBits, Ideal.ieee]
  exact_mod_cast (by norm_num : (8388608 : ℝ) * ((2 : ℝ) ^ 24)⁻¹ = 2⁻¹)

/-- The bits that name one. -/
theorem one_bits : Ideal.ofBits .f32 0x3F800000#32 = 1 := by
  simp [Ideal.ofBits, Ideal.ieee]
  exact_mod_cast (by norm_num : (8388608 : ℝ) * ((2 : ℝ) ^ 23)⁻¹ = 1)

/-- The bits that name +∞. -/
theorem top_bits : Ideal.ofBits .f32 0x7F800000#32 = ⊤ := by simp [Ideal.ofBits, Ideal.ieee]

/-- A number whose size is below +∞ is real. -/
theorem real_of_abs_lt (x : EReal) (h : Ideal.cmp .olt (max x (-x)) ⊤ = 1#1) : ∃ r : ℝ, x = r := by
  have h' : max x (-x) < ⊤ := by
    by_contra hn
    simp [Ideal.cmp, hn] at h
  induction x with
  | bot => simp at h'
  | top => simp at h'
  | coe r => exact ⟨r, rfl⟩

/-- A conjunction of two bits that is one has both. -/
theorem both (a b : BitVec 1) (h : IntOp.andi a b = 1#1) : a = 1#1 ∧ b = 1#1 := by
  revert a b
  decide

/-- A sum of real numbers, read in the extended reals. -/
theorem coe_sum {n : Nat} (f : Fin n → ℝ) : ((∑ k, f k : ℝ) : EReal) = ∑ k, (f k : EReal) :=
  map_sum (⟨⟨Real.toEReal, EReal.coe_zero⟩, EReal.coe_add⟩ : ℝ →+ EReal) _ _

/-- A sum of products of real numbers is real. -/
theorem sum_mul_real {n : Nat} (a b : Fin n → EReal) (ha : ∀ k, ∃ y : ℝ, a k = y) (hb : ∀ k, ∃ y : ℝ, b k = y) : ∃ y : ℝ, ∑ k, a k * b k = y := by
  choose p hp using ha
  choose q hq using hb
  refine ⟨∑ k, p k * q k, ?_⟩
  simp only [hp, hq, ← EReal.coe_mul, coe_sum]

/-- A positive real factor goes into a sum, infinite terms or not. -/
theorem mul_sum_pos {n : Nat} (c : ℝ) (hc : 0 < c) (f : Fin n → EReal) : (c : EReal) * ∑ k, f k = ∑ k, (c : EReal) * f k := by
  have h0 : (0 : EReal) ≤ (c : EReal) := EReal.coe_nonneg.2 hc.le
  have ht : (c : EReal) ≠ ⊤ := EReal.coe_ne_top c
  induction n with
  | zero => simp
  | succ n ih => rw [Fin.sum_univ_succ, Fin.sum_univ_succ, EReal.left_distrib_of_nonneg_of_ne_top h0 ht, ih]

/-- The kernel's logistic function, a hyperbolic tangent, is the reference's. -/
theorem sigmoid_eq (x : EReal) :
    ((1 / 2 : ℝ) : EReal) * Ideal.tanh (((1 / 2 : ℝ) : EReal) * x) + ((1 / 2 : ℝ) : EReal) = Ideal.div 1 (1 + Ideal.exp (-x)) := by
  induction x with
  | bot =>
    rw [EReal.coe_mul_bot_of_pos (by norm_num)]
    have h : (1 : EReal) + ⊤ = ⊤ := EReal.coe_add_top 1
    simp only [Ideal.tanh_bot, EReal.neg_bot, Ideal.exp_top, Ideal.div, h]
    norm_num
    norm_cast
    norm_num
  | top =>
    rw [EReal.coe_mul_top_of_pos (by norm_num)]
    simp only [Ideal.tanh_top, EReal.neg_top, Ideal.exp_bot, Ideal.div]
    norm_num
    norm_cast
    norm_num
  | coe r =>
    rw [← EReal.coe_mul, Ideal.tanh_coe, ← EReal.coe_neg, Ideal.exp_coe]
    have hp : (0 : ℝ) < 1 + Real.exp (-r) := by positivity
    have hd : Ideal.div 1 (1 + ((Real.exp (-r) : ℝ) : EReal)) = (((1 + Real.exp (-r))⁻¹ : ℝ) : EReal) := by
      have e : (1 : EReal) + ((Real.exp (-r) : ℝ) : EReal) = ((1 + Real.exp (-r) : ℝ) : EReal) := by norm_cast
      rw [e, Ideal.div, if_neg (by exact_mod_cast hp.ne'), one_mul, EReal.coe_inv]
    rw [hd, ← EReal.coe_mul, ← EReal.coe_add, EReal.coe_eq_coe_iff, Real.tanh_eq]
    have h1 : Real.exp (1 / 2 * r) * Real.exp (-(1 / 2 * r)) = 1 := by rw [← Real.exp_add]; simp
    have h2 : Real.exp (-r) = Real.exp (-(1 / 2 * r)) * Real.exp (-(1 / 2 * r)) := by rw [← Real.exp_add]; congr 1; ring
    have ha := Real.exp_pos (1 / 2 * r)
    have hb := Real.exp_pos (-(1 / 2 * r))
    rw [h2] at hp ⊢
    generalize Real.exp (1 / 2 * r) = a at *
    generalize Real.exp (-(1 / 2 * r)) = b at *
    field_simp
    nlinarith [h1]

end Cert.Ffn

end
-- ==== Proof.Ffn.GateGrad.lean ====
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import proofs.«01_k».proof.Proof.Ffn.Common
public import Idealize.ShloMosaic.Lib.Pipeline.ValueKit
public import proofs.«01_k».proof.Pre_finite2

@[expose] public section

set_option maxRecDepth 16384

noncomputable section

/-! # The gradient through the gate

The gradient `½ · dh · w_dᵀ` is never stored: each block of it goes straight into the gradients of the two factors of
`silu(gate) · up`. The kernel takes `d · up` times `s + gate · s · (1 − s)`, the reference two terms apart, which is where
finite numbers are needed: the gate itself may be infinite. -/

namespace Cert.Ffn.GateGrad

open Cert.Kernel2Ideal Cert.Kernel2Ideal.Gen Idealize.ShloMosaic Idealize.ShloMosaic.TcCoe Idealize.SL.Sem

/-- The logistic function. -/
def logi (g : EReal) : EReal := Ideal.div 1 (1 + Ideal.exp (-g))

/-- The gradient of the gated product, at a row and a column. -/
def grad {M N : Nat} (dh : FVec Ideal ⟨2, ![M, 1024]⟩ .f32) (w : FVec Ideal ⟨2, ![N, 1024]⟩ .bf16) (r : Fin M) (l : Fin N) : EReal :=
  ((1 / 2 : ℝ) : EReal) * ∑ k : Fin 1024, (dh (ix2 r k) : EReal) * w (ix2 l k)

/-- The gate's gradient as the kernel writes it. -/
def dgate (d g u : EReal) : EReal := d * u * (logi g + g * logi g * (1 - logi g))

/-- The other factor's gradient. -/
def dup (d g : EReal) : EReal := d * (g * logi g)

/-- The logistic function of a real number is real. -/
theorem logi_real (g : ℝ) : ∃ s : ℝ, logi g = s := by
  refine ⟨(1 + Real.exp (-g))⁻¹, ?_⟩
  have hp : (0 : ℝ) < 1 + Real.exp (-g) := by positivity
  have e : (1 : EReal) + ((Real.exp (-g) : ℝ) : EReal) = ((1 + Real.exp (-g) : ℝ) : EReal) := by norm_cast
  rw [logi, ← EReal.coe_neg, Ideal.exp_coe, e, Ideal.div, if_neg (by exact_mod_cast hp.ne'), one_mul, EReal.coe_inv]

/-- The logistic function at +∞. -/
theorem logi_top : logi ⊤ = 1 := by
  simp only [logi, EReal.neg_top, Ideal.exp_bot, Ideal.div]
  norm_num

/-- The logistic function at −∞. -/
theorem logi_bot : logi ⊥ = 0 := by
  have h : (1 : EReal) + ⊤ = ⊤ := EReal.coe_add_top 1
  simp only [logi, EReal.neg_bot, Ideal.exp_top, Ideal.div, h]
  norm_num

/-- The gate's gradient taken apart: for a real gradient of the product. -/
theorem dgate_eq (D : ℝ) (g : EReal) : (D : EReal) * (logi g + g * logi g * (1 - logi g)) = D * logi g + g * D * (logi g * (1 - logi g)) := by
  have h1 : (1 : EReal) - 1 = 0 := by rw [← EReal.coe_one, ← EReal.coe_sub]; norm_num
  induction g with
  | bot => rw [logi_bot]; simp
  | top => rw [logi_top, h1]; simp
  | coe g =>
    obtain ⟨s, hs⟩ := logi_real g
    rw [hs]
    norm_cast
    ring

/-- The first output's buffer. -/
theorem out4 (x0 : FVec Ideal S1024x1024 .f32) (x1 : FVec Ideal S1408x1024 .bf16) (x2 x3 : FVec Ideal S1024x1408 .bf16) (r : Fin 1024) (l : Fin 1408) :
    (out0_4 (F := Ideal) x0 x1 x2 x3 : FVec Ideal S1024x1408 .bf16) (ix2 r l) = dgate (grad x0 x1 r l) (x2 (ix2 r l)) (x3 (ix2 r l)) := by
  unfold_out out0_4
  canon_tiles y h
  · idx_vars y
    pointwise [k0_pay5, k0_pay4, k0_pay3, k0_pay2, k0_pay1, k0_pay13]
    rw [show r = (⟨512 + y0.val, by omega⟩ : Fin 1024) from Fin.ext h0, show l = y1 from Fin.ext h1]
    rw [half_bits, sigmoid_eq]
    rfl
  · idx_vars y
    pointwise [k0_pay11, k0_pay10, k0_pay9, k0_pay8, k0_pay7]
    rw [show r = (⟨y0.val, by omega⟩ : Fin 1024) from Fin.ext h0, show l = y1 from Fin.ext h1]
    rw [half_bits, sigmoid_eq]
    rfl

/-- The second output's buffer. -/
theorem out5 (x0 : FVec Ideal S1024x1024 .f32) (x1 : FVec Ideal S1408x1024 .bf16) (x2 x3 : FVec Ideal S1024x1408 .bf16) (r : Fin 1024) (l : Fin 1408) :
    (out0_5 (F := Ideal) x0 x1 x2 x3 : FVec Ideal S1024x1408 .bf16) (ix2 r l) = dup (grad x0 x1 r l) (x2 (ix2 r l)) := by
  unfold_out out0_5
  canon_tiles y h
  · idx_vars y
    pointwise [k0_pay6, k0_pay4, k0_pay3, k0_pay2, k0_pay1, k0_pay13]
    rw [show r = (⟨512 + y0.val, by omega⟩ : Fin 1024) from Fin.ext h0, show l = y1 from Fin.ext h1]
    rw [half_bits, sigmoid_eq]
    rfl
  · idx_vars y
    pointwise [k0_pay12, k0_pay10, k0_pay9, k0_pay8, k0_pay7]
    rw [show r = (⟨y0.val, by omega⟩ : Fin 1024) from Fin.ext h0, show l = y1 from Fin.ext h1]
    rw [half_bits, sigmoid_eq]
    rfl

variable (m : (ℓ : Loc nD τ sig) → Buf (Elt Ideal) ℓ)

/-- Where each window's block lies at point `t`. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] := by decide +kernel

/-- The first array after the run: the gate's gradient. -/
theorem final4 (c : Dev nD) : (dats m 0 c).arrAt 4 cfg0.N
    = fun i : S8192x2816.Idx => dgate (grad (M := 8192) (N := 2816) (m ((c : Thread nD τ).loc main_arg0)) (m ((c : Thread nD τ).loc main_arg1)) (i 0) (i 1))
        ((m ((c : Thread nD τ).loc main_arg2) : FVec Ideal S8192x2816 .bf16) i) ((m ((c : Thread nD τ).loc main_arg3) : FVec Ideal S8192x2816 .bf16) i) := by
  refine (dats m 0 c).arrAt_eq_of_covers 4 _ (by decide +kernel) fun t hf y => ?_
  blk_simp
  rw [after0_4]
  idx_vars y
  refine (out4 (iblk m c 0 t) (iblk m c 1 t) (iblk m c 2 t) (iblk m c 3 t) y0 y1).trans (congr (congrArg₂ dgate (congrArg (fun s : EReal => ((1 / 2 : ℝ) : EReal) * s)
    (Finset.sum_congr (M := EReal) rfl fun k _ => congrArg₂ (fun a b : EReal => a * b) ?_ ?_)) ?_) ?_)
  · blk_ext! [iblk, V, idx t]
  · blk_ext! [iblk, V, idx t]
  · blk_ext! [iblk, V, idx t]
  · blk_ext! [iblk, V, idx t]

/-- The second array after the run: the other factor's gradient. -/
theorem final5 (c : Dev nD) : (dats m 0 c).arrAt 5 cfg0.N
    = fun i : S8192x2816.Idx => dup (grad (M := 8192) (N := 2816) (m ((c : Thread nD τ).loc main_arg0)) (m ((c : Thread nD τ).loc main_arg1)) (i 0) (i 1))
        ((m ((c : Thread nD τ).loc main_arg2) : FVec Ideal S8192x2816 .bf16) i) := by
  refine (dats m 0 c).arrAt_eq_of_covers 5 _ (by decide +kernel) fun t hf y => ?_
  blk_simp
  rw [after0_5]
  idx_vars y
  refine (out5 (iblk m c 0 t) (iblk m c 1 t) (iblk m c 2 t) (iblk m c 3 t) y0 y1).trans (congrArg₂ dup (congrArg (fun s : EReal => ((1 / 2 : ℝ) : EReal) * s)
    (Finset.sum_congr (M := EReal) rfl fun k _ => congrArg₂ (fun a b : EReal => a * b) ?_ ?_)) ?_)
  · blk_ext! [iblk, V, idx t]
  · blk_ext! [iblk, V, idx t]
  · blk_ext! [iblk, V, idx t]

section Reference

open Cert.Reference2Ideal.Read

variable (x0 : FVec Ideal Cert.Reference2Ideal.S8192x1024 .f32) (x1 : FVec Ideal Cert.Reference2Ideal.S2816x1024 .bf16)
  (x2 x3 : FVec Ideal Cert.Reference2Ideal.S8192x2816 .bf16) (r : Fin 8192) (l : Fin 2816)

/-- The reference's logistic function of the gate. -/
theorem refSig : (val_main_v3_2 (F := Ideal) x2 : FVec Ideal Cert.Reference2Ideal.S8192x2816 .f32) (ix2 r l) = logi (x2 (ix2 r l)) := by
  pointwise [val_main_v3_2, val_main_call0_v4, val_main_call0_cst_0, val_main_call0_v3, val_main_call0_v2, val_main_call0_cst, val_main_call0_v1, val_main_call0_v0, val_main_v1]
  rfl

/-- The gradient of the gated product, the half taken into the sum. -/
theorem refGrad : (val_main_v10 (F := Ideal) x0 x1 : FVec Ideal Cert.Reference2Ideal.S8192x2816 .f32) (ix2 r l) = grad (M := 8192) (N := 2816) x0 x1 r l := by
  pointwise [val_main_v10, val_main_v9, val_main_v8, val_main_cst_0, val_main_v0]
  rw [half_bits, grad, mul_sum_pos _ (by norm_num)]
  exact Finset.sum_congr (M := EReal) rfl fun k _ => mul_assoc (G := EReal) _ _ _

/-- The reference's gradient of the other factor. -/
theorem ref15 : (val_main_v15 (F := Ideal) x0 x1 x2 : FVec Ideal Cert.Reference2Ideal.S8192x2816 .bf16) (ix2 r l)
    = dup (grad (M := 8192) (N := 2816) x0 x1 r l) (x2 (ix2 r l)) := by
  pointwise [val_main_v15, val_main_v11, val_main_v3_0, val_main_v1]
  rw [refSig, refGrad, mul_comm]
  rfl

/-- The reference's gradient of the gate. -/
theorem ref14 : (val_main_v14 (F := Ideal) x0 x1 x2 x3 : FVec Ideal Cert.Reference2Ideal.S8192x2816 .bf16) (ix2 r l)
    = grad (M := 8192) (N := 2816) x0 x1 r l * x3 (ix2 r l) * logi (x2 (ix2 r l))
      + x2 (ix2 r l) * (grad (M := 8192) (N := 2816) x0 x1 r l * x3 (ix2 r l)) * (logi (x2 (ix2 r l)) * (1 - logi (x2 (ix2 r l)))) := by
  pointwise [val_main_v14, val_main_v13, val_main_call1_v2, val_main_call1_v1, val_main_call1_v0, val_main_v12, val_main_v3_1, val_main_call0_v7, val_main_call0_v6,
    val_main_call0_cst_1, val_main_v2, val_main_v1]
  rw [refSig, refGrad]

end Reference

/-- The precondition's shapes fit. -/
theorem preFacts : Cert.Pre_finite2.Facts where
  bcast_S_S8192x1024 := by decide
  reducesTo_S8192x1024_S_d0_1 := by decide
  h_S_ := by decide
  bitsLt_bf16_f32 := by decide
  bcast_S_S2816x1024 := by decide
  reducesTo_S2816x1024_S_d0_1 := by decide
  bcast_S_S8192x2816 := by decide
  reducesTo_S8192x2816_S_d0_1 := by decide

attribute [local instance] preFacts

section Finite

variable {x0 : FVec Ideal Cert.Pre_finite2.S8192x1024 .f32} {x1 : FVec Ideal Cert.Pre_finite2.S2816x1024 .bf16}
  {x2 x3 : FVec Ideal Cert.Pre_finite2.S8192x2816 .bf16}

/-- The gradient that comes in is real. -/
theorem real_dh (h : Cert.Pre_finite2.fn (F := Ideal) x0 x1 x2 x3 = fun _ => 1#1) (r : Fin 8192) (l : Fin 1024) : ∃ y : ℝ, (x0 (ix2 r l) : EReal) = y := by
  dsimp only [Cert.Pre_finite2.fn] at h
  have h1 := (both _ _ (both _ _ (congrFun h (Shape.Idx.first Cert.Pre_finite2.Facts.h_S_))).1).1
  have h2 := Host.reduce_andi_all _ _ _ _ _ h1 (ix2 r l)
  refine real_of_abs_lt _ ?_
  rw [← top_bits, ← h2]
  pointwise []
  rfl

/-- The weights are real. -/
theorem real_w (h : Cert.Pre_finite2.fn (F := Ideal) x0 x1 x2 x3 = fun _ => 1#1) (r : Fin 2816) (l : Fin 1024) : ∃ y : ℝ, (x1 (ix2 r l) : EReal) = y := by
  dsimp only [Cert.Pre_finite2.fn] at h
  have h1 := (both _ _ (both _ _ (congrFun h (Shape.Idx.first Cert.Pre_finite2.Facts.h_S_))).1).2
  have h2 := Host.reduce_andi_all _ _ _ _ _ h1 (ix2 r l)
  refine real_of_abs_lt _ ?_
  rw [← top_bits, ← h2]
  pointwise []
  rfl

/-- The other factor is real. -/
theorem real_up (h : Cert.Pre_finite2.fn (F := Ideal) x0 x1 x2 x3 = fun _ => 1#1) (r : Fin 8192) (l : Fin 2816) : ∃ y : ℝ, (x3 (ix2 r l) : EReal) = y := by
  dsimp only [Cert.Pre_finite2.fn] at h
  have h1 := (both _ _ (congrFun h (Shape.Idx.first Cert.Pre_finite2.Facts.h_S_))).2
  have h2 := Host.reduce_andi_all _ _ _ _ _ h1 (ix2 r l)
  refine real_of_abs_lt _ ?_
  rw [← top_bits, ← h2]
  pointwise []
  rfl

end Finite

/-- The gate's gradient, for finite numbers: both spellings agree. -/
theorem gate_eq (dh : FVec Ideal S8192x1024 .f32) (w : FVec Ideal S2816x1024 .bf16) (g u : EReal) (r : Fin 8192) (l : Fin 2816)
    (hdh : ∀ k, ∃ y : ℝ, (dh (ix2 r k) : EReal) = y) (hw : ∀ k, ∃ y : ℝ, (w (ix2 l k) : EReal) = y) (hu : ∃ y : ℝ, u = y) :
    grad (M := 8192) (N := 2816) dh w r l * u * logi g + g * (grad (M := 8192) (N := 2816) dh w r l * u) * (logi g * (1 - logi g))
      = dgate (grad (M := 8192) (N := 2816) dh w r l) g u := by
  obtain ⟨p, hp⟩ := sum_mul_real (fun k => (dh (ix2 r k) : EReal)) (fun k => (w (ix2 l k) : EReal)) hdh hw
  obtain ⟨q, rfl⟩ := hu
  have e : grad (M := 8192) (N := 2816) dh w r l * (q : EReal) = (((1 / 2 : ℝ) * p * q : ℝ) : EReal) := by
    rw [grad, hp, EReal.coe_mul, EReal.coe_mul]
  rw [dgate, e]
  exact (dgate_eq _ _).symm

/-- The kernel's two arrays are the reference's. -/
theorem algebraic : Cert.algebraic_Kernel2Ideal_Reference2Ideal_pre_finite2 (hKernel2Ideal := Cert.Kernel2Ideal.Gen.facts) (hReference2Ideal := Cert.Reference2Ideal.Gen.facts)
    (hPre_finite2 := preFacts) := by
  intro m g m' g' hpre hagree
  refine ⟨fun c => (Kernel2Ideal.Gen.dats m 0 c).arrAt 4 Kernel2Ideal.cfg0.N, fun c => (Kernel2Ideal.Gen.dats m 0 c).arrAt 5 Kernel2Ideal.cfg0.N,
    Kernel2Ideal.Value.run_blocks m g, ?_⟩
  refine (θ_run Reference2Ideal.defs _ _).mono (fun r h c => ?_) (Reference2Ideal.Value.run (F := Ideal) m' g')
  obtain ⟨e0, e1, k⟩ := h c
  obtain ⟨a0, a1, a2, a3⟩ := hagree c
  have hp := hpre c
  refine ⟨e0.trans ?_, e1.trans ?_, k⟩
  · rw [Reference2Ideal.Read.val_main_v14_eq]
    refine Eq.trans ?_ (final4 m c).symm
    funext i
    idx_vars i
    refine (ref14 _ _ _ _ i0 i1).trans ?_
    rw [a0, a1, a2, a3]
    exact gate_eq _ _ _ _ i0 i1 (fun k => real_dh hp i0 k) (fun k => real_w hp i1 k) (real_up hp i0 i1)
  · rw [Reference2Ideal.Read.val_main_v15_eq]
    refine Eq.trans ?_ (final5 m c).symm
    funext i
    idx_vars i
    refine (ref15 _ _ _ i0 i1).trans ?_
    rw [a0, a1, a2]

end Cert.Ffn.GateGrad

end
-- ==== Proof.Ffn.DownWeight.lean ====
module

public import proofs.«01_k».proof.Defs
public import proofs.«01_k».proof.Proof.Gen.Kernel5Ideal.Value
public import proofs.«01_k».proof.Proof.Gen.Reference5Ideal.Run
public import proofs.«01_k».proof.Proof.Gen.Reference5Ideal.Read
public import proofs.«01_k».proof.Proof.Ffn.Common
public import Idealize.ShloMosaic.Lib.Pipeline.ValueKit
public import Idealize.ShloMosaic.Lib.Pipeline.ReadBack

@[expose] public section

set_option maxRecDepth 16384

noncomputable section

/-! # The gradient of `w_down`

A product summed over the tokens: each of the two blocks of rows of the result is the sum of four blocks of tokens, kept from one
point of the grid to the next and written back, halved, at the fourth. -/

namespace Cert.Ffn.DownWeight

open Cert.Kernel5Ideal Cert.Kernel5Ideal.Gen Idealize.ShloMosaic Idealize.ShloMosaic.TcCoe Idealize.SL.Sem

/-- The sum over the tokens of an entry of the first array times an entry of the second. -/
def prod (x : FVec Ideal S8192x2816 .bf16) (w : FVec Ideal S8192x1024 .f32) (r : Fin 2816) (l : Fin 1024) : EReal :=
  ∑ k : Fin 8192, (x (ix2 k r) : EReal) * w (ix2 k l)

/-- The same over the tokens of one block. -/
def part (x : FVec Ideal S2048x1408 .bf16) (w : FVec Ideal S2048x1024 .f32) (j : S1408x1024.Idx) : EReal :=
  ∑ k : Fin 2048, (x (ix2 k (j 0 : Fin 1408)) : EReal) * w (ix2 k (j 1 : Fin 1024))

variable (m : (ℓ : Loc nD τ sig) → Buf (Elt Ideal) ℓ)

/-- Where each window's block lies at point `t`: the row of blocks `t / 4` of the result, the block `t % 4` of the tokens. -/
theorem idx : ∀ t : Fin cfg0.N, win0_0.index t = ![t.val % 4, t.val / 4] ∧ win0_1.index t = ![t.val % 4, 0] ∧ win0_2.index t = ![t.val / 4, 0] := by decide +kernel

/-- The first block's products. -/
theorem first (x : FVec Ideal S2048x1408 .bf16) (w : FVec Ideal S2048x1024 .f32) (r : Fin 1408) (l : Fin 1024) :
    (k0_pay1 x w : FVec Ideal S1408x1024 .f32) (ix2 r l) = part x w (ix2 r l) := by
  unfold k0_pay1 part
  pointwise []

/-- A further block's products, added to what there is. -/
theorem further (a : FVec Ideal S1408x1024 .f32) (x : FVec Ideal S2048x1408 .bf16) (w : FVec Ideal S2048x1024 .f32) (r : Fin 1408) (l : Fin 1024) :
    (k0_pay2 a x w : FVec Ideal S1408x1024 .f32) (ix2 r l) = a (ix2 r l) + part x w (ix2 r l) := by
  unfold k0_pay2 part
  pointwise []

/-- The last block's products, added to what there is, and halved. -/
theorem last (a : FVec Ideal S1408x1024 .f32) (x : FVec Ideal S2048x1408 .bf16) (w : FVec Ideal S2048x1024 .f32) (r : Fin 1408) (l : Fin 1024) :
    (k0_pay3 a x w : FVec Ideal S1408x1024 .bf16) (ix2 r l) = ((a (ix2 r l) : EReal) + part x w (ix2 r l)) * ((1 / 2 : ℝ) : EReal) := by
  unfold k0_pay3 part
  pointwise []
  rw [half_bits]

/-- The products of point `t`'s blocks. -/
abbrev term (c : Dev nD) (t : Fin cfg0.N) (j : S1408x1024.Idx) : EReal := part (iblk m c 0 t) (iblk m c 1 t) j

/-- The sum so far at point `n`. -/
def sofar (c : Dev nD) (n : Nat) (h : n < cfg0.N) (j : S1408x1024.Idx) : EReal :=
  if n % 4 = 3 then ((outsAt0 m c (n - 1) (Nat.lt_of_le_of_lt (Nat.sub_le _ _) h)).2 j : EReal) + term m c ⟨n, h⟩ j else (outsAt0 m c n h).2 j

/-- At the last point of a run the sum so far is the four blocks'. -/
theorem sofar_last (c : Dev nD) (t : Fin cfg0.N) (h : t.val % 4 = 3) (j : S1408x1024.Idx) :
    sofar m c t.val t.isLt j = 0 + ∑ s : Fin 4, term m c ⟨4 * (t.val / 4) + s.val, Pipeline.run_point_lt_of_flush t h s⟩ j := by
  refine Pipeline.eq_sum_fin_of_reset_step_apply_of_flush (sofar m c) 4 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 4 = 3
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 4 = 3) (r : Fin 1408) (l : Fin 1024) :
    ((outsAt0 m c t.val t.isLt).1 (ix2 r l) : EReal) = sofar m c t.val t.isLt (ix2 r l) * ((1 / 2 : ℝ) : EReal) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S2816x1024.Idx => prod (m ((c : Thread nD τ).loc main_arg0)) (m ((c : Thread nD τ).loc main_arg1)) (i 0) (i 1) * ((1 / 2 : ℝ) : EReal) := by
  refine (dats m 0 c).arrAt_eq_of_covers 2 _ (by decide +kernel) fun t hf y => ?_
  have h3 : t.val % 4 = 3 := (flush0_2 t).mp hf
  have hN : cfg0.N = 8 := N_0
  blk_simp
  rw [after0_2]
  idx_vars y
  refine (written m c t h3 y0 y1).trans (congrArg (fun a : EReal => a * ((1 / 2 : ℝ) : EReal)) ?_)
  refine (sofar_last m c t h3 (ix2 y0 y1)).trans ((zero_add _).trans ?_)
  refine Fin.sum_mul_add_congr (M := EReal) (S := 4) (n := 2048) (fun s k hl => congrArg₂ (fun a b : EReal => a * b) ?_ ?_) rfl
  · have hs : (4 * (t.val / 4) + s.val) % 4 = s.val := by omega
    have hd : (4 * (t.val / 4) + s.val) / 4 = t.val / 4 := by omega
    blk_ext! [iblk, V, idx ⟨4 * (t.val / 4) + s.val, Pipeline.run_point_lt_of_flush t h3 s⟩, idx t, hs, hd]
  · have hs : (4 * (t.val / 4) + s.val) % 4 = s.val := by omega
    blk_ext! [iblk, V, idx ⟨4 * (t.val / 4) + s.val, Pipeline.run_point_lt_of_flush t h3 s⟩, idx t, hs]

/-- The reference's result. -/
theorem ref (x : FVec Ideal S8192x2816 .bf16) (w : FVec Ideal S8192x1024 .f32) (r : Fin 2816) (l : Fin 1024) :
    (Reference5Ideal.Read.val_main_v9 (F := Ideal) x w : FVec Ideal S2816x1024 .bf16) (ix2 r l) = prod x w r l * ((1 / 2 : ℝ) : EReal) := by
  pointwise [Reference5Ideal.Read.val_main_v9, Reference5Ideal.Read.val_main_v8, Reference5Ideal.Read.val_main_v7, Reference5Ideal.Read.val_main_v6, Reference5Ideal.Read.val_main_v5, Reference5Ideal.Read.val_main_cst_1, Reference5Ideal.Read.val_main_v0]
  rw [half_bits, mul_comm (prod x w r l), prod, mul_sum_pos (1 / 2) (by norm_num)]
  exact Finset.sum_congr rfl fun k _ => by rw [mul_assoc, mul_comm (w (ix2 k l) : EReal)]

/-- The kernel's result is the reference's. -/
theorem algebraic : Cert.algebraic_Kernel5Ideal_Reference5Ideal (hKernel5Ideal := Kernel5Ideal.Gen.facts) (hReference5Ideal := Reference5Ideal.Gen.facts) := by
  intro m g m' g' hpre hagree
  refine ⟨fun c => (Kernel5Ideal.Gen.dats m 0 c).arrAt 2 Kernel5Ideal.cfg0.N, Kernel5Ideal.Value.run_blocks m g, ?_⟩
  refine (θ_run Reference5Ideal.defs _ _).mono (fun r h c => ?_) (Reference5Ideal.Value.run (F := Ideal) m' g')
  obtain ⟨e0, k⟩ := h c
  obtain ⟨a0, a1⟩ := hagree c
  refine ⟨e0.trans ?_, k⟩
  rw [Reference5Ideal.Read.val_main_v9_eq]
  refine Eq.trans ?_ (final m c).symm
  funext i
  idx_vars i
  refine (ref _ _ i0 i1).trans ?_
  rw [a0, a1]

end Cert.Ffn.DownWeight
-- ==== Proof.Ffn.UpWeight.lean ====
module

public import proofs.«01_k».proof.Defs
public import proofs.«01_k».proof.Proof.Gen.Kernel6Ideal.Value
public import proofs.«01_k».proof.Proof.Gen.Reference6Ideal.Run
public import proofs.«01_k».proof.Proof.Gen.Reference6Ideal.Read
public import proofs.«01_k».proof.Proof.Ffn.Common
public import Idealize.ShloMosaic.Lib.Pipeline.ValueKit
public import Idealize.ShloMosaic.Lib.Pipeline.ReadBack

@[expose] public section

set_option maxRecDepth 16384

noncomputable section

/-! # The gradient of `w_gate`, and that of `w_up`

A product summed over the tokens: each block of rows of the result is the sum of four blocks of tokens, kept from one point of the
grid to the next and written back at the fourth. -/

namespace Cert.Ffn.UpWeight

open Cert.Kernel6Ideal Cert.Kernel6Ideal.Gen Idealize.ShloMosaic Idealize.ShloMosaic.TcCoe Idealize.SL.Sem

/-- The sum over the tokens of an entry of the first array times an entry of the second. -/
def prod (x : FVec Ideal S8192x2816 .bf16) (w : FVec Ideal S8192x1024 .bf16) (r : Fin 2816) (l : Fin 1024) : EReal :=
  ∑ k : Fin 8192, (x (ix2 k r) : EReal) * w (ix2 k l)

/-- The same over the tokens of one block. -/
def part (x : FVec Ideal S2048x1408 .bf16) (w : FVec Ideal S2048x1024 .bf16) (j : S1408x1024.Idx) : EReal :=
  ∑ k : Fin 2048, (x (ix2 k (j 0 : Fin 1408)) : EReal) * w (ix2 k (j 1 : Fin 1024))

variable (m : (ℓ : Loc nD τ sig) → Buf (Elt Ideal) ℓ)

/-- Where each window's block lies at point `t`: the row of blocks `t / 4` of the result, the block `t % 4` of the tokens. -/
theorem idx : ∀ t : Fin cfg0.N, win0_0.index t = ![t.val % 4, t.val / 4] ∧ win0_1.index t = ![t.val % 4, 0] ∧ win0_2.index t = ![t.val / 4, 0] := by decide +kernel

/-- The first block's products. -/
theorem first (x : FVec Ideal S2048x1408 .bf16) (w : FVec Ideal S2048x1024 .bf16) (r : Fin 1408) (l : Fin 1024) :
    (k0_pay1 x w : FVec Ideal S1408x1024 .f32) (ix2 r l) = part x w (ix2 r l) := by
  unfold k0_pay1 part
  pointwise []

/-- A further block's products, added to what there is. -/
theorem further (a : FVec Ideal S1408x1024 .f32) (x : FVec Ideal S2048x1408 .bf16) (w : FVec Ideal S2048x1024 .bf16) (r : Fin 1408) (l : Fin 1024) :
    (k0_pay2 a x w : FVec Ideal S1408x1024 .f32) (ix2 r l) = a (ix2 r l) + part x w (ix2 r l) := by
  unfold k0_pay2 part
  pointwise []

/-- The last block's products, added to what there is. -/
theorem last (a : FVec Ideal S1408x1024 .f32) (x : FVec Ideal S2048x1408 .bf16) (w : FVec Ideal S2048x1024 .bf16) (r : Fin 1408) (l : Fin 1024) :
    (k0_pay3 a x w : FVec Ideal S1408x1024 .bf16) (ix2 r l) = (a (ix2 r l) : EReal) + part x w (ix2 r l) := by
  unfold k0_pay3 part
  pointwise []

/-- The products of point `t`'s blocks. -/
abbrev term (c : Dev nD) (t : Fin cfg0.N) (j : S1408x1024.Idx) : EReal := part (iblk m c 0 t) (iblk m c 1 t) j

/-- The sum so far at point `n`. -/
def sofar (c : Dev nD) (n : Nat) (h : n < cfg0.N) (j : S1408x1024.Idx) : EReal :=
  if n % 4 = 3 then ((outsAt0 m c (n - 1) (Nat.lt_of_le_of_lt (Nat.sub_le _ _) h)).2 j : EReal) + term m c ⟨n, h⟩ j else (outsAt0 m c n h).2 j

/-- At the last point of a run the sum so far is the four blocks'. -/
theorem sofar_last (c : Dev nD) (t : Fin cfg0.N) (h : t.val % 4 = 3) (j : S1408x1024.Idx) :
    sofar m c t.val t.isLt j = 0 + ∑ s : Fin 4, term m c ⟨4 * (t.val / 4) + s.val, Pipeline.run_point_lt_of_flush t h s⟩ j := by
  refine Pipeline.eq_sum_fin_of_reset_step_apply_of_flush (sofar m c) 4 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 4 = 3
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 4 = 3) (r : Fin 1408) (l : Fin 1024) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S2816x1024.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 4 = 3 := (flush0_2 t).mp hf
  have hN : cfg0.N = 8 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 4) (n := 2048) (fun s k hl => congrArg₂ (fun a b : EReal => a * b) ?_ ?_) rfl
  · have hs : (4 * (t.val / 4) + s.val) % 4 = s.val := by omega
    have hd : (4 * (t.val / 4) + s.val) / 4 = t.val / 4 := by omega
    blk_ext! [iblk, V, idx ⟨4 * (t.val / 4) + s.val, Pipeline.run_point_lt_of_flush t h3 s⟩, idx t, hs, hd]
  · have hs : (4 * (t.val / 4) + s.val) % 4 = s.val := by omega
    blk_ext! [iblk, V, idx ⟨4 * (t.val / 4) + s.val, Pipeline.run_point_lt_of_flush t h3 s⟩, idx t, hs]

/-- The reference's result. -/
theorem ref (x : FVec Ideal S8192x2816 .bf16) (w : FVec Ideal S8192x1024 .bf16) (r : Fin 2816) (l : Fin 1024) :
    (Reference6Ideal.Read.val_main_v7 (F := Ideal) x w : FVec Ideal S2816x1024 .bf16) (ix2 r l) = prod x w r l := by
  pointwise [Reference6Ideal.Read.val_main_v7, Reference6Ideal.Read.val_main_v6, Reference6Ideal.Read.val_main_v5, Reference6Ideal.Read.val_main_v4, Reference6Ideal.Read.val_main_v3, Reference6Ideal.Read.val_main_v0]
  rfl

/-- The kernel's result is the reference's. -/
theorem algebraic : Cert.algebraic_Kernel6Ideal_Reference6Ideal (hKernel6Ideal := Kernel6Ideal.Gen.facts) (hReference6Ideal := Reference6Ideal.Gen.facts) := by
  intro m g m' g' hpre hagree
  refine ⟨fun c => (Kernel6Ideal.Gen.dats m 0 c).arrAt 2 Kernel6Ideal.cfg0.N, Kernel6Ideal.Value.run_blocks m g, ?_⟩
  refine (θ_run Reference6Ideal.defs _ _).mono (fun r h c => ?_) (Reference6Ideal.Value.run (F := Ideal) m' g')
  obtain ⟨e0, k⟩ := h c
  obtain ⟨a0, a1⟩ := hagree c
  refine ⟨e0.trans ?_, k⟩
  rw [Reference6Ideal.Read.val_main_v7_eq]
  refine Eq.trans ?_ (final m c).symm
  funext i
  idx_vars i
  refine (ref _ _ i0 i1).trans ?_
  rw [a0, a1]

end Cert.Ffn.UpWeight
-- ==== Proof.Ffn.DnGate.lean ====
module

public import proofs.«01_k».proof.Defs
public import proofs.«01_k».proof.Proof.Gen.Kernel7Ideal.Value
public import proofs.«01_k».proof.Proof.Gen.Reference7Ideal.Run
public import proofs.«01_k».proof.Proof.Gen.Reference7Ideal.Read
public import proofs.«01_k».proof.Proof.Ffn.Common
public import Idealize.ShloMosaic.Lib.Pipeline.ValueKit

@[expose] public section

set_option maxRecDepth 16384

noncomputable section

/-! # The gradient that goes back through `w_gate`

A plain product, each of its eight blocks of rows taken in one piece. -/

namespace Cert.Ffn.DnGate

open Cert.Kernel7Ideal Cert.Kernel7Ideal.Gen Idealize.ShloMosaic Idealize.ShloMosaic.TcCoe Idealize.SL.Sem

/-- The product of two matrices at a row and a column. -/
def prod (x : FVec Ideal S8192x2816 .bf16) (w : FVec Ideal S2816x1024 .bf16) (r : Fin 8192) (l : Fin 1024) : EReal :=
  ∑ k : Fin 2816, (x (ix2 r k) : EReal) * w (ix2 k l)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x2816 .bf16) (w : FVec Ideal S2816x1024 .bf16) (r l : Fin 1024) :
    (k0_pay1 x w : FVec Ideal S1024x1024 .f32) (ix2 r l) = ∑ k : Fin 2816, (x (ix2 r k) : EReal) * w (ix2 k l) := by
  unfold k0_pay1
  pointwise []

/-- The array after the run. -/
theorem final (c : Dev nD) : (dats m 0 c).arrAt 2 cfg0.N
    = fun i : S8192x1024.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x2816 .bf16) (w : FVec Ideal S2816x1024 .bf16) (r : Fin 8192) (l : Fin 1024) :
    Reference7Ideal.Read.val_main_v5 (F := Ideal) x w (ix2 r l) = prod x w r l := by
  pointwise [Reference7Ideal.Read.val_main_v5, Reference7Ideal.Read.val_main_v4, Reference7Ideal.Read.val_main_v1, Reference7Ideal.Read.val_main_v0]
  rfl

/-- The kernel's result is the reference's. -/
theorem algebraic : Cert.algebraic_Kernel7Ideal_Reference7Ideal (hKernel7Ideal := Kernel7Ideal.Gen.facts) (hReference7Ideal := Reference7Ideal.Gen.facts) := by
  intro m g m' g' hpre hagree
  refine ⟨fun c => (Kernel7Ideal.Gen.dats m 0 c).arrAt 2 Kernel7Ideal.cfg0.N, Kernel7Ideal.Value.run_blocks m g, ?_⟩
  refine (θ_run Reference7Ideal.defs _ _).mono (fun r h c => ?_) (Reference7Ideal.Value.run (F := Ideal) m' g')
  obtain ⟨e0, k⟩ := h c
  obtain ⟨a0, a1⟩ := hagree c
  refine ⟨e0.trans ?_, k⟩
  rw [Reference7Ideal.Read.val_main_v5_eq]
  refine Eq.trans ?_ (final m c).symm
  funext i
  idx_vars i
  refine (ref _ _ i0 i1).trans ?_
  rw [a0, a1]

end Cert.Ffn.DnGate
-- ==== Proof.Ffn.InWeight.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import proofs.«01_k».proof.Proof.Ffn.Common
public import Idealize.ShloMosaic.Lib.Pipeline.ValueKit
public import Idealize.ShloMosaic.Lib.Pipeline.ReadBack

@[expose] public section

set_option maxRecDepth 16384

noncomputable section

/-! # The gradient of `w_in`

A product summed over the tokens: each block of rows of the result is the sum of four blocks of tokens, kept from one point of the
grid to the next and written back at the fourth. -/

namespace Cert.Ffn.InWeight

open Cert.Kernel8Ideal Cert.Kernel8Ideal.Gen Idealize.ShloMosaic Idealize.ShloMosaic.TcCoe Idealize.SL.Sem

/-- The sum over the tokens of an entry of the first array times an entry of the second. -/
def prod (x : FVec Ideal S8192x10752 .bf16) (w : FVec Ideal S8192x1024 .bf16) (r : Fin 10752) (l : Fin 1024) : EReal :=
  ∑ k : Fin 8192, (x (ix2 k r) : EReal) * w (ix2 k l)

/-- The same over the tokens of one block. -/
def part (x : FVec Ideal S2048x1536 .bf16) (w : FVec Ideal S2048x1024 .bf16) (j : S1536x1024.Idx) : EReal :=
  ∑ k : Fin 2048, (x (ix2 k (j 0 : Fin 1536)) : EReal) * w (ix2 k (j 1 : Fin 1024))

variable (m : (ℓ : Loc nD τ sig) → Buf (Elt Ideal) ℓ)

/-- Where each window's block lies at point `t`: the row of blocks `t / 4` of the result, the block `t % 4` of the tokens. -/
theorem idx : ∀ t : Fin cfg0.N, win0_0.index t = ![t.val % 4, t.val / 4] ∧ win0_1.index t = ![t.val % 4, 0] ∧ win0_2.index t = ![t.val / 4, 0] := by decide +kernel

/-- The first block's products. -/
theorem first (x : FVec Ideal S2048x1536 .bf16) (w : FVec Ideal S2048x1024 .bf16) (r : Fin 1536) (l : Fin 1024) :
    (k0_pay1 x w : FVec Ideal S1536x1024 .f32) (ix2 r l) = part x w (ix2 r l) := by
  unfold k0_pay1 part
  pointwise []

/-- A further block's products, added to what there is. -/
theorem further (a : FVec Ideal S1536x1024 .f32) (x : FVec Ideal S2048x1536 .bf16) (w : FVec Ideal S2048x1024 .bf16) (r : Fin 1536) (l : Fin 1024) :
    (k0_pay2 a x w : FVec Ideal S1536x1024 .f32) (ix2 r l) = a (ix2 r l) + part x w (ix2 r l) := by
  unfold k0_pay2 part
  pointwise []

/-- The last block's products, added to what there is. -/
theorem last (a : FVec Ideal S1536x1024 .f32) (x : FVec Ideal S2048x1536 .bf16) (w : FVec Ideal S2048x1024 .bf16) (r : Fin 1536) (l : Fin 1024) :
    (k0_pay3 a x w : FVec Ideal S1536x1024 .bf16) (ix2 r l) = (a (ix2 r l) : EReal) + part x w (ix2 r l) := by
  unfold k0_pay3 part
  pointwise []

/-- The products of point `t`'s blocks. -/
abbrev term (c : Dev nD) (t : Fin cfg0.N) (j : S1536x1024.Idx) : EReal := part (iblk m c 0 t) (iblk m c 1 t) j

/-- The sum so far at point `n`. -/
def sofar (c : Dev nD) (n : Nat) (h : n < cfg0.N) (j : S1536x1024.Idx) : EReal :=
  if n % 4 = 3 then ((outsAt0 m c (n - 1) (Nat.lt_of_le_of_lt (Nat.sub_le _ _) h)).2 j : EReal) + term m c ⟨n, h⟩ j else (outsAt0 m c n h).2 j

/-- At the last point of a run the sum so far is the four blocks'. -/
theorem sofar_last (c : Dev nD) (t : Fin cfg0.N) (h : t.val % 4 = 3) (j : S1536x1024.Idx) :
    sofar m c t.val t.isLt j = 0 + ∑ s : Fin 4, term m c ⟨4 * (t.val / 4) + s.val, Pipeline.run_point_lt_of_flush t h s⟩ j := by
  refine Pipeline.eq_sum_fin_of_reset_step_apply_of_flush (sofar m c) 4 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 4 = 3
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 4 = 3) (r : Fin 1536) (l : Fin 1024) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S10752x1024.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 4 = 3 := (flush0_2 t).mp hf
  have hN : cfg0.N = 28 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 4) (n := 2048) (fun s k hl => congrArg₂ (fun a b : EReal => a * b) ?_ ?_) rfl
  · have hs : (4 * (t.val / 4) + s.val) % 4 = s.val := by omega
    have hd : (4 * (t.val / 4) + s.val) / 4 = t.val / 4 := by omega
    blk_ext! [iblk, V, idx ⟨4 * (t.val / 4) + s.val, Pipeline.run_point_lt_of_flush t h3 s⟩, idx t, hs, hd]
  · have hs : (4 * (t.val / 4) + s.val) % 4 = s.val := by omega
    blk_ext! [iblk, V, idx ⟨4 * (t.val / 4) + s.val, Pipeline.run_point_lt_of_flush t h3 s⟩, idx t, hs]

/-- The reference's result. -/
theorem ref (x : FVec Ideal S8192x10752 .bf16) (w : FVec Ideal S8192x1024 .bf16) (r : Fin 10752) (l : Fin 1024) :
    (Reference8Ideal.Read.val_main_v7 (F := Ideal) x w : FVec Ideal S10752x1024 .bf16) (ix2 r l) = prod x w r l := by
  pointwise [Reference8Ideal.Read.val_main_v7, Reference8Ideal.Read.val_main_v6, Reference8Ideal.Read.val_main_v5, Reference8Ideal.Read.val_main_v4, Reference8Ideal.Read.val_main_v3, Reference8Ideal.Read.val_main_v0]
  rfl

/-- The kernel's result is the reference's. -/
theorem algebraic : Cert.algebraic_Kernel8Ideal_Reference8Ideal (hKernel8Ideal := Kernel8Ideal.Gen.facts) (hReference8Ideal := Reference8Ideal.Gen.facts) := by
  intro m g m' g' hpre hagree
  refine ⟨fun c => (Kernel8Ideal.Gen.dats m 0 c).arrAt 2 Kernel8Ideal.cfg0.N, Kernel8Ideal.Value.run_blocks m g, ?_⟩
  refine (θ_run Reference8Ideal.defs _ _).mono (fun r h c => ?_) (Reference8Ideal.Value.run (F := Ideal) m' g')
  obtain ⟨e0, k⟩ := h c
  obtain ⟨a0, a1⟩ := hagree c
  refine ⟨e0.trans ?_, k⟩
  rw [Reference8Ideal.Read.val_main_v7_eq]
  refine Eq.trans ?_ (final m c).symm
  funext i
  idx_vars i
  refine (ref _ _ i0 i1).trans ?_
  rw [a0, a1]

end Cert.Ffn.InWeight
-- ==== Proof.Ffn.GateUp.lean ====
module

public import proofs.«01_k».proof.Defs
public import proofs.«01_k».proof.Proof.Gen.Kernel9Ideal.Value
public import proofs.«01_k».proof.Proof.Gen.Reference9Ideal.Run
public import proofs.«01_k».proof.Proof.Gen.Reference9Ideal.Read
public import proofs.«01_k».proof.Proof.Ffn.Common
public import Idealize.ShloMosaic.Lib.Pipeline.ValueKit

@[expose] public section

set_option maxRecDepth 16384

noncomputable section

/-! # The two products of the feed-forward layer and its gate

Each of sixteen blocks is written as an upper and a lower half of 512 rows. The kernel spells the logistic function of the gate as a hyperbolic tangent. -/

namespace Cert.Ffn.GateUp

open Cert.Kernel9Ideal Cert.Kernel9Ideal.Gen Idealize.ShloMosaic Idealize.ShloMosaic.TcCoe Idealize.SL.Sem

/-- A product with transposed weights, at a row and a column. -/
def prod {M N : Nat} (x : FVec Ideal ⟨2, ![M, 1024]⟩ .bf16) (w : FVec Ideal ⟨2, ![N, 1024]⟩ .bf16) (r : Fin M) (l : Fin N) : EReal :=
  ∑ k : Fin 1024, (x (ix2 r k) : EReal) * w (ix2 l k)

/-- The gated product: the logistic function of the gate times the gate, times the other product. -/
def gated (g u : EReal) : EReal := g * Ideal.div 1 (1 + Ideal.exp (-g)) * u

/-- The first output's buffer. -/
theorem out3 (x0 : FVec Ideal S1024x1024 .bf16) (x1 x2 : FVec Ideal S1408x1024 .bf16) (r : Fin 1024) (l : Fin 1408) :
    (out0_3 (F := Ideal) x0 x1 x2 : FVec Ideal S1024x1408 .bf16) (ix2 r l) = prod x0 x1 r l := by
  unfold_out out0_3
  canon_tiles y h
  · idx_vars y
    pointwise [k0_pay1, k0_pay9]
    rw [show r = (⟨512 + y0.val, by omega⟩ : Fin 1024) from Fin.ext h0, show l = y1 from Fin.ext h1]
    rfl
  · idx_vars y
    pointwise [k0_pay6, k0_pay4]
    rw [show r = (⟨y0.val, by omega⟩ : Fin 1024) from Fin.ext h0, show l = y1 from Fin.ext h1]
    rfl

/-- The second output's buffer. -/
theorem out4 (x0 : FVec Ideal S1024x1024 .bf16) (x1 x2 : FVec Ideal S1408x1024 .bf16) (r : Fin 1024) (l : Fin 1408) :
    (out0_4 (F := Ideal) x0 x1 x2 : FVec Ideal S1024x1408 .bf16) (ix2 r l) = prod x0 x2 r l := by
  unfold_out out0_4
  canon_tiles y h
  · idx_vars y
    pointwise [k0_pay2, k0_pay10]
    rw [show r = (⟨512 + y0.val, by omega⟩ : Fin 1024) from Fin.ext h0, show l = y1 from Fin.ext h1]
    rfl
  · idx_vars y
    pointwise [k0_pay7, k0_pay5]
    rw [show r = (⟨y0.val, by omega⟩ : Fin 1024) from Fin.ext h0, show l = y1 from Fin.ext h1]
    rfl

/-- The third output's buffer. -/
theorem out5 (x0 : FVec Ideal S1024x1024 .bf16) (x1 x2 : FVec Ideal S1408x1024 .bf16) (r : Fin 1024) (l : Fin 1408) :
    (out0_5 (F := Ideal) x0 x1 x2 : FVec Ideal S1024x1408 .bf16) (ix2 r l) = gated (prod x0 x1 r l) (prod x0 x2 r l) := by
  unfold_out out0_5
  canon_tiles y h
  · idx_vars y
    pointwise [k0_pay3, k0_pay11, k0_pay10, k0_pay9]
    rw [show r = (⟨512 + y0.val, by omega⟩ : Fin 1024) from Fin.ext h0, show l = y1 from Fin.ext h1]
    rw [half_bits, sigmoid_eq]
    rfl
  · idx_vars y
    pointwise [k0_pay8, k0_pay4, k0_pay5]
    rw [show r = (⟨y0.val, by omega⟩ : Fin 1024) from Fin.ext h0, show l = y1 from Fin.ext h1]
    rw [half_bits, sigmoid_eq]
    rfl

variable (m : (ℓ : Loc nD τ sig) → Buf (Elt Ideal) ℓ)

/-- Where each window's block lies at point `t`. -/
theorem idx : ∀ t : Fin cfg0.N, win0_0.index t = ![t.val % 8, 0] ∧ win0_1.index t = ![t.val / 8, 0] ∧ win0_2.index t = ![t.val / 8, 0]
    ∧ win0_3.index t = ![t.val % 8, t.val / 8] ∧ win0_4.index t = ![t.val % 8, t.val / 8] ∧ win0_5.index t = ![t.val % 8, t.val / 8] := by decide +kernel

/-- The first array after the run: the gate's product. -/
theorem final3 (c : Dev nD) : (dats m 0 c).arrAt 3 cfg0.N
    = fun i : S8192x2816.Idx => prod (M := 8192) (N := 2816) (m ((c : Thread nD τ).loc main_arg0)) (m ((c : Thread nD τ).loc main_arg1)) (i 0) (i 1) := by
  refine (dats m 0 c).arrAt_eq_of_covers 3 _ (by decide +kernel) fun t hf y => ?_
  blk_simp
  rw [after0_3]
  idx_vars y
  refine (out3 (iblk m c 0 t) (iblk m c 1 t) (iblk m c 2 t) y0 y1).trans (Finset.sum_congr (M := EReal) rfl fun k _ => congrArg₂ (fun a b : EReal => a * b) ?_ ?_)
  · blk_ext! [iblk, V, idx t]
  · blk_ext! [iblk, V, idx t]

/-- The second array after the run: the other product. -/
theorem final4 (c : Dev nD) : (dats m 0 c).arrAt 4 cfg0.N
    = fun i : S8192x2816.Idx => prod (M := 8192) (N := 2816) (m ((c : Thread nD τ).loc main_arg0)) (m ((c : Thread nD τ).loc main_arg2)) (i 0) (i 1) := by
  refine (dats m 0 c).arrAt_eq_of_covers 4 _ (by decide +kernel) fun t hf y => ?_
  blk_simp
  rw [after0_4]
  idx_vars y
  refine (out4 (iblk m c 0 t) (iblk m c 1 t) (iblk m c 2 t) y0 y1).trans (Finset.sum_congr (M := EReal) rfl fun k _ => congrArg₂ (fun a b : EReal => a * b) ?_ ?_)
  · blk_ext! [iblk, V, idx t]
  · blk_ext! [iblk, V, idx t]

/-- The third array after the run: the gated product. -/
theorem final5 (c : Dev nD) : (dats m 0 c).arrAt 5 cfg0.N
    = fun i : S8192x2816.Idx => gated (prod (M := 8192) (N := 2816) (m ((c : Thread nD τ).loc main_arg0)) (m ((c : Thread nD τ).loc main_arg1)) (i 0) (i 1))
        (prod (M := 8192) (N := 2816) (m ((c : Thread nD τ).loc main_arg0)) (m ((c : Thread nD τ).loc main_arg2)) (i 0) (i 1)) := by
  refine (dats m 0 c).arrAt_eq_of_covers 5 _ (by decide +kernel) fun t hf y => ?_
  blk_simp
  rw [after0_5]
  idx_vars y
  refine (out5 (iblk m c 0 t) (iblk m c 1 t) (iblk m c 2 t) y0 y1).trans (congrArg₂ gated
    (Finset.sum_congr (M := EReal) rfl fun k _ => congrArg₂ (fun a b : EReal => a * b) ?_ ?_) (Finset.sum_congr (M := EReal) rfl fun k _ => congrArg₂ (fun a b : EReal => a * b) ?_ ?_))
  · blk_ext! [iblk, V, idx t]
  · blk_ext! [iblk, V, idx t]
  · blk_ext! [iblk, V, idx t]
  · blk_ext! [iblk, V, idx t]

section Reference

open Cert.Reference9Ideal.Read

variable (x0 : FVec Ideal Cert.Reference9Ideal.S8192x1024 .bf16) (x1 x2 : FVec Ideal Cert.Reference9Ideal.S2816x1024 .bf16) (r : Fin 8192) (l : Fin 2816)

/-- The reference's first array, unrounded. -/
theorem ref3 : (val_main_v3 (F := Ideal) x0 x1 : FVec Ideal Cert.Reference9Ideal.S8192x2816 .f32) (ix2 r l) = prod (M := 8192) (N := 2816) x0 x1 r l := by
  pointwise [val_main_v3, val_main_v2, val_main_v1, val_main_v0]
  rfl

/-- The reference's second array, unrounded. -/
theorem ref6 : (val_main_v6 (F := Ideal) x0 x2 : FVec Ideal Cert.Reference9Ideal.S8192x2816 .f32) (ix2 r l) = prod (M := 8192) (N := 2816) x0 x2 r l := by
  pointwise [val_main_v6, val_main_v5, val_main_v4, val_main_v0]
  rfl

/-- The reference's first array. -/
theorem ref7 : (val_main_v7 (F := Ideal) x0 x1 : FVec Ideal Cert.Reference9Ideal.S8192x2816 .bf16) (ix2 r l) = prod (M := 8192) (N := 2816) x0 x1 r l :=
  ref3 x0 x1 r l

/-- The reference's second array. -/
theorem ref8 : (val_main_v8 (F := Ideal) x0 x2 : FVec Ideal Cert.Reference9Ideal.S8192x2816 .bf16) (ix2 r l) = prod (M := 8192) (N := 2816) x0 x2 r l :=
  ref6 x0 x2 r l

/-- The reference's third array. -/
theorem ref11 : (val_main_v11 (F := Ideal) x0 x1 x2 : FVec Ideal Cert.Reference9Ideal.S8192x2816 .bf16) (ix2 r l)
    = gated (prod (M := 8192) (N := 2816) x0 x1 r l) (prod (M := 8192) (N := 2816) x0 x2 r l) := by
  pointwise [val_main_v11, val_main_v10, val_main_v9, val_main_call0_v5, val_main_call0_v4, val_main_call0_cst_0, val_main_call0_v3, val_main_call0_v2,
    val_main_call0_cst, val_main_call0_v1, val_main_call0_v0]
  rw [ref3, ref6]
  rfl

end Reference

/-- The kernel's three arrays are the reference's. -/
theorem algebraic : Cert.algebraic_Kernel9Ideal_Reference9Ideal (hKernel9Ideal := Cert.Kernel9Ideal.Gen.facts) (hReference9Ideal := Cert.Reference9Ideal.Gen.facts) := by
  intro m g m' g' hpre hagree
  refine ⟨fun c => (Kernel9Ideal.Gen.dats m 0 c).arrAt 3 Kernel9Ideal.cfg0.N, fun c => (Kernel9Ideal.Gen.dats m 0 c).arrAt 4 Kernel9Ideal.cfg0.N,
    fun c => (Kernel9Ideal.Gen.dats m 0 c).arrAt 5 Kernel9Ideal.cfg0.N, Kernel9Ideal.Value.run_blocks m g, ?_⟩
  refine (θ_run Reference9Ideal.defs _ _).mono (fun r h c => ?_) (Reference9Ideal.Value.run (F := Ideal) m' g')
  obtain ⟨e0, e1, e2, k⟩ := h c
  obtain ⟨a0, a1, a2⟩ := hagree c
  refine ⟨e0.trans ?_, e1.trans ?_, e2.trans ?_, k⟩
  · rw [Reference9Ideal.Read.val_main_v7_eq]
    refine Eq.trans ?_ (final3 m c).symm
    funext i
    idx_vars i
    refine (ref7 _ _ i0 i1).trans ?_
    rw [a0, a1]
  · rw [Reference9Ideal.Read.val_main_v8_eq]
    refine Eq.trans ?_ (final4 m c).symm
    funext i
    idx_vars i
    refine (ref8 _ _ i0 i1).trans ?_
    rw [a0, a2]
  · rw [Reference9Ideal.Read.val_main_v11_eq]
    refine Eq.trans ?_ (final5 m c).symm
    funext i
    idx_vars i
    refine (ref11 _ _ _ i0 i1).trans ?_
    rw [a0, a1, a2]

end Cert.Ffn.GateUp

end
-- ==== Proof.Ffn.InProj.lean ====
module

public import proofs.«01_k».proof.Defs
public import proofs.«01_k».proof.Proof.Gen.Kernel10Ideal.Value
public import proofs.«01_k».proof.Proof.Gen.Reference10Ideal.Run
public import proofs.«01_k».proof.Proof.Gen.Reference10Ideal.Read
public import proofs.«01_k».proof.Proof.Ffn.Common
public import Idealize.ShloMosaic.Lib.Pipeline.ValueKit

@[expose] public section

set_option maxRecDepth 16384

noncomputable section

/-! # The product with `w_in`

A plain product, each of its 28 blocks of 2048 rows and 1536 columns taken in one piece; the weights come transposed. -/

namespace Cert.Ffn.InProj

open Cert.Kernel10Ideal Cert.Kernel10Ideal.Gen Idealize.ShloMosaic Idealize.ShloMosaic.TcCoe Idealize.SL.Sem

/-- The product of a matrix and a transposed one, at a row and a column. -/
def prod (x : FVec Ideal S8192x1024 .bf16) (w : FVec Ideal S10752x1024 .bf16) (r : Fin 8192) (l : Fin 10752) : EReal :=
  ∑ k : Fin 1024, (x (ix2 r k) : EReal) * w (ix2 l k)

variable (m : (ℓ : Loc nD τ sig) → Buf (Elt Ideal) ℓ)

/-- Where each window's block lies at point `t`. -/
theorem idx : ∀ t : Fin cfg0.N, win0_0.index t = ![t.val / 7, 0] ∧ win0_1.index t = ![t.val % 7, 0] ∧ win0_2.index t = ![t.val / 7, t.val % 7] := by decide +kernel

/-- What the body stores: the product of its two blocks. -/
theorem tile (x : FVec Ideal S2048x1024 .bf16) (w : FVec Ideal S1536x1024 .bf16) (r : Fin 2048) (l : Fin 1536) :
    (k0_pay1 x w : FVec Ideal S2048x1536 .bf16) (ix2 r l) = ∑ k : Fin 1024, (x (ix2 r k) : EReal) * w (ix2 l k) := by
  unfold k0_pay1
  pointwise []

/-- The array after the run. -/
theorem final (c : Dev nD) : (dats m 0 c).arrAt 2 cfg0.N
    = fun i : S8192x10752.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's array is the same product. -/
theorem ref (x0 : FVec Ideal Cert.Reference10Ideal.S8192x1024 .bf16) (x1 : FVec Ideal Cert.Reference10Ideal.S10752x1024 .bf16) (r : Fin 8192) (l : Fin 10752) :
    (Cert.Reference10Ideal.Read.val_main_v4 (F := Ideal) x0 x1 : FVec Ideal Cert.Reference10Ideal.S8192x10752 .bf16) (ix2 r l) = prod x0 x1 r l := by
  pointwise [Cert.Reference10Ideal.Read.val_main_v4, Cert.Reference10Ideal.Read.val_main_v3, Cert.Reference10Ideal.Read.val_main_v2, Cert.Reference10Ideal.Read.val_main_v1, Cert.Reference10Ideal.Read.val_main_v0]
  rfl

/-- The kernel's array is the reference's. -/
theorem algebraic : Cert.algebraic_Kernel10Ideal_Reference10Ideal (hKernel10Ideal := Cert.Kernel10Ideal.Gen.facts) (hReference10Ideal := Cert.Reference10Ideal.Gen.facts) := by
  intro m g m' g' hpre hagree
  refine ⟨fun c => (Kernel10Ideal.Gen.dats m 0 c).arrAt 2 Kernel10Ideal.cfg0.N, Kernel10Ideal.Value.run_blocks m g, ?_⟩
  refine (θ_run Reference10Ideal.defs _ _).mono (fun r h c => ?_) (Reference10Ideal.Value.run (F := Ideal) m' g')
  obtain ⟨e0, k⟩ := h c
  obtain ⟨a0, a1⟩ := hagree c
  refine ⟨e0.trans ?_, k⟩
  rw [Reference10Ideal.Read.val_main_v4_eq]
  refine Eq.trans ?_ (final m c).symm
  funext i
  idx_vars i
  refine (ref _ _ i0 i1).trans ?_
  rw [a0, a1]

end Cert.Ffn.InProj

end
-- ==== Proof.Ffn.Down.lean ====
module

public import proofs.«01_k».proof.Defs
public import proofs.«01_k».proof.Proof.Gen.Kernel11Ideal.Value
public import proofs.«01_k».proof.Proof.Gen.Reference11Ideal.Run
public import proofs.«01_k».proof.Proof.Gen.Reference11Ideal.Read
public import proofs.«01_k».proof.Proof.Ffn.Common
public import Idealize.ShloMosaic.Lib.Pipeline.ValueKit

@[expose] public section

set_option maxRecDepth 16384

noncomputable section

/-! # The product with `w_d`, halved and added to the residual

Each of eight blocks of 1024 rows is taken in one piece. The kernel halves on the right and adds the residual last, the reference the other way round. -/

namespace Cert.Ffn.Down

open Cert.Kernel11Ideal Cert.Kernel11Ideal.Gen Idealize.ShloMosaic Idealize.ShloMosaic.TcCoe Idealize.SL.Sem

/-- The residual plus half a product, at a row and a column. -/
def step (x : FVec Ideal S8192x2816 .bf16) (w : FVec Ideal S2816x1024 .bf16) (h : FVec Ideal S8192x1024 .f32) (r : Fin 8192) (l : Fin 1024) : EReal :=
  (∑ k : Fin 2816, (x (ix2 r k) : EReal) * w (ix2 k l)) * Ideal.ofBits .f32 0x3F000000#32 + h (ix2 r l)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] ∧ win0_3.index t = ![t.val, 0] := by decide +kernel

/-- What the body stores. -/
theorem tile (x : FVec Ideal S1024x2816 .bf16) (w : FVec Ideal S2816x1024 .bf16) (h : FVec Ideal S1024x1024 .f32) (r l : Fin 1024) :
    (k0_pay1 x w h : FVec Ideal S1024x1024 .f32) (ix2 r l)
      = (∑ k : Fin 2816, (x (ix2 r k) : EReal) * w (ix2 k l)) * Ideal.ofBits .f32 0x3F000000#32 + h (ix2 r l) := by
  unfold k0_pay1
  pointwise []

/-- The array after the run. -/
theorem final (c : Dev nD) : (dats m 0 c).arrAt 3 cfg0.N
    = fun i : S8192x1024.Idx => step (m ((c : Thread nD τ).loc main_arg0)) (m ((c : Thread nD τ).loc main_arg1)) (m ((c : Thread nD τ).loc main_arg2)) (i 0) (i 1) := by
  refine (dats m 0 c).arrAt_eq_of_covers 3 _ (by decide +kernel) fun t hf y => ?_
  blk_simp
  rw [after0_3]
  frame_out
  idx_vars y
  refine (tile (iblk m c 0 t) (iblk m c 1 t) (iblk m c 2 t) y0 y1).trans (congrArg₂ (fun a b : EReal => a * Ideal.ofBits .f32 0x3F000000#32 + b)
    (Finset.sum_congr (M := EReal) rfl fun k _ => congrArg₂ (fun a b : EReal => a * b) ?_ ?_) ?_)
  · blk_ext! [iblk, V, idx t]
  · blk_ext! [iblk, V, idx t]
  · blk_ext! [iblk, V, idx t]

/-- The reference's array. -/
theorem ref (x0 : FVec Ideal Cert.Reference11Ideal.S8192x2816 .bf16) (x1 : FVec Ideal Cert.Reference11Ideal.S2816x1024 .bf16)
    (x2 : FVec Ideal Cert.Reference11Ideal.S8192x1024 .f32) (r : Fin 8192) (l : Fin 1024) :
    (Cert.Reference11Ideal.Read.val_main_v5 (F := Ideal) x0 x1 x2 : FVec Ideal Cert.Reference11Ideal.S8192x1024 .f32) (ix2 r l) = step x0 x1 x2 r l := by
  pointwise [Cert.Reference11Ideal.Read.val_main_v5, Cert.Reference11Ideal.Read.val_main_v4, Cert.Reference11Ideal.Read.val_main_v3, Cert.Reference11Ideal.Read.val_main_cst, Cert.Reference11Ideal.Read.val_main_v2, Cert.Reference11Ideal.Read.val_main_v1, Cert.Reference11Ideal.Read.val_main_v0]
  unfold step
  rw [add_comm, mul_comm]

/-- The kernel's array is the reference's. -/
theorem algebraic : Cert.algebraic_Kernel11Ideal_Reference11Ideal (hKernel11Ideal := Cert.Kernel11Ideal.Gen.facts) (hReference11Ideal := Cert.Reference11Ideal.Gen.facts) := by
  intro m g m' g' hpre hagree
  refine ⟨fun c => (Kernel11Ideal.Gen.dats m 0 c).arrAt 3 Kernel11Ideal.cfg0.N, Kernel11Ideal.Value.run_blocks m g, ?_⟩
  refine (θ_run Reference11Ideal.defs _ _).mono (fun r h c => ?_) (Reference11Ideal.Value.run (F := Ideal) m' g')
  obtain ⟨e0, k⟩ := h c
  obtain ⟨a0, a1, a2⟩ := hagree c
  refine ⟨e0.trans ?_, k⟩
  rw [Reference11Ideal.Read.val_main_v5_eq]
  refine Eq.trans ?_ (final m c).symm
  funext i
  idx_vars i
  refine (ref _ _ _ i0 i1).trans ?_
  rw [a0, a1, a2]

end Cert.Ffn.Down

end
-- ==== Proof.Ffn.Norm.lean ====
module

public import proofs.«01_k».proof.Proof.Ffn.Common

@[expose] public section

noncomputable section

/-! # The gradient of the root mean square norm

The kernels write the gradient along a row as `r · (d − x r · mean (d · x r))` with `r` the reciprocal root of the mean square;
jax's derivative goes through the reciprocal root's own derivative and adds half of the second term twice. The two agree for
every row, infinite numbers or not: a row with an infinite entry has `r = 0`, and in any other row `r` is a positive real
number, which goes through sums. -/

namespace Cert.Ffn

open Idealize.ShloMosaic

/-- The bits that name 1024, the length of a row. -/
theorem len_bits : Ideal.ofBits .f32 0x44800000#32 = ((1024 : ℝ) : EReal) := by
  simp [Ideal.ofBits, Ideal.ieee]
  exact_mod_cast (by norm_num : (8388608 : ℝ) * ((2 : ℝ) ^ 13)⁻¹ = 1024)

/-- The bits that name minus a half. -/
theorem neg_half_bits : Ideal.ofBits .f32 0xBF000000#32 = ((-(1 / 2) : ℝ) : EReal) := by
  simp [Ideal.ofBits, Ideal.ieee]
  exact_mod_cast (by norm_num : (8388608 : ℝ) * ((2 : ℝ) ^ 24)⁻¹ = 2⁻¹)

/-- The small number under the root is a positive real. -/
theorem small_bits : ∃ e : ℝ, 0 < e ∧ Ideal.ofBits .f32 0x358637BD#32 = (e : EReal) := by
  refine ⟨(8796093 : ℝ) * ((2 : ℝ) ^ 43)⁻¹, by positivity, ?_⟩
  simp [Ideal.ofBits, Ideal.ieee]

/-- A row of an array. -/
def row {M N : Nat} (x : FVec Ideal ⟨2, ![M, N]⟩ .f32) (r : Fin M) (l : Fin N) : EReal := x (ix2 r l)

/-- The mean square of a row, and the small number. -/
def meanSq (x : Fin 1024 → EReal) : EReal :=
  Ideal.div (∑ k, x k * x k) (Ideal.ofBits .f32 0x44800000#32) + Ideal.ofBits .f32 0x358637BD#32

/-- The reciprocal root of the mean square. -/
def inv (x : Fin 1024 → EReal) : EReal := Ideal.rsqrt (meanSq x)

/-- The norm's gradient as the kernels write it: row `x`, gains `g`, gradient `y` of the normed row. -/
def back (x g y : Fin 1024 → EReal) (l : Fin 1024) : EReal :=
  inv x * (y l * g l - x l * inv x * Ideal.div (∑ k, y k * g k * (x k * inv x)) (Ideal.ofBits .f32 0x44800000#32))

/-- The factor of the row in jax's derivative: what comes back through the reciprocal root. -/
def slope (x g y : Fin 1024 → EReal) : EReal :=
  Ideal.div ((∑ k, x k * (y k * g k)) * (Ideal.ofBits .f32 0xBF000000#32 * Ideal.div (inv x) (meanSq x))) (Ideal.ofBits .f32 0x44800000#32)

/-- A row's share of the gradient of the gains. -/
def gain (x y : Fin 1024 → EReal) (l : Fin 1024) : EReal := y l * (x l * inv x)

/-- A square is nonnegative. -/
theorem sq_nonneg' (a : EReal) : 0 ≤ a * a := by
  induction a with
  | bot => simp
  | top => simp
  | coe r => exact_mod_cast mul_self_nonneg r

/-- An infinite entry makes the sum of squares infinite. -/
theorem sum_sq_top (x : Fin 1024 → EReal) (k : Fin 1024) (h : x k * x k = ⊤) : ∑ k, x k * x k = ⊤ := by
  refine top_le_iff.1 (h ▸ ?_)
  exact Finset.single_le_sum (f := fun k => x k * x k) (fun i _ => sq_nonneg' (x i)) (Finset.mem_univ k)

/-- A division by a positive real number. -/
theorem div_coe (a : EReal) (c : ℝ) (hc : 0 < c) : Ideal.div a c = a * ((c⁻¹ : ℝ) : EReal) := by
  rw [Ideal.div, if_neg (by exact_mod_cast hc.ne'), EReal.coe_inv]

/-- Minus half of a product twice is minus the product. -/
theorem half_twice (c : ℝ) (s : EReal) : ((-(1 / 2) * c : ℝ) : EReal) * s + ((-(1 / 2) * c : ℝ) : EReal) * s = -((c : EReal) * s) := by
  rcases lt_trichotomy c 0 with hc | rfl | hc
  · have h2 : 0 < -(1 / 2) * c := by linarith
    induction s with
    | bot => rw [EReal.coe_mul_bot_of_pos h2, EReal.coe_mul_bot_of_neg hc]; rfl
    | top => rw [EReal.coe_mul_top_of_pos h2, EReal.coe_mul_top_of_neg hc]; rfl
    | coe s => norm_cast; ring
  · simp
  · have h2 : -(1 / 2) * c < 0 := by linarith
    induction s with
    | bot => rw [EReal.coe_mul_bot_of_neg h2, EReal.coe_mul_bot_of_pos hc]; rfl
    | top => rw [EReal.coe_mul_top_of_neg h2, EReal.coe_mul_top_of_pos hc]; rfl
    | coe s => norm_cast; ring

/-- A row with an infinite entry has the reciprocal root nought, and nothing goes back through it. -/
theorem inv_zero (x : Fin 1024 → EReal) (k : Fin 1024) (h : x k = ⊤ ∨ x k = ⊥) : inv x = 0 ∧ Ideal.div (inv x) (meanSq x) = 0 := by
  have hs : ∑ k, x k * x k = ⊤ := sum_sq_top x k (by rcases h with h | h <;> rw [h] <;> simp)
  obtain ⟨e, he, hb⟩ := small_bits
  have hm : meanSq x = ⊤ := by
    rw [meanSq, hs, len_bits, div_coe _ _ (by norm_num), hb, EReal.top_mul_coe_of_pos (by norm_num)]
    exact EReal.top_add_coe e
  have hi : inv x = 0 := by rw [inv, hm, Ideal.rsqrt_top]
  refine ⟨hi, ?_⟩
  rw [hi, hm, Ideal.div, if_neg (by simp), zero_mul]

/-- In any other row the reciprocal root is a positive real number, its square the reciprocal of the mean square. -/
theorem inv_real (x : Fin 1024 → EReal) (p : Fin 1024 → ℝ) (hx : ∀ k, x k = p k) :
    ∃ r : ℝ, 0 < r ∧ inv x = r ∧ Ideal.div (inv x) (meanSq x) = ((r * (r * r) : ℝ) : EReal) := by
  obtain ⟨e, he, hb⟩ := small_bits
  have hv : 0 < (∑ k, p k * p k) * (1024 : ℝ)⁻¹ + e := add_pos_of_nonneg_of_pos (mul_nonneg (Finset.sum_nonneg fun k _ => mul_self_nonneg (p k)) (by norm_num)) he
  have hm : meanSq x = (((∑ k, p k * p k) * (1024 : ℝ)⁻¹ + e : ℝ) : EReal) := by
    rw [meanSq, len_bits, div_coe _ _ (by norm_num), hb, EReal.coe_add, EReal.coe_mul, coe_sum]
    simp only [hx, EReal.coe_mul]
  generalize (∑ k, p k * p k) * (1024 : ℝ)⁻¹ + e = v at hv hm
  have hi : inv x = (((Real.sqrt v)⁻¹ : ℝ) : EReal) := by
    rw [inv, hm, Ideal.rsqrt_coe, if_neg hv.not_gt, if_neg hv.ne']
  refine ⟨(Real.sqrt v)⁻¹, inv_pos.2 (Real.sqrt_pos.2 hv), hi, ?_⟩
  rw [hi, hm, div_coe _ _ hv, ← EReal.coe_mul, ← mul_inv (Real.sqrt v) (Real.sqrt v), Real.mul_self_sqrt hv.le]

/-- The two spellings of the norm's gradient, added to what comes back past the norm. -/
theorem back_eq (D : EReal) (x g y : Fin 1024 → EReal) (l : Fin 1024) :
    D + y l * g l * inv x + x l * slope x g y + slope x g y * x l = D + back x g y l := by
  by_cases h : ∃ k, x k = ⊤ ∨ x k = ⊥
  · obtain ⟨k, hk⟩ := h
    obtain ⟨h1, h2⟩ := inv_zero x k hk
    have hs : slope x g y = 0 := by rw [slope, h2, mul_zero, mul_zero, len_bits, div_coe _ _ (by norm_num), zero_mul]
    rw [back, hs, h1]
    simp
  · have hr : ∀ k, ∃ p : ℝ, x k = p := fun k => by
      have hk : ¬(x k = ⊤ ∨ x k = ⊥) := fun hk => h ⟨k, hk⟩
      generalize x k = a at hk
      induction a with
      | bot => simp at hk
      | top => simp at hk
      | coe r => exact ⟨r, rfl⟩
    choose p hp using hr
    obtain ⟨r, hr0, hi, hd⟩ := inv_real x p hp
    have hS : ∑ k, y k * g k * (x k * inv x) = (r : EReal) * ∑ k, x k * (y k * g k) := by
      rw [mul_sum_pos r hr0, hi]
      exact Finset.sum_congr (M := EReal) rfl fun k _ => by rw [mul_comm (y k * g k), mul_comm (x k) (r : EReal), mul_assoc]
    have hs : slope x g y = ((-(1 / 2) * (r * (r * r) * (1024 : ℝ)⁻¹) : ℝ) : EReal) * ∑ k, x k * (y k * g k) := by
      rw [slope, hd, neg_half_bits, len_bits, div_coe _ _ (by norm_num), ← EReal.coe_mul, mul_assoc, ← EReal.coe_mul, mul_comm]
      congr 2
      ring
    have hx : x l * slope x g y = ((-(1 / 2) * (p l * (r * (r * r) * (1024 : ℝ)⁻¹)) : ℝ) : EReal) * ∑ k, x k * (y k * g k) := by
      rw [hs, hp l, ← mul_assoc, ← EReal.coe_mul]
      congr 2
      ring
    have hb : (r : EReal) * (x l * inv x * Ideal.div ((r : EReal) * ∑ k, x k * (y k * g k)) (Ideal.ofBits .f32 0x44800000#32))
        = ((p l * (r * (r * r) * (1024 : ℝ)⁻¹) : ℝ) : EReal) * ∑ k, x k * (y k * g k) := by
      rw [hi, hp l, len_bits, div_coe _ _ (by norm_num), mul_comm ((r : EReal) * ∑ k, x k * (y k * g k)), ← mul_assoc _ (r : EReal) _, ← mul_assoc, ← mul_assoc]
      simp only [← EReal.coe_mul]
      congr 2
      ring
    rw [mul_comm (slope x g y), hx, add_assoc, half_twice, back, hS, sub_eq_add_neg, hi, EReal.left_distrib_of_nonneg_of_ne_top (EReal.coe_nonneg.2 hr0.le) (EReal.coe_ne_top r),
      mul_neg, ← hi, hi]
    rw [hi] at hb
    rw [hb, add_assoc, mul_comm (r : EReal) (y l * g l)]

end Cert.Ffn

end
-- ==== Proof.Ffn.NormUp.lean ====
module

public import proofs.«01_k».proof.Defs
public import proofs.«01_k».proof.Proof.Gen.Kernel3Ideal.Value
public import proofs.«01_k».proof.Proof.Gen.Reference3Ideal.Run
public import proofs.«01_k».proof.Proof.Gen.Reference3Ideal.Read
public import proofs.«01_k».proof.Proof.Ffn.Norm
public import Idealize.ShloMosaic.Lib.Pipeline.ValueKit
public import Idealize.ShloMosaic.Lib.Pipeline.ReadBack

@[expose] public section

set_option maxRecDepth 16384

noncomputable section

/-! # The gradient of the norm and of the product with `w_up` behind it

Each block of rows of the product with `w_up` is added to what came through `w_gate`; the sum is the gradient of the normed rows, and
goes through the norm at once. The gradient of the norm's gains is a sum over all rows: sixteen blocks of them, kept from one point of
the grid to the next, in eight equal rows. -/

namespace Cert.Ffn.NormUp

open Cert.Kernel3Ideal Cert.Kernel3Ideal.Gen Idealize.ShloMosaic Idealize.ShloMosaic.TcCoe Idealize.SL.Sem

/-- The gradient of the normed rows. -/
def dn {M : Nat} (dup : FVec Ideal ⟨2, ![M, 2816]⟩ .bf16) (w : FVec Ideal ⟨2, ![2816, 1024]⟩ .bf16) (d : FVec Ideal ⟨2, ![M, 1024]⟩ .f32) (r : Fin M) (l : Fin 1024) : EReal :=
  (∑ k : Fin 2816, (dup (ix2 r k) : EReal) * w (ix2 k l)) + d (ix2 r l)

section Block

variable (x0 : FVec Ideal S512x2816 .bf16) (x1 : FVec Ideal S2816x1024 .bf16) (x2 x3 x4 : FVec Ideal S512x1024 .f32) (x5 : FVec Ideal S1x1024 .f32)

/-- The gradient of the normed rows, in the block. -/
theorem pay4 (r : Fin 512) (l : Fin 1024) : (k0_pay4 x0 x1 x2 : FVec Ideal S512x1024 .f32) (ix2 r l) = dn x0 x1 x2 r l := by
  unfold k0_pay4 dn
  pointwise []

/-- The reciprocal root. -/
theorem pay5 (r : Fin 512) : (k0_pay5 x4 : FVec Ideal S512x1 .f32) (ix2 r (0 : Fin 1)) = inv (row x4 r) := by
  unfold k0_pay5
  pointwise []
  rfl

/-- The rows without their gains. -/
theorem pay6 (r : Fin 512) (l : Fin 1024) : (k0_pay6 x4 : FVec Ideal S512x1024 .f32) (ix2 r l) = row x4 r l * inv (row x4 r) := by
  unfold k0_pay6
  pointwise []
  rw [pay5]
  rfl

/-- The gradient through the norm. -/
theorem pay7 (r : Fin 512) (l : Fin 1024) : (k0_pay7 x0 x1 x2 x4 x5 : FVec Ideal S512x1024 .f32) (ix2 r l) = back (row x4 r) (row x5 0) (dn x0 x1 x2 r) l := by
  unfold k0_pay7
  pointwise []
  simp only [pay4, pay5, pay6]
  rfl

/-- The block's share of the gains' gradient. -/
theorem pay8 (l : Fin 1024) : (k0_pay8 x0 x1 x2 x4 : FVec Ideal S1x1024 .f32) (ix2 (0 : Fin 1) l) = ∑ r : Fin 512, gain (row x4 r) (dn x0 x1 x2 r) l := by
  unfold k0_pay8
  pointwise []
  simp only [pay4, pay6]
  rfl

/-- What is stored of the rows. -/
theorem pay1 (r : Fin 512) (l : Fin 1024) : (k0_pay1 x3 (k0_pay7 x0 x1 x2 x4 x5) : FVec Ideal S512x1024 .f32) (ix2 r l)
    = (x3 (ix2 r l) : EReal) + back (row x4 r) (row x5 0) (dn x0 x1 x2 r) l := by
  unfold k0_pay1
  pointwise []
  rw [pay7]

/-- What is stored of the gains. -/
theorem pay2 (a : FVec Ideal S8x1024 .f32) (r : Fin 8) (l : Fin 1024) : (k0_pay2 (k0_pay8 x0 x1 x2 x4) a : FVec Ideal S8x1024 .f32) (ix2 r l)
    = (a (ix2 r l) : EReal) + ∑ r : Fin 512, gain (row x4 r) (dn x0 x1 x2 r) l := by
  unfold k0_pay2
  pointwise []
  rw [pay8]

/-- The gains start from nought. -/
theorem pay3 (r : Fin 8) (l : Fin 1024) : (k0_pay3 : FVec Ideal S8x1024 .f32) (ix2 r l) = (0 : EReal) := by
  unfold k0_pay3
  pointwise []

end Block

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![0, 0] ∧ win0_6.index t = ![t.val, 0] ∧ win0_7.index t = ![0, 0] := by decide +kernel

/-- What a point leaves of the first output: the gradient of its rows. -/
theorem rows (c : Dev nD) (t : Fin cfg0.N) (r : Fin 512) (l : Fin 1024) : ((outsAt0 m c t.val t.isLt).1 (ix2 r l) : EReal)
    = row (iblk m c 3 t : FVec Ideal S512x1024 .f32) r l
      + back (row (iblk m c 4 t : FVec Ideal S512x1024 .f32) r) (row (iblk m c 5 t : FVec Ideal S1x1024 .f32) 0)
          (dn (M := 512) (iblk m c 0 t) (iblk m c 1 t) (iblk m c 2 t) r) l := by
  by_cases h : t.val % 16 = 0
  · rw [outsAt0_A m c t h]
    frame_out
    exact pay1 (iblk m c 0 t) (iblk m c 1 t) (iblk m c 2 t) (iblk m c 3 t) (iblk m c 4 t) (iblk m c 5 t) r l
  · rw [outsAt0_B m c t h]
    frame_out
    exact pay1 (iblk m c 0 t) (iblk m c 1 t) (iblk m c 2 t) (iblk m c 3 t) (iblk m c 4 t) (iblk m c 5 t) r l

/-- The share of point `t`'s rows in the gradient of the gains. -/
abbrev term (c : Dev nD) (t : Fin cfg0.N) (j : S8x1024.Idx) : EReal :=
  ∑ r : Fin 512, gain (row (iblk m c 4 t : FVec Ideal S512x1024 .f32) r) (dn (M := 512) (iblk m c 0 t) (iblk m c 1 t) (iblk m c 2 t) r) (j 1 : Fin 1024)

/-- At the last point the gains' gradient is the sixteen blocks'. -/
theorem gains (c : Dev nD) (t : Fin cfg0.N) (h : t.val % 16 = 15) (j : S8x1024.Idx) :
    ((outsAt0 m c t.val t.isLt).2 j : EReal) = 0 + ∑ s : Fin 16, term m c ⟨16 * (t.val / 16) + s.val, Pipeline.run_point_lt_of_flush t h s⟩ j := by
  refine Pipeline.eq_sum_fin_of_reset_step_apply_of_flush (fun n hn j => ((outsAt0 m c n hn).2 j : EReal)) 16 (fun _ => 0) (term m c) (fun t h i => ?_) (fun t h i => ?_) t h j
  · idx_vars i
    show ((outsAt0 m c t.val t.isLt).2 (ix2 i0 i1) : EReal) = _
    rw [outsAt0_A m c t h]
    frame_out
    refine (pay2 (iblk m c 0 t) (iblk m c 1 t) (iblk m c 2 t) (iblk m c 4 t) _ i0 i1).trans ?_
    rw [pay3]
    rfl
  · idx_vars i
    show ((outsAt0 m c t.val t.isLt).2 (ix2 i0 i1) : EReal) = _
    rw [outsAt0_B m c t h]
    frame_out
    exact pay2 (iblk m c 0 t) (iblk m c 1 t) (iblk m c 2 t) (iblk m c 4 t) _ i0 i1

/-- A row's gradient, from the arrays. -/
def dx (a0 : FVec Ideal S8192x2816 .bf16) (a1 : FVec Ideal S2816x1024 .bf16) (a2 a3 a4 : FVec Ideal S8192x1024 .f32) (a5 : FVec Ideal S1x1024 .f32) (r : Fin 8192) (l : Fin 1024) : EReal :=
  (a3 (ix2 r l) : EReal) + back (row a4 r) (row a5 0) (dn a0 a1 a2 r) l

/-- The gains' gradient, from the arrays. -/
def dg (a0 : FVec Ideal S8192x2816 .bf16) (a1 : FVec Ideal S2816x1024 .bf16) (a2 a4 : FVec Ideal S8192x1024 .f32) (l : Fin 1024) : EReal :=
  ∑ r : Fin 8192, gain (row a4 r) (dn a0 a1 a2 r) l

/-- A row of the normed array's block is a row of the array. -/
theorem row4 (c : Dev nD) (t : Fin cfg0.N) (r : Fin 512) (r' : Fin 8192) (h : r'.val = t.val * 512 + r.val) :
    row (iblk m c 4 t : FVec Ideal S512x1024 .f32) r = row (m ((c : Thread nD τ).loc main_arg4) : FVec Ideal S8192x1024 .f32) r' := by
  funext l
  unfold row
  blk_ext! [iblk, V, idx t]

/-- A row of the block of what comes back past the norm is a row of it. -/
theorem row3 (c : Dev nD) (t : Fin cfg0.N) (r : Fin 512) (r' : Fin 8192) (h : r'.val = t.val * 512 + r.val) :
    row (iblk m c 3 t : FVec Ideal S512x1024 .f32) r = row (m ((c : Thread nD τ).loc main_arg3) : FVec Ideal S8192x1024 .f32) r' := by
  funext l
  unfold row
  blk_ext! [iblk, V, idx t]

/-- The gains' block is the gains. -/
theorem row5 (c : Dev nD) (t : Fin cfg0.N) :
    row (iblk m c 5 t : FVec Ideal S1x1024 .f32) 0 = row (m ((c : Thread nD τ).loc main_arg5) : FVec Ideal S1x1024 .f32) 0 := by
  funext l
  unfold row
  blk_ext! [iblk, V, idx t]

/-- A row of the block of the normed rows' gradient is a row of it. -/
theorem dnB (c : Dev nD) (t : Fin cfg0.N) (r : Fin 512) (r' : Fin 8192) (h : r'.val = t.val * 512 + r.val) :
    dn (M := 512) (iblk m c 0 t) (iblk m c 1 t) (iblk m c 2 t) r
      = dn (M := 8192) (m ((c : Thread nD τ).loc main_arg0)) (m ((c : Thread nD τ).loc main_arg1)) (m ((c : Thread nD τ).loc main_arg2)) r' := by
  funext l
  refine congrArg₂ (fun a b : EReal => a + b) (Finset.sum_congr (M := EReal) rfl fun k _ => congrArg₂ (fun a b : EReal => a * b) ?_ ?_) ?_
  · blk_ext! [iblk, V, idx t]
  · blk_ext! [iblk, V, idx t]
  · blk_ext! [iblk, V, idx t]

/-- The first array after the run. -/
theorem final6 (c : Dev nD) : (dats m 0 c).arrAt 6 cfg0.N
    = fun i : S8192x1024.Idx => dx (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (i 0) (i 1) := by
  refine (dats m 0 c).arrAt_eq_of_covers 6 _ (by decide +kernel) fun t hf y => ?_
  blk_simp
  rw [after0_6]
  idx_vars y
  have ht : t.val < 16 := lt_of_lt_of_eq t.isLt N_0
  refine (rows m c t y0 y1).trans (Eq.trans (b := dx (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) ⟨t.val * 512 + y0.val, by omega⟩ y1) ?_
    (congrArg₂ (dx _ _ _ _ _ _) (Fin.ext ?_) (Fin.ext ?_)))
  · rw [row3 m c t y0 ⟨t.val * 512 + y0.val, by omega⟩ rfl, row4 m c t y0 ⟨t.val * 512 + y0.val, by omega⟩ rfl, dnB m c t y0 ⟨t.val * 512 + y0.val, by omega⟩ rfl, row5 m c t]
    rfl
  · blk_simp [idx t]
  · blk_simp [idx t]

/-- The second array after the run. -/
theorem final7 (c : Dev nD) : (dats m 0 c).arrAt 7 cfg0.N
    = fun i : S8x1024.Idx => dg (m ((c : Thread nD τ).loc main_arg0)) (m ((c : Thread nD τ).loc main_arg1)) (m ((c : Thread nD τ).loc main_arg2))
        (m ((c : Thread nD τ).loc main_arg4)) (i 1) := by
  refine (dats m 0 c).arrAt_eq_of_covers 7 _ (by decide +kernel) fun t hf y => ?_
  have h15 : t.val % 16 = 15 := (flush0_7 t).mp hf
  have ht : t.val < 16 := lt_of_lt_of_eq t.isLt N_0
  blk_simp
  rw [after0_7]
  idx_vars y
  refine (gains m c t h15 (ix2 y0 y1)).trans ((zero_add _).trans (Eq.trans (b := dg (m ((c : Thread nD τ).loc main_arg0)) (m ((c : Thread nD τ).loc main_arg1))
    (m ((c : Thread nD τ).loc main_arg2)) (m ((c : Thread nD τ).loc main_arg4)) y1) ?_ (congrArg (dg _ _ _ _) (Fin.ext ?_))))
  rotate_left
  · blk_simp [idx t]
  refine Fin.sum_mul_add_congr (M := EReal) (S := 16) (n := 512) (fun s k hl => ?_) rfl
  rw [row4 m c _ k ⟨s.val * 512 + k.val, hl⟩ (by dsimp only; omega), dnB m c _ k ⟨s.val * 512 + k.val, hl⟩ (by dsimp only; omega)]
  rfl

section Reference

open Cert.Reference3Ideal.Read

variable (x0 : FVec Ideal S8192x2816 .bf16) (x1 : FVec Ideal S2816x1024 .bf16) (x2 x3 x4 : FVec Ideal S8192x1024 .f32) (x5 : FVec Ideal S1x1024 .f32)
  (r : Fin 8192) (l : Fin 1024)

/-- The reference's mean square. -/
theorem ref8 : (val_main_v8 (F := Ideal) x4 : FVec Ideal Cert.Reference3Ideal.S8192x1 .f32) (ix2 r (0 : Fin 1)) = meanSq (row x4 r) := by
  pointwise [val_main_v8, val_main_v7, val_main_v6, val_main_v5, val_main_v4, val_main_v3, val_main_v2, val_main_cst, val_main_cst_0, val_main_cst_1]
  rfl

/-- The reference's reciprocal root. -/
theorem ref9 : (val_main_v9 (F := Ideal) x4 : FVec Ideal Cert.Reference3Ideal.S8192x1 .f32) (ix2 r (0 : Fin 1)) = inv (row x4 r) := by
  pointwise [val_main_v9]
  rw [ref8]
  rfl

/-- The reciprocal root's derivative. -/
theorem ref12 : (val_main_v12 (F := Ideal) x4 : FVec Ideal Cert.Reference3Ideal.S8192x1 .f32) (ix2 r (0 : Fin 1))
    = Ideal.ofBits .f32 0xBF000000#32 * Ideal.div (inv (row x4 r)) (meanSq (row x4 r)) := by
  pointwise [val_main_v12, val_main_v11, val_main_v10, val_main_cst_2]
  rw [ref8, ref9]

/-- The rows without their gains, in the reference. -/
theorem ref14 : (val_main_v14 (F := Ideal) x4 : FVec Ideal Cert.Reference3Ideal.S8192x1024 .f32) (ix2 r l) = row x4 r l * inv (row x4 r) := by
  pointwise [val_main_v14, val_main_v13]
  rw [ref9]
  rfl

/-- The gradient of the normed rows, in the reference. -/
theorem ref20 : (val_main_v20 (F := Ideal) x0 x1 x2 : FVec Ideal Cert.Reference3Ideal.S8192x1024 .f32) (ix2 r l) = dn x0 x1 x2 r l := by
  pointwise [val_main_v20, val_main_v19, val_main_v18, val_main_v1, val_main_v0]
  rw [add_comm]
  rfl

/-- The same times the gains. -/
theorem ref25 : (val_main_v25 (F := Ideal) x0 x1 x2 x5 : FVec Ideal Cert.Reference3Ideal.S8192x1024 .f32) (ix2 r l) = dn x0 x1 x2 r l * row x5 0 l := by
  pointwise [val_main_v25, val_main_v24]
  rw [ref20]
  rfl

/-- The sum along a row that goes back through the reciprocal root. -/
theorem ref28 : (val_main_v28 (F := Ideal) x0 x1 x2 x4 x5 : FVec Ideal Cert.Reference3Ideal.S8192x1 .f32) (ix2 r (0 : Fin 1))
    = ∑ k, row x4 r k * (dn x0 x1 x2 r k * row x5 0 k) := by
  pointwise [val_main_v28, val_main_v27, val_main_v26, val_main_cst_4]
  simp only [ref25]
  rfl

/-- What goes back through the reciprocal root, for a row. -/
theorem ref34 : (val_main_v34 (F := Ideal) x0 x1 x2 x4 x5 : FVec Ideal Cert.Reference3Ideal.S8192x1 .f32) (ix2 r (0 : Fin 1))
    = slope (row x4 r) (row x5 0) (dn x0 x1 x2 r) := by
  pointwise [val_main_v34, val_main_v33, val_main_v32, val_main_cst_5]
  rw [ref28, ref12]
  rfl

/-- The same at each entry of the row. -/
theorem ref36 : (val_main_v36 (F := Ideal) x0 x1 x2 x4 x5 : FVec Ideal Cert.Reference3Ideal.S8192x1024 .f32) (ix2 r l)
    = slope (row x4 r) (row x5 0) (dn x0 x1 x2 r) := by
  pointwise [val_main_v36, val_main_v35, val_main_cst_6]
  rw [Fin.sum_univ_one]
  exact ref34 x0 x1 x2 x4 x5 r

/-- The reference's first result. -/
theorem ref40 : (val_main_v40 (F := Ideal) x0 x1 x2 x3 x4 x5 : FVec Ideal Cert.Reference3Ideal.S8192x1024 .f32) (ix2 r l) = dx x0 x1 x2 x3 x4 x5 r l := by
  refine Eq.trans ?_ (back_eq (x3 (ix2 r l)) (row x4 r) (row x5 0) (dn x0 x1 x2 r) l)
  pointwise [val_main_v40, val_main_v39, val_main_v38, val_main_v37, val_main_v31, val_main_v30, val_main_v29]
  rw [ref36, ref25, ref9]
  rfl

/-- The reference's second result. -/
theorem ref41 (s : Fin 8) : (val_main_v41 (F := Ideal) x0 x1 x2 x4 : FVec Ideal Cert.Reference3Ideal.S8x1024 .f32) (ix2 s l) = dg x0 x1 x2 x4 l := by
  pointwise [val_main_v41, val_main_v23, val_main_v22, val_main_v21, val_main_cst_3]
  simp only [ref14, ref20]
  exact Finset.sum_congr (M := EReal) rfl fun k _ => mul_comm (G := EReal) _ _

end Reference

/-- The kernel's two arrays are the reference's. -/
theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => (Kernel3Ideal.Gen.dats m 0 c).arrAt 6 Kernel3Ideal.cfg0.N, fun c => (Kernel3Ideal.Gen.dats m 0 c).arrAt 7 Kernel3Ideal.cfg0.N,
    Kernel3Ideal.Value.run_blocks m g, ?_⟩
  refine (θ_run Reference3Ideal.defs _ _).mono (fun r h c => ?_) (Reference3Ideal.Value.run (F := Ideal) m' g')
  obtain ⟨e0, e1, k⟩ := h c
  obtain ⟨a0, a1, a2, a3, a4, a5⟩ := hagree c
  refine ⟨e0.trans ?_, e1.trans ?_, k⟩
  · rw [Reference3Ideal.Read.val_main_v40_eq]
    refine Eq.trans ?_ (final6 m c).symm
    funext i
    idx_vars i
    refine (ref40 _ _ _ _ _ _ i0 i1).trans ?_
    rw [a0, a1, a2, a3, a4, a5]
  · rw [Reference3Ideal.Read.val_main_v41_eq]
    refine Eq.trans ?_ (final7 m c).symm
    funext i
    idx_vars i
    refine (ref41 _ _ _ _ i1 i0).trans ?_
    rw [a0, a1, a2, a4]

end Cert.Ffn.NormUp

end
-- ==== Proof.Ffn.NormIn.lean ====
module

public import proofs.«01_k».proof.Defs
public import proofs.«01_k».proof.Proof.Gen.Kernel4Ideal.Value
public import proofs.«01_k».proof.Proof.Gen.Reference4Ideal.Run
public import proofs.«01_k».proof.Proof.Gen.Reference4Ideal.Read
public import proofs.«01_k».proof.Proof.Ffn.Norm
public import Idealize.ShloMosaic.Lib.Pipeline.ValueKit
public import Idealize.ShloMosaic.Lib.Pipeline.ReadBack

@[expose] public section

set_option maxRecDepth 16384

noncomputable section

/-! # The gradient of the norm before the projection and of the product with `w_in` behind it

The product with `w_in` is summed over six blocks of columns, kept from one point of the grid to the next; at the sixth the sum goes
through the norm. The gradient of the norm's gains is a sum over all rows: eight blocks of them, added one by one where a block of rows
is done, in eight equal rows. -/

namespace Cert.Ffn.NormIn

open Cert.Kernel4Ideal Cert.Kernel4Ideal.Gen Idealize.ShloMosaic Idealize.ShloMosaic.TcCoe Idealize.SL.Sem

/-- The gradient of the normed rows. -/
def dn (dp : FVec Ideal S8192x10752 .bf16) (w : FVec Ideal S10752x1024 .bf16) (r : Fin 8192) (l : Fin 1024) : EReal :=
  ∑ k : Fin 10752, (dp (ix2 r k) : EReal) * w (ix2 k l)

/-- The same over the columns of one block. -/
def part (x : FVec Ideal S1024x1792 .bf16) (w : FVec Ideal S1792x1024 .bf16) (j : S1024x1024.Idx) : EReal :=
  ∑ k : Fin 1792, (x (ix2 (j 0 : Fin 1024) k) : EReal) * w (ix2 k (j 1 : Fin 1024))

section Block

variable (a : FVec Ideal S1024x1024 .f32) (x0 : FVec Ideal S1024x1792 .bf16) (x1 : FVec Ideal S1792x1024 .bf16) (x2 x3 : FVec Ideal S1024x1024 .f32) (x4 : FVec Ideal S1x1024 .f32)

/-- The sum so far and this block's products, along a row. -/
def upto (r : Fin 1024) (l : Fin 1024) : EReal := (a (ix2 r l) : EReal) + part x0 x1 (ix2 r l)

/-- The first block's products. -/
theorem pay1 (r : Fin 1024) (l : Fin 1024) : (k0_pay1 x0 x1 : FVec Ideal S1024x1024 .f32) (ix2 r l) = part x0 x1 (ix2 r l) := by
  unfold k0_pay1 part
  pointwise []

/-- A further block's products, added to what there is. -/
theorem pay2 (r : Fin 1024) (l : Fin 1024) : (k0_pay2 a x0 x1 : FVec Ideal S1024x1024 .f32) (ix2 r l) = upto a x0 x1 r l := by
  unfold k0_pay2 upto part
  pointwise []

/-- The last block's products, added to what there is. -/
theorem pay4 (r : Fin 1024) (l : Fin 1024) : (k0_pay4 a x0 x1 : FVec Ideal S1024x1024 .f32) (ix2 r l) = upto a x0 x1 r l := by
  unfold k0_pay4 upto part
  pointwise []

/-- The reciprocal root. -/
theorem pay5 (r : Fin 1024) : (k0_pay5 x3 : FVec Ideal S1024x1 .f32) (ix2 r (0 : Fin 1)) = inv (row x3 r) := by
  unfold k0_pay5
  pointwise []
  rfl

/-- The rows without their gains. -/
theorem pay6 (r : Fin 1024) (l : Fin 1024) : (k0_pay6 x3 : FVec Ideal S1024x1024 .f32) (ix2 r l) = row x3 r l * inv (row x3 r) := by
  unfold k0_pay6
  pointwise []
  rw [pay5]
  rfl

/-- The block's share of the gains' gradient. -/
theorem pay7 (l : Fin 1024) : (k0_pay7 a x0 x1 x3 : FVec Ideal S1x1024 .f32) (ix2 (0 : Fin 1) l) = ∑ r : Fin 1024, gain (row x3 r) (upto a x0 x1 r) l := by
  unfold k0_pay7
  pointwise []
  simp only [pay4, pay6]
  rfl

/-- What is stored of the rows. -/
theorem pay8 (r : Fin 1024) (l : Fin 1024) : (k0_pay8 a x0 x1 x2 x3 x4 : FVec Ideal S1024x1024 .f32) (ix2 r l)
    = row x2 r l + back (row x3 r) (row x4 0) (upto a x0 x1 r) l := by
  unfold k0_pay8
  pointwise []
  simp only [pay4, pay5, pay6]
  rfl

/-- What is stored of the gains. -/
theorem pay3 (b : FVec Ideal S8x1024 .f32) (r : Fin 8) (l : Fin 1024) : (k0_pay3 (k0_pay7 a x0 x1 x3) b : FVec Ideal S8x1024 .f32) (ix2 r l)
    = (b (ix2 r l) : EReal) + ∑ r : Fin 1024, gain (row x3 r) (upto a x0 x1 r) l := by
  unfold k0_pay3
  pointwise []
  rw [pay7]

/-- The gains start from nought. -/
theorem pay9 (r : Fin 8) (l : Fin 1024) : (k0_pay9 : FVec Ideal S8x1024 .f32) (ix2 r l) = (0 : EReal) := by
  unfold k0_pay9
  pointwise []

end Block

variable (m : (ℓ : Loc nD τ sig) → Buf (Elt Ideal) ℓ)

/-- Where each window's block lies at point `t`: the row of blocks `t / 6`, the block `t % 6` of the columns. -/
theorem idx : ∀ t : Fin cfg0.N, win0_0.index t = ![t.val / 6, t.val % 6] ∧ win0_1.index t = ![t.val % 6, 0] ∧ win0_2.index t = ![t.val / 6, 0] ∧ win0_3.index t = ![t.val / 6, 0]
    ∧ win0_4.index t = ![0, 0] ∧ win0_5.index t = ![t.val / 6, 0] ∧ win0_6.index t = ![0, 0] := by decide +kernel

/-- The products of point `t`'s blocks. -/
abbrev term (c : Dev nD) (t : Fin cfg0.N) (j : S1024x1024.Idx) : EReal := part (iblk m c 0 t) (iblk m c 1 t) j

/-- What the point before `n` left of the sum. -/
abbrev before (c : Dev nD) (n : Nat) (h : n < cfg0.N) : FVec Ideal S1024x1024 .f32 := (outsAt0 m c (n - 1) (Nat.lt_of_le_of_lt (Nat.sub_le _ _) h)).2.2

/-- The sum so far at point `n`. -/
def sofar (c : Dev nD) (n : Nat) (h : n < cfg0.N) (j : S1024x1024.Idx) : EReal :=
  if n % 6 = 5 then (before m c n h j : EReal) + term m c ⟨n, h⟩ j else (outsAt0 m c n h).2.2 j

/-- At the last point of a run the sum so far is the six blocks'. -/
theorem sofar_last (c : Dev nD) (t : Fin cfg0.N) (h : t.val % 6 = 5) (j : S1024x1024.Idx) :
    sofar m c t.val t.isLt j = 0 + ∑ s : Fin 6, term m c ⟨6 * (t.val / 6) + s.val, Pipeline.run_point_lt_of_flush t h s⟩ j := by
  refine Pipeline.eq_sum_fin_of_reset_step_apply_of_flush (sofar m c) 6 (fun _ => 0) (term m c) (fun t h i => ?_) (fun t h i => ?_) t h j
  · idx_vars i
    unfold sofar
    rw [if_neg (by omega), outsAt0_A m c t h (by omega) (by omega)]
    frame_out
    rw [zero_add]
    exact pay1 _ _ _ _
  · idx_vars i
    unfold sofar
    by_cases h5 : t.val % 6 = 5
    · rw [if_pos h5, if_neg (by omega)]
    · rw [if_neg h5, if_neg (by omega), outsAt0_B m c t h (by omega) h5]
      frame_out
      simp only [read_unread_whole]
      exact pay2 _ _ _ _ _

/-- At the last point of a run the sum is the row of the gradient of the normed rows. -/
theorem full (c : Dev nD) (t : Fin cfg0.N) (h : t.val % 6 = 5) (r : Fin 1024) (r' : Fin 8192) (hr : r'.val = t.val / 6 * 1024 + r.val) :
    upto (before m c t.val t.isLt) (iblk m c 0 t) (iblk m c 1 t) r = dn (m ((c : Thread nD τ).loc main_arg0)) (m ((c : Thread nD τ).loc main_arg1)) r' := by
  funext l
  have e : upto (before m c t.val t.isLt) (iblk m c 0 t) (iblk m c 1 t) r l = sofar m c t.val t.isLt (ix2 r l) := by
    unfold sofar
    rw [if_pos h]
    rfl
  rw [e, sofar_last m c t h, zero_add]
  refine Fin.sum_mul_add_congr (M := EReal) (S := 6) (n := 1792) (fun s k hl => congrArg₂ (fun a b : EReal => a * b) ?_ ?_) rfl
  · have hs : (6 * (t.val / 6) + s.val) % 6 = s.val := by omega
    have hd : (6 * (t.val / 6) + s.val) / 6 = t.val / 6 := by omega
    blk_ext! [iblk, V, idx ⟨6 * (t.val / 6) + s.val, Pipeline.run_point_lt_of_flush t h s⟩, hs, hd]
  · have hs : (6 * (t.val / 6) + s.val) % 6 = s.val := by omega
    blk_ext! [iblk, V, idx ⟨6 * (t.val / 6) + s.val, Pipeline.run_point_lt_of_flush t h s⟩, hs]

/-- A row of the normed array's block is a row of the array. -/
theorem row3 (c : Dev nD) (t : Fin cfg0.N) (r : Fin 1024) (r' : Fin 8192) (h : r'.val = t.val / 6 * 1024 + r.val) :
    row (iblk m c 3 t : FVec Ideal S1024x1024 .f32) r = row (m ((c : Thread nD τ).loc main_arg3) : FVec Ideal S8192x1024 .f32) r' := by
  funext l
  unfold row
  blk_ext! [iblk, V, idx t]

/-- A row of the block of what comes back past the norm is a row of it. -/
theorem row2 (c : Dev nD) (t : Fin cfg0.N) (r : Fin 1024) (r' : Fin 8192) (h : r'.val = t.val / 6 * 1024 + r.val) :
    row (iblk m c 2 t : FVec Ideal S1024x1024 .f32) r = row (m ((c : Thread nD τ).loc main_arg2) : FVec Ideal S8192x1024 .f32) r' := by
  funext l
  unfold row
  blk_ext! [iblk, V, idx t]

/-- The gains' block is the gains. -/
theorem row4 (c : Dev nD) (t : Fin cfg0.N) :
    row (iblk m c 4 t : FVec Ideal S1x1024 .f32) 0 = row (m ((c : Thread nD τ).loc main_arg4) : FVec Ideal S1x1024 .f32) 0 := by
  funext l
  unfold row
  blk_ext! [iblk, V, idx t]

/-- What the last point of a run leaves of the first output: the gradient of its rows. -/
theorem rows (c : Dev nD) (t : Fin cfg0.N) (h : t.val % 6 = 5) (r : Fin 1024) (l : Fin 1024) : ((outsAt0 m c t.val t.isLt).1 (ix2 r l) : EReal)
    = row (iblk m c 2 t : FVec Ideal S1024x1024 .f32) r l
      + back (row (iblk m c 3 t : FVec Ideal S1024x1024 .f32) r) (row (iblk m c 4 t : FVec Ideal S1x1024 .f32) 0)
          (upto (before m c t.val t.isLt) (iblk m c 0 t) (iblk m c 1 t) r) l := by
  by_cases h6 : t.val < 6
  · rw [outsAt0_C m c t (by omega) (by omega) h h6]
    frame_out
    simp only [read_unread_whole]
    exact pay8 (before m c t.val t.isLt) (iblk m c 0 t) (iblk m c 1 t) (iblk m c 2 t) (iblk m c 3 t) (iblk m c 4 t) r l
  · rw [outsAt0_D m c t (by omega) (by omega) h h6]
    frame_out
    simp only [read_unread_whole]
    exact pay8 (before m c t.val t.isLt) (iblk m c 0 t) (iblk m c 1 t) (iblk m c 2 t) (iblk m c 3 t) (iblk m c 4 t) r l

/-- A row's gradient, from the arrays. -/
def dx (a0 : FVec Ideal S8192x10752 .bf16) (a1 : FVec Ideal S10752x1024 .bf16) (a2 a3 : FVec Ideal S8192x1024 .f32) (a4 : FVec Ideal S1x1024 .f32) (r : Fin 8192) (l : Fin 1024) : EReal :=
  (a2 (ix2 r l) : EReal) + back (row a3 r) (row a4 0) (dn a0 a1 r) l

/-- The gains' gradient, from the arrays. -/
def dg (a0 : FVec Ideal S8192x10752 .bf16) (a1 : FVec Ideal S10752x1024 .bf16) (a3 : FVec Ideal S8192x1024 .f32) (l : Fin 1024) : EReal :=
  ∑ r : Fin 8192, gain (row a3 r) (dn a0 a1 r) l

/-- The share in it of block `s` of the rows. -/
def share (a0 : FVec Ideal S8192x10752 .bf16) (a1 : FVec Ideal S10752x1024 .bf16) (a3 : FVec Ideal S8192x1024 .f32) (l : Fin 1024) (s : Nat) : EReal :=
  ∑ k : Fin 1024, if h : s * 1024 + k.val < 8192 then gain (row a3 ⟨s * 1024 + k.val, h⟩) (dn a0 a1 ⟨s * 1024 + k.val, h⟩) l else 0

/-- The share of the rows of a run, at its last point. -/
theorem share_eq (c : Dev nD) (t : Fin cfg0.N) (h : t.val % 6 = 5) (l : Fin 1024) :
    ∑ r : Fin 1024, gain (row (iblk m c 3 t : FVec Ideal S1024x1024 .f32) r) (upto (before m c t.val t.isLt) (iblk m c 0 t) (iblk m c 1 t) r) l
      = share (m ((c : Thread nD τ).loc main_arg0)) (m ((c : Thread nD τ).loc main_arg1)) (m ((c : Thread nD τ).loc main_arg3)) l (t.val / 6) := by
  have ht : t.val < 48 := lt_of_lt_of_eq t.isLt N_0
  refine Finset.sum_congr (M := EReal) rfl fun k _ => ?_
  rw [dif_pos (by omega), full m c t h k ⟨t.val / 6 * 1024 + k.val, by omega⟩ rfl, row3 m c t k ⟨t.val / 6 * 1024 + k.val, by omega⟩ rfl]

/-- From the end of the first run on, the gains' gradient is the sum of the shares of the runs done. -/
theorem gains (c : Dev nD) (r : Fin 8) (l : Fin 1024) : ∀ (n : Nat) (hn : n < cfg0.N), 5 ≤ n → ((outsAt0 m c n hn).2.1 (ix2 r l) : EReal)
    = ∑ s ∈ Finset.range ((n + 1) / 6), share (m ((c : Thread nD τ).loc main_arg0)) (m ((c : Thread nD τ).loc main_arg1)) (m ((c : Thread nD τ).loc main_arg3)) l s := by
  intro n
  induction n with
  | zero => intro hn h5; omega
  | succ n ih =>
    intro hn h5
    have ihn := ih (Nat.lt_of_succ_lt hn)
    by_cases h0 : (n + 1) % 6 = 5
    · have hq : (n + 1 + 1) / 6 = (n + 1) / 6 + 1 := by omega
      rw [hq, Finset.sum_range_succ, ← share_eq m c ⟨n + 1, hn⟩ h0 l]
      by_cases h6 : n + 1 < 6
      · rw [outsAt0_C m c ⟨n + 1, hn⟩ (by dsimp only; omega) (by dsimp only; omega) h0 h6]
        frame_out
        simp only [read_unread_whole]
        refine (pay3 (before m c (n + 1) hn) (iblk m c 0 ⟨n + 1, hn⟩) (iblk m c 1 ⟨n + 1, hn⟩) (iblk m c 3 ⟨n + 1, hn⟩) _ r l).trans ?_
        rw [pay9, show (n + 1) / 6 = 0 by omega]
        rfl
      · rw [outsAt0_D m c ⟨n + 1, hn⟩ (by dsimp only; omega) (by dsimp only; omega) h0 h6]
        frame_out
        simp only [read_unread_whole]
        refine (pay3 (before m c (n + 1) hn) (iblk m c 0 ⟨n + 1, hn⟩) (iblk m c 1 ⟨n + 1, hn⟩) (iblk m c 3 ⟨n + 1, hn⟩) _ r l).trans ?_
        exact congrArg (fun s : EReal => s + _) (ihn (by omega))
    · have hq : (n + 1 + 1) / 6 = (n + 1) / 6 := by omega
      rw [hq, ← ihn (by omega)]
      by_cases hA : (n + 1) % 6 = 0
      · rw [outsAt0_A m c ⟨n + 1, hn⟩ hA (by dsimp only; omega) (by dsimp only; omega)]
        unfold out0_A_6
        rfl
      · rw [outsAt0_B m c ⟨n + 1, hn⟩ hA (by dsimp only; omega) h0]
        unfold out0_B_6
        rfl

/-- The first array after the run. -/
theorem final5 (c : Dev nD) : (dats m 0 c).arrAt 5 cfg0.N
    = fun i : S8192x1024.Idx => dx (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 5 _ (by decide +kernel) fun t hf y => ?_
  have h5 : t.val % 6 = 5 := (flush0_5 t).mp hf
  blk_simp
  rw [after0_5]
  idx_vars y
  have ht : t.val < 48 := lt_of_lt_of_eq t.isLt N_0
  refine (rows m c t h5 y0 y1).trans (Eq.trans (b := dx (m ((c : Thread nD τ).loc main_arg0)) (m ((c : Thread nD τ).loc main_arg1)) (m ((c : Thread nD τ).loc main_arg2))
    (m ((c : Thread nD τ).loc main_arg3)) (m ((c : Thread nD τ).loc main_arg4)) ⟨t.val / 6 * 1024 + y0.val, by omega⟩ y1) ?_
    (congrArg₂ (dx _ _ _ _ _) (Fin.ext ?_) (Fin.ext ?_)))
  · rw [row2 m c t y0 ⟨t.val / 6 * 1024 + y0.val, by omega⟩ rfl, row3 m c t y0 ⟨t.val / 6 * 1024 + y0.val, by omega⟩ rfl, full m c t h5 y0 ⟨t.val / 6 * 1024 + y0.val, by omega⟩ rfl, row4 m c t]
    rfl
  · blk_simp [idx t]
  · blk_simp [idx t]

/-- The second array after the run. -/
theorem final6 (c : Dev nD) : (dats m 0 c).arrAt 6 cfg0.N
    = fun i : S8x1024.Idx => dg (m ((c : Thread nD τ).loc main_arg0)) (m ((c : Thread nD τ).loc main_arg1)) (m ((c : Thread nD τ).loc main_arg3)) (i 1) := by
  refine (dats m 0 c).arrAt_eq_of_covers 6 _ (by decide +kernel) fun t hf y => ?_
  have h47 : t.val % 48 = 47 := (flush0_6 t).mp hf
  have ht : t.val < 48 := lt_of_lt_of_eq t.isLt N_0
  blk_simp
  rw [after0_6]
  idx_vars y
  refine (gains m c y0 y1 t.val t.isLt (by omega)).trans (Eq.trans (b := dg (m ((c : Thread nD τ).loc main_arg0)) (m ((c : Thread nD τ).loc main_arg1))
    (m ((c : Thread nD τ).loc main_arg3)) y1) ?_ (congrArg (dg _ _ _) (Fin.ext ?_)))
  rotate_left
  · blk_simp [idx t]
  rw [show (t.val + 1) / 6 = 8 by omega, Finset.sum_range]
  refine Fin.sum_mul_add_congr (M := EReal) (S := 8) (n := 1024) (fun s k hl => ?_) rfl
  exact dif_pos hl

section Reference

open Cert.Reference4Ideal.Read

variable (x0 : FVec Ideal S8192x10752 .bf16) (x1 : FVec Ideal S10752x1024 .bf16) (x2 x3 : FVec Ideal S8192x1024 .f32) (x4 : FVec Ideal S1x1024 .f32)
  (r : Fin 8192) (l : Fin 1024)

/-- The reference's mean square. -/
theorem ref8 : (val_main_v8 (F := Ideal) x3 : FVec Ideal Cert.Reference4Ideal.S8192x1 .f32) (ix2 r (0 : Fin 1))
    = meanSq (row x3 r) := by
  pointwise [val_main_v8, val_main_v7, val_main_v6, val_main_v5, val_main_v4, val_main_v3, val_main_v2, val_main_cst, val_main_cst_0, val_main_cst_1]
  rfl

/-- The reference's reciprocal root. -/
theorem ref9 : (val_main_v9 (F := Ideal) x3 : FVec Ideal Cert.Reference4Ideal.S8192x1 .f32) (ix2 r (0 : Fin 1))
    = inv (row x3 r) := by
  pointwise [val_main_v9]
  rw [ref8]
  rfl

/-- The reciprocal root's derivative. -/
theorem ref12 : (val_main_v12 (F := Ideal) x3 : FVec Ideal Cert.Reference4Ideal.S8192x1 .f32) (ix2 r (0 : Fin 1))
    = Ideal.ofBits .f32 0xBF000000#32 * Ideal.div (inv (row x3 r)) (meanSq (row x3 r)) := by
  pointwise [val_main_v12, val_main_v11, val_main_v10, val_main_cst_2]
  rw [ref8, ref9]

/-- The rows without their gains, in the reference. -/
theorem ref14 : (val_main_v14 (F := Ideal) x3 : FVec Ideal Cert.Reference4Ideal.S8192x1024 .f32) (ix2 r l)
    = row x3 r l * inv (row x3 r) := by
  pointwise [val_main_v14, val_main_v13]
  rw [ref9]
  rfl

/-- The gradient of the normed rows, in the reference. -/
theorem ref19 : (val_main_v19 (F := Ideal) x0 x1 : FVec Ideal Cert.Reference4Ideal.S8192x1024 .f32) (ix2 r l)
    = dn x0 x1 r l := by
  pointwise [val_main_v19, val_main_v18, val_main_v1, val_main_v0]
  rfl

/-- The same times the gains. -/
theorem ref24 : (val_main_v24 (F := Ideal) x0 x1 x4 : FVec Ideal Cert.Reference4Ideal.S8192x1024 .f32) (ix2 r l)
    = dn x0 x1 r l * row x4 0 l := by
  pointwise [val_main_v24, val_main_v23]
  rw [ref19]
  rfl

/-- The sum along a row that goes back through the reciprocal root. -/
theorem ref27 : (val_main_v27 (F := Ideal) x0 x1 x3 x4 : FVec Ideal Cert.Reference4Ideal.S8192x1 .f32) (ix2 r (0 : Fin 1))
    = ∑ k, row x3 r k * (dn x0 x1 r k * row x4 0 k) := by
  pointwise [val_main_v27, val_main_v26, val_main_v25, val_main_cst_4]
  simp only [ref24]
  rfl

/-- What goes back through the reciprocal root, for a row. -/
theorem ref33 : (val_main_v33 (F := Ideal) x0 x1 x3 x4 : FVec Ideal Cert.Reference4Ideal.S8192x1 .f32) (ix2 r (0 : Fin 1))
    = slope (row x3 r) (row x4 0) (dn x0 x1 r) := by
  pointwise [val_main_v33, val_main_v32, val_main_v31, val_main_cst_5]
  rw [ref27, ref12]
  rfl

/-- The same at each entry of the row. -/
theorem ref35 : (val_main_v35 (F := Ideal) x0 x1 x3 x4 : FVec Ideal Cert.Reference4Ideal.S8192x1024 .f32) (ix2 r l)
    = slope (row x3 r) (row x4 0) (dn x0 x1 r) := by
  pointwise [val_main_v35, val_main_v34, val_main_cst_6]
  rw [Fin.sum_univ_one]
  exact ref33 x0 x1 x3 x4 r

/-- The reference's first result. -/
theorem ref39 : (val_main_v39 (F := Ideal) x0 x1 x2 x3 x4 : FVec Ideal Cert.Reference4Ideal.S8192x1024 .f32) (ix2 r l)
    = dx x0 x1 x2 x3 x4 r l := by
  refine Eq.trans ?_ (back_eq (x2 (ix2 r l)) (row x3 r) (row x4 0) (dn x0 x1 r) l)
  pointwise [val_main_v39, val_main_v38, val_main_v37, val_main_v36, val_main_v30, val_main_v29, val_main_v28]
  rw [ref35, ref24, ref9]
  rfl

/-- The reference's second result. -/
theorem ref40 (s : Fin 8) : (val_main_v40 (F := Ideal) x0 x1 x3 : FVec Ideal Cert.Reference4Ideal.S8x1024 .f32) (ix2 s l)
    = dg x0 x1 x3 l := by
  pointwise [val_main_v40, val_main_v22, val_main_v21, val_main_v20, val_main_cst_3]
  simp only [ref14, ref19]
  exact Finset.sum_congr (M := EReal) rfl fun k _ => mul_comm (G := EReal) _ _

end Reference

/-- The kernel's two arrays are the reference's. -/
theorem algebraic : Cert.algebraic_Kernel4Ideal_Reference4Ideal (hKernel4Ideal := Cert.Kernel4Ideal.Gen.facts) (hReference4Ideal := Cert.Reference4Ideal.Gen.facts) := by
  intro m g m' g' hpre hagree
  refine ⟨fun c => (Kernel4Ideal.Gen.dats m 0 c).arrAt 5 Kernel4Ideal.cfg0.N, fun c => (Kernel4Ideal.Gen.dats m 0 c).arrAt 6 Kernel4Ideal.cfg0.N,
    Kernel4Ideal.Value.run_blocks m g, ?_⟩
  refine (θ_run Reference4Ideal.defs _ _).mono (fun r h c => ?_) (Reference4Ideal.Value.run (F := Ideal) m' g')
  obtain ⟨e0, e1, k⟩ := h c
  obtain ⟨a0, a1, a2, a3, a4⟩ := hagree c
  refine ⟨e0.trans ?_, e1.trans ?_, k⟩
  · rw [Reference4Ideal.Read.val_main_v39_eq]
    refine Eq.trans ?_ (final5 m c).symm
    funext i
    idx_vars i
    refine (ref39 _ _ _ _ _ i0 i1).trans ?_
    rw [a0, a1, a2, a3, a4]
  · rw [Reference4Ideal.Read.val_main_v40_eq]
    refine Eq.trans ?_ (final6 m c).symm
    funext i
    idx_vars i
    refine (ref40 _ _ _ i1 i0).trans ?_
    rw [a0, a1, a3]

end Cert.Ffn.NormIn

end
-- ==== Proof.Adam.Step.lean ====
module

public import Idealize.ShloMosaic.Lib.Pointwise
public import Idealize.ShloMosaic.Lib.Tactic

@[expose] public section

noncomputable section

/-! # One step of AdamW, of one number

The rates are the numbers that the program's words name, the same in the kernel and in the reference. -/

namespace Cert.Adam

open Idealize.ShloMosaic

/-- The moving average of the gradient. -/
def first (m g : EReal) : EReal := Ideal.ofBits .f32 0x3F666666#32 * m + Ideal.ofBits .f32 0x3DCCCCCD#32 * g

/-- The moving average of the gradient's square. -/
def second (v g : EReal) : EReal := Ideal.ofBits .f32 0x3F7FBE77#32 * v + Ideal.ofBits .f32 0x3A83126F#32 * (g * g)

/-- What is added to the weight. -/
def delta (w m v g : EReal) : EReal :=
  Ideal.ofBits .f32 0xBA83126F#32 *
    (Ideal.div (Ideal.div (first m g) (Ideal.ofBits .f32 0x3F26BD02#32))
        (Ideal.sqrt (Ideal.div (second v g) (Ideal.ofBits .f32 0x3C231ACC#32)) + Ideal.ofBits .f32 0x322BCC77#32)
      + Ideal.ofBits .f32 0x3C23D70A#32 * w)

end Cert.Adam

end
-- ==== Proof.Adam.Layers.lean ====
module

public import proofs.«01_k».proof.Defs
public import proofs.«01_k».proof.Proof.Gen.Kernel12Ideal.Value
public import proofs.«01_k».proof.Proof.Gen.Reference12Ideal.Run
public import proofs.«01_k».proof.Proof.Gen.Reference12Ideal.Read
public import proofs.«01_k».proof.Proof.Adam.Step
public import Idealize.ShloMosaic.Lib.Pipeline.ValueKit

@[expose] public section

set_option maxRecDepth 16384

noncomputable section

/-! # The optimiser's step of the feed-forward weights

The kernel adds the eight devices' shares of the gradient one after the other, a block of 256 columns at a time; the reference adds them in
one sum. The rest is number by number. -/

namespace Cert.Adam.Layers

open Cert.Kernel12Ideal Cert.Kernel12Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x352x1024 .bf16) (r : Fin 352) (l : Fin 1024) : EReal := ∑ k : Fin 8, (x (ix3 k r l) : EReal)

/-- Where each window's block lies at point `t`. -/
theorem idx : ∀ t : Fin cfg0.N, win0_0.index t = ![0, 0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] := by decide +kernel

/-- The gradient that the body adds up. -/
theorem tile (x : FVec Ideal S8x352x256 .bf16) (w mo v : FVec Ideal S352x256 .f32) (r : Fin 352) (l : Fin 256) :
    (k0_pay5 x w mo v : FVec Ideal S352x256 .f32) (ix2 r l) = ∑ k : Fin 8, (x (ix3 k r l) : EReal) := by
  unfold k0_pay5 k0_pay4
  pointwise []
  rw [Fin.sum_univ_eight]

/-- The moving average that the body stores. -/
theorem firstTile (g mo : FVec Ideal S352x256 .f32) (r : Fin 352) (l : Fin 256) :
    (k0_pay1 g mo (Scalar.ofBits .f32 0x3F666666#32) : FVec Ideal S352x256 .f32) (ix2 r l) = first (mo (ix2 r l)) (g (ix2 r l)) := by
  unfold k0_pay1 first
  pointwise []

/-- The moving average of the squares that the body stores. -/
theorem secondTile (g v : FVec Ideal S352x256 .f32) (r : Fin 352) (l : Fin 256) :
    (k0_pay2 g v : FVec Ideal S352x256 .f32) (ix2 r l) = second (v (ix2 r l)) (g (ix2 r l)) := by
  unfold k0_pay2 second
  pointwise []

/-- The step that the body stores. -/
theorem deltaTile (g mo v w : FVec Ideal S352x256 .f32) (r : Fin 352) (l : Fin 256) :
    (k0_pay3 g mo (Scalar.ofBits .f32 0x3F666666#32) v w : FVec Ideal S352x256 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 352) (y1 : Fin 256) (l : Fin 1024) (hl : l.val = t.val * 256 + y1.val) :
    (k0_pay5 (iblk m c 0 t) (iblk m c 1 t) (iblk m c 2 t) (iblk m c 3 t) : FVec Ideal S352x256 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S352x1024.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨t.val * 256 + y1.val, by have := lt_of_lt_of_eq t.isLt N_0; omega⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S352x1024.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S352x1024.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S352x1024.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference12Ideal.S8x352x1024 .bf16) (w mo v : FVec Ideal Cert.Reference12Ideal.S352x1024 .f32)

/-- The reference's gradient. -/
theorem refGrad (r : Fin 352) (l : Fin 1024) :
    (Cert.Reference12Ideal.Read.val_main_v1 (F := Ideal) x : FVec Ideal Cert.Reference12Ideal.S352x1024 .f32) (ix2 r l) = grad x r l := by
  pointwise [Cert.Reference12Ideal.Read.val_main_v1, Cert.Reference12Ideal.Read.val_main_cst, Cert.Reference12Ideal.Read.val_main_v0]
  rfl

/-- The reference's moving average. -/
theorem refFirst (r : Fin 352) (l : Fin 1024) :
    (Cert.Reference12Ideal.Read.val_main_v6 (F := Ideal) x mo : FVec Ideal Cert.Reference12Ideal.S352x1024 .f32) (ix2 r l) = first (mo (ix2 r l)) (grad x r l) := by
  rw [← refGrad]
  unfold first
  pointwise [Cert.Reference12Ideal.Read.val_main_v0, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_v24, Cert.Reference12Ideal.Read.val_main_v25, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

/-- The reference's moving average of the squares. -/
theorem refSecond (r : Fin 352) (l : Fin 1024) :
    (Cert.Reference12Ideal.Read.val_main_v12 (F := Ideal) x v : FVec Ideal Cert.Reference12Ideal.S352x1024 .f32) (ix2 r l) = second (v (ix2 r l)) (grad x r l) := by
  rw [← refGrad]
  unfold second
  pointwise [Cert.Reference12Ideal.Read.val_main_v0, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_v24, Cert.Reference12Ideal.Read.val_main_v25, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

/-- The reference's step. -/
theorem refDelta (r : Fin 352) (l : Fin 1024) :
    (Cert.Reference12Ideal.Read.val_main_v25 (F := Ideal) x w mo v : FVec Ideal Cert.Reference12Ideal.S352x1024 .f32) (ix2 r l) = delta (w (ix2 r l)) (mo (ix2 r l)) (v (ix2 r l)) (grad x r l) := by
  rw [← refGrad]
  unfold delta first second
  pointwise [Cert.Reference12Ideal.Read.val_main_v0, Cert.Reference12Ideal.Read.val_main_v2, Cert.Reference12Ideal.Read.val_main_v3, Cert.Reference12Ideal.Read.val_main_v4, Cert.Reference12Ideal.Read.val_main_v5, Cert.Reference12Ideal.Read.val_main_v6, Cert.Reference12Ideal.Read.val_main_v7, Cert.Reference12Ideal.Read.val_main_v8, Cert.Reference12Ideal.Read.val_main_v9, Cert.Reference12Ideal.Read.val_main_v10, Cert.Reference12Ideal.Read.val_main_v11, Cert.Reference12Ideal.Read.val_main_v12, Cert.Reference12Ideal.Read.val_main_v13, Cert.Reference12Ideal.Read.val_main_v14, Cert.Reference12Ideal.Read.val_main_v15, Cert.Reference12Ideal.Read.val_main_v16, Cert.Reference12Ideal.Read.val_main_v17, Cert.Reference12Ideal.Read.val_main_v18, Cert.Reference12Ideal.Read.val_main_v19, Cert.Reference12Ideal.Read.val_main_v20, Cert.Reference12Ideal.Read.val_main_v21, Cert.Reference12Ideal.Read.val_main_v22, Cert.Reference12Ideal.Read.val_main_v23, Cert.Reference12Ideal.Read.val_main_v24, Cert.Reference12Ideal.Read.val_main_v25, Cert.Reference12Ideal.Read.val_main_cst, Cert.Reference12Ideal.Read.val_main_cst_0, Cert.Reference12Ideal.Read.val_main_cst_1, Cert.Reference12Ideal.Read.val_main_cst_2, Cert.Reference12Ideal.Read.val_main_cst_3, Cert.Reference12Ideal.Read.val_main_cst_4, Cert.Reference12Ideal.Read.val_main_cst_5, Cert.Reference12Ideal.Read.val_main_cst_6, Cert.Reference12Ideal.Read.val_main_cst_7, Cert.Reference12Ideal.Read.val_main_cst_8]

/-- The kernel's four arrays are the reference's. -/
theorem algebraic : Cert.algebraic_Kernel12Ideal_Reference12Ideal (hKernel12Ideal := Cert.Kernel12Ideal.Gen.facts) (hReference12Ideal := Cert.Reference12Ideal.Gen.facts) := by
  intro m g m' g' hpre hagree
  refine ⟨fun c => (Kernel12Ideal.Gen.dats m 0 c).arrAt 4 Kernel12Ideal.cfg0.N, fun c => (Kernel12Ideal.Gen.dats m 0 c).arrAt 5 Kernel12Ideal.cfg0.N,
    fun c => (Kernel12Ideal.Gen.dats m 0 c).arrAt 6 Kernel12Ideal.cfg0.N, fun c => (Kernel12Ideal.Gen.dats m 0 c).arrAt 7 Kernel12Ideal.cfg0.N,
    Kernel12Ideal.Value.run_blocks m g, ?_⟩
  refine (θ_run Reference12Ideal.defs _ _).mono (fun r h c => ?_) (Reference12Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference12Ideal.Read.val_main_v1_eq]
    refine Eq.trans ?_ (finalGrad m c).symm
    funext i
    idx_vars i
    refine (refGrad _ i0 i1).trans ?_
    rw [a0]
  · rw [Reference12Ideal.Read.val_main_v25_eq]
    refine Eq.trans ?_ (finalDelta m c).symm
    funext i
    idx_vars i
    refine (refDelta _ _ _ _ i0 i1).trans ?_
    rw [a0, a1, a2, a3]
  · rw [Reference12Ideal.Read.val_main_v6_eq]
    refine Eq.trans ?_ (finalFirst m c).symm
    funext i
    idx_vars i
    refine (refFirst _ _ i0 i1).trans ?_
    rw [a0, a2]
  · rw [Reference12Ideal.Read.val_main_v12_eq]
    refine Eq.trans ?_ (finalSecond m c).symm
    funext i
    idx_vars i
    refine (refSecond _ _ i0 i1).trans ?_
    rw [a0, a3]

end Cert.Adam.Layers

end
-- ==== Proof.Adam.InProj.lean ====
module

public import proofs.«01_k».proof.Defs
public import proofs.«01_k».proof.Proof.Gen.Kernel13Ideal.Value
public import proofs.«01_k».proof.Proof.Gen.Reference13Ideal.Run
public import proofs.«01_k».proof.Proof.Gen.Reference13Ideal.Read
public import proofs.«01_k».proof.Proof.Adam.Step
public import Idealize.ShloMosaic.Lib.Pipeline.ValueKit

@[expose] public section

set_option maxRecDepth 16384

noncomputable section

/-! # The optimiser's step of `w_in`

The kernel adds the eight devices' shares of the gradient one after the other, a block of 256 columns at a time; the reference adds them in
one sum. The rest is number by number. -/

namespace Cert.Adam.InProj

open Cert.Kernel13Ideal Cert.Kernel13Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x1316x1024 .bf16) (r : Fin 1316) (l : Fin 1024) : EReal := ∑ k : Fin 8, (x (ix3 k r l) : EReal)

/-- Where each window's block lies at point `t`. -/
theorem idx : ∀ t : Fin cfg0.N, win0_0.index t = ![0, 0, t.val] ∧ win0_1.index t = ![0, t.val] ∧ win0_2.index t = ![0, t.val] ∧ win0_3.index t = ![0, t.val]
    ∧ win0_4.index t = ![0, t.val] ∧ win0_5.index t = ![0, t.val] ∧ win0_6.index t = ![0, t.val] ∧ win0_7.index t = ![0, t.val] := by decide +kernel

/-- The gradient that the body adds up. -/
theorem tile (x : FVec Ideal S8x1316x256 .bf16) (w mo v : FVec Ideal S1316x256 .f32) (r : Fin 1316) (l : Fin 256) :
    (k0_pay5 x w mo v : FVec Ideal S1316x256 .f32) (ix2 r l) = ∑ k : Fin 8, (x (ix3 k r l) : EReal) := by
  unfold k0_pay5 k0_pay4
  pointwise []
  rw [Fin.sum_univ_eight]

/-- The moving average that the body stores. -/
theorem firstTile (g mo : FVec Ideal S1316x256 .f32) (r : Fin 1316) (l : Fin 256) :
    (k0_pay1 g mo (Scalar.ofBits .f32 0x3F666666#32) : FVec Ideal S1316x256 .f32) (ix2 r l) = first (mo (ix2 r l)) (g (ix2 r l)) := by
  unfold k0_pay1 first
  pointwise []

/-- The moving average of the squares that the body stores. -/
theorem secondTile (g v : FVec Ideal S1316x256 .f32) (r : Fin 1316) (l : Fin 256) :
    (k0_pay2 g v : FVec Ideal S1316x256 .f32) (ix2 r l) = second (v (ix2 r l)) (g (ix2 r l)) := by
  unfold k0_pay2 second
  pointwise []

/-- The step that the body stores. -/
theorem deltaTile (g mo v w : FVec Ideal S1316x256 .f32) (r : Fin 1316) (l : Fin 256) :
    (k0_pay3 g mo (Scalar.ofBits .f32 0x3F666666#32) v w : FVec Ideal S1316x256 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 1316) (y1 : Fin 256) (l : Fin 1024) (hl : l.val = t.val * 256 + y1.val) :
    (k0_pay5 (iblk m c 0 t) (iblk m c 1 t) (iblk m c 2 t) (iblk m c 3 t) : FVec Ideal S1316x256 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S1316x1024.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨t.val * 256 + y1.val, by have := lt_of_lt_of_eq t.isLt N_0; omega⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S1316x1024.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S1316x1024.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S1316x1024.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨t.val * 256 + y1.val, by have := lt_of_lt_of_eq t.isLt N_0; omega⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference13Ideal.S8x1316x1024 .bf16) (w mo v : FVec Ideal Cert.Reference13Ideal.S1316x1024 .f32)

/-- The reference's gradient. -/
theorem refGrad (r : Fin 1316) (l : Fin 1024) :
    (Cert.Reference13Ideal.Read.val_main_v1 (F := Ideal) x : FVec Ideal Cert.Reference13Ideal.S1316x1024 .f32) (ix2 r l) = grad x r l := by
  pointwise [Cert.Reference13Ideal.Read.val_main_v1, Cert.Reference13Ideal.Read.val_main_cst, Cert.Reference13Ideal.Read.val_main_v0]
  rfl

/-- The reference's moving average. -/
theorem refFirst (r : Fin 1316) (l : Fin 1024) :
    (Cert.Reference13Ideal.Read.val_main_v6 (F := Ideal) x mo : FVec Ideal Cert.Reference13Ideal.S1316x1024 .f32) (ix2 r l) = first (mo (ix2 r l)) (grad x r l) := by
  rw [← refGrad]
  unfold first
  pointwise [Cert.Reference13Ideal.Read.val_main_v0, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

/-- The reference's moving average of the squares. -/
theorem refSecond (r : Fin 1316) (l : Fin 1024) :
    (Cert.Reference13Ideal.Read.val_main_v12 (F := Ideal) x v : FVec Ideal Cert.Reference13Ideal.S1316x1024 .f32) (ix2 r l) = second (v (ix2 r l)) (grad x r l) := by
  rw [← refGrad]
  unfold second
  pointwise [Cert.Reference13Ideal.Read.val_main_v0, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

/-- The reference's step. -/
theorem refDelta (r : Fin 1316) (l : Fin 1024) :
    (Cert.Reference13Ideal.Read.val_main_v25 (F := Ideal) x w mo v : FVec Ideal Cert.Reference13Ideal.S1316x1024 .f32) (ix2 r l) = delta (w (ix2 r l)) (mo (ix2 r l)) (v (ix2 r l)) (grad x r l) := by
  rw [← refGrad]
  unfold delta first second
  pointwise [Cert.Reference13Ideal.Read.val_main_v0, Cert.Reference13Ideal.Read.val_main_v2, Cert.Reference13Ideal.Read.val_main_v3, Cert.Reference13Ideal.Read.val_main_v4, Cert.Reference13Ideal.Read.val_main_v5, Cert.Reference13Ideal.Read.val_main_v6, Cert.Reference13Ideal.Read.val_main_v7, Cert.Reference13Ideal.Read.val_main_v8, Cert.Reference13Ideal.Read.val_main_v9, Cert.Reference13Ideal.Read.val_main_v10, Cert.Reference13Ideal.Read.val_main_v11, Cert.Reference13Ideal.Read.val_main_v12, Cert.Reference13Ideal.Read.val_main_v13, Cert.Reference13Ideal.Read.val_main_v14, Cert.Reference13Ideal.Read.val_main_v15, Cert.Reference13Ideal.Read.val_main_v16, Cert.Reference13Ideal.Read.val_main_v17, Cert.Reference13Ideal.Read.val_main_v18, Cert.Reference13Ideal.Read.val_main_v19, Cert.Reference13Ideal.Read.val_main_v20, Cert.Reference13Ideal.Read.val_main_v21, Cert.Reference13Ideal.Read.val_main_v22, Cert.Reference13Ideal.Read.val_main_v23, Cert.Reference13Ideal.Read.val_main_v24, Cert.Reference13Ideal.Read.val_main_v25, Cert.Reference13Ideal.Read.val_main_cst, Cert.Reference13Ideal.Read.val_main_cst_0, Cert.Reference13Ideal.Read.val_main_cst_1, Cert.Reference13Ideal.Read.val_main_cst_2, Cert.Reference13Ideal.Read.val_main_cst_3, Cert.Reference13Ideal.Read.val_main_cst_4, Cert.Reference13Ideal.Read.val_main_cst_5, Cert.Reference13Ideal.Read.val_main_cst_6, Cert.Reference13Ideal.Read.val_main_cst_7, Cert.Reference13Ideal.Read.val_main_cst_8]

/-- The kernel's four arrays are the reference's. -/
theorem algebraic : Cert.algebraic_Kernel13Ideal_Reference13Ideal (hKernel13Ideal := Cert.Kernel13Ideal.Gen.facts) (hReference13Ideal := Cert.Reference13Ideal.Gen.facts) := by
  intro m g m' g' hpre hagree
  refine ⟨fun c => (Kernel13Ideal.Gen.dats m 0 c).arrAt 4 Kernel13Ideal.cfg0.N, fun c => (Kernel13Ideal.Gen.dats m 0 c).arrAt 5 Kernel13Ideal.cfg0.N,
    fun c => (Kernel13Ideal.Gen.dats m 0 c).arrAt 6 Kernel13Ideal.cfg0.N, fun c => (Kernel13Ideal.Gen.dats m 0 c).arrAt 7 Kernel13Ideal.cfg0.N,
    Kernel13Ideal.Value.run_blocks m g, ?_⟩
  refine (θ_run Reference13Ideal.defs _ _).mono (fun r h c => ?_) (Reference13Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference13Ideal.Read.val_main_v1_eq]
    refine Eq.trans ?_ (finalGrad m c).symm
    funext i
    idx_vars i
    refine (refGrad _ i0 i1).trans ?_
    rw [a0]
  · rw [Reference13Ideal.Read.val_main_v25_eq]
    refine Eq.trans ?_ (finalDelta m c).symm
    funext i
    idx_vars i
    refine (refDelta _ _ _ _ i0 i1).trans ?_
    rw [a0, a1, a2, a3]
  · rw [Reference13Ideal.Read.val_main_v6_eq]
    refine Eq.trans ?_ (finalFirst m c).symm
    funext i
    idx_vars i
    refine (refFirst _ _ i0 i1).trans ?_
    rw [a0, a2]
  · rw [Reference13Ideal.Read.val_main_v12_eq]
    refine Eq.trans ?_ (finalSecond m c).symm
    funext i
    idx_vars i
    refine (refSecond _ _ i0 i1).trans ?_
    rw [a0, a3]

end Cert.Adam.InProj

end
-- ==== Proof.Adam.Ssd.lean ====
module

public import proofs.«01_k».proof.Defs
public import proofs.«01_k».proof.Proof.Gen.Kernel14Ideal.Value
public import proofs.«01_k».proof.Proof.Gen.Reference14Ideal.Run
public import proofs.«01_k».proof.Proof.Gen.Reference14Ideal.Read
public import proofs.«01_k».proof.Proof.Adam.Step
public import Idealize.ShloMosaic.Lib.Pipeline.ValueKit

@[expose] public section

set_option maxRecDepth 16384

noncomputable section

/-! # The optimiser's step of `w_branch_ssd`

The kernel adds the eight devices' shares of the gradient one after the other; the reference adds them in
one sum. The rest is number by number. -/

namespace Cert.Adam.Ssd

open Cert.Kernel14Ideal Cert.Kernel14Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x256x1024 .bf16) (r : Fin 256) (l : Fin 1024) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x256x1024 .bf16) (w mo v : FVec Ideal S256x1024 .f32) (r : Fin 256) (l : Fin 1024) :
    (k0_pay5 x w mo v : FVec Ideal S256x1024 .f32) (ix2 r l) = ∑ k : Fin 8, (x (ix3 k r l) : EReal) := by
  unfold k0_pay5 k0_pay4
  pointwise []
  rw [Fin.sum_univ_eight]

/-- The moving average that the body stores. -/
theorem firstTile (g mo : FVec Ideal S256x1024 .f32) (r : Fin 256) (l : Fin 1024) :
    (k0_pay1 g mo (Scalar.ofBits .f32 0x3F666666#32) : FVec Ideal S256x1024 .f32) (ix2 r l) = first (mo (ix2 r l)) (g (ix2 r l)) := by
  unfold k0_pay1 first
  pointwise []

/-- The moving average of the squares that the body stores. -/
theorem secondTile (g v : FVec Ideal S256x1024 .f32) (r : Fin 256) (l : Fin 1024) :
    (k0_pay2 g v : FVec Ideal S256x1024 .f32) (ix2 r l) = second (v (ix2 r l)) (g (ix2 r l)) := by
  unfold k0_pay2 second
  pointwise []

/-- The step that the body stores. -/
theorem deltaTile (g mo v w : FVec Ideal S256x1024 .f32) (r : Fin 256) (l : Fin 1024) :
    (k0_pay3 g mo (Scalar.ofBits .f32 0x3F666666#32) v w : FVec Ideal S256x1024 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 256) (y1 : Fin 1024) (l : Fin 1024) (hl : l.val = y1.val) :
    (k0_pay5 (iblk m c 0 t) (iblk m c 1 t) (iblk m c 2 t) (iblk m c 3 t) : FVec Ideal S256x1024 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S256x1024.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S256x1024.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S256x1024.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S256x1024.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference14Ideal.S8x256x1024 .bf16) (w mo v : FVec Ideal Cert.Reference14Ideal.S256x1024 .f32)

/-- The reference's gradient. -/
theorem refGrad (r : Fin 256) (l : Fin 1024) :
    (Cert.Reference14Ideal.Read.val_main_v1 (F := Ideal) x : FVec Ideal Cert.Reference14Ideal.S256x1024 .f32) (ix2 r l) = grad x r l := by
  pointwise [Cert.Reference14Ideal.Read.val_main_v1, Cert.Reference14Ideal.Read.val_main_cst, Cert.Reference14Ideal.Read.val_main_v0]
  rfl

/-- The reference's moving average. -/
theorem refFirst (r : Fin 256) (l : Fin 1024) :
    (Cert.Reference14Ideal.Read.val_main_v6 (F := Ideal) x mo : FVec Ideal Cert.Reference14Ideal.S256x1024 .f32) (ix2 r l) = first (mo (ix2 r l)) (grad x r l) := by
  rw [← refGrad]
  unfold first
  pointwise [Cert.Reference14Ideal.Read.val_main_v0, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

/-- The reference's moving average of the squares. -/
theorem refSecond (r : Fin 256) (l : Fin 1024) :
    (Cert.Reference14Ideal.Read.val_main_v12 (F := Ideal) x v : FVec Ideal Cert.Reference14Ideal.S256x1024 .f32) (ix2 r l) = second (v (ix2 r l)) (grad x r l) := by
  rw [← refGrad]
  unfold second
  pointwise [Cert.Reference14Ideal.Read.val_main_v0, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

/-- The reference's step. -/
theorem refDelta (r : Fin 256) (l : Fin 1024) :
    (Cert.Reference14Ideal.Read.val_main_v25 (F := Ideal) x w mo v : FVec Ideal Cert.Reference14Ideal.S256x1024 .f32) (ix2 r l) = delta (w (ix2 r l)) (mo (ix2 r l)) (v (ix2 r l)) (grad x r l) := by
  rw [← refGrad]
  unfold delta first second
  pointwise [Cert.Reference14Ideal.Read.val_main_v0, Cert.Reference14Ideal.Read.val_main_v2, Cert.Reference14Ideal.Read.val_main_v3, Cert.Reference14Ideal.Read.val_main_v4, Cert.Reference14Ideal.Read.val_main_v5, Cert.Reference14Ideal.Read.val_main_v6, Cert.Reference14Ideal.Read.val_main_v7, Cert.Reference14Ideal.Read.val_main_v8, Cert.Reference14Ideal.Read.val_main_v9, Cert.Reference14Ideal.Read.val_main_v10, Cert.Reference14Ideal.Read.val_main_v11, Cert.Reference14Ideal.Read.val_main_v12, Cert.Reference14Ideal.Read.val_main_v13, Cert.Reference14Ideal.Read.val_main_v14, Cert.Reference14Ideal.Read.val_main_v15, Cert.Reference14Ideal.Read.val_main_v16, Cert.Reference14Ideal.Read.val_main_v17, Cert.Reference14Ideal.Read.val_main_v18, Cert.Reference14Ideal.Read.val_main_v19, Cert.Reference14Ideal.Read.val_main_v20, Cert.Reference14Ideal.Read.val_main_v21, Cert.Reference14Ideal.Read.val_main_v22, Cert.Reference14Ideal.Read.val_main_v23, Cert.Reference14Ideal.Read.val_main_v24, Cert.Reference14Ideal.Read.val_main_v25, Cert.Reference14Ideal.Read.val_main_cst, Cert.Reference14Ideal.Read.val_main_cst_0, Cert.Reference14Ideal.Read.val_main_cst_1, Cert.Reference14Ideal.Read.val_main_cst_2, Cert.Reference14Ideal.Read.val_main_cst_3, Cert.Reference14Ideal.Read.val_main_cst_4, Cert.Reference14Ideal.Read.val_main_cst_5, Cert.Reference14Ideal.Read.val_main_cst_6, Cert.Reference14Ideal.Read.val_main_cst_7, Cert.Reference14Ideal.Read.val_main_cst_8]

/-- The kernel's four arrays are the reference's. -/
theorem algebraic : Cert.algebraic_Kernel14Ideal_Reference14Ideal (hKernel14Ideal := Cert.Kernel14Ideal.Gen.facts) (hReference14Ideal := Cert.Reference14Ideal.Gen.facts) := by
  intro m g m' g' hpre hagree
  refine ⟨fun c => (Kernel14Ideal.Gen.dats m 0 c).arrAt 4 Kernel14Ideal.cfg0.N, fun c => (Kernel14Ideal.Gen.dats m 0 c).arrAt 5 Kernel14Ideal.cfg0.N,
    fun c => (Kernel14Ideal.Gen.dats m 0 c).arrAt 6 Kernel14Ideal.cfg0.N, fun c => (Kernel14Ideal.Gen.dats m 0 c).arrAt 7 Kernel14Ideal.cfg0.N,
    Kernel14Ideal.Value.run_blocks m g, ?_⟩
  refine (θ_run Reference14Ideal.defs _ _).mono (fun r h c => ?_) (Reference14Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference14Ideal.Read.val_main_v1_eq]
    refine Eq.trans ?_ (finalGrad m c).symm
    funext i
    idx_vars i
    refine (refGrad _ i0 i1).trans ?_
    rw [a0]
  · rw [Reference14Ideal.Read.val_main_v25_eq]
    refine Eq.trans ?_ (finalDelta m c).symm
    funext i
    idx_vars i
    refine (refDelta _ _ _ _ i0 i1).trans ?_
    rw [a0, a1, a2, a3]
  · rw [Reference14Ideal.Read.val_main_v6_eq]
    refine Eq.trans ?_ (finalFirst m c).symm
    funext i
    idx_vars i
    refine (refFirst _ _ i0 i1).trans ?_
    rw [a0, a2]
  · rw [Reference14Ideal.Read.val_main_v12_eq]
    refine Eq.trans ?_ (finalSecond m c).symm
    funext i
    idx_vars i
    refine (refSecond _ _ i0 i1).trans ?_
    rw [a0, a3]

end Cert.Adam.Ssd

end
-- ==== Proof.Adam.Out.lean ====
module

public import proofs.«01_k».proof.Defs
public import proofs.«01_k».proof.Proof.Gen.Kernel15Ideal.Value
public import proofs.«01_k».proof.Proof.Gen.Reference15Ideal.Run
public import proofs.«01_k».proof.Proof.Gen.Reference15Ideal.Read
public import proofs.«01_k».proof.Proof.Adam.Step
public import Idealize.ShloMosaic.Lib.Pipeline.ValueKit

@[expose] public section

set_option maxRecDepth 16384

noncomputable section

/-! # The optimiser's step of `w_branch_gmlp` and `w_out`

The kernel adds the eight devices' shares of the gradient one after the other; the reference adds them in
one sum. The rest is number by number. -/

namespace Cert.Adam.Out

open Cert.Kernel15Ideal Cert.Kernel15Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x128x1024 .bf16) (r : Fin 128) (l : Fin 1024) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x128x1024 .bf16) (w mo v : FVec Ideal S128x1024 .f32) (r : Fin 128) (l : Fin 1024) :
    (k0_pay5 x w mo v : FVec Ideal S128x1024 .f32) (ix2 r l) = ∑ k : Fin 8, (x (ix3 k r l) : EReal) := by
  unfold k0_pay5 k0_pay4
  pointwise []
  rw [Fin.sum_univ_eight]

/-- The moving average that the body stores. -/
theorem firstTile (g mo : FVec Ideal S128x1024 .f32) (r : Fin 128) (l : Fin 1024) :
    (k0_pay1 g mo (Scalar.ofBits .f32 0x3F666666#32) : FVec Ideal S128x1024 .f32) (ix2 r l) = first (mo (ix2 r l)) (g (ix2 r l)) := by
  unfold k0_pay1 first
  pointwise []

/-- The moving average of the squares that the body stores. -/
theorem secondTile (g v : FVec Ideal S128x1024 .f32) (r : Fin 128) (l : Fin 1024) :
    (k0_pay2 g v : FVec Ideal S128x1024 .f32) (ix2 r l) = second (v (ix2 r l)) (g (ix2 r l)) := by
  unfold k0_pay2 second
  pointwise []

/-- The step that the body stores. -/
theorem deltaTile (g mo v w : FVec Ideal S128x1024 .f32) (r : Fin 128) (l : Fin 1024) :
    (k0_pay3 g mo (Scalar.ofBits .f32 0x3F666666#32) v w : FVec Ideal S128x1024 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 128) (y1 : Fin 1024) (l : Fin 1024) (hl : l.val = y1.val) :
    (k0_pay5 (iblk m c 0 t) (iblk m c 1 t) (iblk m c 2 t) (iblk m c 3 t) : FVec Ideal S128x1024 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S128x1024.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S128x1024.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S128x1024.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S128x1024.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference15Ideal.S8x128x1024 .bf16) (w mo v : FVec Ideal Cert.Reference15Ideal.S128x1024 .f32)

/-- The reference's gradient. -/
theorem refGrad (r : Fin 128) (l : Fin 1024) :
    (Cert.Reference15Ideal.Read.val_main_v1 (F := Ideal) x : FVec Ideal Cert.Reference15Ideal.S128x1024 .f32) (ix2 r l) = grad x r l := by
  pointwise [Cert.Reference15Ideal.Read.val_main_v1, Cert.Reference15Ideal.Read.val_main_cst, Cert.Reference15Ideal.Read.val_main_v0]
  rfl

/-- The reference's moving average. -/
theorem refFirst (r : Fin 128) (l : Fin 1024) :
    (Cert.Reference15Ideal.Read.val_main_v6 (F := Ideal) x mo : FVec Ideal Cert.Reference15Ideal.S128x1024 .f32) (ix2 r l) = first (mo (ix2 r l)) (grad x r l) := by
  rw [← refGrad]
  unfold first
  pointwise [Cert.Reference15Ideal.Read.val_main_v0, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

/-- The reference's moving average of the squares. -/
theorem refSecond (r : Fin 128) (l : Fin 1024) :
    (Cert.Reference15Ideal.Read.val_main_v12 (F := Ideal) x v : FVec Ideal Cert.Reference15Ideal.S128x1024 .f32) (ix2 r l) = second (v (ix2 r l)) (grad x r l) := by
  rw [← refGrad]
  unfold second
  pointwise [Cert.Reference15Ideal.Read.val_main_v0, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

/-- The reference's step. -/
theorem refDelta (r : Fin 128) (l : Fin 1024) :
    (Cert.Reference15Ideal.Read.val_main_v25 (F := Ideal) x w mo v : FVec Ideal Cert.Reference15Ideal.S128x1024 .f32) (ix2 r l) = delta (w (ix2 r l)) (mo (ix2 r l)) (v (ix2 r l)) (grad x r l) := by
  rw [← refGrad]
  unfold delta first second
  pointwise [Cert.Reference15Ideal.Read.val_main_v0, Cert.Reference15Ideal.Read.val_main_v2, Cert.Reference15Ideal.Read.val_main_v3, Cert.Reference15Ideal.Read.val_main_v4, Cert.Reference15Ideal.Read.val_main_v5, Cert.Reference15Ideal.Read.val_main_v6, Cert.Reference15Ideal.Read.val_main_v7, Cert.Reference15Ideal.Read.val_main_v8, Cert.Reference15Ideal.Read.val_main_v9, Cert.Reference15Ideal.Read.val_main_v10, Cert.Reference15Ideal.Read.val_main_v11, Cert.Reference15Ideal.Read.val_main_v12, Cert.Reference15Ideal.Read.val_main_v13, Cert.Reference15Ideal.Read.val_main_v14, Cert.Reference15Ideal.Read.val_main_v15, Cert.Reference15Ideal.Read.val_main_v16, Cert.Reference15Ideal.Read.val_main_v17, Cert.Reference15Ideal.Read.val_main_v18, Cert.Reference15Ideal.Read.val_main_v19, Cert.Reference15Ideal.Read.val_main_v20, Cert.Reference15Ideal.Read.val_main_v21, Cert.Reference15Ideal.Read.val_main_v22, Cert.Reference15Ideal.Read.val_main_v23, Cert.Reference15Ideal.Read.val_main_v24, Cert.Reference15Ideal.Read.val_main_v25, Cert.Reference15Ideal.Read.val_main_cst, Cert.Reference15Ideal.Read.val_main_cst_0, Cert.Reference15Ideal.Read.val_main_cst_1, Cert.Reference15Ideal.Read.val_main_cst_2, Cert.Reference15Ideal.Read.val_main_cst_3, Cert.Reference15Ideal.Read.val_main_cst_4, Cert.Reference15Ideal.Read.val_main_cst_5, Cert.Reference15Ideal.Read.val_main_cst_6, Cert.Reference15Ideal.Read.val_main_cst_7, Cert.Reference15Ideal.Read.val_main_cst_8]

/-- The kernel's four arrays are the reference's. -/
theorem algebraic : Cert.algebraic_Kernel15Ideal_Reference15Ideal (hKernel15Ideal := Cert.Kernel15Ideal.Gen.facts) (hReference15Ideal := Cert.Reference15Ideal.Gen.facts) := by
  intro m g m' g' hpre hagree
  refine ⟨fun c => (Kernel15Ideal.Gen.dats m 0 c).arrAt 4 Kernel15Ideal.cfg0.N, fun c => (Kernel15Ideal.Gen.dats m 0 c).arrAt 5 Kernel15Ideal.cfg0.N,
    fun c => (Kernel15Ideal.Gen.dats m 0 c).arrAt 6 Kernel15Ideal.cfg0.N, fun c => (Kernel15Ideal.Gen.dats m 0 c).arrAt 7 Kernel15Ideal.cfg0.N,
    Kernel15Ideal.Value.run_blocks m g, ?_⟩
  refine (θ_run Reference15Ideal.defs _ _).mono (fun r h c => ?_) (Reference15Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference15Ideal.Read.val_main_v1_eq]
    refine Eq.trans ?_ (finalGrad m c).symm
    funext i
    idx_vars i
    refine (refGrad _ i0 i1).trans ?_
    rw [a0]
  · rw [Reference15Ideal.Read.val_main_v25_eq]
    refine Eq.trans ?_ (finalDelta m c).symm
    funext i
    idx_vars i
    refine (refDelta _ _ _ _ i0 i1).trans ?_
    rw [a0, a1, a2, a3]
  · rw [Reference15Ideal.Read.val_main_v6_eq]
    refine Eq.trans ?_ (finalFirst m c).symm
    funext i
    idx_vars i
    refine (refFirst _ _ i0 i1).trans ?_
    rw [a0, a2]
  · rw [Reference15Ideal.Read.val_main_v12_eq]
    refine Eq.trans ?_ (finalSecond m c).symm
    funext i
    idx_vars i
    refine (refSecond _ _ i0 i1).trans ?_
    rw [a0, a3]

end Cert.Adam.Out

end
-- ==== Proof.Adam.Memory.lean ====
module

public import proofs.«01_k».proof.Defs
public import proofs.«01_k».proof.Proof.Gen.Kernel16Ideal.Value
public import proofs.«01_k».proof.Proof.Gen.Reference16Ideal.Run
public import proofs.«01_k».proof.Proof.Gen.Reference16Ideal.Read
public import proofs.«01_k».proof.Proof.Adam.Step
public import Idealize.ShloMosaic.Lib.Pipeline.ValueKit

@[expose] public section

set_option maxRecDepth 16384

noncomputable section

/-! # The optimiser's step of `w_mem_kv`

The kernel adds the eight devices' shares of the gradient one after the other; the reference adds them in
one sum. The rest is number by number. -/

namespace Cert.Adam.Memory

open Cert.Kernel16Ideal Cert.Kernel16Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x128x512 .bf16) (r : Fin 128) (l : Fin 512) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x128x512 .bf16) (w mo v : FVec Ideal S128x512 .f32) (r : Fin 128) (l : Fin 512) :
    (k0_pay5 x w mo v : FVec Ideal S128x512 .f32) (ix2 r l) = ∑ k : Fin 8, (x (ix3 k r l) : EReal) := by
  unfold k0_pay5 k0_pay4
  pointwise []
  rw [Fin.sum_univ_eight]

/-- The moving average that the body stores. -/
theorem firstTile (g mo : FVec Ideal S128x512 .f32) (r : Fin 128) (l : Fin 512) :
    (k0_pay1 g mo (Scalar.ofBits .f32 0x3F666666#32) : FVec Ideal S128x512 .f32) (ix2 r l) = first (mo (ix2 r l)) (g (ix2 r l)) := by
  unfold k0_pay1 first
  pointwise []

/-- The moving average of the squares that the body stores. -/
theorem secondTile (g v : FVec Ideal S128x512 .f32) (r : Fin 128) (l : Fin 512) :
    (k0_pay2 g v : FVec Ideal S128x512 .f32) (ix2 r l) = second (v (ix2 r l)) (g (ix2 r l)) := by
  unfold k0_pay2 second
  pointwise []

/-- The step that the body stores. -/
theorem deltaTile (g mo v w : FVec Ideal S128x512 .f32) (r : Fin 128) (l : Fin 512) :
    (k0_pay3 g mo (Scalar.ofBits .f32 0x3F666666#32) v w : FVec Ideal S128x512 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 128) (y1 : Fin 512) (l : Fin 512) (hl : l.val = y1.val) :
    (k0_pay5 (iblk m c 0 t) (iblk m c 1 t) (iblk m c 2 t) (iblk m c 3 t) : FVec Ideal S128x512 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S128x512.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S128x512.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S128x512.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S128x512.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference16Ideal.S8x128x512 .bf16) (w mo v : FVec Ideal Cert.Reference16Ideal.S128x512 .f32)

/-- The reference's gradient. -/
theorem refGrad (r : Fin 128) (l : Fin 512) :
    (Cert.Reference16Ideal.Read.val_main_v1 (F := Ideal) x : FVec Ideal Cert.Reference16Ideal.S128x512 .f32) (ix2 r l) = grad x r l := by
  pointwise [Cert.Reference16Ideal.Read.val_main_v1, Cert.Reference16Ideal.Read.val_main_cst, Cert.Reference16Ideal.Read.val_main_v0]
  rfl

/-- The reference's moving average. -/
theorem refFirst (r : Fin 128) (l : Fin 512) :
    (Cert.Reference16Ideal.Read.val_main_v6 (F := Ideal) x mo : FVec Ideal Cert.Reference16Ideal.S128x512 .f32) (ix2 r l) = first (mo (ix2 r l)) (grad x r l) := by
  rw [← refGrad]
  unfold first
  pointwise [Cert.Reference16Ideal.Read.val_main_v0, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

/-- The reference's moving average of the squares. -/
theorem refSecond (r : Fin 128) (l : Fin 512) :
    (Cert.Reference16Ideal.Read.val_main_v12 (F := Ideal) x v : FVec Ideal Cert.Reference16Ideal.S128x512 .f32) (ix2 r l) = second (v (ix2 r l)) (grad x r l) := by
  rw [← refGrad]
  unfold second
  pointwise [Cert.Reference16Ideal.Read.val_main_v0, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

/-- The reference's step. -/
theorem refDelta (r : Fin 128) (l : Fin 512) :
    (Cert.Reference16Ideal.Read.val_main_v25 (F := Ideal) x w mo v : FVec Ideal Cert.Reference16Ideal.S128x512 .f32) (ix2 r l) = delta (w (ix2 r l)) (mo (ix2 r l)) (v (ix2 r l)) (grad x r l) := by
  rw [← refGrad]
  unfold delta first second
  pointwise [Cert.Reference16Ideal.Read.val_main_v0, Cert.Reference16Ideal.Read.val_main_v2, Cert.Reference16Ideal.Read.val_main_v3, Cert.Reference16Ideal.Read.val_main_v4, Cert.Reference16Ideal.Read.val_main_v5, Cert.Reference16Ideal.Read.val_main_v6, Cert.Reference16Ideal.Read.val_main_v7, Cert.Reference16Ideal.Read.val_main_v8, Cert.Reference16Ideal.Read.val_main_v9, Cert.Reference16Ideal.Read.val_main_v10, Cert.Reference16Ideal.Read.val_main_v11, Cert.Reference16Ideal.Read.val_main_v12, Cert.Reference16Ideal.Read.val_main_v13, Cert.Reference16Ideal.Read.val_main_v14, Cert.Reference16Ideal.Read.val_main_v15, Cert.Reference16Ideal.Read.val_main_v16, Cert.Reference16Ideal.Read.val_main_v17, Cert.Reference16Ideal.Read.val_main_v18, Cert.Reference16Ideal.Read.val_main_v19, Cert.Reference16Ideal.Read.val_main_v20, Cert.Reference16Ideal.Read.val_main_v21, Cert.Reference16Ideal.Read.val_main_v22, Cert.Reference16Ideal.Read.val_main_v23, Cert.Reference16Ideal.Read.val_main_v24, Cert.Reference16Ideal.Read.val_main_v25, Cert.Reference16Ideal.Read.val_main_cst, Cert.Reference16Ideal.Read.val_main_cst_0, Cert.Reference16Ideal.Read.val_main_cst_1, Cert.Reference16Ideal.Read.val_main_cst_2, Cert.Reference16Ideal.Read.val_main_cst_3, Cert.Reference16Ideal.Read.val_main_cst_4, Cert.Reference16Ideal.Read.val_main_cst_5, Cert.Reference16Ideal.Read.val_main_cst_6, Cert.Reference16Ideal.Read.val_main_cst_7, Cert.Reference16Ideal.Read.val_main_cst_8]

/-- The kernel's four arrays are the reference's. -/
theorem algebraic : Cert.algebraic_Kernel16Ideal_Reference16Ideal (hKernel16Ideal := Cert.Kernel16Ideal.Gen.facts) (hReference16Ideal := Cert.Reference16Ideal.Gen.facts) := by
  intro m g m' g' hpre hagree
  refine ⟨fun c => (Kernel16Ideal.Gen.dats m 0 c).arrAt 4 Kernel16Ideal.cfg0.N, fun c => (Kernel16Ideal.Gen.dats m 0 c).arrAt 5 Kernel16Ideal.cfg0.N,
    fun c => (Kernel16Ideal.Gen.dats m 0 c).arrAt 6 Kernel16Ideal.cfg0.N, fun c => (Kernel16Ideal.Gen.dats m 0 c).arrAt 7 Kernel16Ideal.cfg0.N,
    Kernel16Ideal.Value.run_blocks m g, ?_⟩
  refine (θ_run Reference16Ideal.defs _ _).mono (fun r h c => ?_) (Reference16Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference16Ideal.Read.val_main_v1_eq]
    refine Eq.trans ?_ (finalGrad m c).symm
    funext i
    idx_vars i
    refine (refGrad _ i0 i1).trans ?_
    rw [a0]
  · rw [Reference16Ideal.Read.val_main_v25_eq]
    refine Eq.trans ?_ (finalDelta m c).symm
    funext i
    idx_vars i
    refine (refDelta _ _ _ _ i0 i1).trans ?_
    rw [a0, a1, a2, a3]
  · rw [Reference16Ideal.Read.val_main_v6_eq]
    refine Eq.trans ?_ (finalFirst m c).symm
    funext i
    idx_vars i
    refine (refFirst _ _ i0 i1).trans ?_
    rw [a0, a2]
  · rw [Reference16Ideal.Read.val_main_v12_eq]
    refine Eq.trans ?_ (finalSecond m c).symm
    funext i
    idx_vars i
    refine (refSecond _ _ i0 i1).trans ?_
    rw [a0, a3]

end Cert.Adam.Memory

end
-- ==== Proof.Adam.Branch.lean ====
module

public import proofs.«01_k».proof.Defs
public import proofs.«01_k».proof.Proof.Gen.Kernel17Ideal.Value
public import proofs.«01_k».proof.Proof.Gen.Reference17Ideal.Run
public import proofs.«01_k».proof.Proof.Gen.Reference17Ideal.Read
public import proofs.«01_k».proof.Proof.Adam.Step
public import Idealize.ShloMosaic.Lib.Pipeline.ValueKit

@[expose] public section

set_option maxRecDepth 16384

noncomputable section

/-! # The optimiser's step of `w_branch_mem`

The kernel adds the eight devices' shares of the gradient one after the other; the reference adds them in
one sum. The rest is number by number. -/

namespace Cert.Adam.Branch

open Cert.Kernel17Ideal Cert.Kernel17Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x128x256 .bf16) (r : Fin 128) (l : Fin 256) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x128x256 .bf16) (w mo v : FVec Ideal S128x256 .f32) (r : Fin 128) (l : Fin 256) :
    (k0_pay5 x w mo v : FVec Ideal S128x256 .f32) (ix2 r l) = ∑ k : Fin 8, (x (ix3 k r l) : EReal) := by
  unfold k0_pay5 k0_pay4
  pointwise []
  rw [Fin.sum_univ_eight]

/-- The moving average that the body stores. -/
theorem firstTile (g mo : FVec Ideal S128x256 .f32) (r : Fin 128) (l : Fin 256) :
    (k0_pay1 g mo (Scalar.ofBits .f32 0x3F666666#32) : FVec Ideal S128x256 .f32) (ix2 r l) = first (mo (ix2 r l)) (g (ix2 r l)) := by
  unfold k0_pay1 first
  pointwise []

/-- The moving average of the squares that the body stores. -/
theorem secondTile (g v : FVec Ideal S128x256 .f32) (r : Fin 128) (l : Fin 256) :
    (k0_pay2 g v : FVec Ideal S128x256 .f32) (ix2 r l) = second (v (ix2 r l)) (g (ix2 r l)) := by
  unfold k0_pay2 second
  pointwise []

/-- The step that the body stores. -/
theorem deltaTile (g mo v w : FVec Ideal S128x256 .f32) (r : Fin 128) (l : Fin 256) :
    (k0_pay3 g mo (Scalar.ofBits .f32 0x3F666666#32) v w : FVec Ideal S128x256 .f32) (ix2 r l)
      = delta (w (ix2 r l)) (mo (ix2 r l)) (v (ix2 r l)) (g (ix2 r l)) := by
  unfold k0_pay3 k0_pay1 k0_pay2 delta first second
  pointwise []

/-- A block of the shares, added up, is the sum's block. -/
theorem shares (c : Dev nD) (t : Fin cfg0.N) (y0 : Fin 128) (y1 : Fin 256) (l : Fin 256) (hl : l.val = y1.val) :
    (k0_pay5 (iblk m c 0 t) (iblk m c 1 t) (iblk m c 2 t) (iblk m c 3 t) : FVec Ideal S128x256 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S128x256.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S128x256.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ y0 y1).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S128x256.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile _ _ y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S128x256.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference17Ideal.S8x128x256 .bf16) (w mo v : FVec Ideal Cert.Reference17Ideal.S128x256 .f32)

/-- The reference's gradient. -/
theorem refGrad (r : Fin 128) (l : Fin 256) :
    (Cert.Reference17Ideal.Read.val_main_v1 (F := Ideal) x : FVec Ideal Cert.Reference17Ideal.S128x256 .f32) (ix2 r l) = grad x r l := by
  pointwise [Cert.Reference17Ideal.Read.val_main_v1, Cert.Reference17Ideal.Read.val_main_cst, Cert.Reference17Ideal.Read.val_main_v0]
  rfl

/-- The reference's moving average. -/
theorem refFirst (r : Fin 128) (l : Fin 256) :
    (Cert.Reference17Ideal.Read.val_main_v6 (F := Ideal) x mo : FVec Ideal Cert.Reference17Ideal.S128x256 .f32) (ix2 r l) = first (mo (ix2 r l)) (grad x r l) := by
  rw [← refGrad]
  unfold first
  pointwise [Cert.Reference17Ideal.Read.val_main_v0, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7, Cert.Reference17Ideal.Read.val_main_cst_8]

/-- The reference's moving average of the squares. -/
theorem refSecond (r : Fin 128) (l : Fin 256) :
    (Cert.Reference17Ideal.Read.val_main_v12 (F := Ideal) x v : FVec Ideal Cert.Reference17Ideal.S128x256 .f32) (ix2 r l) = second (v (ix2 r l)) (grad x r l) := by
  rw [← refGrad]
  unfold second
  pointwise [Cert.Reference17Ideal.Read.val_main_v0, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7, Cert.Reference17Ideal.Read.val_main_cst_8]

/-- The reference's step. -/
theorem refDelta (r : Fin 128) (l : Fin 256) :
    (Cert.Reference17Ideal.Read.val_main_v25 (F := Ideal) x w mo v : FVec Ideal Cert.Reference17Ideal.S128x256 .f32) (ix2 r l) = delta (w (ix2 r l)) (mo (ix2 r l)) (v (ix2 r l)) (grad x r l) := by
  rw [← refGrad]
  unfold delta first second
  pointwise [Cert.Reference17Ideal.Read.val_main_v0, Cert.Reference17Ideal.Read.val_main_v2, Cert.Reference17Ideal.Read.val_main_v3, Cert.Reference17Ideal.Read.val_main_v4, Cert.Reference17Ideal.Read.val_main_v5, Cert.Reference17Ideal.Read.val_main_v6, Cert.Reference17Ideal.Read.val_main_v7, Cert.Reference17Ideal.Read.val_main_v8, Cert.Reference17Ideal.Read.val_main_v9, Cert.Reference17Ideal.Read.val_main_v10, Cert.Reference17Ideal.Read.val_main_v11, Cert.Reference17Ideal.Read.val_main_v12, Cert.Reference17Ideal.Read.val_main_v13, Cert.Reference17Ideal.Read.val_main_v14, Cert.Reference17Ideal.Read.val_main_v15, Cert.Reference17Ideal.Read.val_main_v16, Cert.Reference17Ideal.Read.val_main_v17, Cert.Reference17Ideal.Read.val_main_v18, Cert.Reference17Ideal.Read.val_main_v19, Cert.Reference17Ideal.Read.val_main_v20, Cert.Reference17Ideal.Read.val_main_v21, Cert.Reference17Ideal.Read.val_main_v22, Cert.Reference17Ideal.Read.val_main_v23, Cert.Reference17Ideal.Read.val_main_v24, Cert.Reference17Ideal.Read.val_main_v25, Cert.Reference17Ideal.Read.val_main_cst, Cert.Reference17Ideal.Read.val_main_cst_0, Cert.Reference17Ideal.Read.val_main_cst_1, Cert.Reference17Ideal.Read.val_main_cst_2, Cert.Reference17Ideal.Read.val_main_cst_3, Cert.Reference17Ideal.Read.val_main_cst_4, Cert.Reference17Ideal.Read.val_main_cst_5, Cert.Reference17Ideal.Read.val_main_cst_6, Cert.Reference17Ideal.Read.val_main_cst_7, Cert.Reference17Ideal.Read.val_main_cst_8]

/-- The kernel's four arrays are the reference's. -/
theorem algebraic : Cert.algebraic_Kernel17Ideal_Reference17Ideal (hKernel17Ideal := Cert.Kernel17Ideal.Gen.facts) (hReference17Ideal := Cert.Reference17Ideal.Gen.facts) := by
  intro m g m' g' hpre hagree
  refine ⟨fun c => (Kernel17Ideal.Gen.dats m 0 c).arrAt 4 Kernel17Ideal.cfg0.N, fun c => (Kernel17Ideal.Gen.dats m 0 c).arrAt 5 Kernel17Ideal.cfg0.N,
    fun c => (Kernel17Ideal.Gen.dats m 0 c).arrAt 6 Kernel17Ideal.cfg0.N, fun c => (Kernel17Ideal.Gen.dats m 0 c).arrAt 7 Kernel17Ideal.cfg0.N,
    Kernel17Ideal.Value.run_blocks m g, ?_⟩
  refine (θ_run Reference17Ideal.defs _ _).mono (fun r h c => ?_) (Reference17Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference17Ideal.Read.val_main_v1_eq]
    refine Eq.trans ?_ (finalGrad m c).symm
    funext i
    idx_vars i
    refine (refGrad _ i0 i1).trans ?_
    rw [a0]
  · rw [Reference17Ideal.Read.val_main_v25_eq]
    refine Eq.trans ?_ (finalDelta m c).symm
    funext i
    idx_vars i
    refine (refDelta _ _ _ _ i0 i1).trans ?_
    rw [a0, a1, a2, a3]
  · rw [Reference17Ideal.Read.val_main_v6_eq]
    refine Eq.trans ?_ (finalFirst m c).symm
    funext i
    idx_vars i
    refine (refFirst _ _ i0 i1).trans ?_
    rw [a0, a2]
  · rw [Reference17Ideal.Read.val_main_v12_eq]
    refine Eq.trans ?_ (finalSecond m c).symm
    funext i
    idx_vars i
    refine (refSecond _ _ i0 i1).trans ?_
    rw [a0, a3]

end Cert.Adam.Branch

end
-- ==== Proof.Adam.Conv.lean ====
module

public import proofs.«01_k».proof.Defs
public import proofs.«01_k».proof.Proof.Gen.Kernel18Ideal.Value
public import proofs.«01_k».proof.Proof.Gen.Reference18Ideal.Run
public import proofs.«01_k».proof.Proof.Gen.Reference18Ideal.Read
public import proofs.«01_k».proof.Proof.Adam.Step
public import Idealize.ShloMosaic.Lib.Pipeline.ValueKit

@[expose] public section

set_option maxRecDepth 16384

noncomputable section

/-! # The optimiser's step of `ssd_conv_w`

The kernel adds the eight devices' shares of the gradient one after the other; the reference adds them in
one sum. The rest is number by number. -/

namespace Cert.Adam.Conv

open Cert.Kernel18Ideal Cert.Kernel18Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x4x384 .f32) (r : Fin 4) (l : Fin 384) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x4x384 .f32) (w mo v : FVec Ideal S4x384 .f32) (r : Fin 4) (l : Fin 384) :
    (k0_pay5 x w mo v : FVec Ideal S4x384 .f32) (ix2 r l) = ∑ k : Fin 8, (x (ix3 k r l) : EReal) := by
  unfold k0_pay5 k0_pay3
  pointwise []
  rw [Fin.sum_univ_eight]

/-- The moving average that the body stores. -/
theorem firstTile (x : FVec Ideal S8x4x384 .f32) (w mo v : FVec Ideal S4x384 .f32) (r : Fin 4) (l : Fin 384) :
    (k0_pay6 x w mo v : FVec Ideal S4x384 .f32) (ix2 r l) = first (mo (ix2 r l)) ((k0_pay5 x w mo v : FVec Ideal S4x384 .f32) (ix2 r l)) := by
  unfold k0_pay6 k0_pay4 k0_pay5 k0_pay3 first
  pointwise []

/-- The moving average of the squares that the body stores. -/
theorem secondTile (g v : FVec Ideal S4x384 .f32) (r : Fin 4) (l : Fin 384) :
    (k0_pay1 g v : FVec Ideal S4x384 .f32) (ix2 r l) = second (v (ix2 r l)) (g (ix2 r l)) := by
  unfold k0_pay1 second
  pointwise []

/-- The step that the body stores, `f` being its moving average. -/
theorem deltaTile (g f v w mo : FVec Ideal S4x384 .f32) (r : Fin 4) (l : Fin 384) (h : (f (ix2 r l) : EReal) = first (mo (ix2 r l)) (g (ix2 r l))) :
    (k0_pay2 g f v w : FVec Ideal S4x384 .f32) (ix2 r l) = delta (w (ix2 r l)) (mo (ix2 r l)) (v (ix2 r l)) (g (ix2 r l)) := by
  unfold delta
  rw [← h]
  unfold k0_pay2 k0_pay1 second
  pointwise []

/-- A block of the shares, added up, is the sum's block. -/
theorem shares (c : Dev nD) (t : Fin cfg0.N) (y0 : Fin 4) (y1 : Fin 384) (l : Fin 384) (hl : l.val = y1.val) :
    (k0_pay5 (iblk m c 0 t) (iblk m c 1 t) (iblk m c 2 t) (iblk m c 3 t) : FVec Ideal S4x384 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S4x384.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S4x384.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ (iblk m c 2 t) y0 y1 (firstTile (iblk m c 0 t) (iblk m c 1 t) (iblk m c 2 t) (iblk m c 3 t) y0 y1)).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S4x384.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile (iblk m c 0 t) (iblk m c 1 t) (iblk m c 2 t) (iblk m c 3 t) y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S4x384.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference18Ideal.S8x4x384 .f32) (w mo v : FVec Ideal Cert.Reference18Ideal.S4x384 .f32)

/-- The reference's gradient. -/
theorem refGrad (r : Fin 4) (l : Fin 384) :
    (Cert.Reference18Ideal.Read.val_main_v0 (F := Ideal) x : FVec Ideal Cert.Reference18Ideal.S4x384 .f32) (ix2 r l) = grad x r l := by
  pointwise [Cert.Reference18Ideal.Read.val_main_v0, Cert.Reference18Ideal.Read.val_main_cst]
  rfl

/-- The reference's moving average. -/
theorem refFirst (r : Fin 4) (l : Fin 384) :
    (Cert.Reference18Ideal.Read.val_main_v5 (F := Ideal) x mo : FVec Ideal Cert.Reference18Ideal.S4x384 .f32) (ix2 r l) = first (mo (ix2 r l)) (grad x r l) := by
  rw [← refGrad]
  unfold first
  pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7, Cert.Reference18Ideal.Read.val_main_cst_8]

/-- The reference's moving average of the squares. -/
theorem refSecond (r : Fin 4) (l : Fin 384) :
    (Cert.Reference18Ideal.Read.val_main_v11 (F := Ideal) x v : FVec Ideal Cert.Reference18Ideal.S4x384 .f32) (ix2 r l) = second (v (ix2 r l)) (grad x r l) := by
  rw [← refGrad]
  unfold second
  pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7, Cert.Reference18Ideal.Read.val_main_cst_8]

/-- The reference's step. -/
theorem refDelta (r : Fin 4) (l : Fin 384) :
    (Cert.Reference18Ideal.Read.val_main_v24 (F := Ideal) x w mo v : FVec Ideal Cert.Reference18Ideal.S4x384 .f32) (ix2 r l) = delta (w (ix2 r l)) (mo (ix2 r l)) (v (ix2 r l)) (grad x r l) := by
  rw [← refGrad]
  unfold delta first second
  pointwise [Cert.Reference18Ideal.Read.val_main_v1, Cert.Reference18Ideal.Read.val_main_v2, Cert.Reference18Ideal.Read.val_main_v3, Cert.Reference18Ideal.Read.val_main_v4, Cert.Reference18Ideal.Read.val_main_v5, Cert.Reference18Ideal.Read.val_main_v6, Cert.Reference18Ideal.Read.val_main_v7, Cert.Reference18Ideal.Read.val_main_v8, Cert.Reference18Ideal.Read.val_main_v9, Cert.Reference18Ideal.Read.val_main_v10, Cert.Reference18Ideal.Read.val_main_v11, Cert.Reference18Ideal.Read.val_main_v12, Cert.Reference18Ideal.Read.val_main_v13, Cert.Reference18Ideal.Read.val_main_v14, Cert.Reference18Ideal.Read.val_main_v15, Cert.Reference18Ideal.Read.val_main_v16, Cert.Reference18Ideal.Read.val_main_v17, Cert.Reference18Ideal.Read.val_main_v18, Cert.Reference18Ideal.Read.val_main_v19, Cert.Reference18Ideal.Read.val_main_v20, Cert.Reference18Ideal.Read.val_main_v21, Cert.Reference18Ideal.Read.val_main_v22, Cert.Reference18Ideal.Read.val_main_v23, Cert.Reference18Ideal.Read.val_main_v24, Cert.Reference18Ideal.Read.val_main_cst, Cert.Reference18Ideal.Read.val_main_cst_0, Cert.Reference18Ideal.Read.val_main_cst_1, Cert.Reference18Ideal.Read.val_main_cst_2, Cert.Reference18Ideal.Read.val_main_cst_3, Cert.Reference18Ideal.Read.val_main_cst_4, Cert.Reference18Ideal.Read.val_main_cst_5, Cert.Reference18Ideal.Read.val_main_cst_6, Cert.Reference18Ideal.Read.val_main_cst_7, Cert.Reference18Ideal.Read.val_main_cst_8]

/-- The kernel's four arrays are the reference's. -/
theorem algebraic : Cert.algebraic_Kernel18Ideal_Reference18Ideal (hKernel18Ideal := Cert.Kernel18Ideal.Gen.facts) (hReference18Ideal := Cert.Reference18Ideal.Gen.facts) := by
  intro m g m' g' hpre hagree
  refine ⟨fun c => (Kernel18Ideal.Gen.dats m 0 c).arrAt 4 Kernel18Ideal.cfg0.N, fun c => (Kernel18Ideal.Gen.dats m 0 c).arrAt 5 Kernel18Ideal.cfg0.N,
    fun c => (Kernel18Ideal.Gen.dats m 0 c).arrAt 6 Kernel18Ideal.cfg0.N, fun c => (Kernel18Ideal.Gen.dats m 0 c).arrAt 7 Kernel18Ideal.cfg0.N,
    Kernel18Ideal.Value.run_blocks m g, ?_⟩
  refine (θ_run Reference18Ideal.defs _ _).mono (fun r h c => ?_) (Reference18Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference18Ideal.Read.val_main_v0_eq]
    refine Eq.trans ?_ (finalGrad m c).symm
    funext i
    idx_vars i
    refine (refGrad _ i0 i1).trans ?_
    rw [a0]
  · rw [Reference18Ideal.Read.val_main_v24_eq]
    refine Eq.trans ?_ (finalDelta m c).symm
    funext i
    idx_vars i
    refine (refDelta _ _ _ _ i0 i1).trans ?_
    rw [a0, a1, a2, a3]
  · rw [Reference18Ideal.Read.val_main_v5_eq]
    refine Eq.trans ?_ (finalFirst m c).symm
    funext i
    idx_vars i
    refine (refFirst _ _ i0 i1).trans ?_
    rw [a0, a2]
  · rw [Reference18Ideal.Read.val_main_v11_eq]
    refine Eq.trans ?_ (finalSecond m c).symm
    funext i
    idx_vars i
    refine (refSecond _ _ i0 i1).trans ?_
    rw [a0, a3]

end Cert.Adam.Conv

end
-- ==== Proof.Adam.Packed.lean ====
module

public import proofs.«01_k».proof.Defs
public import proofs.«01_k».proof.Proof.Gen.Kernel19Ideal.Value
public import proofs.«01_k».proof.Proof.Gen.Reference19Ideal.Run
public import proofs.«01_k».proof.Proof.Gen.Reference19Ideal.Read
public import proofs.«01_k».proof.Proof.Adam.Step
public import Idealize.ShloMosaic.Lib.Pipeline.ValueKit

@[expose] public section

set_option maxRecDepth 16384

noncomputable section

/-! # The optimiser's step of the packed weights that every device has whole

The kernel adds the eight devices' shares of the gradient one after the other; the reference adds them in
one sum. The rest is number by number. -/

namespace Cert.Adam.Packed

open Cert.Kernel19Ideal Cert.Kernel19Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x1136x128 .f32) (r : Fin 1136) (l : Fin 128) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x1136x128 .f32) (w mo v : FVec Ideal S1136x128 .f32) (r : Fin 1136) (l : Fin 128) :
    (k0_pay5 x w mo v : FVec Ideal S1136x128 .f32) (ix2 r l) = ∑ k : Fin 8, (x (ix3 k r l) : EReal) := by
  unfold k0_pay5 k0_pay3
  pointwise []
  rw [Fin.sum_univ_eight]

/-- The moving average that the body stores. -/
theorem firstTile (x : FVec Ideal S8x1136x128 .f32) (w mo v : FVec Ideal S1136x128 .f32) (r : Fin 1136) (l : Fin 128) :
    (k0_pay6 x w mo v : FVec Ideal S1136x128 .f32) (ix2 r l) = first (mo (ix2 r l)) ((k0_pay5 x w mo v : FVec Ideal S1136x128 .f32) (ix2 r l)) := by
  unfold k0_pay6 k0_pay4 k0_pay5 k0_pay3 first
  pointwise []

/-- The moving average of the squares that the body stores. -/
theorem secondTile (g v : FVec Ideal S1136x128 .f32) (r : Fin 1136) (l : Fin 128) :
    (k0_pay1 g v : FVec Ideal S1136x128 .f32) (ix2 r l) = second (v (ix2 r l)) (g (ix2 r l)) := by
  unfold k0_pay1 second
  pointwise []

/-- The step that the body stores, `f` being its moving average. -/
theorem deltaTile (g f v w mo : FVec Ideal S1136x128 .f32) (r : Fin 1136) (l : Fin 128) (h : (f (ix2 r l) : EReal) = first (mo (ix2 r l)) (g (ix2 r l))) :
    (k0_pay2 g f v w : FVec Ideal S1136x128 .f32) (ix2 r l) = delta (w (ix2 r l)) (mo (ix2 r l)) (v (ix2 r l)) (g (ix2 r l)) := by
  unfold delta
  rw [← h]
  unfold k0_pay2 k0_pay1 second
  pointwise []

/-- A block of the shares, added up, is the sum's block. -/
theorem shares (c : Dev nD) (t : Fin cfg0.N) (y0 : Fin 1136) (y1 : Fin 128) (l : Fin 128) (hl : l.val = y1.val) :
    (k0_pay5 (iblk m c 0 t) (iblk m c 1 t) (iblk m c 2 t) (iblk m c 3 t) : FVec Ideal S1136x128 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S1136x128.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S1136x128.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ (iblk m c 2 t) y0 y1 (firstTile (iblk m c 0 t) (iblk m c 1 t) (iblk m c 2 t) (iblk m c 3 t) y0 y1)).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S1136x128.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile (iblk m c 0 t) (iblk m c 1 t) (iblk m c 2 t) (iblk m c 3 t) y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S1136x128.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference19Ideal.S8x1136x128 .f32) (w mo v : FVec Ideal Cert.Reference19Ideal.S1136x128 .f32)

/-- The reference's gradient. -/
theorem refGrad (r : Fin 1136) (l : Fin 128) :
    (Cert.Reference19Ideal.Read.val_main_v0 (F := Ideal) x : FVec Ideal Cert.Reference19Ideal.S1136x128 .f32) (ix2 r l) = grad x r l := by
  pointwise [Cert.Reference19Ideal.Read.val_main_v0, Cert.Reference19Ideal.Read.val_main_cst]
  rfl

/-- The reference's moving average. -/
theorem refFirst (r : Fin 1136) (l : Fin 128) :
    (Cert.Reference19Ideal.Read.val_main_v5 (F := Ideal) x mo : FVec Ideal Cert.Reference19Ideal.S1136x128 .f32) (ix2 r l) = first (mo (ix2 r l)) (grad x r l) := by
  rw [← refGrad]
  unfold first
  pointwise [Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7, Cert.Reference19Ideal.Read.val_main_cst_8]

/-- The reference's moving average of the squares. -/
theorem refSecond (r : Fin 1136) (l : Fin 128) :
    (Cert.Reference19Ideal.Read.val_main_v11 (F := Ideal) x v : FVec Ideal Cert.Reference19Ideal.S1136x128 .f32) (ix2 r l) = second (v (ix2 r l)) (grad x r l) := by
  rw [← refGrad]
  unfold second
  pointwise [Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7, Cert.Reference19Ideal.Read.val_main_cst_8]

/-- The reference's step. -/
theorem refDelta (r : Fin 1136) (l : Fin 128) :
    (Cert.Reference19Ideal.Read.val_main_v24 (F := Ideal) x w mo v : FVec Ideal Cert.Reference19Ideal.S1136x128 .f32) (ix2 r l) = delta (w (ix2 r l)) (mo (ix2 r l)) (v (ix2 r l)) (grad x r l) := by
  rw [← refGrad]
  unfold delta first second
  pointwise [Cert.Reference19Ideal.Read.val_main_v1, Cert.Reference19Ideal.Read.val_main_v2, Cert.Reference19Ideal.Read.val_main_v3, Cert.Reference19Ideal.Read.val_main_v4, Cert.Reference19Ideal.Read.val_main_v5, Cert.Reference19Ideal.Read.val_main_v6, Cert.Reference19Ideal.Read.val_main_v7, Cert.Reference19Ideal.Read.val_main_v8, Cert.Reference19Ideal.Read.val_main_v9, Cert.Reference19Ideal.Read.val_main_v10, Cert.Reference19Ideal.Read.val_main_v11, Cert.Reference19Ideal.Read.val_main_v12, Cert.Reference19Ideal.Read.val_main_v13, Cert.Reference19Ideal.Read.val_main_v14, Cert.Reference19Ideal.Read.val_main_v15, Cert.Reference19Ideal.Read.val_main_v16, Cert.Reference19Ideal.Read.val_main_v17, Cert.Reference19Ideal.Read.val_main_v18, Cert.Reference19Ideal.Read.val_main_v19, Cert.Reference19Ideal.Read.val_main_v20, Cert.Reference19Ideal.Read.val_main_v21, Cert.Reference19Ideal.Read.val_main_v22, Cert.Reference19Ideal.Read.val_main_v23, Cert.Reference19Ideal.Read.val_main_v24, Cert.Reference19Ideal.Read.val_main_cst, Cert.Reference19Ideal.Read.val_main_cst_0, Cert.Reference19Ideal.Read.val_main_cst_1, Cert.Reference19Ideal.Read.val_main_cst_2, Cert.Reference19Ideal.Read.val_main_cst_3, Cert.Reference19Ideal.Read.val_main_cst_4, Cert.Reference19Ideal.Read.val_main_cst_5, Cert.Reference19Ideal.Read.val_main_cst_6, Cert.Reference19Ideal.Read.val_main_cst_7, Cert.Reference19Ideal.Read.val_main_cst_8]

/-- The kernel's four arrays are the reference's. -/
theorem algebraic : Cert.algebraic_Kernel19Ideal_Reference19Ideal (hKernel19Ideal := Cert.Kernel19Ideal.Gen.facts) (hReference19Ideal := Cert.Reference19Ideal.Gen.facts) := by
  intro m g m' g' hpre hagree
  refine ⟨fun c => (Kernel19Ideal.Gen.dats m 0 c).arrAt 4 Kernel19Ideal.cfg0.N, fun c => (Kernel19Ideal.Gen.dats m 0 c).arrAt 5 Kernel19Ideal.cfg0.N,
    fun c => (Kernel19Ideal.Gen.dats m 0 c).arrAt 6 Kernel19Ideal.cfg0.N, fun c => (Kernel19Ideal.Gen.dats m 0 c).arrAt 7 Kernel19Ideal.cfg0.N,
    Kernel19Ideal.Value.run_blocks m g, ?_⟩
  refine (θ_run Reference19Ideal.defs _ _).mono (fun r h c => ?_) (Reference19Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference19Ideal.Read.val_main_v0_eq]
    refine Eq.trans ?_ (finalGrad m c).symm
    funext i
    idx_vars i
    refine (refGrad _ i0 i1).trans ?_
    rw [a0]
  · rw [Reference19Ideal.Read.val_main_v24_eq]
    refine Eq.trans ?_ (finalDelta m c).symm
    funext i
    idx_vars i
    refine (refDelta _ _ _ _ i0 i1).trans ?_
    rw [a0, a1, a2, a3]
  · rw [Reference19Ideal.Read.val_main_v5_eq]
    refine Eq.trans ?_ (finalFirst m c).symm
    funext i
    idx_vars i
    refine (refFirst _ _ i0 i1).trans ?_
    rw [a0, a2]
  · rw [Reference19Ideal.Read.val_main_v11_eq]
    refine Eq.trans ?_ (finalSecond m c).symm
    funext i
    idx_vars i
    refine (refSecond _ _ i0 i1).trans ?_
    rw [a0, a3]

end Cert.Adam.Packed

end
-- ==== Proof.Adam.First.lean ====
module

public import proofs.«01_k».proof.Defs
public import proofs.«01_k».proof.Proof.Gen.Kernel20Ideal.Value
public import proofs.«01_k».proof.Proof.Gen.Reference20Ideal.Run
public import proofs.«01_k».proof.Proof.Gen.Reference20Ideal.Read
public import proofs.«01_k».proof.Proof.Adam.Step
public import Idealize.ShloMosaic.Lib.Pipeline.ValueKit

@[expose] public section

set_option maxRecDepth 16384

noncomputable section

/-! # The optimiser's step of `ffn1_norm`

The kernel adds the eight devices' shares of the gradient one after the other; the reference adds them in
one sum. The rest is number by number. -/

namespace Cert.Adam.First

open Cert.Kernel20Ideal Cert.Kernel20Ideal.Gen Idealize.ShloMosaic Idealize.ShloMosaic.TcCoe Idealize.SL.Sem

variable (m : (ℓ : Loc nD τ sig) → Buf (Elt Ideal) ℓ)

/-- The gradient: the sum of the devices' shares. -/
def grad (x : FVec Ideal S8x8x128 .f32) (r : Fin 8) (l : Fin 128) : EReal := ∑ k : Fin 8, (x (ix3 k r l) : EReal)

/-- Where each window's block lies at point `t`. -/
theorem idx : ∀ t : Fin cfg0.N, win0_0.index t = ![0, 0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

/-- The gradient that the body adds up. -/
theorem tile (x : FVec Ideal S8x8x128 .f32) (w mo v : FVec Ideal S8x128 .f32) (r : Fin 8) (l : Fin 128) :
    (k0_pay5 x w mo v : FVec Ideal S8x128 .f32) (ix2 r l) = ∑ k : Fin 8, (x (ix3 k r l) : EReal) := by
  unfold k0_pay5 k0_pay3
  pointwise []
  rw [Fin.sum_univ_eight]

/-- The moving average that the body stores. -/
theorem firstTile (x : FVec Ideal S8x8x128 .f32) (w mo v : FVec Ideal S8x128 .f32) (r : Fin 8) (l : Fin 128) :
    (k0_pay6 x w mo v : FVec Ideal S8x128 .f32) (ix2 r l) = first (mo (ix2 r l)) ((k0_pay5 x w mo v : FVec Ideal S8x128 .f32) (ix2 r l)) := by
  unfold k0_pay6 k0_pay4 k0_pay5 k0_pay3 first
  pointwise []

/-- The moving average of the squares that the body stores. -/
theorem secondTile (g v : FVec Ideal S8x128 .f32) (r : Fin 8) (l : Fin 128) :
    (k0_pay1 g v : FVec Ideal S8x128 .f32) (ix2 r l) = second (v (ix2 r l)) (g (ix2 r l)) := by
  unfold k0_pay1 second
  pointwise []

/-- The step that the body stores, `f` being its moving average. -/
theorem deltaTile (g f v w mo : FVec Ideal S8x128 .f32) (r : Fin 8) (l : Fin 128) (h : (f (ix2 r l) : EReal) = first (mo (ix2 r l)) (g (ix2 r l))) :
    (k0_pay2 g f v w : FVec Ideal S8x128 .f32) (ix2 r l) = delta (w (ix2 r l)) (mo (ix2 r l)) (v (ix2 r l)) (g (ix2 r l)) := by
  unfold delta
  rw [← h]
  unfold k0_pay2 k0_pay1 second
  pointwise []

/-- A block of the shares, added up, is the sum's block. -/
theorem shares (c : Dev nD) (t : Fin cfg0.N) (y0 : Fin 8) (y1 : Fin 128) (l : Fin 128) (hl : l.val = y1.val) :
    (k0_pay5 (iblk m c 0 t) (iblk m c 1 t) (iblk m c 2 t) (iblk m c 3 t) : FVec Ideal S8x128 .f32) (ix2 y0 y1) = grad (m ((c : Thread nD τ).loc main_arg0)) y0 l := by
  refine (tile (iblk m c 0 t) (iblk m c 1 t) (iblk m c 2 t) (iblk m c 3 t) y0 y1).trans (Finset.sum_congr (M := EReal) rfl fun k _ => ?_)
  blk_ext! [iblk, V, idx t, hl]

/-- The gradient after the run. -/
theorem finalGrad (c : Dev nD) : (dats m 0 c).arrAt 4 cfg0.N = fun i : S8x128.Idx => grad (m ((c : Thread nD τ).loc main_arg0)) (i 0) (i 1) := by
  refine (dats m 0 c).arrAt_eq_of_covers 4 _ (by decide +kernel) fun t hf y => ?_
  blk_simp
  rw [after0_4]
  frame_out
  idx_vars y
  refine Eq.trans (b := grad (m ((c : Thread nD τ).loc main_arg0)) y0 ⟨y1.val, y1.isLt⟩) (shares m c t y0 y1 _ rfl) (congrArg₂ (grad (m ((c : Thread nD τ).loc main_arg0))) (Fin.ext ?_) (Fin.ext ?_))
  · blk_simp [idx t]
  · blk_simp [idx t]

/-- The step after the run. -/
theorem finalDelta (c : Dev nD) : (dats m 0 c).arrAt 5 cfg0.N
    = fun i : S8x128.Idx => delta ((m ((c : Thread nD τ).loc main_arg1)) i) ((m ((c : Thread nD τ).loc main_arg2)) i) ((m ((c : Thread nD τ).loc main_arg3)) i) (grad (m ((c : Thread nD τ).loc main_arg0)) (i 0) (i 1)) := by
  refine (dats m 0 c).arrAt_eq_of_covers 5 _ (by decide +kernel) fun t hf y => ?_
  blk_simp
  rw [after0_5]
  frame_out
  idx_vars y
  refine (deltaTile _ _ _ _ (iblk m c 2 t) y0 y1 (firstTile (iblk m c 0 t) (iblk m c 1 t) (iblk m c 2 t) (iblk m c 3 t) y0 y1)).trans ?_
  refine congr (congr (congr (congrArg delta ?_) ?_) ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_ext! [iblk, V, idx t]
  · blk_ext! [iblk, V, idx t]
  · blk_simp [idx t]
  · blk_simp [idx t]

/-- The moving average after the run. -/
theorem finalFirst (c : Dev nD) : (dats m 0 c).arrAt 6 cfg0.N
    = fun i : S8x128.Idx => first ((m ((c : Thread nD τ).loc main_arg2)) i) (grad (m ((c : Thread nD τ).loc main_arg0)) (i 0) (i 1)) := by
  refine (dats m 0 c).arrAt_eq_of_covers 6 _ (by decide +kernel) fun t hf y => ?_
  blk_simp
  rw [after0_6]
  frame_out
  idx_vars y
  refine (firstTile (iblk m c 0 t) (iblk m c 1 t) (iblk m c 2 t) (iblk m c 3 t) y0 y1).trans ?_
  refine congr (congrArg first ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

/-- The moving average of the squares after the run. -/
theorem finalSecond (c : Dev nD) : (dats m 0 c).arrAt 7 cfg0.N
    = fun i : S8x128.Idx => second ((m ((c : Thread nD τ).loc main_arg3)) i) (grad (m ((c : Thread nD τ).loc main_arg0)) (i 0) (i 1)) := by
  refine (dats m 0 c).arrAt_eq_of_covers 7 _ (by decide +kernel) fun t hf y => ?_
  blk_simp
  rw [after0_7]
  frame_out
  idx_vars y
  refine (secondTile _ _ y0 y1).trans ?_
  refine congr (congrArg second ?_) ((shares m c t y0 y1 ⟨y1.val, y1.isLt⟩ rfl).trans (congrArg₂ (grad (m ((c : Thread nD τ).loc main_arg0))) (Fin.ext ?_) (Fin.ext ?_)))
  · blk_ext! [iblk, V, idx t]
  · blk_simp [idx t]
  · blk_simp [idx t]

variable (x : FVec Ideal Cert.Reference20Ideal.S8x8x128 .f32) (w mo v : FVec Ideal Cert.Reference20Ideal.S8x128 .f32)

/-- The reference's gradient. -/
theorem refGrad (r : Fin 8) (l : Fin 128) :
    (Cert.Reference20Ideal.Read.val_main_v0 (F := Ideal) x : FVec Ideal Cert.Reference20Ideal.S8x128 .f32) (ix2 r l) = grad x r l := by
  pointwise [Cert.Reference20Ideal.Read.val_main_v0, Cert.Reference20Ideal.Read.val_main_cst]
  rfl

/-- The reference's moving average. -/
theorem refFirst (r : Fin 8) (l : Fin 128) :
    (Cert.Reference20Ideal.Read.val_main_v5 (F := Ideal) x mo : FVec Ideal Cert.Reference20Ideal.S8x128 .f32) (ix2 r l) = first (mo (ix2 r l)) (grad x r l) := by
  rw [← refGrad]
  unfold first
  pointwise [Cert.Reference20Ideal.Read.val_main_v1, Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_v17, Cert.Reference20Ideal.Read.val_main_v18, Cert.Reference20Ideal.Read.val_main_v19, Cert.Reference20Ideal.Read.val_main_v20, Cert.Reference20Ideal.Read.val_main_v21, Cert.Reference20Ideal.Read.val_main_v22, Cert.Reference20Ideal.Read.val_main_v23, Cert.Reference20Ideal.Read.val_main_v24, Cert.Reference20Ideal.Read.val_main_cst, Cert.Reference20Ideal.Read.val_main_cst_0, Cert.Reference20Ideal.Read.val_main_cst_1, Cert.Reference20Ideal.Read.val_main_cst_2, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7, Cert.Reference20Ideal.Read.val_main_cst_8]

/-- The reference's moving average of the squares. -/
theorem refSecond (r : Fin 8) (l : Fin 128) :
    (Cert.Reference20Ideal.Read.val_main_v11 (F := Ideal) x v : FVec Ideal Cert.Reference20Ideal.S8x128 .f32) (ix2 r l) = second (v (ix2 r l)) (grad x r l) := by
  rw [← refGrad]
  unfold second
  pointwise [Cert.Reference20Ideal.Read.val_main_v1, Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_v17, Cert.Reference20Ideal.Read.val_main_v18, Cert.Reference20Ideal.Read.val_main_v19, Cert.Reference20Ideal.Read.val_main_v20, Cert.Reference20Ideal.Read.val_main_v21, Cert.Reference20Ideal.Read.val_main_v22, Cert.Reference20Ideal.Read.val_main_v23, Cert.Reference20Ideal.Read.val_main_v24, Cert.Reference20Ideal.Read.val_main_cst, Cert.Reference20Ideal.Read.val_main_cst_0, Cert.Reference20Ideal.Read.val_main_cst_1, Cert.Reference20Ideal.Read.val_main_cst_2, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7, Cert.Reference20Ideal.Read.val_main_cst_8]

/-- The reference's step. -/
theorem refDelta (r : Fin 8) (l : Fin 128) :
    (Cert.Reference20Ideal.Read.val_main_v24 (F := Ideal) x w mo v : FVec Ideal Cert.Reference20Ideal.S8x128 .f32) (ix2 r l) = delta (w (ix2 r l)) (mo (ix2 r l)) (v (ix2 r l)) (grad x r l) := by
  rw [← refGrad]
  unfold delta first second
  pointwise [Cert.Reference20Ideal.Read.val_main_v1, Cert.Reference20Ideal.Read.val_main_v2, Cert.Reference20Ideal.Read.val_main_v3, Cert.Reference20Ideal.Read.val_main_v4, Cert.Reference20Ideal.Read.val_main_v5, Cert.Reference20Ideal.Read.val_main_v6, Cert.Reference20Ideal.Read.val_main_v7, Cert.Reference20Ideal.Read.val_main_v8, Cert.Reference20Ideal.Read.val_main_v9, Cert.Reference20Ideal.Read.val_main_v10, Cert.Reference20Ideal.Read.val_main_v11, Cert.Reference20Ideal.Read.val_main_v12, Cert.Reference20Ideal.Read.val_main_v13, Cert.Reference20Ideal.Read.val_main_v14, Cert.Reference20Ideal.Read.val_main_v15, Cert.Reference20Ideal.Read.val_main_v16, Cert.Reference20Ideal.Read.val_main_v17, Cert.Reference20Ideal.Read.val_main_v18, Cert.Reference20Ideal.Read.val_main_v19, Cert.Reference20Ideal.Read.val_main_v20, Cert.Reference20Ideal.Read.val_main_v21, Cert.Reference20Ideal.Read.val_main_v22, Cert.Reference20Ideal.Read.val_main_v23, Cert.Reference20Ideal.Read.val_main_v24, Cert.Reference20Ideal.Read.val_main_cst, Cert.Reference20Ideal.Read.val_main_cst_0, Cert.Reference20Ideal.Read.val_main_cst_1, Cert.Reference20Ideal.Read.val_main_cst_2, Cert.Reference20Ideal.Read.val_main_cst_3, Cert.Reference20Ideal.Read.val_main_cst_4, Cert.Reference20Ideal.Read.val_main_cst_5, Cert.Reference20Ideal.Read.val_main_cst_6, Cert.Reference20Ideal.Read.val_main_cst_7, Cert.Reference20Ideal.Read.val_main_cst_8]

/-- The kernel's four arrays are the reference's. -/
theorem algebraic : Cert.algebraic_Kernel20Ideal_Reference20Ideal (hKernel20Ideal := Cert.Kernel20Ideal.Gen.facts) (hReference20Ideal := Cert.Reference20Ideal.Gen.facts) := by
  intro m g m' g' hpre hagree
  refine ⟨fun c => (Kernel20Ideal.Gen.dats m 0 c).arrAt 4 Kernel20Ideal.cfg0.N, fun c => (Kernel20Ideal.Gen.dats m 0 c).arrAt 5 Kernel20Ideal.cfg0.N,
    fun c => (Kernel20Ideal.Gen.dats m 0 c).arrAt 6 Kernel20Ideal.cfg0.N, fun c => (Kernel20Ideal.Gen.dats m 0 c).arrAt 7 Kernel20Ideal.cfg0.N,
    Kernel20Ideal.Value.run_blocks m g, ?_⟩
  refine (θ_run Reference20Ideal.defs _ _).mono (fun r h c => ?_) (Reference20Ideal.Value.run (F := Ideal) m' g')
  obtain ⟨e0, e1, e2, e3, k⟩ := h c
  obtain ⟨a0, a1, a2, a3⟩ := hagree c
  refine ⟨e0.trans ?_, e1.trans ?_, e2.trans ?_, e3.trans ?_, k⟩
  · rw [Reference20Ideal.Read.val_main_v0_eq]
    refine Eq.trans ?_ (finalGrad m c).symm
    funext i
    idx_vars i
    refine (refGrad _ i0 i1).trans ?_
    rw [a0]
  · rw [Reference20Ideal.Read.val_main_v24_eq]
    refine Eq.trans ?_ (finalDelta m c).symm
    funext i
    idx_vars i
    refine (refDelta _ _ _ _ i0 i1).trans ?_
    rw [a0, a1, a2, a3]
  · rw [Reference20Ideal.Read.val_main_v5_eq]
    refine Eq.trans ?_ (finalFirst m c).symm
    funext i
    idx_vars i
    refine (refFirst _ _ i0 i1).trans ?_
    rw [a0, a2]
  · rw [Reference20Ideal.Read.val_main_v11_eq]
    refine Eq.trans ?_ (finalSecond m c).symm
    funext i
    idx_vars i
    refine (refSecond _ _ i0 i1).trans ?_
    rw [a0, a3]

end Cert.Adam.First

end
-- ==== Proof.Gate.Forward.lean ====
module

public import proofs.«01_k».proof.Defs
public import proofs.«01_k».proof.Proof.Gen.Kernel21Ideal.Value
public import proofs.«01_k».proof.Proof.Gen.Reference21Ideal.Run
public import proofs.«01_k».proof.Proof.Gen.Reference21Ideal.Read
public import proofs.«01_k».proof.Proof.Ffn.Norm
public import Idealize.ShloMosaic.Lib.Pipeline.ValueKit
public import Idealize.ShloMosaic.PureOps.Ideal.Laws

@[expose] public section

set_option maxRecDepth 16384

noncomputable section

/-! # The spatial gate

Both halves go through the error function's gate; the second is normed, and each group of 128 columns is mixed over each chunk
of 128 rows by the group's lower triangle, a bias added; the first half multiplies it. -/

namespace Cert.Gate.Forward

open Cert.Kernel21Ideal Cert.Kernel21Ideal.Gen Idealize.ShloMosaic Idealize.ShloMosaic.TcCoe Idealize.SL.Sem
open Cert.Ffn (inv)

/-- The gate of the error function. -/
def gelu (x : EReal) : EReal := Ideal.ofBits .f32 0x3F000000#32 * x * (1 + Ideal.erf (x * Ideal.ofBits .f32 0x3F3504F3#32))

/-- A product kept where the row is not above the diagonal. -/
def low (a b : Nat) (w v : EReal) : EReal := Scalar.select (IntOp.cmpi .sge (BitVec.ofNat 32 a) (BitVec.ofNat 32 b)) (w * v) 0

section Block
variable (x0 x1 : FVec Ideal S512x1024 .bf16) (x2 : FVec Ideal S1x1024 .f32) (v : FVec Ideal S512x1024 .f32) (x4 : FVec Ideal S128x1024 .f32)

/-- The first half, gated. -/
theorem pay3 (r : Fin 512) (l : Fin 1024) : (k0_pay3 x0 : FVec Ideal S512x1024 .f32) (ix2 r l) = gelu (x0 (ix2 r l)) := by
  unfold k0_pay3
  pointwise []
  rfl

/-- The second half, gated and normed. -/
theorem pay4 (r : Fin 512) (l : Fin 1024) : (k0_pay4 x1 x2 : FVec Ideal S512x1024 .f32) (ix2 r l)
    = gelu (x1 (ix2 r l)) * inv (fun k => gelu (x1 (ix2 r k))) * x2 (ix2 (0 : Fin 1) l) := by
  unfold k0_pay4
  pointwise []
  rfl

/-- The lower triangle at two places. -/
theorem mask (a b : Fin 128) : (k0_pay2 : IVec S128x128 1) (ix2 a b) = IntOp.cmpi .sge (BitVec.ofNat 32 a.val) (BitVec.ofNat 32 b.val) := by
  unfold k0_pay2
  pointwise []

/-- Where a chunk and a group lie. -/
theorem lies : ∀ (c : Fin 4) (g : Fin 8), S512x1024.Slices ![128 * c.val, 128 * g.val] S128x128 := by decide

/-- One chunk of a group, mixed. -/
def mix (w : FVec Ideal S1x128x128 .f32) (c : Fin 4) (g : Fin 8) : FVec Ideal S128x128 .f32 :=
  matmul dot_S128x128_S128x128_S128x128_1_0_0_1_n_n none
    (truncf .bf16 (select k0_pay2 (shapeCast S128x128 w shapeCasts_S1x128x128_S128x128) (broadcast S128x128 (Scalar.ofBits .f32 0x00000000#32))) bitsLt_bf16_f32)
    (truncf .bf16 (extractStridedSlice S128x128 ![128 * c.val, 128 * g.val] v (lies c g)) bitsLt_bf16_f32)
    (constant S128x128 .f32 0x00000000#32)

/-- The mixed chunk at a place. -/
theorem mix_apply (w : FVec Ideal S1x128x128 .f32) (c : Fin 4) (g : Fin 8) (a b : Fin 128) :
    mix v w c g (ix2 a b) = ∑ k : Fin 128, low a.val k.val (w (ix3 (0 : Fin 1) a k)) (v (ix2 (⟨128 * c.val + k.val, by omega⟩ : Fin 512) (⟨128 * g.val + b.val, by omega⟩ : Fin 1024))) := by
  unfold mix
  pointwise []
  simp only [mask]
  rfl

/-- The groups of a chunk, side by side. -/
def wide (ws : Fin 8 → FVec Ideal S1x128x128 .f32) (c : Fin 4) : FVec Ideal S128x1024 .f32 :=
  concatenate S128x1024 1 (List.ofFn fun g : Fin 8 => ⟨S128x128, mix v (ws g) c g⟩) concatenates_S128x128_S128x128_S128x128_S128x128_S128x128_S128x128_S128x128_S128x128_S128x1024_d1

/-- The chunks of the block, one below the other. -/
def tall (f : Fin 4 → FVec Ideal S128x1024 .f32) : FVec Ideal S512x1024 .f32 :=
  concatenate S512x1024 0 (List.ofFn fun c : Fin 4 => ⟨S128x1024, f c⟩) concatenates_S128x1024_S128x1024_S128x1024_S128x1024_S512x1024_d0

/-- The side by side groups at a place. -/
theorem wide_apply (ws : Fin 8 → FVec Ideal S1x128x128 .f32) (c : Fin 4) (a : Fin 128) (l : Fin 1024) :
    wide v ws c (ix2 a l) = mix v (ws ⟨l.val / 128, by omega⟩) c ⟨l.val / 128, by omega⟩ (ix2 a (⟨l.val % 128, by omega⟩ : Fin 128)) := by
  unfold wide
  refine concatenate_ofFn_apply (1 : Fin S128x1024.rank) (fun g : Fin 8 => mix v (ws g) c g) _ rfl 128 rfl _ ⟨l.val / 128, by omega⟩ rfl _ rfl fun b hb => ?_
  match b with
  | ⟨0, _⟩ => rfl
  | ⟨1, _⟩ => exact absurd rfl hb

/-- The stacked chunks at a place. -/
theorem tall_apply (f : Fin 4 → FVec Ideal S128x1024 .f32) (r : Fin 512) (l : Fin 1024) :
    tall f (ix2 r l) = f ⟨r.val / 128, by omega⟩ (ix2 (⟨r.val % 128, by omega⟩ : Fin 128) l) := by
  unfold tall
  refine concatenate_ofFn_apply (0 : Fin S512x1024.rank) f _ rfl 128 rfl _ ⟨r.val / 128, by omega⟩ rfl _ rfl fun b hb => ?_
  match b with
  | ⟨0, _⟩ => exact absurd rfl hb
  | ⟨1, _⟩ => rfl

/-- What the body stores. -/
def stored (ws : Fin 8 → FVec Ideal S1x128x128 .f32) : FVec Ideal S512x1024 .bf16 :=
  truncf .bf16 (mulf (k0_pay3 x0) (addf (tall (wide v ws)) (tall fun _ => shapeCast S128x1024 x4 shapeCasts_S128x1024_S128x1024))) bitsLt_bf16_f32

/-- What the body stores at a place. -/
theorem stored_apply (ws : Fin 8 → FVec Ideal S1x128x128 .f32) (r : Fin 512) (l : Fin 1024) : stored x0 v x4 ws (ix2 r l)
    = gelu (x0 (ix2 r l)) * ((∑ k : Fin 128, low (r.val % 128) k.val (ws ⟨l.val / 128, by omega⟩ (ix3 (0 : Fin 1) (⟨r.val % 128, by omega⟩ : Fin 128) k))
        (v (ix2 (⟨128 * (r.val / 128) + k.val, by omega⟩ : Fin 512) l))) + x4 (ix2 (⟨r.val % 128, by omega⟩ : Fin 128) l)) := by
  unfold stored
  pointwise []
  rw [pay3, tall_apply, tall_apply, wide_apply, mix_apply]
  have e : ∀ h, (⟨128 * (l.val / 128) + l.val % 128, h⟩ : Fin 1024) = l := fun h => Fin.ext (by show 128 * (l.val / 128) + l.val % 128 = l.val; omega)
  simp only [e]

/-- The body's stores are that. -/
theorem opened (w0 w1 w2 w3 w4 w5 w6 w7 : FVec Ideal S1x128x128 .f32) :
    k0_pay1 (k0_pay38 k0_pay2 (k0_pay3 x0) v
      (k0_pay11 k0_pay2 v (k0_pay6 v (k0_pay5 w0)) (k0_pay7 k0_pay2 v w1) (k0_pay8 k0_pay2 v w2) (k0_pay9 k0_pay2 v w3) (k0_pay10 k0_pay2 v w4) w5 w6 w7)
      (k0_pay21 k0_pay2 v (k0_pay12 k0_pay2 v w0) (k0_pay15 (k0_pay13 v) (k0_pay14 k0_pay2 w1)) (k0_pay16 k0_pay2 v w2) (k0_pay17 k0_pay2 v w3)
        (k0_pay18 k0_pay2 v w4) (k0_pay19 k0_pay2 v w5) (k0_pay20 w6) w7)
      (k0_pay33 k0_pay2 v (k0_pay22 k0_pay2 v w0) (k0_pay23 k0_pay2 v w1) (k0_pay26 (k0_pay24 k0_pay2 w2) (k0_pay25 v) (constant S128x128 .f32 0x00000000#32))
        (k0_pay27 k0_pay2 v w3) (k0_pay28 k0_pay2 v w4) (k0_pay29 k0_pay2 v w5) (k0_pay30 k0_pay2 v w6) (k0_pay31 w7) k0_pay32)
      (k0_pay34 k0_pay2 v w0) (k0_pay35 k0_pay2 v w1) (k0_pay36 k0_pay2 v w2) (k0_pay37 k0_pay2 v w3) w4 w5 w6 w7 x4)
    = stored x0 v x4 ![w0, w1, w2, w3, w4, w5, w6, w7] := rfl

end Block

variable (m : (ℓ : Loc nD τ sig) → Buf (Elt Ideal) ℓ)

/-- Where each window's block lies at point `t`. -/
theorem idx : ∀ t : Fin cfg0.N, win0_0.index t = ![t.val, 8] ∧ win0_1.index t = ![t.val, 9] ∧ win0_2.index t = ![0, 0] ∧ win0_3.index t = ![0, 0, 0]
    ∧ win0_4.index t = ![0, 0] ∧ win0_5.index t = ![t.val, 0] := by decide +kernel

/-- The second half of a row, gated and normed. -/
def normed (p : FVec Ideal S8192x10752 .bf16) (gv : FVec Ideal S1x1024 .f32) (r : Fin 8192) (l : Fin 1024) : EReal :=
  gelu (p (ix2 r (⟨8192 + (1024 + l.val), by omega⟩ : Fin 10752))) * inv (fun k => gelu (p (ix2 r (⟨8192 + (1024 + k.val), by omega⟩ : Fin 10752)))) * gv (ix2 (0 : Fin 1) l)

/-- The spatial gate at a row and a column. -/
def gate (p : FVec Ideal S8192x10752 .bf16) (gv : FVec Ideal S1x1024 .f32) (w : FVec Ideal S8x128x128 .f32) (bs : FVec Ideal S8x128 .f32) (r : Fin 8192) (l : Fin 1024) : EReal :=
  gelu (p (ix2 r (⟨8192 + l.val, by omega⟩ : Fin 10752)))
    * ((∑ k : Fin 128, low (r.val % 128) k.val (w (ix3 (⟨l.val / 128, by omega⟩ : Fin 8) (⟨r.val % 128, by omega⟩ : Fin 128) k)) (normed p gv (⟨r.val / 128 * 128 + k.val, by omega⟩ : Fin 8192) l))
      + bs (ix2 (⟨l.val / 128, by omega⟩ : Fin 8) (⟨r.val % 128, by omega⟩ : Fin 128)))

/-- The first half's block. -/
theorem first (c : Dev nD) (t : Fin cfg0.N) (r : Fin 512) (l : Fin 1024) : (X0_0 m c t : FVec Ideal S512x1024 .bf16) (ix2 r l)
    = (m ((c : Thread nD τ).loc main_arg0) : FVec Ideal S8192x10752 .bf16) (ix2 (⟨512 * t.val + r.val, by have := lt_of_lt_of_eq t.isLt N_0; omega⟩ : Fin 8192) (⟨8192 + l.val, by omega⟩ : Fin 10752)) := by
  unfold X0_0 Pipeline.Window.fill
  rw [dif_pos (moved0_0 t (ix2 r l))]
  blk_ext! [iblk, V, idx t]

/-- The second half's block. -/
theorem second (c : Dev nD) (t : Fin cfg0.N) (r : Fin 512) (l : Fin 1024) : (X0_1 m c t : FVec Ideal S512x1024 .bf16) (ix2 r l)
    = (m ((c : Thread nD τ).loc main_arg0) : FVec Ideal S8192x10752 .bf16) (ix2 (⟨512 * t.val + r.val, by have := lt_of_lt_of_eq t.isLt N_0; omega⟩ : Fin 8192) (⟨8192 + (1024 + l.val), by omega⟩ : Fin 10752)) := by
  unfold X0_1 Pipeline.Window.fill
  rw [dif_pos (moved0_1 t (ix2 r l))]
  blk_ext! [iblk, V, idx t]

/-- The gains. -/
theorem gains (c : Dev nD) (t : Fin cfg0.N) (l : Fin 1024) : (iblk m c 2 t : FVec Ideal S1x1024 .f32) (ix2 (0 : Fin 1) l)
    = (m ((c : Thread nD τ).loc main_arg1) : FVec Ideal S1x1024 .f32) (ix2 (0 : Fin 1) l) := by
  blk_ext! [iblk, V, idx t]

/-- The triangles. -/
theorem tri (c : Dev nD) (t : Fin cfg0.N) (g : Fin 8) (a b : Fin 128) : (iblk m c 3 t : FVec Ideal S8x128x128 .f32) (ix3 g a b)
    = (m ((c : Thread nD τ).loc main_arg2) : FVec Ideal S8x128x128 .f32) (ix3 g a b) := by
  blk_ext! [iblk, V, idx t]

/-- The biases. -/
theorem bias (c : Dev nD) (t : Fin cfg0.N) (a : Fin 128) (l : Fin 1024) : (iblk m c 4 t : FVec Ideal S128x1024 .f32) (ix2 a l)
    = (m ((c : Thread nD τ).loc main_arg3) : FVec Ideal S8x128 .f32) (ix2 (⟨l.val / 128, by omega⟩ : Fin 8) a) := by
  have e : (iblk m c 4 t : FVec Ideal S128x1024 .f32) (ix2 a l) = (V m c main_v2 : FVec Ideal S128x1024 .f32) (ix2 a l) := by
    blk_ext! [iblk, idx t]
  have hv : (V m c main_v2 : FVec Ideal S128x1024 .f32) = shapeCast S128x1024 (broadcastInDim S128x8x128 ![0, 1] bcast_S128x8_S128x8x128_0_1
      (transpose S128x8 [1, 0] (m ((c : Thread nD τ).loc main_arg3) : FVec Ideal S8x128 .f32) transposes_S8x128_S128x8_1_0)) shapeCasts_S128x8x128_S128x1024 := by
    unfold_abbrev_sides
    after_results
    rfl
  rw [e, hv]
  pointwise []

/-- The array after the run. -/
theorem final (c : Dev nD) : (dats m 0 c).arrAt 5 cfg0.N
    = fun i : S8192x1024.Idx => gate (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  blk_simp
  rw [after0_5]
  unfold outsAt0
  frame_out
  idx_vars y
  refine (congrFun (opened (X0_0 m c t) (k0_pay4 (X0_1 m c t) (iblk m c 2 t)) (iblk m c 4 t) _ _ _ _ _ _ _ _) _).trans ?_
  refine (stored_apply _ _ _ _ y0 y1).trans ?_
  have ht : t.val < 16 := lt_of_lt_of_eq t.isLt N_0
  refine Eq.trans (b := gate (m ((c : Thread nD τ).loc main_arg0)) (m ((c : Thread nD τ).loc main_arg1)) (m ((c : Thread nD τ).loc main_arg2)) (m ((c : Thread nD τ).loc main_arg3))
    ⟨512 * t.val + y0.val, by omega⟩ y1) ?_ (congrArg₂ (gate _ _ _ _) (Fin.ext ?_) (Fin.ext ?_))
  rotate_left
  · blk_simp [idx t]
    show 512 * t.val + y0.val = t.val * 512 + y0.val
    omega
  · blk_simp [idx t]
  unfold gate normed
  have hr : (512 * t.val + y0.val) % 128 = y0.val % 128 := by omega
  have hg : ∀ k : Fin 128, (512 * t.val + y0.val) / 128 * 128 + k.val = 512 * t.val + (128 * (y0.val / 128) + k.val) := fun k => by omega
  simp only [pay4, first, second, gains, bias, hr, hg]
  refine congrArg (fun a : EReal => _ * (a + _)) (Finset.sum_congr (M := EReal) rfl fun k _ => congrArg (fun a : EReal => low _ _ a _) ?_)
  refine Eq.trans ?_ (tri m c t _ _ k)
  generalize (⟨y1.val / 128, by omega⟩ : Fin 8) = g
  fin_cases g <;> pointwise []

section R
open Cert.Reference21Ideal.Read
/-- The reference's array is the same gate. -/
theorem ref (x0 : FVec Ideal S8192x10752 .bf16) (x1 : FVec Ideal S1x1024 .f32) (x2 : FVec Ideal S8x128x128 .f32) (x3 : FVec Ideal S8x128 .f32) (r : Fin 8192) (l : Fin 1024) :
    (val_main_v36 (F := Ideal) x0 x1 x2 x3 : FVec Ideal S8192x1024 .bf16) (ix2 r l) = gate x0 x1 x2 x3 r l := by
  pointwise [val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_c, val_main_c_4, val_main_call0_v0, val_main_call0_c, val_main_call0_v1, val_main_call0_v2, val_main_call0_v3, val_main_call0_v4, val_main_call0_c_0, val_main_call0_v5, val_main_call1_v0, val_main_call1_v1, val_main_call1_v2]
  have hg : ∀ x : EReal, Ideal.ofBits .f32 0x3F000000#32 * x * Ideal.erfc (-x * Ideal.ofBits .f32 0x3F3504F3#32) = gelu x := fun x => by
    rw [gelu, neg_mul, Ideal.erfc_neg]
  have hs : ∀ (b : BitVec 1) (w v : EReal), v * Scalar.select (Scalar.select b 1#1 0#1) w (FloatOps.sitofp (F := Ideal) .f32 0#32 : EReal) = Scalar.select b (w * v) 0 := fun b w v => by
    have h0 : (FloatOps.sitofp (F := Ideal) .f32 0#32 : EReal) = 0 := by
      show (((0#32 : BitVec 32).toInt : ℝ) : EReal) = 0
      simp
    rw [h0]
    rcases (by decide : ∀ b : BitVec 1, b = 0#1 ∨ b = 1#1) b with rfl | rfl
    · simp [Scalar.select]
    · simp [Scalar.select, mul_comm]
  have ha : ∀ b : BitVec 32, IntOp.addi b 0#32 = b := fun b => by simp [IntOp.addi]
  simp only [hg, hs, ha]
  rfl
end R

/-- The kernel's array is the reference's. -/
theorem algebraic : Cert.algebraic_Kernel21Ideal_Reference21Ideal (hKernel21Ideal := Cert.Kernel21Ideal.Gen.facts) (hReference21Ideal := Cert.Reference21Ideal.Gen.facts) := by
  intro m g m' g' hpre hagree
  refine ⟨fun c => (Kernel21Ideal.Gen.dats m 0 c).arrAt 5 Kernel21Ideal.cfg0.N, Kernel21Ideal.Value.run_blocks m g, ?_⟩
  refine (θ_run Reference21Ideal.defs _ _).mono (fun r h c => ?_) (Reference21Ideal.Value.run (F := Ideal) m' g')
  obtain ⟨e0, k⟩ := h c
  obtain ⟨a0, a1, a2, a3⟩ := hagree c
  refine ⟨e0.trans ?_, k⟩
  rw [Reference21Ideal.Read.val_main_v36_eq]
  refine Eq.trans ?_ (final m c).symm
  funext i
  idx_vars i
  refine (ref _ _ _ _ i0 i1).trans ?_
  rw [a0, a1, a2, a3]

end Cert.Gate.Forward

end
-- ==== Proof.Gate.Loss.lean ====
module

public import proofs.«01_k».proof.Defs
public import proofs.«01_k».proof.Proof.Gen.Kernel22Ideal.Value
public import proofs.«01_k».proof.Proof.Gen.Reference22Ideal.Run
public import proofs.«01_k».proof.Proof.Gen.Reference22Ideal.Read
public import proofs.«01_k».proof.Proof.Ffn.Norm
public import Idealize.ShloMosaic.Lib.Pipeline.ValueKit
public import Idealize.ShloMosaic.Lib.Pipeline.ReadBack

@[expose] public section

set_option maxRecDepth 16384

noncomputable section

/-! # The loss head

The last feed-forward layer's second product, half of it added to what came before, the last norm, the squared distance from the
target and its gradient. The blocks of rows are taken in two halves; the loss and the gradient of the norm's gains are sums over all
rows, kept from one point of the grid to the next. -/

namespace Cert.Gate.Loss

open Cert.Kernel22Ideal Cert.Kernel22Ideal.Gen Idealize.ShloMosaic Idealize.ShloMosaic.TcCoe Idealize.SL.Sem Cert.Ffn

/-- What the last norm takes: the stream and half of the product. -/
def act {M : Nat} (a : FVec Ideal ⟨2, ![M, 2816]⟩ .bf16) (w : FVec Ideal ⟨2, ![2816, 1024]⟩ .bf16) (h : FVec Ideal ⟨2, ![M, 1024]⟩ .f32) (r : Fin M) (l : Fin 1024) : EReal :=
  (h (ix2 r l) : EReal) + Ideal.ofBits .f32 0x3F000000#32 * ∑ k : Fin 2816, (a (ix2 r k) : EReal) * w (ix2 k l)

/-- The distance of a normed row from its target. -/
def dist (x t g : Fin 1024 → EReal) (l : Fin 1024) : EReal := x l * inv x * g l - t l

/-- The gradient of the normed row. -/
def dy (x t g : Fin 1024 → EReal) (l : Fin 1024) : EReal := dist x t g l * Ideal.ofBits .f32 0x3A800000#32

section Block

variable (x0 : FVec Ideal S512x2816 .bf16) (x1 : FVec Ideal S2816x1024 .bf16) (x2 x3 : FVec Ideal S512x1024 .f32) (x4 : FVec Ideal S1x1024 .f32)

/-- What the norm takes, in the first half of the block. -/
theorem pay4 (r : Fin 512) (l : Fin 1024) : (k0_pay4 x0 x1 x2 : FVec Ideal S512x1024 .f32) (ix2 r l) = act x0 x1 x2 r l := by
  unfold k0_pay4 act
  pointwise []

/-- The reciprocal root, in the first half. -/
theorem pay5 (r : Fin 512) : (k0_pay5 x0 x1 x2 : FVec Ideal S512x1 .f32) (ix2 r (0 : Fin 1)) = inv (act x0 x1 x2 r) := by
  unfold k0_pay5
  pointwise []
  simp only [pay4]
  rfl

/-- The rows without their gains, in the first half. -/
theorem pay6 (r : Fin 512) (l : Fin 1024) : (k0_pay6 x0 x1 x2 : FVec Ideal S512x1024 .f32) (ix2 r l) = act x0 x1 x2 r l * inv (act x0 x1 x2 r) := by
  unfold k0_pay6
  pointwise []
  rw [pay5, pay4]

/-- The distance, in the first half. -/
theorem pay7 (r : Fin 512) (l : Fin 1024) : (k0_pay7 x0 x1 x2 x3 x4 : FVec Ideal S512x1024 .f32) (ix2 r l) = dist (act x0 x1 x2 r) (row x3 r) (row x4 0) l := by
  unfold k0_pay7
  pointwise []
  rw [pay6]
  rfl

/-- The gradient of the normed rows, in the first half. -/
theorem pay8 (r : Fin 512) (l : Fin 1024) : (k0_pay8 x0 x1 x2 x3 x4 : FVec Ideal S512x1024 .f32) (ix2 r l) = dy (act x0 x1 x2 r) (row x3 r) (row x4 0) l := by
  unfold k0_pay8
  pointwise []
  rw [pay7]
  rfl

/-- What is stored of the rows' gradient, in the first half. -/
theorem pay10 (r : Fin 512) (l : Fin 1024) : (k0_pay10 (k0_pay5 x0 x1 x2) (k0_pay9 x0 x1 x2 x3 x4) : FVec Ideal S512x1024 .f32) (ix2 r l)
    = back (act x0 x1 x2 r) (row x4 0) (dy (act x0 x1 x2 r) (row x3 r) (row x4 0)) l := by
  unfold k0_pay10 k0_pay9
  pointwise []
  simp only [pay5, pay6, pay8]
  rfl

/-- The first half's share of the gains' gradient. -/
theorem pay11 (a : FVec Ideal S8x1024 .f32) (s : Fin 8) (l : Fin 1024) : (k0_pay11 (k0_pay6 x0 x1 x2) (k0_pay8 x0 x1 x2 x3 x4) a : FVec Ideal S8x1024 .f32) (ix2 s l)
    = (a (ix2 s l) : EReal) + ∑ r : Fin 512, gain (act x0 x1 x2 r) (dy (act x0 x1 x2 r) (row x3 r) (row x4 0)) l := by
  unfold k0_pay11
  pointwise []
  simp only [pay6, pay8]
  rfl

/-- The first half's share of the loss. -/
theorem pay12 (a : FVec Ideal S8x1024 .f32) (s : Fin 8) (l : Fin 1024) : (k0_pay12 (k0_pay7 x0 x1 x2 x3 x4) a : FVec Ideal S8x1024 .f32) (ix2 s l)
    = (a (ix2 s l) : EReal) + Ideal.ofBits .f32 0x3F000000#32 * (∑ r : Fin 512, ∑ k : Fin 1024, dist (act x0 x1 x2 r) (row x3 r) (row x4 0) k * dist (act x0 x1 x2 r) (row x3 r) (row x4 0) k)
        * Ideal.ofBits .f32 0x3A800000#32 := by
  unfold k0_pay12
  pointwise []
  simp only [pay7]

/-- What the norm takes, in the second half of the block. -/
theorem pay15 (r : Fin 512) (l : Fin 1024) : (k0_pay15 (k0_pay13 x0 x1) x2 k0_pay14 : FVec Ideal S512x1024 .f32) (ix2 r l) = act x0 x1 x2 r l := by
  unfold k0_pay15 k0_pay13 k0_pay14 act
  pointwise []

/-- The reciprocal root, in the second half. -/
theorem pay16 (r : Fin 512) : (k0_pay16 (k0_pay13 x0 x1) x2 k0_pay14 : FVec Ideal S512x1 .f32) (ix2 r (0 : Fin 1)) = inv (act x0 x1 x2 r) := by
  unfold k0_pay16
  pointwise []
  simp only [pay15]
  rfl

/-- The rows without their gains, in the second half. -/
theorem pay17 (r : Fin 512) (l : Fin 1024) : (k0_pay17 (k0_pay13 x0 x1) x2 k0_pay14 : FVec Ideal S512x1024 .f32) (ix2 r l) = act x0 x1 x2 r l * inv (act x0 x1 x2 r) := by
  unfold k0_pay17
  pointwise []
  rw [pay16, pay15]

/-- The distance, in the second half. -/
theorem pay18 (r : Fin 512) (l : Fin 1024) : (k0_pay18 (k0_pay13 x0 x1) x2 x3 x4 k0_pay14 : FVec Ideal S512x1024 .f32) (ix2 r l) = dist (act x0 x1 x2 r) (row x3 r) (row x4 0) l := by
  unfold k0_pay18
  pointwise []
  rw [pay17]
  rfl

/-- The gradient of the normed rows, in the second half. -/
theorem pay19 (r : Fin 512) (l : Fin 1024) : (k0_pay19 (k0_pay13 x0 x1) x2 x3 x4 k0_pay14 : FVec Ideal S512x1024 .f32) (ix2 r l) = dy (act x0 x1 x2 r) (row x3 r) (row x4 0) l := by
  unfold k0_pay19
  pointwise []
  rw [pay18]
  rfl

/-- What is stored of the rows' gradient, in the second half. -/
theorem pay20 (r : Fin 512) (l : Fin 1024) : (k0_pay20 (k0_pay13 x0 x1) x2 x3 x4 k0_pay14 : FVec Ideal S512x1024 .f32) (ix2 r l)
    = back (act x0 x1 x2 r) (row x4 0) (dy (act x0 x1 x2 r) (row x3 r) (row x4 0)) l := by
  unfold k0_pay20
  pointwise []
  simp only [pay16, pay17, pay19]
  rfl

/-- The second half's share of the gains' gradient. -/
theorem pay22 (a : FVec Ideal S8x1024 .f32) (s : Fin 8) (l : Fin 1024) : (k0_pay22 (k0_pay13 x0 x1) x2 x3 x4 k0_pay14 a : FVec Ideal S8x1024 .f32) (ix2 s l)
    = (a (ix2 s l) : EReal) + ∑ r : Fin 512, gain (act x0 x1 x2 r) (dy (act x0 x1 x2 r) (row x3 r) (row x4 0)) l := by
  unfold k0_pay22
  pointwise []
  simp only [pay17, pay19]
  rfl

/-- The second half's share of the loss. -/
theorem pay1 (a : FVec Ideal S8x1024 .f32) (s : Fin 8) (l : Fin 1024) : (k0_pay1 (k0_pay21 (k0_pay13 x0 x1) x2 x3 x4 k0_pay14) a : FVec Ideal S8x1024 .f32) (ix2 s l)
    = (a (ix2 s l) : EReal) + Ideal.ofBits .f32 0x3F000000#32 * (∑ r : Fin 512, ∑ k : Fin 1024, dist (act x0 x1 x2 r) (row x3 r) (row x4 0) k * dist (act x0 x1 x2 r) (row x3 r) (row x4 0) k)
        * Ideal.ofBits .f32 0x3A800000#32 := by
  unfold k0_pay1 k0_pay21
  pointwise []
  simp only [pay18]

/-- The gains' gradient starts from nought. -/
theorem pay2 (r : Fin 8) (l : Fin 1024) : (k0_pay2 : FVec Ideal S8x1024 .f32) (ix2 r l) = (0 : EReal) := by
  unfold k0_pay2
  pointwise []

/-- The loss starts from nought. -/
theorem pay3 (r : Fin 8) (l : Fin 1024) : (k0_pay3 : FVec Ideal S8x1024 .f32) (ix2 r l) = (0 : EReal) := by
  unfold k0_pay3
  pointwise []

end Block

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![t.val, 0] ∧ win0_6.index t = ![0, 0] ∧ win0_7.index t = ![0, 0] := by decide +kernel

/-- The first half of a block of rows of the wide input. -/
abbrev topW (x : FVec Ideal S1024x2816 .bf16) : FVec Ideal S512x2816 .bf16 := View.ld (Val := Elt Ideal) (S := S1024x2816) (e' := .bf16) x (Rect.unit (s := S1024x2816) ![0, 0] ![512, 2816] inb_S1024x2816_S512x2816_0_0)

/-- The second half of a block of rows of the wide input. -/
abbrev lowW (x : FVec Ideal S1024x2816 .bf16) : FVec Ideal S512x2816 .bf16 := View.ld (Val := Elt Ideal) (S := S1024x2816) (e' := .bf16) x (Rect.unit (s := S1024x2816) ![512, 0] ![512, 2816] inb_S1024x2816_S512x2816_512_0)

/-- The first half of a block of rows. -/
abbrev top (x : FVec Ideal S1024x1024 .f32) : FVec Ideal S512x1024 .f32 := View.ld (Val := Elt Ideal) (S := S1024x1024) (e' := .f32) x (Rect.unit (s := S1024x1024) ![0, 0] ![512, 1024] inb_S1024x1024_S512x1024_0_0)

/-- The second half of a block of rows. -/
abbrev low (x : FVec Ideal S1024x1024 .f32) : FVec Ideal S512x1024 .f32 := View.ld (Val := Elt Ideal) (S := S1024x1024) (e' := .f32) x (Rect.unit (s := S1024x1024) ![512, 0] ![512, 1024] inb_S1024x1024_S512x1024_512_0)

/-- A row's gradient, from the arrays. -/
def dx {M : Nat} (a0 : FVec Ideal ⟨2, ![M, 2816]⟩ .bf16) (a1 : FVec Ideal S2816x1024 .bf16) (a2 a3 : FVec Ideal ⟨2, ![M, 1024]⟩ .f32) (a4 : FVec Ideal S1x1024 .f32) (r : Fin M) (l : Fin 1024) : EReal :=
  back (act a0 a1 a2 r) (row a4 0) (dy (act a0 a1 a2 r) (row a3 r) (row a4 0)) l

/-- A row's share of the gains' gradient, from the arrays. -/
def share {M : Nat} (a0 : FVec Ideal ⟨2, ![M, 2816]⟩ .bf16) (a1 : FVec Ideal S2816x1024 .bf16) (a2 a3 : FVec Ideal ⟨2, ![M, 1024]⟩ .f32) (a4 : FVec Ideal S1x1024 .f32) (r : Fin M) (l : Fin 1024) : EReal :=
  gain (act a0 a1 a2 r) (dy (act a0 a1 a2 r) (row a3 r) (row a4 0)) l

/-- The squared distance of a row from its target, from the arrays. -/
def sq {M : Nat} (a0 : FVec Ideal ⟨2, ![M, 2816]⟩ .bf16) (a1 : FVec Ideal S2816x1024 .bf16) (a2 a3 : FVec Ideal ⟨2, ![M, 1024]⟩ .f32) (a4 : FVec Ideal S1x1024 .f32) (r : Fin M) : EReal :=
  ∑ k : Fin 1024, dist (act a0 a1 a2 r) (row a3 r) (row a4 0) k * dist (act a0 a1 a2 r) (row a3 r) (row a4 0) k

/-- A row of the first half, of what the norm takes. -/
theorem actT (c : Dev nD) (t : Fin cfg0.N) (r : Fin 512) (r' : Fin 8192) (h : r'.val = t.val * 1024 + r.val) :
    act (M := 512) (topW (iblk m c 0 t)) (iblk m c 1 t) (top (iblk m c 2 t)) r = act (M := 8192) (m ((c : Thread nD τ).loc main_arg0)) (m ((c : Thread nD τ).loc main_arg1)) (m ((c : Thread nD τ).loc main_arg2)) r' := by
  funext l
  refine congrArg₂ (fun a b : EReal => a + Ideal.ofBits .f32 0x3F000000#32 * b) ?_ (Finset.sum_congr (M := EReal) rfl fun k _ => congrArg₂ (fun a b : EReal => a * b) ?_ ?_)
  · pointwise [topW, top]
    blk_ext! [iblk, V, idx t]
  · pointwise [topW, top]
    blk_ext! [iblk, V, idx t]
  · blk_ext! [iblk, V, idx t]

/-- A row of the second half, of what the norm takes. -/
theorem actL (c : Dev nD) (t : Fin cfg0.N) (r : Fin 512) (r' : Fin 8192) (h : r'.val = t.val * 1024 + (512 + r.val)) :
    act (M := 512) (lowW (iblk m c 0 t)) (iblk m c 1 t) (low (iblk m c 2 t)) r = act (M := 8192) (m ((c : Thread nD τ).loc main_arg0)) (m ((c : Thread nD τ).loc main_arg1)) (m ((c : Thread nD τ).loc main_arg2)) r' := by
  funext l
  refine congrArg₂ (fun a b : EReal => a + Ideal.ofBits .f32 0x3F000000#32 * b) ?_ (Finset.sum_congr (M := EReal) rfl fun k _ => congrArg₂ (fun a b : EReal => a * b) ?_ ?_)
  · pointwise [lowW, low]
    blk_ext! [iblk, V, idx t]
  · pointwise [lowW, low]
    blk_ext! [iblk, V, idx t]
  · blk_ext! [iblk, V, idx t]

/-- A target row of the first half. -/
theorem tgtT (c : Dev nD) (t : Fin cfg0.N) (r : Fin 512) (r' : Fin 8192) (h : r'.val = t.val * 1024 + r.val) :
    row (top (iblk m c 3 t)) r = row ((m ((c : Thread nD τ).loc main_arg3)) : FVec Ideal S8192x1024 .f32) r' := by
  funext l
  unfold row
  pointwise [top]
  blk_ext! [iblk, V, idx t]

/-- A target row of the second half. -/
theorem tgtL (c : Dev nD) (t : Fin cfg0.N) (r : Fin 512) (r' : Fin 8192) (h : r'.val = t.val * 1024 + (512 + r.val)) :
    row (low (iblk m c 3 t)) r = row ((m ((c : Thread nD τ).loc main_arg3)) : FVec Ideal S8192x1024 .f32) r' := by
  funext l
  unfold row
  pointwise [low]
  blk_ext! [iblk, V, idx t]

/-- The gains' block is the gains. -/
theorem row4 (c : Dev nD) (t : Fin cfg0.N) :
    row (iblk m c 4 t : FVec Ideal S1x1024 .f32) 0 = row ((m ((c : Thread nD τ).loc main_arg4)) : FVec Ideal S1x1024 .f32) 0 := by
  funext l
  unfold row
  blk_ext! [iblk, V, idx t]

/-- A point of the grid. -/
theorem lt8 (t : Fin cfg0.N) : t.val < 8 := lt_of_lt_of_eq t.isLt N_0

/-- What the second stored piece of rows is. -/
theorem pieceL (c : Dev nD) (t : Fin cfg0.N) (y : S512x1024.Idx) (r : Fin 1024) (l : Fin 1024) (r' : Fin 8192) (h : r'.val = t.val * 1024 + r.val)
    (h0 : r.val = 512 + (y 0).val) (h1 : l.val = (y 1).val) :
    (k0_pay20 (k0_pay13 (lowW (iblk m c 0 t)) (iblk m c 1 t)) (low (iblk m c 2 t)) (low (iblk m c 3 t)) (iblk m c 4 t) k0_pay14 : FVec Ideal S512x1024 .f32) y
      = dx (M := 8192) (m ((c : Thread nD τ).loc main_arg0)) (m ((c : Thread nD τ).loc main_arg1)) (m ((c : Thread nD τ).loc main_arg2)) (m ((c : Thread nD τ).loc main_arg3)) (m ((c : Thread nD τ).loc main_arg4)) r' l := by
  idx_vars y
  refine (pay20 _ _ _ _ _ y0 y1).trans ?_
  rw [show y1 = l from Fin.ext h1.symm, actL m c t y0 r' (by have := h0; simp at this; omega), tgtL m c t y0 r' (by have := h0; simp at this; omega), row4 m c t]
  rfl

/-- What the first stored piece of rows is. -/
theorem pieceT (c : Dev nD) (t : Fin cfg0.N) (y : S512x1024.Idx) (r : Fin 1024) (l : Fin 1024) (r' : Fin 8192) (h : r'.val = t.val * 1024 + r.val)
    (h0 : r.val = (y 0).val) (h1 : l.val = (y 1).val) :
    (k0_pay10 (k0_pay5 (topW (iblk m c 0 t)) (iblk m c 1 t) (top (iblk m c 2 t))) (k0_pay9 (topW (iblk m c 0 t)) (iblk m c 1 t) (top (iblk m c 2 t)) (top (iblk m c 3 t)) (iblk m c 4 t)) : FVec Ideal S512x1024 .f32) y
      = dx (M := 8192) (m ((c : Thread nD τ).loc main_arg0)) (m ((c : Thread nD τ).loc main_arg1)) (m ((c : Thread nD τ).loc main_arg2)) (m ((c : Thread nD τ).loc main_arg3)) (m ((c : Thread nD τ).loc main_arg4)) r' l := by
  idx_vars y
  refine (pay10 _ _ _ _ _ y0 y1).trans ?_
  rw [show y1 = l from Fin.ext h1.symm, actT m c t y0 r' (by have := h0; simp at this; omega), tgtT m c t y0 r' (by have := h0; simp at this; omega), row4 m c t]
  rfl

/-- What a point leaves of the first output: the gradient of its rows. -/
theorem rows (c : Dev nD) (t : Fin cfg0.N) (r : Fin 1024) (l : Fin 1024) (r' : Fin 8192) (hr : r'.val = t.val * 1024 + r.val) : ((outsAt0 m c t.val t.isLt).1 (ix2 r l) : EReal)
    = dx (M := 8192) (m ((c : Thread nD τ).loc main_arg0)) (m ((c : Thread nD τ).loc main_arg1)) (m ((c : Thread nD τ).loc main_arg2)) (m ((c : Thread nD τ).loc main_arg3)) (m ((c : Thread nD τ).loc main_arg4)) r' l := by
  by_cases h : t.val % 8 = 0
  · rw [outsAt0_A m c t h]
    frame_out
    canon_tiles y h'
    · exact pieceL m c t y r l r' hr h'0 h'1
    · exact pieceT m c t y r l r' hr h'0 h'1
  · rw [outsAt0_B m c t h]
    frame_out
    canon_tiles y h'
    · exact pieceL m c t y r l r' hr h'0 h'1
    · exact pieceT m c t y r l r' hr h'0 h'1

/-- A sum over a block's rows is the two halves'. -/
theorem halves (f : Fin 1024 → EReal) : ∑ r, f r = (∑ r : Fin 512, f ⟨r.val, by omega⟩) + ∑ r : Fin 512, f ⟨512 + r.val, by omega⟩ :=
  Fin.sum_univ_add (a := 512) (b := 512) f

/-- The share of point `t`'s rows in the gradient of the gains. -/
def term (c : Dev nD) (t : Fin cfg0.N) (j : S8x1024.Idx) : EReal :=
  ∑ r : Fin 1024, share (M := 8192) (m ((c : Thread nD τ).loc main_arg0)) (m ((c : Thread nD τ).loc main_arg1)) (m ((c : Thread nD τ).loc main_arg2)) (m ((c : Thread nD τ).loc main_arg3)) (m ((c : Thread nD τ).loc main_arg4)) ⟨t.val * 1024 + r.val, by have := lt8 t; omega⟩ (j 1 : Fin 1024)

/-- The two halves' shares in the gains' gradient are the point's. -/
theorem gain_step (c : Dev nD) (t : Fin cfg0.N) (a : FVec Ideal S8x1024 .f32) (s : Fin 8) (l : Fin 1024) :
    (k0_pay22 (k0_pay13 (lowW (iblk m c 0 t)) (iblk m c 1 t)) (low (iblk m c 2 t)) (low (iblk m c 3 t)) (iblk m c 4 t) k0_pay14
      (k0_pay11 (k0_pay6 (topW (iblk m c 0 t)) (iblk m c 1 t) (top (iblk m c 2 t))) (k0_pay8 (topW (iblk m c 0 t)) (iblk m c 1 t) (top (iblk m c 2 t)) (top (iblk m c 3 t)) (iblk m c 4 t)) a) : FVec Ideal S8x1024 .f32) (ix2 s l)
      = (a (ix2 s l) : EReal) + term m c t (ix2 s l) := by
  refine (pay22 _ _ _ _ _ _ s l).trans ?_
  rw [pay11, add_assoc]
  refine congrArg (fun b : EReal => (a (ix2 s l) : EReal) + b) (Eq.trans ?_ (halves _).symm)
  refine congrArg₂ (fun a b : EReal => a + b) (Finset.sum_congr (M := EReal) rfl fun r _ => ?_) (Finset.sum_congr (M := EReal) rfl fun r _ => ?_)
  · rw [actT m c t r ⟨t.val * 1024 + r.val, by have := lt8 t; omega⟩ rfl, tgtT m c t r ⟨t.val * 1024 + r.val, by have := lt8 t; omega⟩ rfl, row4 m c t]
    rfl
  · rw [actL m c t r ⟨t.val * 1024 + (512 + r.val), by have := lt8 t; omega⟩ rfl, tgtL m c t r ⟨t.val * 1024 + (512 + r.val), by have := lt8 t; omega⟩ rfl, row4 m c t]
    rfl

/-- The bits that name 1/1024. -/
theorem inv_len_bits : Ideal.ofBits .f32 0x3A800000#32 = (((1024 : ℝ)⁻¹ : ℝ) : EReal) := by
  simp [Ideal.ofBits, Ideal.ieee]
  exact_mod_cast (by norm_num : (8388608 : ℝ) * ((2 : ℝ) ^ 33)⁻¹ = (1024 : ℝ)⁻¹)

/-- The bits that name two. -/
theorem two_bits : Ideal.ofBits .f32 0x40000000#32 = ((2 : ℝ) : EReal) := by
  simp [Ideal.ofBits, Ideal.ieee]
  exact_mod_cast (by norm_num : (8388608 : ℝ) * ((2 : ℝ) ^ 22)⁻¹ = 2)

/-- Half of a sum over rows, over the length of a row, row by row. -/
theorem scale {n : Nat} (f : Fin n → EReal) : Ideal.ofBits .f32 0x3F000000#32 * (∑ r, f r) * Ideal.ofBits .f32 0x3A800000#32 = ∑ r, ((1 / 2048 : ℝ) : EReal) * f r := by
  rw [← mul_sum_pos (1 / 2048) (by norm_num), half_bits, inv_len_bits, mul_comm, ← mul_assoc, ← EReal.coe_mul]
  norm_num

/-- The share of point `t`'s rows in the loss. -/
def part (c : Dev nD) (t : Fin cfg0.N) (_ : S8x1024.Idx) : EReal :=
  ∑ r : Fin 1024, ((1 / 2048 : ℝ) : EReal) * sq (M := 8192) (m ((c : Thread nD τ).loc main_arg0)) (m ((c : Thread nD τ).loc main_arg1)) (m ((c : Thread nD τ).loc main_arg2)) (m ((c : Thread nD τ).loc main_arg3)) (m ((c : Thread nD τ).loc main_arg4)) ⟨t.val * 1024 + r.val, by have := lt8 t; omega⟩

/-- The two halves' shares in the loss are the point's. -/
theorem loss_step (c : Dev nD) (t : Fin cfg0.N) (a : FVec Ideal S8x1024 .f32) (s : Fin 8) (l : Fin 1024) :
    (k0_pay1 (k0_pay21 (k0_pay13 (lowW (iblk m c 0 t)) (iblk m c 1 t)) (low (iblk m c 2 t)) (low (iblk m c 3 t)) (iblk m c 4 t) k0_pay14)
      (k0_pay12 (k0_pay7 (topW (iblk m c 0 t)) (iblk m c 1 t) (top (iblk m c 2 t)) (top (iblk m c 3 t)) (iblk m c 4 t)) a) : FVec Ideal S8x1024 .f32) (ix2 s l)
      = (a (ix2 s l) : EReal) + part m c t (ix2 s l) := by
  refine (pay1 _ _ _ _ _ _ s l).trans ?_
  rw [pay12, add_assoc, scale, scale]
  refine congrArg (fun b : EReal => (a (ix2 s l) : EReal) + b) (Eq.trans ?_ (halves _).symm)
  refine congrArg₂ (fun a b : EReal => a + b) (Finset.sum_congr (M := EReal) rfl fun r _ => ?_) (Finset.sum_congr (M := EReal) rfl fun r _ => ?_)
  · rw [actT m c t r ⟨t.val * 1024 + r.val, by have := lt8 t; omega⟩ rfl, tgtT m c t r ⟨t.val * 1024 + r.val, by have := lt8 t; omega⟩ rfl, row4 m c t]
    rfl
  · rw [actL m c t r ⟨t.val * 1024 + (512 + r.val), by have := lt8 t; omega⟩ rfl, tgtL m c t r ⟨t.val * 1024 + (512 + r.val), by have := lt8 t; omega⟩ rfl, row4 m c t]
    rfl

/-- At the last point the gains' gradient is the eight blocks'. -/
theorem gains (c : Dev nD) (t : Fin cfg0.N) (h : t.val % 8 = 7) (j : S8x1024.Idx) :
    ((outsAt0 m c t.val t.isLt).2.1 j : EReal) = 0 + ∑ s : Fin 8, term m c ⟨8 * (t.val / 8) + s.val, Pipeline.run_point_lt_of_flush t h s⟩ j := by
  refine Pipeline.eq_sum_fin_of_reset_step_apply_of_flush (fun n hn j => ((outsAt0 m c n hn).2.1 j : EReal)) 8 (fun _ => 0) (term m c) (fun t h i => ?_) (fun t h i => ?_) t h j
  · idx_vars i
    show ((outsAt0 m c t.val t.isLt).2.1 (ix2 i0 i1) : EReal) = _
    rw [outsAt0_A m c t h]
    frame_out
    refine (gain_step m c t _ i0 i1).trans ?_
    rw [pay2]
  · idx_vars i
    show ((outsAt0 m c t.val t.isLt).2.1 (ix2 i0 i1) : EReal) = _
    rw [outsAt0_B m c t h]
    frame_out
    exact gain_step m c t _ i0 i1

/-- At the last point the loss is the eight blocks'. -/
theorem losses (c : Dev nD) (t : Fin cfg0.N) (h : t.val % 8 = 7) (j : S8x1024.Idx) :
    ((outsAt0 m c t.val t.isLt).2.2 j : EReal) = 0 + ∑ s : Fin 8, part m c ⟨8 * (t.val / 8) + s.val, Pipeline.run_point_lt_of_flush t h s⟩ j := by
  refine Pipeline.eq_sum_fin_of_reset_step_apply_of_flush (fun n hn j => ((outsAt0 m c n hn).2.2 j : EReal)) 8 (fun _ => 0) (part m c) (fun t h i => ?_) (fun t h i => ?_) t h j
  · idx_vars i
    show ((outsAt0 m c t.val t.isLt).2.2 (ix2 i0 i1) : EReal) = _
    rw [outsAt0_A m c t h]
    frame_out
    refine (loss_step m c t _ i0 i1).trans ?_
    rw [pay3]
  · idx_vars i
    show ((outsAt0 m c t.val t.isLt).2.2 (ix2 i0 i1) : EReal) = _
    rw [outsAt0_B m c t h]
    frame_out
    exact loss_step m c t _ i0 i1

/-- The gains' gradient, from the arrays. -/
def dg (a0 : FVec Ideal S8192x2816 .bf16) (a1 : FVec Ideal S2816x1024 .bf16) (a2 a3 : FVec Ideal S8192x1024 .f32) (a4 : FVec Ideal S1x1024 .f32) (l : Fin 1024) : EReal :=
  ∑ r : Fin 8192, share a0 a1 a2 a3 a4 r l

/-- The loss, from the arrays: half of the mean squared distance of each row, summed. -/
def loss (a0 : FVec Ideal S8192x2816 .bf16) (a1 : FVec Ideal S2816x1024 .bf16) (a2 a3 : FVec Ideal S8192x1024 .f32) (a4 : FVec Ideal S1x1024 .f32) : EReal :=
  ∑ r : Fin 8192, ((1 / 2048 : ℝ) : EReal) * sq a0 a1 a2 a3 a4 r

/-- The first array after the run. -/
theorem final5 (c : Dev nD) : (dats m 0 c).arrAt 5 cfg0.N
    = fun i : S8192x1024.Idx => dx (M := 8192) (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t hf y => ?_
  blk_simp
  rw [after0_5]
  idx_vars y
  have ht : t.val < 8 := lt8 t
  refine (rows m c t y0 y1 ⟨t.val * 1024 + y0.val, by omega⟩ rfl).trans (congrArg₂ (dx (M := 8192) _ _ _ _ _) (Fin.ext ?_) (Fin.ext ?_))
  · blk_simp [idx t]
  · blk_simp [idx t]

/-- The second array after the run. -/
theorem final6 (c : Dev nD) : (dats m 0 c).arrAt 6 cfg0.N = fun i : S8x1024.Idx => dg (m ((c : Thread nD τ).loc main_arg0)) (m ((c : Thread nD τ).loc main_arg1)) (m ((c : Thread nD τ).loc main_arg2)) (m ((c : Thread nD τ).loc main_arg3)) (m ((c : Thread nD τ).loc main_arg4)) (i 1) := by
  refine (dats m 0 c).arrAt_eq_of_covers 6 _ (by decide +kernel) fun t hf y => ?_
  have h7 : t.val % 8 = 7 := (flush0_6 t).mp hf
  have ht : t.val < 8 := lt8 t
  blk_simp
  rw [after0_6]
  idx_vars y
  refine (gains m c t h7 (ix2 y0 y1)).trans ((zero_add _).trans (Eq.trans (b := dg (m ((c : Thread nD τ).loc main_arg0)) (m ((c : Thread nD τ).loc main_arg1)) (m ((c : Thread nD τ).loc main_arg2)) (m ((c : Thread nD τ).loc main_arg3)) (m ((c : Thread nD τ).loc main_arg4)) y1) ?_ (congrArg (dg _ _ _ _ _) (Fin.ext ?_))))
  rotate_left
  · blk_simp [idx t]
  refine Fin.sum_mul_add_congr (M := EReal) (S := 8) (n := 1024) (fun s k hl => ?_) rfl
  exact congrArg₂ (share (M := 8192) _ _ _ _ _) (Fin.ext (by dsimp only; omega)) rfl

/-- The third array after the run. -/
theorem final7 (c : Dev nD) : (dats m 0 c).arrAt 7 cfg0.N = fun _ : S8x1024.Idx => loss (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  have h7 : t.val % 8 = 7 := (flush0_7 t).mp hf
  have ht : t.val < 8 := lt8 t
  blk_simp
  rw [after0_7]
  idx_vars y
  refine (losses m c t h7 (ix2 y0 y1)).trans ((zero_add _).trans ?_)
  refine Fin.sum_mul_add_congr (M := EReal) (S := 8) (n := 1024) (fun s k hl => ?_) rfl
  exact congrArg (fun r => ((1 / 2048 : ℝ) : EReal) * sq (M := 8192) _ _ _ _ _ r) (Fin.ext (by dsimp only; omega))

section Reference

open Cert.Reference22Ideal.Read

variable (x0 : FVec Ideal S8192x2816 .bf16) (x1 : FVec Ideal S2816x1024 .bf16) (x2 x3 : FVec Ideal S8192x1024 .f32) (x4 : FVec Ideal S1x1024 .f32)
  (r : Fin 8192) (l : Fin 1024)

/-- What the reference's norm takes. -/
theorem ref5 : (val_main_v5 (F := Ideal) x0 x1 x2 : FVec Ideal Cert.Reference22Ideal.S8192x1024 .f32) (ix2 r l) = act x0 x1 x2 r l := by
  pointwise [val_main_v5, val_main_v4, val_main_v3, val_main_v2, val_main_v1, val_main_v0, val_main_cst]
  rfl

/-- The reference's mean square. -/
theorem ref12 : (val_main_v12 (F := Ideal) x0 x1 x2 : FVec Ideal Cert.Reference22Ideal.S8192x1 .f32) (ix2 r (0 : Fin 1)) = meanSq (act x0 x1 x2 r) := by
  pointwise [val_main_v12, val_main_v11, val_main_v10, val_main_v9, val_main_v8, val_main_v7, val_main_v6, val_main_cst_0, val_main_cst_1, val_main_cst_2]
  simp only [ref5]
  rfl

/-- The reference's reciprocal root. -/
theorem ref13 : (val_main_v13 (F := Ideal) x0 x1 x2 : FVec Ideal Cert.Reference22Ideal.S8192x1 .f32) (ix2 r (0 : Fin 1)) = inv (act x0 x1 x2 r) := by
  pointwise [val_main_v13]
  rw [ref12]
  rfl

/-- The reciprocal root's derivative. -/
theorem ref16 : (val_main_v16 (F := Ideal) x0 x1 x2 : FVec Ideal Cert.Reference22Ideal.S8192x1 .f32) (ix2 r (0 : Fin 1))
    = Ideal.ofBits .f32 0xBF000000#32 * Ideal.div (inv (act x0 x1 x2 r)) (meanSq (act x0 x1 x2 r)) := by
  pointwise [val_main_v16, val_main_v15, val_main_v14, val_main_cst_3]
  rw [ref12, ref13]

/-- The rows without their gains, in the reference. -/
theorem ref18 : (val_main_v18 (F := Ideal) x0 x1 x2 : FVec Ideal Cert.Reference22Ideal.S8192x1024 .f32) (ix2 r l) = act x0 x1 x2 r l * inv (act x0 x1 x2 r) := by
  pointwise [val_main_v18, val_main_v17]
  rw [ref13, ref5]

/-- The distance from the target, in the reference. -/
theorem ref21 : (val_main_v21 (F := Ideal) x0 x1 x2 x3 x4 : FVec Ideal Cert.Reference22Ideal.S8192x1024 .f32) (ix2 r l) = dist (act x0 x1 x2 r) (row x3 r) (row x4 0) l := by
  pointwise [val_main_v21, val_main_v20, val_main_v19]
  rw [ref18]
  rfl

/-- The reference's factors of the distance, a half over the row's length and two, are the kernel's one. -/
theorem factors (e : EReal) : Ideal.div (Ideal.ofBits .f32 0x3F000000#32) (Ideal.ofBits .f32 0x44800000#32) * (Ideal.ofBits .f32 0x40000000#32 * e)
    = e * Ideal.ofBits .f32 0x3A800000#32 := by
  rw [half_bits, len_bits, div_coe _ _ (by norm_num), two_bits, inv_len_bits, ← EReal.coe_mul, ← mul_assoc, ← EReal.coe_mul, mul_comm]
  norm_num

/-- The gradient of the normed rows, in the reference. -/
theorem ref35 : (val_main_v35 (F := Ideal) x0 x1 x2 x3 x4 : FVec Ideal Cert.Reference22Ideal.S8192x1024 .f32) (ix2 r l) = dy (act x0 x1 x2 r) (row x3 r) (row x4 0) l := by
  pointwise [val_main_v35, val_main_v34, val_main_v33, val_main_v32, val_main_v31, val_main_v30, val_main_v24, val_main_v23, val_main_cst_4, val_main_cst_9, val_main_cst_10, val_main_cst_11]
  rw [ref21]
  exact factors _

/-- The same times the gains. -/
theorem ref40 : (val_main_v40 (F := Ideal) x0 x1 x2 x3 x4 : FVec Ideal Cert.Reference22Ideal.S8192x1024 .f32) (ix2 r l) = dy (act x0 x1 x2 r) (row x3 r) (row x4 0) l * row x4 0 l := by
  pointwise [val_main_v40, val_main_v39]
  rw [ref35]
  rfl

/-- The sum along a row that goes back through the reciprocal root. -/
theorem ref43 : (val_main_v43 (F := Ideal) x0 x1 x2 x3 x4 : FVec Ideal Cert.Reference22Ideal.S8192x1 .f32) (ix2 r (0 : Fin 1))
    = ∑ k, act x0 x1 x2 r k * (dy (act x0 x1 x2 r) (row x3 r) (row x4 0) k * row x4 0 k) := by
  pointwise [val_main_v43, val_main_v42, val_main_v41, val_main_cst_13]
  simp only [ref40, ref5]

/-- What goes back through the reciprocal root, for a row. -/
theorem ref48 : (val_main_v48 (F := Ideal) x0 x1 x2 x3 x4 : FVec Ideal Cert.Reference22Ideal.S8192x1 .f32) (ix2 r (0 : Fin 1))
    = slope (act x0 x1 x2 r) (row x4 0) (dy (act x0 x1 x2 r) (row x3 r) (row x4 0)) := by
  pointwise [val_main_v48, val_main_v47, val_main_v46, val_main_cst_14]
  rw [ref43, ref16]
  rfl

/-- The same at each entry of the row. -/
theorem ref50 : (val_main_v50 (F := Ideal) x0 x1 x2 x3 x4 : FVec Ideal Cert.Reference22Ideal.S8192x1024 .f32) (ix2 r l)
    = slope (act x0 x1 x2 r) (row x4 0) (dy (act x0 x1 x2 r) (row x3 r) (row x4 0)) := by
  pointwise [val_main_v50, val_main_v49, val_main_cst_15]
  rw [Fin.sum_univ_one]
  exact ref48 x0 x1 x2 x3 x4 r

/-- The reference's first result. -/
theorem ref54 : (val_main_v54 (F := Ideal) x0 x1 x2 x3 x4 : FVec Ideal Cert.Reference22Ideal.S8192x1024 .f32) (ix2 r l) = dx x0 x1 x2 x3 x4 r l := by
  have e := back_eq 0 (act x0 x1 x2 r) (row x4 0) (dy (act x0 x1 x2 r) (row x3 r) (row x4 0)) l
  rw [zero_add, zero_add] at e
  refine Eq.trans ?_ e
  pointwise [val_main_v54, val_main_v53, val_main_v52, val_main_v51, val_main_v45, val_main_v44]
  rw [ref50, ref40, ref13, ref5]

/-- The reference's second result. -/
theorem ref55 (s : Fin 8) : (val_main_v55 (F := Ideal) x0 x1 x2 x3 x4 : FVec Ideal Cert.Reference22Ideal.S8x1024 .f32) (ix2 s l) = dg x0 x1 x2 x3 x4 l := by
  pointwise [val_main_v55, val_main_v38, val_main_v37, val_main_v36, val_main_cst_12]
  simp only [ref18, ref35]
  exact Finset.sum_congr (M := EReal) rfl fun k _ => mul_comm (G := EReal) _ _

/-- The reference's third result: the loss. -/
theorem ref56 (s : Fin 8) : (val_main_v56 (F := Ideal) x0 x1 x2 x3 x4 : FVec Ideal Cert.Reference22Ideal.S8x1024 .f32) (ix2 s l) = loss x0 x1 x2 x3 x4 := by
  pointwise [val_main_v56, val_main_v29, val_main_v28, val_main_v27, val_main_v26, val_main_v25, val_main_v22, val_main_cst_5, val_main_cst_6, val_main_cst_7, val_main_cst_8]
  simp only [ref21]
  rw [half_bits, mul_sum_pos (1 / 2) (by norm_num)]
  refine Finset.sum_congr (M := EReal) rfl fun k _ => ?_
  rw [len_bits, div_coe _ _ (by norm_num), mul_comm, mul_assoc, ← EReal.coe_mul, mul_comm]
  norm_num
  rfl

end Reference

/-- The kernel's three arrays are the reference's. -/
theorem algebraic : Cert.algebraic_Kernel22Ideal_Reference22Ideal (hKernel22Ideal := Cert.Kernel22Ideal.Gen.facts) (hReference22Ideal := Cert.Reference22Ideal.Gen.facts) := by
  intro m g m' g' hpre hagree
  refine ⟨fun c => (Kernel22Ideal.Gen.dats m 0 c).arrAt 5 Kernel22Ideal.cfg0.N, fun c => (Kernel22Ideal.Gen.dats m 0 c).arrAt 6 Kernel22Ideal.cfg0.N,
    fun c => (Kernel22Ideal.Gen.dats m 0 c).arrAt 7 Kernel22Ideal.cfg0.N, Kernel22Ideal.Value.run_blocks m g, ?_⟩
  refine (θ_run Reference22Ideal.defs _ _).mono (fun r h c => ?_) (Reference22Ideal.Value.run (F := Ideal) m' g')
  obtain ⟨e0, e1, e2, k⟩ := h c
  obtain ⟨a0, a1, a2, a3, a4⟩ := hagree c
  refine ⟨e0.trans ?_, e1.trans ?_, e2.trans ?_, k⟩
  · rw [Reference22Ideal.Read.val_main_v54_eq]
    refine Eq.trans ?_ (final5 m c).symm
    funext i
    idx_vars i
    refine (ref54 _ _ _ _ _ i0 i1).trans ?_
    rw [a0, a1, a2, a3, a4]
  · rw [Reference22Ideal.Read.val_main_v55_eq]
    refine Eq.trans ?_ (final6 m c).symm
    funext i
    idx_vars i
    refine (ref55 _ _ _ _ _ i1 i0).trans ?_
    rw [a0, a1, a2, a3, a4]
  · rw [Reference22Ideal.Read.val_main_v56_eq]
    refine Eq.trans ?_ (final7 m c).symm
    funext i
    idx_vars i
    refine (ref56 _ _ _ _ _ i1 i0).trans ?_
    rw [a0, a1, a2, a3, a4]

end Cert.Gate.Loss

end
-- ==== Proof.Mix.OutWeight.lean ====
module

public import proofs.«01_k».proof.Defs
public import proofs.«01_k».proof.Proof.Gen.Kernel23Ideal.Value
public import proofs.«01_k».proof.Proof.Gen.Reference23Ideal.Run
public import proofs.«01_k».proof.Proof.Gen.Reference23Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of `w_out`

A product summed over the tokens: the sum of eight blocks of tokens, kept from one point of the grid to the next and written back at
the eighth. -/

namespace Cert.Mix.OutWeight

open Cert.Kernel23Ideal Cert.Kernel23Ideal.Gen Idealize.ShloMosaic Idealize.ShloMosaic.TcCoe Idealize.SL.Sem

/-- The sum over the tokens of an entry of the first array times an entry of the second. -/
def prod (x : FVec Ideal S8192x1024 .bf16) (w : FVec Ideal S8192x1024 .f32) (r : Fin 1024) (l : Fin 1024) : EReal :=
  ∑ k : Fin 8192, (x (ix2 k r) : EReal) * w (ix2 k l)

/-- The same over the tokens of one block. -/
def part (x : FVec Ideal S1024x1024 .bf16) (w : FVec Ideal S1024x1024 .f32) (j : S1024x1024.Idx) : EReal :=
  ∑ k : Fin 1024, (x (ix2 k (j 0 : Fin 1024)) : EReal) * w (ix2 k (j 1 : Fin 1024))

variable (m : (ℓ : Loc nD τ sig) → Buf (Elt Ideal) ℓ)

/-- Where each window's block lies at point `t`: the block `t` of the tokens. -/
theorem idx : ∀ t : Fin cfg0.N, win0_0.index t = ![t.val % 8, 0] ∧ win0_1.index t = ![t.val % 8, 0] ∧ win0_2.index t = ![0, 0] := by decide +kernel

/-- The first block's products. -/
theorem first (x : FVec Ideal S1024x1024 .bf16) (w : FVec Ideal S1024x1024 .f32) (r : Fin 1024) (l : Fin 1024) :
    (k0_pay1 x w : FVec Ideal S1024x1024 .f32) (ix2 r l) = part x w (ix2 r l) := by
  unfold k0_pay1 part
  pointwise []

/-- A further block's products, added to what there is. -/
theorem further (a : FVec Ideal S1024x1024 .f32) (x : FVec Ideal S1024x1024 .bf16) (w : FVec Ideal S1024x1024 .f32) (r : Fin 1024) (l : Fin 1024) :
    (k0_pay2 a x w : FVec Ideal S1024x1024 .f32) (ix2 r l) = a (ix2 r l) + part x w (ix2 r l) := by
  unfold k0_pay2 part
  pointwise []

/-- The last block's products, added to what there is. -/
theorem last (a : FVec Ideal S1024x1024 .f32) (x : FVec Ideal S1024x1024 .bf16) (w : FVec Ideal S1024x1024 .f32) (r : Fin 1024) (l : Fin 1024) :
    (k0_pay3 a x w : FVec Ideal S1024x1024 .bf16) (ix2 r l) = (a (ix2 r l) : EReal) + part x w (ix2 r l) := by
  unfold k0_pay3 part
  pointwise []

/-- The products of point `t`'s blocks. -/
abbrev term (c : Dev nD) (t : Fin cfg0.N) (j : S1024x1024.Idx) : EReal := part (iblk m c 0 t) (iblk m c 1 t) j

/-- The sum so far at point `n`. -/
def sofar (c : Dev nD) (n : Nat) (h : n < cfg0.N) (j : S1024x1024.Idx) : EReal :=
  if n % 8 = 7 then ((outsAt0 m c (n - 1) (Nat.lt_of_le_of_lt (Nat.sub_le _ _) h)).2 j : EReal) + term m c ⟨n, h⟩ j else (outsAt0 m c n h).2 j

/-- At the last point of a run the sum so far is all the blocks'. -/
theorem sofar_last (c : Dev nD) (t : Fin cfg0.N) (h : t.val % 8 = 7) (j : S1024x1024.Idx) :
    sofar m c t.val t.isLt j = 0 + ∑ s : Fin 8, term m c ⟨8 * (t.val / 8) + s.val, Pipeline.run_point_lt_of_flush t h s⟩ j := by
  refine Pipeline.eq_sum_fin_of_reset_step_apply_of_flush (sofar m c) 8 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 8 = 7
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 8 = 7) (r : Fin 1024) (l : Fin 1024) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S1024x1024.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 8 = 7 := (flush0_2 t).mp hf
  have hN : cfg0.N = 8 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 8) (n := 1024) (fun s k hl => congrArg₂ (fun a b : EReal => a * b) ?_ ?_) rfl
  · have hs : (8 * (t.val / 8) + s.val) % 8 = s.val := by omega
    blk_ext! [iblk, V, idx ⟨8 * (t.val / 8) + s.val, Pipeline.run_point_lt_of_flush t h3 s⟩, idx t, hs]
  · have hs : (8 * (t.val / 8) + s.val) % 8 = s.val := by omega
    blk_ext! [iblk, V, idx ⟨8 * (t.val / 8) + s.val, Pipeline.run_point_lt_of_flush t h3 s⟩, idx t, hs]

/-- The reference's result. -/
theorem ref (x : FVec Ideal S8192x1024 .bf16) (w : FVec Ideal S8192x1024 .f32) (r : Fin 1024) (l : Fin 1024) :
    (Reference23Ideal.Read.val_main_v5 (F := Ideal) x w : FVec Ideal S1024x1024 .bf16) (ix2 r l) = prod x w r l := by
  pointwise [Reference23Ideal.Read.val_main_v5, Reference23Ideal.Read.val_main_v4, Reference23Ideal.Read.val_main_v3, Reference23Ideal.Read.val_main_v0]
  exact Finset.sum_congr rfl fun k _ => mul_comm _ _

/-- The kernel's result is the reference's. -/
theorem algebraic : Cert.algebraic_Kernel23Ideal_Reference23Ideal (hKernel23Ideal := Kernel23Ideal.Gen.facts) (hReference23Ideal := Reference23Ideal.Gen.facts) := by
  intro m g m' g' hpre hagree
  refine ⟨fun c => (Kernel23Ideal.Gen.dats m 0 c).arrAt 2 Kernel23Ideal.cfg0.N, Kernel23Ideal.Value.run_blocks m g, ?_⟩
  refine (θ_run Reference23Ideal.defs _ _).mono (fun r h c => ?_) (Reference23Ideal.Value.run (F := Ideal) m' g')
  obtain ⟨e0, k⟩ := h c
  obtain ⟨a0, a1⟩ := hagree c
  refine ⟨e0.trans ?_, k⟩
  rw [Reference23Ideal.Read.val_main_v5_eq]
  refine Eq.trans ?_ (final m c).symm
  funext i
  idx_vars i
  refine (ref _ _ i0 i1).trans ?_
  rw [a0, a1]

end Cert.Mix.OutWeight
-- ==== Proof.Mix.SsdWeight.lean ====
module

public import proofs.«01_k».proof.Defs
public import proofs.«01_k».proof.Proof.Gen.Kernel24Ideal.Value
public import proofs.«01_k».proof.Proof.Gen.Reference24Ideal.Run
public import proofs.«01_k».proof.Proof.Gen.Reference24Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of `w_branch_ssd`

A product summed over the tokens: each of the two blocks of rows of the result is the sum of eight blocks of tokens, kept from one
point of the grid to the next and written back at the eighth. -/

namespace Cert.Mix.SsdWeight

open Cert.Kernel24Ideal Cert.Kernel24Ideal.Gen Idealize.ShloMosaic Idealize.ShloMosaic.TcCoe Idealize.SL.Sem

/-- The sum over the tokens of an entry of the first array times an entry of the second. -/
def prod (x : FVec Ideal S8192x2048 .bf16) (w : FVec Ideal S8192x1024 .bf16) (r : Fin 2048) (l : Fin 1024) : EReal :=
  ∑ k : Fin 8192, (x (ix2 k r) : EReal) * w (ix2 k l)

/-- The same over the tokens of one block. -/
def part (x : FVec Ideal S1024x1024 .bf16) (w : FVec Ideal S1024x1024 .bf16) (j : S1024x1024.Idx) : EReal :=
  ∑ k : Fin 1024, (x (ix2 k (j 0 : Fin 1024)) : EReal) * w (ix2 k (j 1 : Fin 1024))

variable (m : (ℓ : Loc nD τ sig) → Buf (Elt Ideal) ℓ)

/-- Where each window's block lies at point `t`: the row of blocks `t / 8` of the result, the block `t % 8` of the tokens. -/
theorem idx : ∀ t : Fin cfg0.N, win0_0.index t = ![t.val % 8, t.val / 8] ∧ win0_1.index t = ![t.val % 8, 0] ∧ win0_2.index t = ![t.val / 8, 0] := by decide +kernel

/-- The first block's products. -/
theorem first (x : FVec Ideal S1024x1024 .bf16) (w : FVec Ideal S1024x1024 .bf16) (r : Fin 1024) (l : Fin 1024) :
    (k0_pay1 x w : FVec Ideal S1024x1024 .f32) (ix2 r l) = part x w (ix2 r l) := by
  unfold k0_pay1 part
  pointwise []

/-- A further block's products, added to what there is. -/
theorem further (a : FVec Ideal S1024x1024 .f32) (x : FVec Ideal S1024x1024 .bf16) (w : FVec Ideal S1024x1024 .bf16) (r : Fin 1024) (l : Fin 1024) :
    (k0_pay2 a x w : FVec Ideal S1024x1024 .f32) (ix2 r l) = a (ix2 r l) + part x w (ix2 r l) := by
  unfold k0_pay2 part
  pointwise []

/-- The last block's products, added to what there is. -/
theorem last (a : FVec Ideal S1024x1024 .f32) (x : FVec Ideal S1024x1024 .bf16) (w : FVec Ideal S1024x1024 .bf16) (r : Fin 1024) (l : Fin 1024) :
    (k0_pay3 a x w : FVec Ideal S1024x1024 .bf16) (ix2 r l) = (a (ix2 r l) : EReal) + part x w (ix2 r l) := by
  unfold k0_pay3 part
  pointwise []

/-- The products of point `t`'s blocks. -/
abbrev term (c : Dev nD) (t : Fin cfg0.N) (j : S1024x1024.Idx) : EReal := part (iblk m c 0 t) (iblk m c 1 t) j

/-- The sum so far at point `n`. -/
def sofar (c : Dev nD) (n : Nat) (h : n < cfg0.N) (j : S1024x1024.Idx) : EReal :=
  if n % 8 = 7 then ((outsAt0 m c (n - 1) (Nat.lt_of_le_of_lt (Nat.sub_le _ _) h)).2 j : EReal) + term m c ⟨n, h⟩ j else (outsAt0 m c n h).2 j

/-- At the last point of a run the sum so far is all the blocks'. -/
theorem sofar_last (c : Dev nD) (t : Fin cfg0.N) (h : t.val % 8 = 7) (j : S1024x1024.Idx) :
    sofar m c t.val t.isLt j = 0 + ∑ s : Fin 8, term m c ⟨8 * (t.val / 8) + s.val, Pipeline.run_point_lt_of_flush t h s⟩ j := by
  refine Pipeline.eq_sum_fin_of_reset_step_apply_of_flush (sofar m c) 8 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 8 = 7
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 8 = 7) (r : Fin 1024) (l : Fin 1024) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S2048x1024.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 8 = 7 := (flush0_2 t).mp hf
  have hN : cfg0.N = 16 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 8) (n := 1024) (fun s k hl => congrArg₂ (fun a b : EReal => a * b) ?_ ?_) rfl
  · have hs : (8 * (t.val / 8) + s.val) % 8 = s.val := by omega
    have hd : (8 * (t.val / 8) + s.val) / 8 = t.val / 8 := by omega
    blk_ext! [iblk, V, idx ⟨8 * (t.val / 8) + s.val, Pipeline.run_point_lt_of_flush t h3 s⟩, idx t, hs, hd]
  · have hs : (8 * (t.val / 8) + s.val) % 8 = s.val := by omega
    blk_ext! [iblk, V, idx ⟨8 * (t.val / 8) + s.val, Pipeline.run_point_lt_of_flush t h3 s⟩, idx t, hs]

/-- The reference's result. -/
theorem ref (x : FVec Ideal S8192x2048 .bf16) (w : FVec Ideal S8192x1024 .bf16) (r : Fin 2048) (l : Fin 1024) :
    (Reference24Ideal.Read.val_main_v6 (F := Ideal) x w : FVec Ideal S2048x1024 .bf16) (ix2 r l) = prod x w r l := by
  pointwise [Reference24Ideal.Read.val_main_v6, Reference24Ideal.Read.val_main_v5, Reference24Ideal.Read.val_main_v4, Reference24Ideal.Read.val_main_v3, Reference24Ideal.Read.val_main_v0]
  exact Finset.sum_congr rfl fun k _ => mul_comm _ _

/-- The kernel's result is the reference's. -/
theorem algebraic : Cert.algebraic_Kernel24Ideal_Reference24Ideal (hKernel24Ideal := Kernel24Ideal.Gen.facts) (hReference24Ideal := Reference24Ideal.Gen.facts) := by
  intro m g m' g' hpre hagree
  refine ⟨fun c => (Kernel24Ideal.Gen.dats m 0 c).arrAt 2 Kernel24Ideal.cfg0.N, Kernel24Ideal.Value.run_blocks m g, ?_⟩
  refine (θ_run Reference24Ideal.defs _ _).mono (fun r h c => ?_) (Reference24Ideal.Value.run (F := Ideal) m' g')
  obtain ⟨e0, k⟩ := h c
  obtain ⟨a0, a1⟩ := hagree c
  refine ⟨e0.trans ?_, k⟩
  rw [Reference24Ideal.Read.val_main_v6_eq]
  refine Eq.trans ?_ (final m c).symm
  funext i
  idx_vars i
  refine (ref _ _ i0 i1).trans ?_
  rw [a0, a1]

end Cert.Mix.SsdWeight
-- ==== Proof.Mix.GmlpWeight.lean ====
module

public import proofs.«01_k».proof.Defs
public import proofs.«01_k».proof.Proof.Gen.Kernel25Ideal.Value
public import proofs.«01_k».proof.Proof.Gen.Reference25Ideal.Run
public import proofs.«01_k».proof.Proof.Gen.Reference25Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of `w_branch_gmlp`

A product summed over the tokens: the sum of eight blocks of tokens, kept from one point of the grid to the next and written back at
the eighth. -/

namespace Cert.Mix.GmlpWeight

open Cert.Kernel25Ideal Cert.Kernel25Ideal.Gen Idealize.ShloMosaic Idealize.ShloMosaic.TcCoe Idealize.SL.Sem

/-- The sum over the tokens of an entry of the first array times an entry of the second. -/
def prod (x : FVec Ideal S8192x1024 .bf16) (w : FVec Ideal S8192x1024 .bf16) (r : Fin 1024) (l : Fin 1024) : EReal :=
  ∑ k : Fin 8192, (x (ix2 k r) : EReal) * w (ix2 k l)

/-- The same over the tokens of one block. -/
def part (x : FVec Ideal S1024x1024 .bf16) (w : FVec Ideal S1024x1024 .bf16) (j : S1024x1024.Idx) : EReal :=
  ∑ k : Fin 1024, (x (ix2 k (j 0 : Fin 1024)) : EReal) * w (ix2 k (j 1 : Fin 1024))

variable (m : (ℓ : Loc nD τ sig) → Buf (Elt Ideal) ℓ)

/-- Where each window's block lies at point `t`: the block `t` of the tokens. -/
theorem idx : ∀ t : Fin cfg0.N, win0_0.index t = ![t.val % 8, 0] ∧ win0_1.index t = ![t.val % 8, 0] ∧ win0_2.index t = ![0, 0] := by decide +kernel

/-- The first block's products. -/
theorem first (x : FVec Ideal S1024x1024 .bf16) (w : FVec Ideal S1024x1024 .bf16) (r : Fin 1024) (l : Fin 1024) :
    (k0_pay1 x w : FVec Ideal S1024x1024 .f32) (ix2 r l) = part x w (ix2 r l) := by
  unfold k0_pay1 part
  pointwise []

/-- A further block's products, added to what there is. -/
theorem further (a : FVec Ideal S1024x1024 .f32) (x : FVec Ideal S1024x1024 .bf16) (w : FVec Ideal S1024x1024 .bf16) (r : Fin 1024) (l : Fin 1024) :
    (k0_pay2 a x w : FVec Ideal S1024x1024 .f32) (ix2 r l) = a (ix2 r l) + part x w (ix2 r l) := by
  unfold k0_pay2 part
  pointwise []

/-- The last block's products, added to what there is. -/
theorem last (a : FVec Ideal S1024x1024 .f32) (x : FVec Ideal S1024x1024 .bf16) (w : FVec Ideal S1024x1024 .bf16) (r : Fin 1024) (l : Fin 1024) :
    (k0_pay3 a x w : FVec Ideal S1024x1024 .bf16) (ix2 r l) = (a (ix2 r l) : EReal) + part x w (ix2 r l) := by
  unfold k0_pay3 part
  pointwise []

/-- The products of point `t`'s blocks. -/
abbrev term (c : Dev nD) (t : Fin cfg0.N) (j : S1024x1024.Idx) : EReal := part (iblk m c 0 t) (iblk m c 1 t) j

/-- The sum so far at point `n`. -/
def sofar (c : Dev nD) (n : Nat) (h : n < cfg0.N) (j : S1024x1024.Idx) : EReal :=
  if n % 8 = 7 then ((outsAt0 m c (n - 1) (Nat.lt_of_le_of_lt (Nat.sub_le _ _) h)).2 j : EReal) + term m c ⟨n, h⟩ j else (outsAt0 m c n h).2 j

/-- At the last point of a run the sum so far is all the blocks'. -/
theorem sofar_last (c : Dev nD) (t : Fin cfg0.N) (h : t.val % 8 = 7) (j : S1024x1024.Idx) :
    sofar m c t.val t.isLt j = 0 + ∑ s : Fin 8, term m c ⟨8 * (t.val / 8) + s.val, Pipeline.run_point_lt_of_flush t h s⟩ j := by
  refine Pipeline.eq_sum_fin_of_reset_step_apply_of_flush (sofar m c) 8 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 8 = 7
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 8 = 7) (r : Fin 1024) (l : Fin 1024) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S1024x1024.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 8 = 7 := (flush0_2 t).mp hf
  have hN : cfg0.N = 8 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 8) (n := 1024) (fun s k hl => congrArg₂ (fun a b : EReal => a * b) ?_ ?_) rfl
  · have hs : (8 * (t.val / 8) + s.val) % 8 = s.val := by omega
    blk_ext! [iblk, V, idx ⟨8 * (t.val / 8) + s.val, Pipeline.run_point_lt_of_flush t h3 s⟩, idx t, hs]
  · have hs : (8 * (t.val / 8) + s.val) % 8 = s.val := by omega
    blk_ext! [iblk, V, idx ⟨8 * (t.val / 8) + s.val, Pipeline.run_point_lt_of_flush t h3 s⟩, idx t, hs]

/-- The reference's result. -/
theorem ref (x : FVec Ideal S8192x1024 .bf16) (w : FVec Ideal S8192x1024 .bf16) (r : Fin 1024) (l : Fin 1024) :
    (Reference25Ideal.Read.val_main_v6 (F := Ideal) x w : FVec Ideal S1024x1024 .bf16) (ix2 r l) = prod x w r l := by
  pointwise [Reference25Ideal.Read.val_main_v6, Reference25Ideal.Read.val_main_v5, Reference25Ideal.Read.val_main_v4, Reference25Ideal.Read.val_main_v3, Reference25Ideal.Read.val_main_v0]
  exact Finset.sum_congr rfl fun k _ => mul_comm _ _

/-- The kernel's result is the reference's. -/
theorem algebraic : Cert.algebraic_Kernel25Ideal_Reference25Ideal (hKernel25Ideal := Kernel25Ideal.Gen.facts) (hReference25Ideal := Reference25Ideal.Gen.facts) := by
  intro m g m' g' hpre hagree
  refine ⟨fun c => (Kernel25Ideal.Gen.dats m 0 c).arrAt 2 Kernel25Ideal.cfg0.N, Kernel25Ideal.Value.run_blocks m g, ?_⟩
  refine (θ_run Reference25Ideal.defs _ _).mono (fun r h c => ?_) (Reference25Ideal.Value.run (F := Ideal) m' g')
  obtain ⟨e0, k⟩ := h c
  obtain ⟨a0, a1⟩ := hagree c
  refine ⟨e0.trans ?_, k⟩
  rw [Reference25Ideal.Read.val_main_v6_eq]
  refine Eq.trans ?_ (final m c).symm
  funext i
  idx_vars i
  refine (ref _ _ i0 i1).trans ?_
  rw [a0, a1]

end Cert.Mix.GmlpWeight
-- ==== Proof.Mix.MemWeight.lean ====
module

public import proofs.«01_k».proof.Defs
public import proofs.«01_k».proof.Proof.Gen.Kernel26Ideal.Value
public import proofs.«01_k».proof.Proof.Gen.Reference26Ideal.Run
public import proofs.«01_k».proof.Proof.Gen.Reference26Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of `w_branch_mem`

A product summed over the tokens: the sum of eight blocks of tokens, kept from one point of the grid to the next and written back at
the eighth. The version keeps this weight transposed. -/

namespace Cert.Mix.MemWeight

open Cert.Kernel26Ideal Cert.Kernel26Ideal.Gen Idealize.ShloMosaic Idealize.ShloMosaic.TcCoe Idealize.SL.Sem

/-- The sum over the tokens of an entry of the first array times an entry of the second. -/
def prod (x : FVec Ideal S8192x1024 .bf16) (w : FVec Ideal S8192x256 .bf16) (r : Fin 1024) (l : Fin 256) : EReal :=
  ∑ k : Fin 8192, (x (ix2 k r) : EReal) * w (ix2 k l)

/-- The same over the tokens of one block. -/
def part (x : FVec Ideal S1024x1024 .bf16) (w : FVec Ideal S1024x256 .bf16) (j : S1024x256.Idx) : EReal :=
  ∑ k : Fin 1024, (x (ix2 k (j 0 : Fin 1024)) : EReal) * w (ix2 k (j 1 : Fin 256))

variable (m : (ℓ : Loc nD τ sig) → Buf (Elt Ideal) ℓ)

/-- Where each window's block lies at point `t`: the block `t` of the tokens. -/
theorem idx : ∀ t : Fin cfg0.N, win0_0.index t = ![t.val % 8, 0] ∧ win0_1.index t = ![t.val % 8, 0] ∧ win0_2.index t = ![0, 0] := by decide +kernel

/-- The first block's products. -/
theorem first (x : FVec Ideal S1024x1024 .bf16) (w : FVec Ideal S1024x256 .bf16) (r : Fin 1024) (l : Fin 256) :
    (k0_pay1 x w : FVec Ideal S1024x256 .f32) (ix2 r l) = part x w (ix2 r l) := by
  unfold k0_pay1 part
  pointwise []

/-- A further block's products, added to what there is. -/
theorem further (a : FVec Ideal S1024x256 .f32) (x : FVec Ideal S1024x1024 .bf16) (w : FVec Ideal S1024x256 .bf16) (r : Fin 1024) (l : Fin 256) :
    (k0_pay2 a x w : FVec Ideal S1024x256 .f32) (ix2 r l) = a (ix2 r l) + part x w (ix2 r l) := by
  unfold k0_pay2 part
  pointwise []

/-- The last block's products, added to what there is. -/
theorem last (a : FVec Ideal S1024x256 .f32) (x : FVec Ideal S1024x1024 .bf16) (w : FVec Ideal S1024x256 .bf16) (r : Fin 1024) (l : Fin 256) :
    (k0_pay3 a x w : FVec Ideal S1024x256 .bf16) (ix2 r l) = (a (ix2 r l) : EReal) + part x w (ix2 r l) := by
  unfold k0_pay3 part
  pointwise []

/-- The products of point `t`'s blocks. -/
abbrev term (c : Dev nD) (t : Fin cfg0.N) (j : S1024x256.Idx) : EReal := part (iblk m c 0 t) (iblk m c 1 t) j

/-- The sum so far at point `n`. -/
def sofar (c : Dev nD) (n : Nat) (h : n < cfg0.N) (j : S1024x256.Idx) : EReal :=
  if n % 8 = 7 then ((outsAt0 m c (n - 1) (Nat.lt_of_le_of_lt (Nat.sub_le _ _) h)).2 j : EReal) + term m c ⟨n, h⟩ j else (outsAt0 m c n h).2 j

/-- At the last point of a run the sum so far is all the blocks'. -/
theorem sofar_last (c : Dev nD) (t : Fin cfg0.N) (h : t.val % 8 = 7) (j : S1024x256.Idx) :
    sofar m c t.val t.isLt j = 0 + ∑ s : Fin 8, term m c ⟨8 * (t.val / 8) + s.val, Pipeline.run_point_lt_of_flush t h s⟩ j := by
  refine Pipeline.eq_sum_fin_of_reset_step_apply_of_flush (sofar m c) 8 (fun _ => 0) (term m c) (fun t h i => ?_) (fun t h i => ?_) t h j
  · idx_vars i
    unfold sofar
    rw [if_neg (by omega), outsAt0_A m c t h (by omega) (by omega)]
    frame_out
    rw [zero_add]
    exact first _ _ _ _
  · idx_vars i
    unfold sofar
    by_cases h3 : t.val % 8 = 7
    · rw [if_pos h3, if_neg (by omega)]
    · rw [if_neg h3, if_neg (by omega), outsAt0_B m c t h (by omega) h3]
      frame_out
      simp only [read_unread_whole]
      exact further _ _ _ _ _

/-- What a run of points writes back. -/
theorem written (c : Dev nD) (t : Fin cfg0.N) (h : t.val % 8 = 7) (r : Fin 1024) (l : Fin 256) :
    ((outsAt0 m c t.val t.isLt).1 (ix2 r l) : EReal) = sofar m c t.val t.isLt (ix2 r l) := by
  unfold sofar
  rw [if_pos h, outsAt0_C m c t (by omega) (by omega) h]
  frame_out
  simp only [read_unread_whole]
  exact last _ _ _ _ _

/-- The array after the run. -/
theorem final (c : Dev nD) : (dats m 0 c).arrAt 2 cfg0.N
    = fun i : S1024x256.Idx => prod (m ((c : Thread nD τ).loc main_arg0)) (m ((c : Thread nD τ).loc main_arg1)) (i 0) (i 1) := by
  refine (dats m 0 c).arrAt_eq_of_covers 2 _ (by decide +kernel) fun t hf y => ?_
  have h3 : t.val % 8 = 7 := (flush0_2 t).mp hf
  have hN : cfg0.N = 8 := N_0
  blk_simp
  rw [after0_2]
  idx_vars y
  refine (written m c t h3 y0 y1).trans ?_
  refine (sofar_last m c t h3 (ix2 y0 y1)).trans ((zero_add _).trans ?_)
  refine Fin.sum_mul_add_congr (M := EReal) (S := 8) (n := 1024) (fun s k hl => congrArg₂ (fun a b : EReal => a * b) ?_ ?_) rfl
  · have hs : (8 * (t.val / 8) + s.val) % 8 = s.val := by omega
    blk_ext! [iblk, V, idx ⟨8 * (t.val / 8) + s.val, Pipeline.run_point_lt_of_flush t h3 s⟩, idx t, hs]
  · have hs : (8 * (t.val / 8) + s.val) % 8 = s.val := by omega
    blk_ext! [iblk, V, idx ⟨8 * (t.val / 8) + s.val, Pipeline.run_point_lt_of_flush t h3 s⟩, idx t, hs]

/-- The reference's result. -/
theorem ref (x : FVec Ideal S8192x1024 .bf16) (w : FVec Ideal S8192x256 .bf16) (r : Fin 1024) (l : Fin 256) :
    (Reference26Ideal.Read.val_main_v7 (F := Ideal) x w : FVec Ideal S1024x256 .bf16) (ix2 r l) = prod x w r l := by
  pointwise [Reference26Ideal.Read.val_main_v7, Reference26Ideal.Read.val_main_v6, Reference26Ideal.Read.val_main_v5, Reference26Ideal.Read.val_main_v4, Reference26Ideal.Read.val_main_v3, Reference26Ideal.Read.val_main_v0]
  rfl

/-- The kernel's result is the reference's. -/
theorem algebraic : Cert.algebraic_Kernel26Ideal_Reference26Ideal (hKernel26Ideal := Kernel26Ideal.Gen.facts) (hReference26Ideal := Reference26Ideal.Gen.facts) := by
  intro m g m' g' hpre hagree
  refine ⟨fun c => (Kernel26Ideal.Gen.dats m 0 c).arrAt 2 Kernel26Ideal.cfg0.N, Kernel26Ideal.Value.run_blocks m g, ?_⟩
  refine (θ_run Reference26Ideal.defs _ _).mono (fun r h c => ?_) (Reference26Ideal.Value.run (F := Ideal) m' g')
  obtain ⟨e0, k⟩ := h c
  obtain ⟨a0, a1⟩ := hagree c
  refine ⟨e0.trans ?_, k⟩
  rw [Reference26Ideal.Read.val_main_v7_eq]
  refine Eq.trans ?_ (final m c).symm
  funext i
  idx_vars i
  refine (ref _ _ i0 i1).trans ?_
  rw [a0, a1]

end Cert.Mix.MemWeight
-- ==== Proof.Mix.KvWeight.lean ====
module

public import proofs.«01_k».proof.Defs
public import proofs.«01_k».proof.Proof.Gen.Kernel27Ideal.Value
public import proofs.«01_k».proof.Proof.Gen.Reference27Ideal.Run
public import proofs.«01_k».proof.Proof.Gen.Reference27Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of `w_mem_kv`

One point computes the whole product. -/

namespace Cert.Mix.KvWeight

open Cert.Kernel27Ideal Cert.Kernel27Ideal.Gen Idealize.ShloMosaic Idealize.ShloMosaic.TcCoe Idealize.SL.Sem

/-- The product at a row and a column. -/
def prod (x : FVec Ideal S256x1024 .bf16) (w : FVec Ideal S256x512 .f32) (r : Fin 1024) (l : Fin 512) : EReal :=
  ∑ k : Fin 256, (x (ix2 k r) : EReal) * w (ix2 k l)

variable (m : (ℓ : Loc nD τ sig) → Buf (Elt Ideal) ℓ)

/-- Where each window's block lies at point `t`. -/
theorem idx : ∀ t : Fin cfg0.N, win0_0.index t = ![0, 0] ∧ win0_1.index t = ![0, 0] ∧ win0_2.index t = ![0, 0] := by decide +kernel

/-- What the body stores: the product of its two blocks. -/
theorem tile (x : FVec Ideal S256x1024 .bf16) (w : FVec Ideal S256x512 .f32) (r : Fin 1024) (l : Fin 512) :
    (k0_pay1 x w : FVec Ideal S1024x512 .bf16) (ix2 r l) = ∑ k : Fin 256, (x (ix2 k r) : EReal) * w (ix2 k l) := by
  unfold k0_pay1
  pointwise []

/-- The array after the run. -/
theorem final (c : Dev nD) : (dats m 0 c).arrAt 2 cfg0.N
    = fun i : S1024x512.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S256x1024 .bf16) (w : FVec Ideal S256x512 .f32) (r : Fin 1024) (l : Fin 512) :
    (Reference27Ideal.Read.val_main_v5 (F := Ideal) x w : FVec Ideal S1024x512 .bf16) (ix2 r l) = prod x w r l := by
  pointwise [Reference27Ideal.Read.val_main_v5, Reference27Ideal.Read.val_main_v4, Reference27Ideal.Read.val_main_v3, Reference27Ideal.Read.val_main_v0]
  exact Finset.sum_congr rfl fun k _ => mul_comm _ _

/-- The kernel's result is the reference's. -/
theorem algebraic : Cert.algebraic_Kernel27Ideal_Reference27Ideal (hKernel27Ideal := Kernel27Ideal.Gen.facts) (hReference27Ideal := Reference27Ideal.Gen.facts) := by
  intro m g m' g' hpre hagree
  refine ⟨fun c => (Kernel27Ideal.Gen.dats m 0 c).arrAt 2 Kernel27Ideal.cfg0.N, Kernel27Ideal.Value.run_blocks m g, ?_⟩
  refine (θ_run Reference27Ideal.defs _ _).mono (fun r h c => ?_) (Reference27Ideal.Value.run (F := Ideal) m' g')
  obtain ⟨e0, k⟩ := h c
  obtain ⟨a0, a1⟩ := hagree c
  refine ⟨e0.trans ?_, k⟩
  rw [Reference27Ideal.Read.val_main_v5_eq]
  refine Eq.trans ?_ (final m c).symm
  funext i
  idx_vars i
  refine (ref _ _ i0 i1).trans ?_
  rw [a0, a1]

end Cert.Mix.KvWeight
-- ==== Proof.Mix.GmlpBack.lean ====
module

public import proofs.«01_k».proof.Defs
public import proofs.«01_k».proof.Proof.Gen.Kernel28Ideal.Value
public import proofs.«01_k».proof.Proof.Gen.Reference28Ideal.Run
public import proofs.«01_k».proof.Proof.Gen.Reference28Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient that goes back through `w_branch_gmlp`

A block of rows of the result is the product of a block of rows of the first array and of the second, with no sum between points. -/

namespace Cert.Mix.GmlpBack

open Cert.Kernel28Ideal Cert.Kernel28Ideal.Gen Idealize.ShloMosaic Idealize.ShloMosaic.TcCoe Idealize.SL.Sem

/-- The product at a row and a column. -/
def prod (x : FVec Ideal S8192x1024 .bf16) (w : FVec Ideal S1024x1024 .bf16) (r : Fin 8192) (l : Fin 1024) : EReal :=
  ∑ k : Fin 1024, (x (ix2 r k) : EReal) * w (ix2 l k)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x1024 .bf16) (w : FVec Ideal S1024x1024 .bf16) (r : Fin 1024) (l : Fin 1024) :
    (k0_pay1 x w : FVec Ideal S1024x1024 .bf16) (ix2 r l) = ∑ k : Fin 1024, (x (ix2 r k) : EReal) * w (ix2 l k) := by
  unfold k0_pay1
  pointwise []

/-- The array after the run. -/
theorem final (c : Dev nD) : (dats m 0 c).arrAt 2 cfg0.N
    = fun i : S8192x1024.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x1024 .bf16) (w : FVec Ideal S1024x1024 .bf16) (r : Fin 8192) (l : Fin 1024) :
    (Reference28Ideal.Read.val_main_v5 (F := Ideal) x w : FVec Ideal S8192x1024 .bf16) (ix2 r l) = prod x w r l := by
  pointwise [Reference28Ideal.Read.val_main_v5, Reference28Ideal.Read.val_main_v4, Reference28Ideal.Read.val_main_v3, Reference28Ideal.Read.val_main_v0]
  rfl

/-- The kernel's result is the reference's. -/
theorem algebraic : Cert.algebraic_Kernel28Ideal_Reference28Ideal (hKernel28Ideal := Kernel28Ideal.Gen.facts) (hReference28Ideal := Reference28Ideal.Gen.facts) := by
  intro m g m' g' hpre hagree
  refine ⟨fun c => (Kernel28Ideal.Gen.dats m 0 c).arrAt 2 Kernel28Ideal.cfg0.N, Kernel28Ideal.Value.run_blocks m g, ?_⟩
  refine (θ_run Reference28Ideal.defs _ _).mono (fun r h c => ?_) (Reference28Ideal.Value.run (F := Ideal) m' g')
  obtain ⟨e0, k⟩ := h c
  obtain ⟨a0, a1⟩ := hagree c
  refine ⟨e0.trans ?_, k⟩
  rw [Reference28Ideal.Read.val_main_v5_eq]
  refine Eq.trans ?_ (final m c).symm
  funext i
  idx_vars i
  refine (ref _ _ i0 i1).trans ?_
  rw [a0, a1]

end Cert.Mix.GmlpBack
-- ==== Proof.Mix.MemBack.lean ====
module

public import proofs.«01_k».proof.Defs
public import proofs.«01_k».proof.Proof.Gen.Kernel29Ideal.Value
public import proofs.«01_k».proof.Proof.Gen.Reference29Ideal.Run
public import proofs.«01_k».proof.Proof.Gen.Reference29Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient that goes back through `w_branch_mem`

A block of rows of the result is the product of a block of rows of the first array and of the second, with no sum between points. -/

namespace Cert.Mix.MemBack

open Cert.Kernel29Ideal Cert.Kernel29Ideal.Gen Idealize.ShloMosaic Idealize.ShloMosaic.TcCoe Idealize.SL.Sem

/-- The product at a row and a column. -/
def prod (x : FVec Ideal S8192x1024 .bf16) (w : FVec Ideal S1024x256 .bf16) (r : Fin 8192) (l : Fin 256) : EReal :=
  ∑ k : Fin 1024, (x (ix2 r k) : EReal) * w (ix2 k l)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x1024 .bf16) (w : FVec Ideal S1024x256 .bf16) (r : Fin 1024) (l : Fin 256) :
    (k0_pay1 x w : FVec Ideal S1024x256 .bf16) (ix2 r l) = ∑ k : Fin 1024, (x (ix2 r k) : EReal) * w (ix2 k l) := by
  unfold k0_pay1
  pointwise []

/-- The array after the run. -/
theorem final (c : Dev nD) : (dats m 0 c).arrAt 2 cfg0.N
    = fun i : S8192x256.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x1024 .bf16) (w : FVec Ideal S1024x256 .bf16) (r : Fin 8192) (l : Fin 256) :
    (Reference29Ideal.Read.val_main_v6 (F := Ideal) x w : FVec Ideal S8192x256 .bf16) (ix2 r l) = prod x w r l := by
  pointwise [Reference29Ideal.Read.val_main_v6, Reference29Ideal.Read.val_main_v5, Reference29Ideal.Read.val_main_v4, Reference29Ideal.Read.val_main_v1, Reference29Ideal.Read.val_main_v0]
  rfl

/-- The kernel's result is the reference's. -/
theorem algebraic : Cert.algebraic_Kernel29Ideal_Reference29Ideal (hKernel29Ideal := Kernel29Ideal.Gen.facts) (hReference29Ideal := Reference29Ideal.Gen.facts) := by
  intro m g m' g' hpre hagree
  refine ⟨fun c => (Kernel29Ideal.Gen.dats m 0 c).arrAt 2 Kernel29Ideal.cfg0.N, Kernel29Ideal.Value.run_blocks m g, ?_⟩
  refine (θ_run Reference29Ideal.defs _ _).mono (fun r h c => ?_) (Reference29Ideal.Value.run (F := Ideal) m' g')
  obtain ⟨e0, k⟩ := h c
  obtain ⟨a0, a1⟩ := hagree c
  refine ⟨e0.trans ?_, k⟩
  rw [Reference29Ideal.Read.val_main_v6_eq]
  refine Eq.trans ?_ (final m c).symm
  funext i
  idx_vars i
  refine (ref _ _ i0 i1).trans ?_
  rw [a0, a1]

end Cert.Mix.MemBack
-- ==== Proof.Mix.KvBack.lean ====
module

public import proofs.«01_k».proof.Defs
public import proofs.«01_k».proof.Proof.Gen.Kernel30Ideal.Value
public import proofs.«01_k».proof.Proof.Gen.Reference30Ideal.Run
public import proofs.«01_k».proof.Proof.Gen.Reference30Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient that goes back through `w_mem_kv`

One point computes the whole product. -/

namespace Cert.Mix.KvBack

open Cert.Kernel30Ideal Cert.Kernel30Ideal.Gen Idealize.ShloMosaic Idealize.ShloMosaic.TcCoe Idealize.SL.Sem

/-- The product at a row and a column. -/
def prod (x : FVec Ideal S256x512 .f32) (w : FVec Ideal S1024x512 .bf16) (r : Fin 256) (l : Fin 1024) : EReal :=
  ∑ k : Fin 512, (x (ix2 r k) : EReal) * w (ix2 l k)

variable (m : (ℓ : Loc nD τ sig) → Buf (Elt Ideal) ℓ)

/-- Where each window's block lies at point `t`. -/
theorem idx : ∀ t : Fin cfg0.N, win0_0.index t = ![0, 0] ∧ win0_1.index t = ![0, 0] ∧ win0_2.index t = ![0, 0] := by decide +kernel

/-- What the body stores: the product of its two blocks. -/
theorem tile (x : FVec Ideal S256x512 .f32) (w : FVec Ideal S1024x512 .bf16) (r : Fin 256) (l : Fin 1024) :
    (k0_pay1 x w : FVec Ideal S256x1024 .f32) (ix2 r l) = ∑ k : Fin 512, (x (ix2 r k) : EReal) * w (ix2 l k) := by
  unfold k0_pay1
  pointwise []

/-- The array after the run. -/
theorem final (c : Dev nD) : (dats m 0 c).arrAt 2 cfg0.N
    = fun i : S256x1024.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S256x512 .f32) (w : FVec Ideal S1024x512 .bf16) (r : Fin 256) (l : Fin 1024) :
    (Reference30Ideal.Read.val_main_v3 (F := Ideal) x w : FVec Ideal S256x1024 .f32) (ix2 r l) = prod x w r l := by
  pointwise [Reference30Ideal.Read.val_main_v3, Reference30Ideal.Read.val_main_v0]
  rfl

/-- The kernel's result is the reference's. -/
theorem algebraic : Cert.algebraic_Kernel30Ideal_Reference30Ideal (hKernel30Ideal := Kernel30Ideal.Gen.facts) (hReference30Ideal := Reference30Ideal.Gen.facts) := by
  intro m g m' g' hpre hagree
  refine ⟨fun c => (Kernel30Ideal.Gen.dats m 0 c).arrAt 2 Kernel30Ideal.cfg0.N, Kernel30Ideal.Value.run_blocks m g, ?_⟩
  refine (θ_run Reference30Ideal.defs _ _).mono (fun r h c => ?_) (Reference30Ideal.Value.run (F := Ideal) m' g')
  obtain ⟨e0, k⟩ := h c
  obtain ⟨a0, a1⟩ := hagree c
  refine ⟨e0.trans ?_, k⟩
  rw [Reference30Ideal.Read.val_main_v3_eq]
  refine Eq.trans ?_ (final m c).symm
  funext i
  idx_vars i
  refine (ref _ _ i0 i1).trans ?_
  rw [a0, a1]

end Cert.Mix.KvBack
-- ==== Proof.Mix.GmlpBranch.lean ====
module

public import proofs.«01_k».proof.Defs
public import proofs.«01_k».proof.Proof.Gen.Kernel31Ideal.Value
public import proofs.«01_k».proof.Proof.Gen.Reference31Ideal.Run
public import proofs.«01_k».proof.Proof.Gen.Reference31Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The second branch's product of the forward pass

A block of rows of the result is the product of a block of rows of the first array and of the second, with no sum between points. -/

namespace Cert.Mix.GmlpBranch

open Cert.Kernel31Ideal Cert.Kernel31Ideal.Gen Idealize.ShloMosaic Idealize.ShloMosaic.TcCoe Idealize.SL.Sem

/-- The product at a row and a column. -/
def prod (x : FVec Ideal S8192x1024 .bf16) (w : FVec Ideal S1024x1024 .bf16) (r : Fin 8192) (l : Fin 1024) : EReal :=
  ∑ k : Fin 1024, (x (ix2 r k) : EReal) * w (ix2 k l)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x1024 .bf16) (w : FVec Ideal S1024x1024 .bf16) (r : Fin 1024) (l : Fin 1024) :
    (k0_pay1 x w : FVec Ideal S1024x1024 .bf16) (ix2 r l) = ∑ k : Fin 1024, (x (ix2 r k) : EReal) * w (ix2 k l) := by
  unfold k0_pay1
  pointwise []

/-- The array after the run. -/
theorem final (c : Dev nD) : (dats m 0 c).arrAt 2 cfg0.N
    = fun i : S8192x1024.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x1024 .bf16) (w : FVec Ideal S1024x1024 .bf16) (r : Fin 8192) (l : Fin 1024) :
    (Reference31Ideal.Read.val_main_v3 (F := Ideal) x w : FVec Ideal S8192x1024 .bf16) (ix2 r l) = prod x w r l := by
  pointwise [Reference31Ideal.Read.val_main_v3, Reference31Ideal.Read.val_main_v2, Reference31Ideal.Read.val_main_v1, Reference31Ideal.Read.val_main_v0]
  rfl

/-- The kernel's result is the reference's. -/
theorem algebraic : Cert.algebraic_Kernel31Ideal_Reference31Ideal (hKernel31Ideal := Kernel31Ideal.Gen.facts) (hReference31Ideal := Reference31Ideal.Gen.facts) := by
  intro m g m' g' hpre hagree
  refine ⟨fun c => (Kernel31Ideal.Gen.dats m 0 c).arrAt 2 Kernel31Ideal.cfg0.N, Kernel31Ideal.Value.run_blocks m g, ?_⟩
  refine (θ_run Reference31Ideal.defs _ _).mono (fun r h c => ?_) (Reference31Ideal.Value.run (F := Ideal) m' g')
  obtain ⟨e0, k⟩ := h c
  obtain ⟨a0, a1⟩ := hagree c
  refine ⟨e0.trans ?_, k⟩
  rw [Reference31Ideal.Read.val_main_v3_eq]
  refine Eq.trans ?_ (final m c).symm
  funext i
  idx_vars i
  refine (ref _ _ i0 i1).trans ?_
  rw [a0, a1]

end Cert.Mix.GmlpBranch
-- ==== Proof.Mix.MemBranch.lean ====
module

public import proofs.«01_k».proof.Defs
public import proofs.«01_k».proof.Proof.Gen.Kernel32Ideal.Value
public import proofs.«01_k».proof.Proof.Gen.Reference32Ideal.Run
public import proofs.«01_k».proof.Proof.Gen.Reference32Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The third branch's product of the forward pass

A block of rows of the result is the product of a block of rows of the first array and of the second, with no sum between points. -/

namespace Cert.Mix.MemBranch

open Cert.Kernel32Ideal Cert.Kernel32Ideal.Gen Idealize.ShloMosaic Idealize.ShloMosaic.TcCoe Idealize.SL.Sem

/-- The product at a row and a column. -/
def prod (x : FVec Ideal S8192x256 .bf16) (w : FVec Ideal S1024x256 .bf16) (r : Fin 8192) (l : Fin 1024) : EReal :=
  ∑ k : Fin 256, (x (ix2 r k) : EReal) * w (ix2 l k)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x256 .bf16) (w : FVec Ideal S1024x256 .bf16) (r : Fin 1024) (l : Fin 1024) :
    (k0_pay1 x w : FVec Ideal S1024x1024 .bf16) (ix2 r l) = ∑ k : Fin 256, (x (ix2 r k) : EReal) * w (ix2 l k) := by
  unfold k0_pay1
  pointwise []

/-- The array after the run. -/
theorem final (c : Dev nD) : (dats m 0 c).arrAt 2 cfg0.N
    = fun i : S8192x1024.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x256 .bf16) (w : FVec Ideal S1024x256 .bf16) (r : Fin 8192) (l : Fin 1024) :
    (Reference32Ideal.Read.val_main_v4 (F := Ideal) x w : FVec Ideal S8192x1024 .bf16) (ix2 r l) = prod x w r l := by
  pointwise [Reference32Ideal.Read.val_main_v4, Reference32Ideal.Read.val_main_v3, Reference32Ideal.Read.val_main_v2, Reference32Ideal.Read.val_main_v1, Reference32Ideal.Read.val_main_v0]
  rfl

/-- The kernel's result is the reference's. -/
theorem algebraic : Cert.algebraic_Kernel32Ideal_Reference32Ideal (hKernel32Ideal := Kernel32Ideal.Gen.facts) (hReference32Ideal := Reference32Ideal.Gen.facts) := by
  intro m g m' g' hpre hagree
  refine ⟨fun c => (Kernel32Ideal.Gen.dats m 0 c).arrAt 2 Kernel32Ideal.cfg0.N, Kernel32Ideal.Value.run_blocks m g, ?_⟩
  refine (θ_run Reference32Ideal.defs _ _).mono (fun r h c => ?_) (Reference32Ideal.Value.run (F := Ideal) m' g')
  obtain ⟨e0, k⟩ := h c
  obtain ⟨a0, a1⟩ := hagree c
  refine ⟨e0.trans ?_, k⟩
  rw [Reference32Ideal.Read.val_main_v4_eq]
  refine Eq.trans ?_ (final m c).symm
  funext i
  idx_vars i
  refine (ref _ _ i0 i1).trans ?_
  rw [a0, a1]

end Cert.Mix.MemBranch
-- ==== Proof.Mix.Kv.lean ====
module

public import proofs.«01_k».proof.Defs
public import proofs.«01_k».proof.Proof.Gen.Kernel33Ideal.Value
public import proofs.«01_k».proof.Proof.Gen.Reference33Ideal.Run
public import proofs.«01_k».proof.Proof.Gen.Reference33Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The keys and values of the forward pass

One point computes the whole product. -/

namespace Cert.Mix.Kv

open Cert.Kernel33Ideal Cert.Kernel33Ideal.Gen Idealize.ShloMosaic Idealize.ShloMosaic.TcCoe Idealize.SL.Sem

/-- The product at a row and a column. -/
def prod (x : FVec Ideal S256x1024 .bf16) (w : FVec Ideal S1024x512 .bf16) (r : Fin 256) (l : Fin 512) : EReal :=
  ∑ k : Fin 1024, (x (ix2 r k) : EReal) * w (ix2 k l)

variable (m : (ℓ : Loc nD τ sig) → Buf (Elt Ideal) ℓ)

/-- Where each window's block lies at point `t`. -/
theorem idx : ∀ t : Fin cfg0.N, win0_0.index t = ![0, 0] ∧ win0_1.index t = ![0, 0] ∧ win0_2.index t = ![0, 0] := by decide +kernel

/-- What the body stores: the product of its two blocks. -/
theorem tile (x : FVec Ideal S256x1024 .bf16) (w : FVec Ideal S1024x512 .bf16) (r : Fin 256) (l : Fin 512) :
    (k0_pay1 x w : FVec Ideal S256x512 .bf16) (ix2 r l) = ∑ k : Fin 1024, (x (ix2 r k) : EReal) * w (ix2 k l) := by
  unfold k0_pay1
  pointwise []

/-- The array after the run. -/
theorem final (c : Dev nD) : (dats m 0 c).arrAt 2 cfg0.N
    = fun i : S256x512.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S256x1024 .bf16) (w : FVec Ideal S1024x512 .bf16) (r : Fin 256) (l : Fin 512) :
    (Reference33Ideal.Read.val_main_v3 (F := Ideal) x w : FVec Ideal S256x512 .bf16) (ix2 r l) = prod x w r l := by
  pointwise [Reference33Ideal.Read.val_main_v3, Reference33Ideal.Read.val_main_v2, Reference33Ideal.Read.val_main_v1, Reference33Ideal.Read.val_main_v0]
  rfl

/-- The kernel's result is the reference's. -/
theorem algebraic : Cert.algebraic_Kernel33Ideal_Reference33Ideal (hKernel33Ideal := Kernel33Ideal.Gen.facts) (hReference33Ideal := Reference33Ideal.Gen.facts) := by
  intro m g m' g' hpre hagree
  refine ⟨fun c => (Kernel33Ideal.Gen.dats m 0 c).arrAt 2 Kernel33Ideal.cfg0.N, Kernel33Ideal.Value.run_blocks m g, ?_⟩
  refine (θ_run Reference33Ideal.defs _ _).mono (fun r h c => ?_) (Reference33Ideal.Value.run (F := Ideal) m' g')
  obtain ⟨e0, k⟩ := h c
  obtain ⟨a0, a1⟩ := hagree c
  refine ⟨e0.trans ?_, k⟩
  rw [Reference33Ideal.Read.val_main_v3_eq]
  refine Eq.trans ?_ (final m c).symm
  funext i
  idx_vars i
  refine (ref _ _ i0 i1).trans ?_
  rw [a0, a1]

end Cert.Mix.Kv
-- ==== Proof.Mix.Steps.lean ====
module

public import proofs.«01_k».proof.Defs
public import proofs.«01_k».proof.Proof.Gen.Kernel34Ideal.Value
public import proofs.«01_k».proof.Proof.Gen.Reference34Ideal.Run
public import proofs.«01_k».proof.Proof.Gen.Reference34Ideal.Read
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The step sizes' product of the forward pass

A block of rows of the result is the product of a block of rows of the first array and of the second, with no sum between points. -/

namespace Cert.Mix.Steps

open Cert.Kernel34Ideal Cert.Kernel34Ideal.Gen Idealize.ShloMosaic Idealize.ShloMosaic.TcCoe Idealize.SL.Sem

/-- The product at a row and a column. -/
def prod (x : FVec Ideal S8192x1024 .bf16) (w : FVec Ideal S128x1024 .bf16) (r : Fin 8192) (l : Fin 128) : EReal :=
  ∑ k : Fin 1024, (x (ix2 r k) : EReal) * w (ix2 l k)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores: the product of its two blocks. -/
theorem tile (x : FVec Ideal S1024x1024 .bf16) (w : FVec Ideal S128x1024 .bf16) (r : Fin 1024) (l : Fin 128) :
    (k0_pay1 x w : FVec Ideal S1024x128 .f32) (ix2 r l) = ∑ k : Fin 1024, (x (ix2 r k) : EReal) * w (ix2 l k) := by
  unfold k0_pay1
  pointwise []

/-- The array after the run. -/
theorem final (c : Dev nD) : (dats m 0 c).arrAt 2 cfg0.N
    = fun i : S8192x128.Idx => prod (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (Finset.sum_congr (M := EReal) rfl fun k _ => congrArg₂ (fun a b : EReal => a * b) ?_ ?_)
  · blk_ext! [iblk, V, idx t]
  · blk_ext! [iblk, V, idx t]

/-- The reference's result. -/
theorem ref (x : FVec Ideal S8192x1024 .bf16) (w : FVec Ideal S128x1024 .bf16) (r : Fin 8192) (l : Fin 128) :
    (Reference34Ideal.Read.val_main_v3 (F := Ideal) x w : FVec Ideal S8192x128 .f32) (ix2 r l) = prod x w r l := by
  pointwise [Reference34Ideal.Read.val_main_v3, Reference34Ideal.Read.val_main_v2, Reference34Ideal.Read.val_main_v1, Reference34Ideal.Read.val_main_v0]
  rfl

/-- The kernel's result is the reference's. -/
theorem algebraic : Cert.algebraic_Kernel34Ideal_Reference34Ideal (hKernel34Ideal := Kernel34Ideal.Gen.facts) (hReference34Ideal := Reference34Ideal.Gen.facts) := by
  intro m g m' g' hpre hagree
  refine ⟨fun c => (Kernel34Ideal.Gen.dats m 0 c).arrAt 2 Kernel34Ideal.cfg0.N, Kernel34Ideal.Value.run_blocks m g, ?_⟩
  refine (θ_run Reference34Ideal.defs _ _).mono (fun r h c => ?_) (Reference34Ideal.Value.run (F := Ideal) m' g')
  obtain ⟨e0, k⟩ := h c
  obtain ⟨a0, a1⟩ := hagree c
  refine ⟨e0.trans ?_, k⟩
  rw [Reference34Ideal.Read.val_main_v3_eq]
  refine Eq.trans ?_ (final m c).symm
  funext i
  idx_vars i
  refine (ref _ _ i0 i1).trans ?_
  rw [a0, a1]

end Cert.Mix.Steps
-- ==== Proof.Mix.OutProj.lean ====
module

public import proofs.«01_k».proof.Defs
public import proofs.«01_k».proof.Proof.Gen.Kernel35Ideal.Value
public import proofs.«01_k».proof.Proof.Gen.Reference35Ideal.Run
public import proofs.«01_k».proof.Proof.Gen.Reference35Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gated sum of the branches and the output projection

Each of eight blocks of 1024 rows is written as an upper and a lower half. The logistic functions of the gates are hyperbolic
tangents in the kernel. -/

namespace Cert.Mix.OutProj

open Cert.Kernel35Ideal Cert.Kernel35Ideal.Gen Idealize.ShloMosaic Idealize.ShloMosaic.TcCoe Idealize.SL.Sem Cert.Ffn

/-- A value through its gate: the logistic function of the gate times the value. -/
def gate (g v : EReal) : EReal := Ideal.div 1 (1 + Ideal.exp (-g)) * v

/-- The gated sum of six blocks. -/
def piece (g0 g1 g2 v0 v1 v2 : FVec Ideal S512x1024 .bf16) (r : Fin 512) (l : Fin 1024) : EReal :=
  gate (g0 (ix2 r l)) (v0 (ix2 r l)) + gate (g1 (ix2 r l)) (v1 (ix2 r l)) + gate (g2 (ix2 r l)) (v2 (ix2 r l))

section Block

variable (x0 x1 x2 x3 x4 x5 : FVec Ideal S512x1024 .bf16) (w : FVec Ideal S1024x1024 .bf16) (h : FVec Ideal S512x1024 .f32) (r : Fin 512) (l : Fin 1024)

/-- The gated sum in the upper half of a block. -/
theorem pay4 : (k0_pay4 x0 x1 x2 x3 x4 x5 : FVec Ideal S512x1024 .f32) (ix2 r l) = piece x0 x1 x2 x3 x4 x5 r l := by
  unfold k0_pay4
  pointwise []
  rw [half_bits, sigmoid_eq, sigmoid_eq, sigmoid_eq]
  rfl

/-- The gated sum in the lower half of a block. -/
theorem pay1 : (k0_pay1 x2 x4 x5 (k0_pay7 x0 x3) (k0_pay8 x1) (k0_pay9 (F := Ideal)) : FVec Ideal S512x1024 .f32) (ix2 r l) = piece x0 x1 x2 x3 x4 x5 r l := by
  unfold k0_pay1 k0_pay7 k0_pay8 k0_pay9
  pointwise []
  rw [half_bits, sigmoid_eq, sigmoid_eq, sigmoid_eq]
  rfl

/-- The product with the weights and the stream, in the upper half. -/
theorem pay6 : (k0_pay6 (k0_pay4 x0 x1 x2 x3 x4 x5) w h : FVec Ideal S512x1024 .f32) (ix2 r l)
    = (∑ k : Fin 1024, piece x0 x1 x2 x3 x4 x5 r k * w (ix2 k l)) + (h (ix2 r l) : EReal) := by
  unfold k0_pay6
  pointwise []
  simp only [pay4]

/-- The product with the weights and the stream, in the lower half. -/
theorem pay3 : (k0_pay3 x2 x4 x5 (k0_pay7 x0 x3) (k0_pay8 x1) (k0_pay9 (F := Ideal)) w h : FVec Ideal S512x1024 .f32) (ix2 r l)
    = (∑ k : Fin 1024, piece x0 x1 x2 x3 x4 x5 r k * w (ix2 k l)) + (h (ix2 r l) : EReal) := by
  unfold k0_pay3
  pointwise []
  simp only [pay1]

end Block

/-- The gated sum of the branches at a row and a column. -/
def merged (p : FVec Ideal S8192x10752 .bf16) (b1 b2 b3 : FVec Ideal S8192x1024 .bf16) (r : Fin 8192) (l : Fin 1024) : EReal :=
  gate (p (ix2 r (⟨l.val, by omega⟩ : Fin 10752))) (b1 (ix2 r l)) + gate (p (ix2 r (⟨1024 + l.val, by omega⟩ : Fin 10752))) (b2 (ix2 r l))
    + gate (p (ix2 r (⟨2048 + l.val, by omega⟩ : Fin 10752))) (b3 (ix2 r l))

/-- The new stream: the product of the gated sum with the weights, and the old stream. -/
def out (p : FVec Ideal S8192x10752 .bf16) (b1 b2 b3 : FVec Ideal S8192x1024 .bf16) (w : FVec Ideal S1024x1024 .bf16) (h : FVec Ideal S8192x1024 .f32) (r : Fin 8192) (l : Fin 1024) : EReal :=
  (∑ k : Fin 1024, merged p b1 b2 b3 r k * w (ix2 k l)) + (h (ix2 r l) : EReal)

variable (m : (ℓ : Loc nD τ sig) → Buf (Elt Ideal) ℓ)

/-- Where each window's block lies at point `t`. -/
theorem idx : ∀ t : Fin cfg0.N, win0_0.index t = ![t.val, 0] ∧ win0_1.index t = ![t.val, 1] ∧ win0_2.index t = ![t.val, 2] ∧ win0_3.index t = ![t.val, 0]
    ∧ win0_4.index t = ![t.val, 0] ∧ win0_5.index t = ![t.val, 0] ∧ win0_6.index t = ![0, 0] ∧ win0_7.index t = ![t.val, 0] ∧ win0_8.index t = ![t.val, 0]
    ∧ win0_9.index t = ![t.val, 0] := by decide +kernel

/-- The upper half of a block of rows. -/
abbrev top (x : FVec Ideal S1024x1024 .bf16) : FVec Ideal S512x1024 .bf16 := View.ld (Val := Elt Ideal) (S := S1024x1024) (e' := .bf16) x (Rect.unit (s := S1024x1024) ![0, 0] ![512, 1024] inb_S1024x1024_S512x1024_0_0)

/-- The lower half of a block of rows. -/
abbrev low (x : FVec Ideal S1024x1024 .bf16) : FVec Ideal S512x1024 .bf16 := View.ld (Val := Elt Ideal) (S := S1024x1024) (e' := .bf16) x (Rect.unit (s := S1024x1024) ![512, 0] ![512, 1024] inb_S1024x1024_S512x1024_512_0)

/-- The upper half of a block of the stream. -/
abbrev topS (x : FVec Ideal S1024x1024 .f32) : FVec Ideal S512x1024 .f32 := View.ld (Val := Elt Ideal) (S := S1024x1024) (e' := .f32) x (Rect.unit (s := S1024x1024) ![0, 0] ![512, 1024] inb_S1024x1024_S512x1024_0_0)

/-- The lower half of a block of the stream. -/
abbrev lowS (x : FVec Ideal S1024x1024 .f32) : FVec Ideal S512x1024 .f32 := View.ld (Val := Elt Ideal) (S := S1024x1024) (e' := .f32) x (Rect.unit (s := S1024x1024) ![512, 0] ![512, 1024] inb_S1024x1024_S512x1024_512_0)

/-- The first gate's block. -/
theorem first (c : Dev nD) (t : Fin cfg0.N) (r : Fin 1024) (l : Fin 1024) : (X0_0 m c t : FVec Ideal S1024x1024 .bf16) (ix2 r l)
    = (m ((c : Thread nD τ).loc main_arg0) : FVec Ideal S8192x10752 .bf16) (ix2 (⟨t.val * 1024 + r.val, by have := lt_of_lt_of_eq t.isLt N_0; omega⟩ : Fin 8192) (⟨l.val, by omega⟩ : Fin 10752)) := by
  unfold X0_0 Pipeline.Window.fill
  rw [dif_pos (moved0_0 t (ix2 r l))]
  blk_ext! [iblk, V, idx t]

/-- The second gate's block. -/
theorem second (c : Dev nD) (t : Fin cfg0.N) (r : Fin 1024) (l : Fin 1024) : (X0_1 m c t : FVec Ideal S1024x1024 .bf16) (ix2 r l)
    = (m ((c : Thread nD τ).loc main_arg0) : FVec Ideal S8192x10752 .bf16) (ix2 (⟨t.val * 1024 + r.val, by have := lt_of_lt_of_eq t.isLt N_0; omega⟩ : Fin 8192) (⟨1024 + l.val, by omega⟩ : Fin 10752)) := by
  unfold X0_1 Pipeline.Window.fill
  rw [dif_pos (moved0_1 t (ix2 r l))]
  blk_ext! [iblk, V, idx t]

/-- The third gate's block. -/
theorem third (c : Dev nD) (t : Fin cfg0.N) (r : Fin 1024) (l : Fin 1024) : (X0_2 m c t : FVec Ideal S1024x1024 .bf16) (ix2 r l)
    = (m ((c : Thread nD τ).loc main_arg0) : FVec Ideal S8192x10752 .bf16) (ix2 (⟨t.val * 1024 + r.val, by have := lt_of_lt_of_eq t.isLt N_0; omega⟩ : Fin 8192) (⟨2048 + l.val, by omega⟩ : Fin 10752)) := by
  unfold X0_2 Pipeline.Window.fill
  rw [dif_pos (moved0_2 t (ix2 r l))]
  blk_ext! [iblk, V, idx t]

/-- The gated sum of a row in the upper half. -/
theorem sumT (c : Dev nD) (t : Fin cfg0.N) (r : Fin 512) (r' : Fin 8192) (h : r'.val = t.val * 1024 + r.val) (l : Fin 1024) :
    piece (top (X0_0 m c t)) (top (X0_1 m c t)) (top (X0_2 m c t)) (top (iblk m c 3 t)) (top (iblk m c 4 t)) (top (iblk m c 5 t)) r l = merged (m ((c : Thread nD τ).loc main_arg0)) (m ((c : Thread nD τ).loc main_arg1)) (m ((c : Thread nD τ).loc main_arg2)) (m ((c : Thread nD τ).loc main_arg3)) r' l := by
  unfold piece merged
  refine congrArg₂ (fun a b : EReal => a + b) (congrArg₂ (fun a b : EReal => a + b) (congrArg₂ gate ?_ ?_) (congrArg₂ gate ?_ ?_)) (congrArg₂ gate ?_ ?_)
  · pointwise [top]
    rw [first]
    blk_ext!
  · pointwise [top]
    blk_ext! [iblk, V, idx t]
  · pointwise [top]
    rw [second]
    blk_ext!
  · pointwise [top]
    blk_ext! [iblk, V, idx t]
  · pointwise [top]
    rw [third]
    blk_ext!
  · pointwise [top]
    blk_ext! [iblk, V, idx t]

/-- The gated sum of a row in the lower half. -/
theorem sumL (c : Dev nD) (t : Fin cfg0.N) (r : Fin 512) (r' : Fin 8192) (h : r'.val = t.val * 1024 + (512 + r.val)) (l : Fin 1024) :
    piece (low (X0_0 m c t)) (low (X0_1 m c t)) (low (X0_2 m c t)) (low (iblk m c 3 t)) (low (iblk m c 4 t)) (low (iblk m c 5 t)) r l = merged (m ((c : Thread nD τ).loc main_arg0)) (m ((c : Thread nD τ).loc main_arg1)) (m ((c : Thread nD τ).loc main_arg2)) (m ((c : Thread nD τ).loc main_arg3)) r' l := by
  unfold piece merged
  refine congrArg₂ (fun a b : EReal => a + b) (congrArg₂ (fun a b : EReal => a + b) (congrArg₂ gate ?_ ?_) (congrArg₂ gate ?_ ?_)) (congrArg₂ gate ?_ ?_)
  · pointwise [low]
    rw [first]
    blk_ext!
  · pointwise [low]
    blk_ext! [iblk, V, idx t]
  · pointwise [low]
    rw [second]
    blk_ext!
  · pointwise [low]
    blk_ext! [iblk, V, idx t]
  · pointwise [low]
    rw [third]
    blk_ext!
  · pointwise [low]
    blk_ext! [iblk, V, idx t]

/-- The new stream in the upper half. -/
theorem newT (c : Dev nD) (t : Fin cfg0.N) (r : Fin 512) (r' : Fin 8192) (h : r'.val = t.val * 1024 + r.val) (l : Fin 1024) :
    (k0_pay6 (k0_pay4 (top (X0_0 m c t)) (top (X0_1 m c t)) (top (X0_2 m c t)) (top (iblk m c 3 t)) (top (iblk m c 4 t)) (top (iblk m c 5 t))) (iblk m c 6 t) (topS (iblk m c 7 t)) : FVec Ideal S512x1024 .f32) (ix2 r l) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' l := by
  refine (pay6 _ _ _ _ _ _ _ _ r l).trans (congrArg₂ (fun a b : EReal => a + b) (Finset.sum_congr (M := EReal) rfl fun k _ => congrArg₂ (fun a b : EReal => a * b) (sumT m c t r r' h k) ?_) ?_)
  · blk_ext! [iblk, V, idx t]
  · pointwise [topS]
    blk_ext! [iblk, V, idx t]

/-- The new stream in the lower half. -/
theorem newL (c : Dev nD) (t : Fin cfg0.N) (r : Fin 512) (r' : Fin 8192) (h : r'.val = t.val * 1024 + (512 + r.val)) (l : Fin 1024) :
    (k0_pay3 (low (X0_2 m c t)) (low (iblk m c 4 t)) (low (iblk m c 5 t)) (k0_pay7 (low (X0_0 m c t)) (low (iblk m c 3 t))) (k0_pay8 (low (X0_1 m c t))) (k0_pay9 (F := Ideal)) (iblk m c 6 t) (lowS (iblk m c 7 t)) : FVec Ideal S512x1024 .f32) (ix2 r l) = out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' l := by
  refine (pay3 _ _ _ _ _ _ _ _ r l).trans (congrArg₂ (fun a b : EReal => a + b) (Finset.sum_congr (M := EReal) rfl fun k _ => congrArg₂ (fun a b : EReal => a * b) (sumL m c t r r' h k) ?_) ?_)
  · blk_ext! [iblk, V, idx t]
  · pointwise [lowS]
    blk_ext! [iblk, V, idx t]

/-- The first array after the run. -/
theorem final8 (c : Dev nD) : (dats m 0 c).arrAt 8 cfg0.N = fun i : S8192x1024.Idx => merged (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 8 _ (by decide +kernel) fun t hf y => ?_
  have ht : t.val < 8 := lt_of_lt_of_eq t.isLt N_0
  blk_simp
  rw [after0_8]
  idx_vars y
  refine Eq.trans (b := merged (m ((c : Thread nD τ).loc main_arg0)) (m ((c : Thread nD τ).loc main_arg1)) (m ((c : Thread nD τ).loc main_arg2)) (m ((c : Thread nD τ).loc main_arg3)) ⟨t.val * 1024 + y0.val, by omega⟩ y1) ?_ (congrArg₂ (merged _ _ _ _) (Fin.ext ?_) (Fin.ext ?_))
  rotate_left
  · blk_simp [idx t]
  · blk_simp [idx t]
  unfold outsAt0
  frame_out
  canon_tiles z h
  · idx_vars z
    rw [show y1 = z1 from Fin.ext h1]
    exact (pay1 _ _ _ _ _ _ z0 z1).trans (sumL m c t z0 _ (by have := h0; simp at this; dsimp only; omega) z1)
  · idx_vars z
    rw [show y1 = z1 from Fin.ext h1]
    exact (pay4 _ _ _ _ _ _ z0 z1).trans (sumT m c t z0 _ (by have := h0; simp at this; dsimp only; omega) z1)

/-- The second array after the run. -/
theorem final9 (c : Dev nD) : (dats m 0 c).arrAt 9 cfg0.N = fun i : S8192x1024.Idx => out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) := by
  refine (dats m 0 c).arrAt_eq_of_covers 9 _ (by decide +kernel) fun t hf y => ?_
  have ht : t.val < 8 := lt_of_lt_of_eq t.isLt N_0
  blk_simp
  rw [after0_9]
  idx_vars y
  refine Eq.trans (b := out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 1024 + y0.val, by omega⟩ y1) ?_ (congrArg₂ (out _ _ _ _ _ _) (Fin.ext ?_) (Fin.ext ?_))
  rotate_left
  · blk_simp [idx t]
  · blk_simp [idx t]
  unfold outsAt0
  frame_out
  canon_tiles z h
  · idx_vars z
    rw [show y1 = z1 from Fin.ext h1]
    exact newL m c t z0 _ (by have := h0; simp at this; dsimp only; omega) z1
  · idx_vars z
    rw [show y1 = z1 from Fin.ext h1]
    exact newT m c t z0 _ (by have := h0; simp at this; dsimp only; omega) z1

section R

open Cert.Reference35Ideal.Read

variable (p : FVec Ideal S8192x10752 .bf16) (b1 b2 b3 : FVec Ideal S8192x1024 .bf16) (w : FVec Ideal S1024x1024 .bf16) (h : FVec Ideal S8192x1024 .f32) (r : Fin 8192) (l : Fin 1024)

/-- The reference's gated sum. -/
theorem ref18 : (val_main_v18 (F := Ideal) p b1 b2 b3 : FVec Ideal S8192x1024 .f32) (ix2 r l) = merged p b1 b2 b3 r l := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  rfl

/-- The reference's first result. -/
theorem ref19 : (val_main_v19 (F := Ideal) p b1 b2 b3 : FVec Ideal S8192x1024 .bf16) (ix2 r l) = merged p b1 b2 b3 r l :=
  ref18 p b1 b2 b3 r l

/-- The reference's second result. -/
theorem ref22 : (val_main_v22 (F := Ideal) p b1 b2 b3 w h : FVec Ideal S8192x1024 .f32) (ix2 r l) = out p b1 b2 b3 w h r l := by
  pointwise [val_main_v22, val_main_v21, val_main_v20]
  simp only [ref18]
  exact add_comm (G := EReal) _ _

end R

/-- The kernel's results are the reference's. -/
theorem algebraic : Cert.algebraic_Kernel35Ideal_Reference35Ideal (hKernel35Ideal := Kernel35Ideal.Gen.facts) (hReference35Ideal := Reference35Ideal.Gen.facts) := by
  intro m g m' g' hpre hagree
  refine ⟨fun c => (Kernel35Ideal.Gen.dats m 0 c).arrAt 8 Kernel35Ideal.cfg0.N, fun c => (Kernel35Ideal.Gen.dats m 0 c).arrAt 9 Kernel35Ideal.cfg0.N, Kernel35Ideal.Value.run_blocks m g, ?_⟩
  refine (θ_run Reference35Ideal.defs _ _).mono (fun r h c => ?_) (Reference35Ideal.Value.run (F := Ideal) m' g')
  obtain ⟨e0, e1, k⟩ := h c
  obtain ⟨a0, a1, a2, a3, a4, a5⟩ := hagree c
  refine ⟨e0.trans ?_, e1.trans ?_, k⟩
  · rw [Reference35Ideal.Read.val_main_v19_eq]
    refine Eq.trans ?_ (final8 m c).symm
    funext i
    idx_vars i
    refine (ref19 _ _ _ _ i0 i1).trans ?_
    rw [a0, a1, a2, a3]
  · rw [Reference35Ideal.Read.val_main_v22_eq]
    refine Eq.trans ?_ (final9 m c).symm
    funext i
    idx_vars i
    refine (ref22 _ _ _ _ _ _ i0 i1).trans ?_
    rw [a0, a1, a2, a3, a4, a5]

end Cert.Mix.OutProj

end
-- ==== Proof.Mix.MixNorm.lean ====
module

public import proofs.«01_k».proof.Defs
public import proofs.«01_k».proof.Proof.Gen.Kernel36Ideal.Value
public import proofs.«01_k».proof.Proof.Gen.Reference36Ideal.Run
public import proofs.«01_k».proof.Proof.Gen.Reference36Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The norm before the mixing block

Each of eight blocks holds whole rows, so that a row's mean square is the block's own. -/

namespace Cert.Mix.MixNorm

open Cert.Kernel36Ideal Cert.Kernel36Ideal.Gen Idealize.ShloMosaic Idealize.ShloMosaic.TcCoe Idealize.SL.Sem Cert.Ffn

/-- The normed row with its gains. -/
def normed {M : Nat} (x : FVec Ideal ⟨2, ![M, 1024]⟩ .f32) (g : FVec Ideal S1x1024 .f32) (r : Fin M) (l : Fin 1024) : EReal :=
  x (ix2 r l) * inv (row x r) * g (ix2 (0 : Fin 1) l)

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] := by decide +kernel

/-- What the body stores. -/
theorem tile (x : FVec Ideal S1024x1024 .f32) (g : FVec Ideal S1x1024 .f32) (r : Fin 1024) (l : Fin 1024) :
    (k0_pay1 x g : FVec Ideal S1024x1024 .bf16) (ix2 r l) = normed x g r l := by
  unfold k0_pay1
  pointwise []
  rfl

/-- The array after the run. -/
theorem final (c : Dev nD) : (dats m 0 c).arrAt 2 cfg0.N
    = fun i : S8192x1024.Idx => normed (M := 8192) (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (congrArg₂ (fun a b : EReal => a * b) (congrArg₂ (fun a b : EReal => a * b) ?_ (congrArg inv (funext fun k => ?_))) ?_)
  · blk_ext! [iblk, V, idx t]
  · unfold row
    blk_ext! [iblk, V, idx t]
  · blk_ext! [iblk, V, idx t]

section R

open Cert.Reference36Ideal.Read

/-- The reference's result. -/
theorem ref (x : FVec Ideal S8192x1024 .f32) (g : FVec Ideal S1x1024 .f32) (r : Fin 8192) (l : Fin 1024) :
    (val_main_v12 (F := Ideal) x g : FVec Ideal S8192x1024 .bf16) (ix2 r l) = normed x g r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end R

/-- The kernel's result is the reference's. -/
theorem algebraic : Cert.algebraic_Kernel36Ideal_Reference36Ideal (hKernel36Ideal := Kernel36Ideal.Gen.facts) (hReference36Ideal := Reference36Ideal.Gen.facts) := by
  intro m g m' g' hpre hagree
  refine ⟨fun c => (Kernel36Ideal.Gen.dats m 0 c).arrAt 2 Kernel36Ideal.cfg0.N, Kernel36Ideal.Value.run_blocks m g, ?_⟩
  refine (θ_run Reference36Ideal.defs _ _).mono (fun r h c => ?_) (Reference36Ideal.Value.run (F := Ideal) m' g')
  obtain ⟨e0, k⟩ := h c
  obtain ⟨a0, a1⟩ := hagree c
  refine ⟨e0.trans ?_, k⟩
  rw [Reference36Ideal.Read.val_main_v12_eq]
  refine Eq.trans ?_ (final m c).symm
  funext i
  idx_vars i
  refine (ref _ _ i0 i1).trans ?_
  rw [a0, a1]

end Cert.Mix.MixNorm

end
-- ==== Proof.Mix.MemNorm.lean ====
module

public import proofs.«01_k».proof.Defs
public import proofs.«01_k».proof.Proof.Gen.Kernel37Ideal.Value
public import proofs.«01_k».proof.Proof.Gen.Reference37Ideal.Run
public import proofs.«01_k».proof.Proof.Gen.Reference37Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The norm of the memory

One point norms all 256 rows. -/

namespace Cert.Mix.MemNorm

open Cert.Kernel37Ideal Cert.Kernel37Ideal.Gen Idealize.ShloMosaic Idealize.ShloMosaic.TcCoe Idealize.SL.Sem Cert.Ffn

/-- The normed row with its gains. -/
def normed {M : Nat} (x : FVec Ideal ⟨2, ![M, 1024]⟩ .f32) (g : FVec Ideal S1x1024 .f32) (r : Fin M) (l : Fin 1024) : EReal :=
  x (ix2 r l) * inv (row x r) * g (ix2 (0 : Fin 1) l)

variable (m : (ℓ : Loc nD τ sig) → Buf (Elt Ideal) ℓ)

/-- Where each window's block lies at point `t`. -/
theorem idx : ∀ t : Fin cfg0.N, win0_0.index t = ![0, 0] ∧ win0_1.index t = ![0, 0] ∧ win0_2.index t = ![0, 0] := by decide +kernel

/-- What the body stores. -/
theorem tile (x : FVec Ideal S256x1024 .f32) (g : FVec Ideal S1x1024 .f32) (r : Fin 256) (l : Fin 1024) :
    (k0_pay1 x g : FVec Ideal S256x1024 .bf16) (ix2 r l) = normed x g r l := by
  unfold k0_pay1
  pointwise []
  rfl

/-- The array after the run. -/
theorem final (c : Dev nD) : (dats m 0 c).arrAt 2 cfg0.N
    = fun i : S256x1024.Idx => normed (M := 256) (m ((c : Thread nD τ).loc main_arg0)) (m ((c : Thread nD τ).loc main_arg1)) (i 0) (i 1) := by
  refine (dats m 0 c).arrAt_eq_of_covers 2 _ (by decide +kernel) fun t hf y => ?_
  blk_simp
  rw [after0_2]
  frame_out
  idx_vars y
  refine (tile (iblk m c 0 t) (iblk m c 1 t) y0 y1).trans (congrArg₂ (fun a b : EReal => a * b) (congrArg₂ (fun a b : EReal => a * b) ?_ (congrArg inv (funext fun k => ?_))) ?_)
  · blk_ext! [iblk, V, idx t]
  · unfold row
    blk_ext! [iblk, V, idx t]
  · blk_ext! [iblk, V, idx t]

section R

open Cert.Reference37Ideal.Read

/-- The reference's result. -/
theorem ref (x : FVec Ideal S256x1024 .f32) (g : FVec Ideal S1x1024 .f32) (r : Fin 256) (l : Fin 1024) :
    (val_main_v12 (F := Ideal) x g : FVec Ideal S256x1024 .bf16) (ix2 r l) = normed x g r l := by
  pointwise [val_main_v12, val_main_v11, val_main_v10, val_main_v9, val_main_v8, val_main_v7, val_main_v6, val_main_v5, val_main_v4, val_main_v3, val_main_v2, val_main_v1, val_main_v0, val_main_cst, val_main_cst_0, val_main_cst_1]
  rfl

end R

/-- The kernel's result is the reference's. -/
theorem algebraic : Cert.algebraic_Kernel37Ideal_Reference37Ideal (hKernel37Ideal := Kernel37Ideal.Gen.facts) (hReference37Ideal := Reference37Ideal.Gen.facts) := by
  intro m g m' g' hpre hagree
  refine ⟨fun c => (Kernel37Ideal.Gen.dats m 0 c).arrAt 2 Kernel37Ideal.cfg0.N, Kernel37Ideal.Value.run_blocks m g, ?_⟩
  refine (θ_run Reference37Ideal.defs _ _).mono (fun r h c => ?_) (Reference37Ideal.Value.run (F := Ideal) m' g')
  obtain ⟨e0, k⟩ := h c
  obtain ⟨a0, a1⟩ := hagree c
  refine ⟨e0.trans ?_, k⟩
  rw [Reference37Ideal.Read.val_main_v12_eq]
  refine Eq.trans ?_ (final m c).symm
  funext i
  idx_vars i
  refine (ref _ _ i0 i1).trans ?_
  rw [a0, a1]

end Cert.Mix.MemNorm

end
-- ==== Proof.Mix.MemNormBack.lean ====
module

public import proofs.«01_k».proof.Defs
public import proofs.«01_k».proof.Proof.Gen.Kernel38Ideal.Value
public import proofs.«01_k».proof.Proof.Gen.Reference38Ideal.Run
public import proofs.«01_k».proof.Proof.Gen.Reference38Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient of the gains of the memory's norm

One point adds up the shares of all 256 rows. -/

namespace Cert.Mix.MemNormBack

open Cert.Kernel38Ideal Cert.Kernel38Ideal.Gen Idealize.ShloMosaic Idealize.ShloMosaic.TcCoe Idealize.SL.Sem Cert.Ffn

/-- The gains' gradient: the rows' shares added up. -/
def dg (y x : FVec Ideal S256x1024 .f32) (l : Fin 1024) : EReal := ∑ r : Fin 256, gain (row x r) (row y r) l

variable (m : (ℓ : Loc nD τ sig) → Buf (Elt Ideal) ℓ)

/-- Where each window's block lies at point `t`. -/
theorem idx : ∀ t : Fin cfg0.N, win0_0.index t = ![0, 0] ∧ win0_1.index t = ![0, 0] ∧ win0_2.index t = ![0, 0] := by decide +kernel

/-- What the body stores: noughts, to which the rows' shares are added. -/
theorem tile (y x : FVec Ideal S256x1024 .f32) (s : Fin 8) (l : Fin 1024) :
    (k0_pay2 y x (k0_pay1 (F := Ideal)) : FVec Ideal S8x1024 .f32) (ix2 s l) = dg y x l := by
  unfold k0_pay2 k0_pay1
  pointwise []
  rfl

/-- The array after the run. -/
theorem final (c : Dev nD) : (dats m 0 c).arrAt 2 cfg0.N
    = fun i : S8x1024.Idx => dg (m ((c : Thread nD τ).loc main_arg0)) (m ((c : Thread nD τ).loc main_arg1)) (i 1) := by
  refine (dats m 0 c).arrAt_eq_of_covers 2 _ (by decide +kernel) fun t hf y => ?_
  blk_simp
  rw [after0_2]
  unfold outsAt0
  frame_out
  idx_vars y
  refine (tile (iblk m c 0 t) (iblk m c 1 t) y0 y1).trans ?_
  have e0 : (iblk m c 0 t : FVec Ideal S256x1024 .f32) = m ((c : Thread nD τ).loc main_arg0) := by
    funext i
    idx_vars i
    blk_ext! [iblk, V, idx t]
  have e1 : (iblk m c 1 t : FVec Ideal S256x1024 .f32) = m ((c : Thread nD τ).loc main_arg1) := by
    funext i
    idx_vars i
    blk_ext! [iblk, V, idx t]
  rw [e0, e1]
  refine congrArg (dg _ _) (Fin.ext ?_)
  blk_simp [idx t]

section R

open Cert.Reference38Ideal.Read

/-- The reference's result. -/
theorem ref (y x : FVec Ideal S256x1024 .f32) (s : Fin 8) (l : Fin 1024) :
    (val_main_v16 (F := Ideal) y x : FVec Ideal S8x1024 .f32) (ix2 s l) = dg y x l := by
  pointwise [val_main_v16, val_main_v15, val_main_v14, val_main_v13, val_main_v10, val_main_v9, val_main_v8, val_main_v7, val_main_v6, val_main_v5, val_main_v4, val_main_v3, val_main_v2, val_main_v1, val_main_cst_0, val_main_cst_1, val_main_cst_2, val_main_cst_3]
  exact Finset.sum_congr (M := EReal) rfl fun k _ => mul_comm (G := EReal) _ _

end R

/-- The kernel's result is the reference's. -/
theorem algebraic : Cert.algebraic_Kernel38Ideal_Reference38Ideal (hKernel38Ideal := Kernel38Ideal.Gen.facts) (hReference38Ideal := Reference38Ideal.Gen.facts) := by
  intro m g m' g' hpre hagree
  refine ⟨fun c => (Kernel38Ideal.Gen.dats m 0 c).arrAt 2 Kernel38Ideal.cfg0.N, Kernel38Ideal.Value.run_blocks m g, ?_⟩
  refine (θ_run Reference38Ideal.defs _ _).mono (fun r h c => ?_) (Reference38Ideal.Value.run (F := Ideal) m' g')
  obtain ⟨e0, k⟩ := h c
  obtain ⟨a0, a1⟩ := hagree c
  refine ⟨e0.trans ?_, k⟩
  rw [Reference38Ideal.Read.val_main_v16_eq]
  refine Eq.trans ?_ (final m c).symm
  funext i
  idx_vars i
  refine (ref _ _ i0 i1).trans ?_
  rw [a0, a1]

end Cert.Mix.MemNormBack

end
-- ==== Proof.Mix.OutProjBack.lean ====
module

public import proofs.«01_k».proof.Defs
public import proofs.«01_k».proof.Proof.Gen.Kernel39Ideal.Value
public import proofs.«01_k».proof.Proof.Gen.Reference39Ideal.Run
public import proofs.«01_k».proof.Proof.Gen.Reference39Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gradient through the output projection and the gates

Each of sixteen blocks of 512 rows is written as an upper and a lower half. The logistic functions of the gates are hyperbolic
tangents in the kernel. The last array is written in its first 3072 columns and keeps the rest. -/

namespace Cert.Mix.OutProjBack

open Cert.Kernel39Ideal Cert.Kernel39Ideal.Gen Idealize.ShloMosaic Idealize.ShloMosaic.TcCoe Idealize.SL.Sem Cert.Ffn

/-- The logistic function. -/
def sg (g : EReal) : EReal := Ideal.div 1 (1 + Ideal.exp (-g))

/-- What goes back through the output projection: the product with the transposed weights. -/
def prod {M : Nat} (d : FVec Ideal ⟨2, ![M, 1024]⟩ .f32) (w : FVec Ideal S1024x1024 .bf16) (r : Fin M) (l : Fin 1024) : EReal :=
  ∑ k : Fin 1024, (d (ix2 r k) : EReal) * w (ix2 l k)

/-- What goes back to a gate: gradient `a`, gate `g`, gated value `v`. -/
def slope (a g v : EReal) : EReal := a * v * sg g * (1 - sg g)

/-- What goes back to the three gates, side by side. -/
def slopes {M : Nat} (d : FVec Ideal ⟨2, ![M, 1024]⟩ .f32) (w : FVec Ideal S1024x1024 .bf16) (g1 g2 g3 v1 v2 v3 : FVec Ideal ⟨2, ![M, 1024]⟩ .bf16) (r : Fin M) (l : Fin 3072) : EReal :=
  if h1 : l.val < 1024 then slope (prod d w r ⟨l.val, h1⟩) (g1 (ix2 r (⟨l.val, h1⟩ : Fin 1024))) (v1 (ix2 r (⟨l.val, h1⟩ : Fin 1024)))
  else if h2 : l.val < 2048 then slope (prod d w r ⟨l.val - 1024, by omega⟩) (g2 (ix2 r (⟨l.val - 1024, by omega⟩ : Fin 1024))) (v2 (ix2 r (⟨l.val - 1024, by omega⟩ : Fin 1024)))
  else slope (prod d w r ⟨l.val - 2048, by omega⟩) (g3 (ix2 r (⟨l.val - 2048, by omega⟩ : Fin 1024))) (v3 (ix2 r (⟨l.val - 2048, by omega⟩ : Fin 1024)))

section Block

variable (x0 : FVec Ideal S256x1024 .f32) (w : FVec Ideal S1024x1024 .bf16) (g1 g2 g3 v1 v2 v3 : FVec Ideal S256x1024 .bf16) (r : Fin 256) (l : Fin 1024)

/-- The product, in the upper half of a block. -/
theorem pay6 : (k0_pay6 x0 w : FVec Ideal S256x1024 .f32) (ix2 r l) = prod x0 w r l := by
  unfold k0_pay6
  pointwise []
  rfl

/-- The product, in the lower half. -/
theorem pay17 : (k0_pay17 x0 w : FVec Ideal S256x1024 .f32) (ix2 r l) = prod x0 w r l := by
  unfold k0_pay17
  pointwise []
  rfl

/-- A logistic function spelt as a hyperbolic tangent. -/
theorem pay7 : (k0_pay7 g1 : FVec Ideal S256x1024 .f32) (ix2 r l) = sg (g1 (ix2 r l)) := by
  unfold k0_pay7
  pointwise []
  rw [half_bits, sigmoid_eq]
  rfl

/-- A logistic function spelt as a hyperbolic tangent. -/
theorem pay10 : (k0_pay10 g1 : FVec Ideal S256x1024 .f32) (ix2 r l) = sg (g1 (ix2 r l)) := by
  unfold k0_pay10
  pointwise []
  rw [half_bits, sigmoid_eq]
  rfl

/-- A logistic function spelt as a hyperbolic tangent. -/
theorem pay12 : (k0_pay12 g1 : FVec Ideal S256x1024 .f32) (ix2 r l) = sg (g1 (ix2 r l)) := by
  unfold k0_pay12
  pointwise []
  rw [half_bits, sigmoid_eq]
  rfl

/-- A logistic function spelt as a hyperbolic tangent. -/
theorem pay18 : (k0_pay18 g1 : FVec Ideal S256x1024 .f32) (ix2 r l) = sg (g1 (ix2 r l)) := by
  unfold k0_pay18
  pointwise []
  rw [half_bits, sigmoid_eq]
  rfl

/-- A logistic function spelt as a hyperbolic tangent. -/
theorem pay21 : (k0_pay21 g1 : FVec Ideal S256x1024 .f32) (ix2 r l) = sg (g1 (ix2 r l)) := by
  unfold k0_pay21
  pointwise []
  rw [half_bits, sigmoid_eq]
  rfl

/-- The last logistic function of the lower half, whose last addition another part of the body makes. -/
theorem pay1 : (k0_pay1 (k0_pay24 g1) : FVec Ideal S256x1024 .f32) (ix2 r l) = sg (g1 (ix2 r l)) := by
  unfold k0_pay1 k0_pay24
  pointwise []
  rw [half_bits, sigmoid_eq]
  rfl

/-- What goes back to branch 1, in the upper half. -/
theorem up1 : (k0_pay13 (k0_pay8 x0 w g1) : FVec Ideal S256x1024 .bf16) (ix2 r l) = prod x0 w r l * sg (g1 (ix2 r l)) := by
  unfold k0_pay13 k0_pay8
  pointwise []
  rw [pay6, pay7]

/-- What goes back to branch 2, in the upper half. -/
theorem up2 : (k0_pay14 (k0_pay11 x0 w g2) : FVec Ideal S256x1024 .bf16) (ix2 r l) = prod x0 w r l * sg (g2 (ix2 r l)) := by
  unfold k0_pay14 k0_pay11
  pointwise []
  rw [pay6, pay10]

/-- What goes back to branch 3, in the upper half. -/
theorem up3 : (k0_pay15 (k0_pay6 x0 w) g3 : FVec Ideal S256x1024 .bf16) (ix2 r l) = prod x0 w r l * sg (g3 (ix2 r l)) := by
  unfold k0_pay15
  pointwise []
  rw [pay6, pay12]

/-- What goes back to branch 1, in the lower half. -/
theorem lo1 : (k0_pay2 (k0_pay19 (k0_pay17 x0 w) g1) : FVec Ideal S256x1024 .bf16) (ix2 r l) = prod x0 w r l * sg (g1 (ix2 r l)) := by
  unfold k0_pay2 k0_pay19
  pointwise []
  rw [pay17, pay18]

/-- What goes back to branch 2, in the lower half. -/
theorem lo2 : (k0_pay3 (k0_pay22 (k0_pay17 x0 w) g2) : FVec Ideal S256x1024 .bf16) (ix2 r l) = prod x0 w r l * sg (g2 (ix2 r l)) := by
  unfold k0_pay3 k0_pay22
  pointwise []
  rw [pay17, pay21]

/-- What goes back to branch 3, in the lower half. -/
theorem lo3 : (k0_pay4 (k0_pay17 x0 w) (k0_pay24 g3) : FVec Ideal S256x1024 .bf16) (ix2 r l) = prod x0 w r l * sg (g3 (ix2 r l)) := by
  unfold k0_pay4
  pointwise []
  rw [pay17, pay1]

/-- What goes back to the gates, in the upper half. -/
theorem up4 (q : Fin 3072) : (k0_pay16 (k0_pay6 x0 w) g3 v2 v3 (k0_pay9 x0 w g1 v1) (k0_pay10 g2) : FVec Ideal S256x3072 .bf16) (ix2 r q) = slopes x0 w g1 g2 g3 v1 v2 v3 r q := by
  unfold k0_pay16 k0_pay9 slopes
  by_cases h1 : q.val < 1024
  · rw [dif_pos h1]
    pointwise [h1]
    simp only [pay6, pay7, pay10, pay12]
    rfl
  · rw [dif_neg h1]
    by_cases h2 : q.val < 2048
    · rw [dif_pos h2]
      have h3 : q.val - 1024 < 1024 := by omega
      pointwise [h1, h3]
      simp only [pay6, pay7, pay10, pay12]
      rfl
    · rw [dif_neg h2]
      have h3 : ¬q.val - 1024 < 1024 := by omega
      pointwise [h1, h3, Nat.sub_sub]
      simp only [pay6, pay7, pay10, pay12]
      rfl

/-- What goes back to the gates, in the lower half. -/
theorem lo4 (q : Fin 3072) : (k0_pay5 (k0_pay17 x0 w) v3 (k0_pay20 (k0_pay17 x0 w) g1 v1) (k0_pay23 (k0_pay17 x0 w) g2 v2) (k0_pay24 g3) : FVec Ideal S256x3072 .bf16) (ix2 r q) = slopes x0 w g1 g2 g3 v1 v2 v3 r q := by
  unfold k0_pay5 k0_pay20 k0_pay23 slopes
  by_cases h1 : q.val < 1024
  · rw [dif_pos h1]
    pointwise [h1]
    simp only [pay17, pay18, pay21, pay1]
    rfl
  · rw [dif_neg h1]
    by_cases h2 : q.val < 2048
    · rw [dif_pos h2]
      have h3 : q.val - 1024 < 1024 := by omega
      pointwise [h1, h3]
      simp only [pay17, pay18, pay21, pay1]
      rfl
    · rw [dif_neg h2]
      have h3 : ¬q.val - 1024 < 1024 := by omega
      pointwise [h1, h3, Nat.sub_sub]
      simp only [pay17, pay18, pay21, pay1]
      rfl

end Block

/-- What goes back to a branch whose gates are the columns from `o` on. -/
def send (o : Nat) (ho : o ≤ 2048) (d : FVec Ideal S8192x1024 .f32) (w : FVec Ideal S1024x1024 .bf16) (p : FVec Ideal S8192x10752 .bf16) (r : Fin 8192) (l : Fin 1024) : EReal :=
  prod d w r l * sg (p (ix2 r (⟨o + l.val, by omega⟩ : Fin 10752)))

/-- What goes back to the gates. -/
def gates (d : FVec Ideal S8192x1024 .f32) (w : FVec Ideal S1024x1024 .bf16) (p : FVec Ideal S8192x10752 .bf16) (b1 b2 b3 : FVec Ideal S8192x1024 .bf16) (r : Fin 8192) (l : Fin 3072) : EReal :=
  if h1 : l.val < 1024 then slope (prod d w r ⟨l.val, h1⟩) (p (ix2 r (⟨l.val, by omega⟩ : Fin 10752))) (b1 (ix2 r (⟨l.val, h1⟩ : Fin 1024)))
  else if h2 : l.val < 2048 then slope (prod d w r ⟨l.val - 1024, by omega⟩) (p (ix2 r (⟨l.val, by omega⟩ : Fin 10752))) (b2 (ix2 r (⟨l.val - 1024, by omega⟩ : Fin 1024)))
  else slope (prod d w r ⟨l.val - 2048, by omega⟩) (p (ix2 r (⟨l.val, by omega⟩ : Fin 10752))) (b3 (ix2 r (⟨l.val - 2048, by omega⟩ : Fin 1024)))

/-- Equal parts, equal slopes. -/
theorem slope_congr {a a' g g' v v' : EReal} (ha : a = a') (hg : g = g') (hv : v = v') : slope a g v = slope a' g' v' := by rw [ha, hg, hv]

variable (m : (ℓ : Loc nD τ sig) → Buf (Elt Ideal) ℓ)

/-- Where each window's block lies at point `t`. -/
theorem idx : ∀ t : Fin cfg0.N, win0_0.index t = ![t.val, 0] ∧ win0_1.index t = ![0, 0] ∧ win0_2.index t = ![t.val, 0] ∧ win0_3.index t = ![t.val, 1]
    ∧ win0_4.index t = ![t.val, 2] ∧ win0_5.index t = ![t.val, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] := by decide +kernel

/-- The upper half of a block. -/
abbrev top (x : FVec Ideal S512x1024 .bf16) : FVec Ideal S256x1024 .bf16 := View.ld (Val := Elt Ideal) (S := S512x1024) (e' := .bf16) x (Rect.unit (s := S512x1024) ![0, 0] ![256, 1024] inb_S512x1024_S256x1024_0_0)

/-- The lower half of a block. -/
abbrev low (x : FVec Ideal S512x1024 .bf16) : FVec Ideal S256x1024 .bf16 := View.ld (Val := Elt Ideal) (S := S512x1024) (e' := .bf16) x (Rect.unit (s := S512x1024) ![256, 0] ![256, 1024] inb_S512x1024_S256x1024_256_0)

/-- The upper half of a block. -/
abbrev topS (x : FVec Ideal S512x1024 .f32) : FVec Ideal S256x1024 .f32 := View.ld (Val := Elt Ideal) (S := S512x1024) (e' := .f32) x (Rect.unit (s := S512x1024) ![0, 0] ![256, 1024] inb_S512x1024_S256x1024_0_0)

/-- The lower half of a block. -/
abbrev lowS (x : FVec Ideal S512x1024 .f32) : FVec Ideal S256x1024 .f32 := View.ld (Val := Elt Ideal) (S := S512x1024) (e' := .f32) x (Rect.unit (s := S512x1024) ![256, 0] ![256, 1024] inb_S512x1024_S256x1024_256_0)

/-- The first gate's block. -/
theorem first (c : Dev nD) (t : Fin cfg0.N) (r : Fin 512) (l : Fin 1024) : (X0_2 m c t : FVec Ideal S512x1024 .bf16) (ix2 r l)
    = ((m ((c : Thread nD τ).loc main_arg2)) : FVec Ideal S8192x10752 .bf16) (ix2 (⟨t.val * 512 + r.val, by have := lt_of_lt_of_eq t.isLt N_0; omega⟩ : Fin 8192) (⟨l.val, by omega⟩ : Fin 10752)) := by
  unfold X0_2 Pipeline.Window.fill
  rw [dif_pos (moved0_2 t (ix2 r l))]
  blk_ext! [iblk, V, idx t]

/-- The second gate's block. -/
theorem second (c : Dev nD) (t : Fin cfg0.N) (r : Fin 512) (l : Fin 1024) : (X0_3 m c t : FVec Ideal S512x1024 .bf16) (ix2 r l)
    = ((m ((c : Thread nD τ).loc main_arg2)) : FVec Ideal S8192x10752 .bf16) (ix2 (⟨t.val * 512 + r.val, by have := lt_of_lt_of_eq t.isLt N_0; omega⟩ : Fin 8192) (⟨1024 + l.val, by omega⟩ : Fin 10752)) := by
  unfold X0_3 Pipeline.Window.fill
  rw [dif_pos (moved0_3 t (ix2 r l))]
  blk_ext! [iblk, V, idx t]

/-- The third gate's block. -/
theorem third (c : Dev nD) (t : Fin cfg0.N) (r : Fin 512) (l : Fin 1024) : (X0_4 m c t : FVec Ideal S512x1024 .bf16) (ix2 r l)
    = ((m ((c : Thread nD τ).loc main_arg2)) : FVec Ideal S8192x10752 .bf16) (ix2 (⟨t.val * 512 + r.val, by have := lt_of_lt_of_eq t.isLt N_0; omega⟩ : Fin 8192) (⟨2048 + l.val, by omega⟩ : Fin 10752)) := by
  unfold X0_4 Pipeline.Window.fill
  rw [dif_pos (moved0_4 t (ix2 r l))]
  blk_ext! [iblk, V, idx t]

/-- The product in the upper half. -/
theorem prodT (c : Dev nD) (t : Fin cfg0.N) (r : Fin 256) (r' : Fin 8192) (h : r'.val = t.val * 512 + r.val) (l : Fin 1024) : prod (topS (iblk m c 0 t)) (iblk m c 1 t) r l = prod (M := 8192) (m ((c : Thread nD τ).loc main_arg0)) (m ((c : Thread nD τ).loc main_arg1)) r' l := by
  unfold prod
  refine Finset.sum_congr (M := EReal) rfl fun k _ => congrArg₂ (fun a b : EReal => a * b) ?_ ?_
  · pointwise [topS]
    blk_ext! [iblk, V, idx t]
  · blk_ext! [iblk, V, idx t]

/-- The first gates in the upper half. -/
theorem g1T (c : Dev nD) (t : Fin cfg0.N) (r : Fin 256) (r' : Fin 8192) (h : r'.val = t.val * 512 + r.val) (l : Fin 1024) (l' : Fin 10752) (hl : l'.val = l.val) : (top (X0_2 m c t)) (ix2 r l) = ((m ((c : Thread nD τ).loc main_arg2)) : FVec Ideal S8192x10752 .bf16) (ix2 r' l') := by
  pointwise [top]
  rw [first]
  blk_ext!

/-- The first branch in the upper half. -/
theorem b1T (c : Dev nD) (t : Fin cfg0.N) (r : Fin 256) (r' : Fin 8192) (h : r'.val = t.val * 512 + r.val) (l : Fin 1024) : (top (iblk m c 5 t)) (ix2 r l) = ((m ((c : Thread nD τ).loc main_arg3)) : FVec Ideal S8192x1024 .bf16) (ix2 r' l) := by
  pointwise [top]
  blk_ext! [iblk, V, idx t]

/-- What goes back to the first branch, in the upper half. -/
theorem send1T (c : Dev nD) (t : Fin cfg0.N) (r : Fin 256) (r' : Fin 8192) (h : r'.val = t.val * 512 + r.val) (l : Fin 1024) : prod (topS (iblk m c 0 t)) (iblk m c 1 t) r l * sg ((top (X0_2 m c t)) (ix2 r l)) = send 0 (by omega) (m ((c : Thread nD τ).loc main_arg0)) (m ((c : Thread nD τ).loc main_arg1)) (m ((c : Thread nD τ).loc main_arg2)) r' l :=
  congrArg₂ (fun a b : EReal => a * b) (prodT m c t r r' h l) (congrArg sg (g1T m c t r r' h l _ (Nat.zero_add _)))

/-- The second gates in the upper half. -/
theorem g2T (c : Dev nD) (t : Fin cfg0.N) (r : Fin 256) (r' : Fin 8192) (h : r'.val = t.val * 512 + r.val) (l : Fin 1024) (l' : Fin 10752) (hl : l'.val = 1024 + l.val) : (top (X0_3 m c t)) (ix2 r l) = ((m ((c : Thread nD τ).loc main_arg2)) : FVec Ideal S8192x10752 .bf16) (ix2 r' l') := by
  pointwise [top]
  rw [second]
  blk_ext!

/-- The second branch in the upper half. -/
theorem b2T (c : Dev nD) (t : Fin cfg0.N) (r : Fin 256) (r' : Fin 8192) (h : r'.val = t.val * 512 + r.val) (l : Fin 1024) : (top (iblk m c 6 t)) (ix2 r l) = ((m ((c : Thread nD τ).loc main_arg4)) : FVec Ideal S8192x1024 .bf16) (ix2 r' l) := by
  pointwise [top]
  blk_ext! [iblk, V, idx t]

/-- What goes back to the second branch, in the upper half. -/
theorem send2T (c : Dev nD) (t : Fin cfg0.N) (r : Fin 256) (r' : Fin 8192) (h : r'.val = t.val * 512 + r.val) (l : Fin 1024) : prod (topS (iblk m c 0 t)) (iblk m c 1 t) r l * sg ((top (X0_3 m c t)) (ix2 r l)) = send 1024 (by omega) (m ((c : Thread nD τ).loc main_arg0)) (m ((c : Thread nD τ).loc main_arg1)) (m ((c : Thread nD τ).loc main_arg2)) r' l :=
  congrArg₂ (fun a b : EReal => a * b) (prodT m c t r r' h l) (congrArg sg (g2T m c t r r' h l _ rfl))

/-- The third gates in the upper half. -/
theorem g3T (c : Dev nD) (t : Fin cfg0.N) (r : Fin 256) (r' : Fin 8192) (h : r'.val = t.val * 512 + r.val) (l : Fin 1024) (l' : Fin 10752) (hl : l'.val = 2048 + l.val) : (top (X0_4 m c t)) (ix2 r l) = ((m ((c : Thread nD τ).loc main_arg2)) : FVec Ideal S8192x10752 .bf16) (ix2 r' l') := by
  pointwise [top]
  rw [third]
  blk_ext!

/-- The third branch in the upper half. -/
theorem b3T (c : Dev nD) (t : Fin cfg0.N) (r : Fin 256) (r' : Fin 8192) (h : r'.val = t.val * 512 + r.val) (l : Fin 1024) : (top (iblk m c 7 t)) (ix2 r l) = ((m ((c : Thread nD τ).loc main_arg5)) : FVec Ideal S8192x1024 .bf16) (ix2 r' l) := by
  pointwise [top]
  blk_ext! [iblk, V, idx t]

/-- What goes back to the third branch, in the upper half. -/
theorem send3T (c : Dev nD) (t : Fin cfg0.N) (r : Fin 256) (r' : Fin 8192) (h : r'.val = t.val * 512 + r.val) (l : Fin 1024) : prod (topS (iblk m c 0 t)) (iblk m c 1 t) r l * sg ((top (X0_4 m c t)) (ix2 r l)) = send 2048 (by omega) (m ((c : Thread nD τ).loc main_arg0)) (m ((c : Thread nD τ).loc main_arg1)) (m ((c : Thread nD τ).loc main_arg2)) r' l :=
  congrArg₂ (fun a b : EReal => a * b) (prodT m c t r r' h l) (congrArg sg (g3T m c t r r' h l _ rfl))

/-- What goes back to the gates, in the upper half. -/
theorem gatesT (c : Dev nD) (t : Fin cfg0.N) (r : Fin 256) (r' : Fin 8192) (h : r'.val = t.val * 512 + r.val) (l : Fin 3072) : slopes (topS (iblk m c 0 t)) (iblk m c 1 t) (top (X0_2 m c t)) (top (X0_3 m c t)) (top (X0_4 m c t)) (top (iblk m c 5 t)) (top (iblk m c 6 t)) (top (iblk m c 7 t)) r l
    = gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' l := by
  unfold slopes gates
  by_cases h1 : l.val < 1024
  · simp only [dif_pos h1]
    exact slope_congr (prodT m c t r r' h _) (g1T m c t r r' h _ _ rfl) (b1T m c t r r' h _)
  · simp only [dif_neg h1]
    by_cases h2 : l.val < 2048
    · simp only [dif_pos h2]
      exact slope_congr (prodT m c t r r' h _) (g2T m c t r r' h _ _ (by dsimp only; omega)) (b2T m c t r r' h _)
    · simp only [dif_neg h2]
      exact slope_congr (prodT m c t r r' h _) (g3T m c t r r' h _ _ (by dsimp only; omega)) (b3T m c t r r' h _)

/-- The product in the lower half. -/
theorem prodL (c : Dev nD) (t : Fin cfg0.N) (r : Fin 256) (r' : Fin 8192) (h : r'.val = t.val * 512 + (256 + r.val)) (l : Fin 1024) : prod (lowS (iblk m c 0 t)) (iblk m c 1 t) r l = prod (M := 8192) (m ((c : Thread nD τ).loc main_arg0)) (m ((c : Thread nD τ).loc main_arg1)) r' l := by
  unfold prod
  refine Finset.sum_congr (M := EReal) rfl fun k _ => congrArg₂ (fun a b : EReal => a * b) ?_ ?_
  · pointwise [lowS]
    blk_ext! [iblk, V, idx t]
  · blk_ext! [iblk, V, idx t]

/-- The first gates in the lower half. -/
theorem g1L (c : Dev nD) (t : Fin cfg0.N) (r : Fin 256) (r' : Fin 8192) (h : r'.val = t.val * 512 + (256 + r.val)) (l : Fin 1024) (l' : Fin 10752) (hl : l'.val = l.val) : (low (X0_2 m c t)) (ix2 r l) = ((m ((c : Thread nD τ).loc main_arg2)) : FVec Ideal S8192x10752 .bf16) (ix2 r' l') := by
  pointwise [low]
  rw [first]
  blk_ext!

/-- The first branch in the lower half. -/
theorem b1L (c : Dev nD) (t : Fin cfg0.N) (r : Fin 256) (r' : Fin 8192) (h : r'.val = t.val * 512 + (256 + r.val)) (l : Fin 1024) : (low (iblk m c 5 t)) (ix2 r l) = ((m ((c : Thread nD τ).loc main_arg3)) : FVec Ideal S8192x1024 .bf16) (ix2 r' l) := by
  pointwise [low]
  blk_ext! [iblk, V, idx t]

/-- What goes back to the first branch, in the lower half. -/
theorem send1L (c : Dev nD) (t : Fin cfg0.N) (r : Fin 256) (r' : Fin 8192) (h : r'.val = t.val * 512 + (256 + r.val)) (l : Fin 1024) : prod (lowS (iblk m c 0 t)) (iblk m c 1 t) r l * sg ((low (X0_2 m c t)) (ix2 r l)) = send 0 (by omega) (m ((c : Thread nD τ).loc main_arg0)) (m ((c : Thread nD τ).loc main_arg1)) (m ((c : Thread nD τ).loc main_arg2)) r' l :=
  congrArg₂ (fun a b : EReal => a * b) (prodL m c t r r' h l) (congrArg sg (g1L m c t r r' h l _ (Nat.zero_add _)))

/-- The second gates in the lower half. -/
theorem g2L (c : Dev nD) (t : Fin cfg0.N) (r : Fin 256) (r' : Fin 8192) (h : r'.val = t.val * 512 + (256 + r.val)) (l : Fin 1024) (l' : Fin 10752) (hl : l'.val = 1024 + l.val) : (low (X0_3 m c t)) (ix2 r l) = ((m ((c : Thread nD τ).loc main_arg2)) : FVec Ideal S8192x10752 .bf16) (ix2 r' l') := by
  pointwise [low]
  rw [second]
  blk_ext!

/-- The second branch in the lower half. -/
theorem b2L (c : Dev nD) (t : Fin cfg0.N) (r : Fin 256) (r' : Fin 8192) (h : r'.val = t.val * 512 + (256 + r.val)) (l : Fin 1024) : (low (iblk m c 6 t)) (ix2 r l) = ((m ((c : Thread nD τ).loc main_arg4)) : FVec Ideal S8192x1024 .bf16) (ix2 r' l) := by
  pointwise [low]
  blk_ext! [iblk, V, idx t]

/-- What goes back to the second branch, in the lower half. -/
theorem send2L (c : Dev nD) (t : Fin cfg0.N) (r : Fin 256) (r' : Fin 8192) (h : r'.val = t.val * 512 + (256 + r.val)) (l : Fin 1024) : prod (lowS (iblk m c 0 t)) (iblk m c 1 t) r l * sg ((low (X0_3 m c t)) (ix2 r l)) = send 1024 (by omega) (m ((c : Thread nD τ).loc main_arg0)) (m ((c : Thread nD τ).loc main_arg1)) (m ((c : Thread nD τ).loc main_arg2)) r' l :=
  congrArg₂ (fun a b : EReal => a * b) (prodL m c t r r' h l) (congrArg sg (g2L m c t r r' h l _ rfl))

/-- The third gates in the lower half. -/
theorem g3L (c : Dev nD) (t : Fin cfg0.N) (r : Fin 256) (r' : Fin 8192) (h : r'.val = t.val * 512 + (256 + r.val)) (l : Fin 1024) (l' : Fin 10752) (hl : l'.val = 2048 + l.val) : (low (X0_4 m c t)) (ix2 r l) = ((m ((c : Thread nD τ).loc main_arg2)) : FVec Ideal S8192x10752 .bf16) (ix2 r' l') := by
  pointwise [low]
  rw [third]
  blk_ext!

/-- The third branch in the lower half. -/
theorem b3L (c : Dev nD) (t : Fin cfg0.N) (r : Fin 256) (r' : Fin 8192) (h : r'.val = t.val * 512 + (256 + r.val)) (l : Fin 1024) : (low (iblk m c 7 t)) (ix2 r l) = ((m ((c : Thread nD τ).loc main_arg5)) : FVec Ideal S8192x1024 .bf16) (ix2 r' l) := by
  pointwise [low]
  blk_ext! [iblk, V, idx t]

/-- What goes back to the third branch, in the lower half. -/
theorem send3L (c : Dev nD) (t : Fin cfg0.N) (r : Fin 256) (r' : Fin 8192) (h : r'.val = t.val * 512 + (256 + r.val)) (l : Fin 1024) : prod (lowS (iblk m c 0 t)) (iblk m c 1 t) r l * sg ((low (X0_4 m c t)) (ix2 r l)) = send 2048 (by omega) (m ((c : Thread nD τ).loc main_arg0)) (m ((c : Thread nD τ).loc main_arg1)) (m ((c : Thread nD τ).loc main_arg2)) r' l :=
  congrArg₂ (fun a b : EReal => a * b) (prodL m c t r r' h l) (congrArg sg (g3L m c t r r' h l _ rfl))

/-- What goes back to the gates, in the lower half. -/
theorem gatesL (c : Dev nD) (t : Fin cfg0.N) (r : Fin 256) (r' : Fin 8192) (h : r'.val = t.val * 512 + (256 + r.val)) (l : Fin 3072) : slopes (lowS (iblk m c 0 t)) (iblk m c 1 t) (low (X0_2 m c t)) (low (X0_3 m c t)) (low (X0_4 m c t)) (low (iblk m c 5 t)) (low (iblk m c 6 t)) (low (iblk m c 7 t)) r l
    = gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) r' l := by
  unfold slopes gates
  by_cases h1 : l.val < 1024
  · simp only [dif_pos h1]
    exact slope_congr (prodL m c t r r' h _) (g1L m c t r r' h _ _ rfl) (b1L m c t r r' h _)
  · simp only [dif_neg h1]
    by_cases h2 : l.val < 2048
    · simp only [dif_pos h2]
      exact slope_congr (prodL m c t r r' h _) (g2L m c t r r' h _ _ (by dsimp only; omega)) (b2L m c t r r' h _)
    · simp only [dif_neg h2]
      exact slope_congr (prodL m c t r r' h _) (g3L m c t r r' h _ _ (by dsimp only; omega)) (b3L m c t r r' h _)

/-- The first array after the run. -/
theorem final8 (c : Dev nD) : (dats m 0 c).arrAt 8 cfg0.N = fun i : S8192x1024.Idx => send 0 (by omega) (m ((c : Thread nD τ).loc main_arg0)) (m ((c : Thread nD τ).loc main_arg1)) (m ((c : Thread nD τ).loc main_arg2)) (i 0) (i 1) := by
  refine (dats m 0 c).arrAt_eq_of_covers 8 _ (by decide +kernel) fun t hf y => ?_
  have ht : t.val < 16 := lt_of_lt_of_eq t.isLt N_0
  blk_simp
  rw [after0_8]
  idx_vars y
  refine Eq.trans (b := send 0 (by omega) (m ((c : Thread nD τ).loc main_arg0)) (m ((c : Thread nD τ).loc main_arg1)) (m ((c : Thread nD τ).loc main_arg2)) ⟨t.val * 512 + y0.val, by omega⟩ y1) ?_ (congrArg₂ (send 0 (by omega) _ _ _) (Fin.ext ?_) (Fin.ext ?_))
  rotate_left
  · blk_simp [idx t]
  · blk_simp [idx t]
  unfold outsAt0
  frame_out
  canon_tiles z h
  · idx_vars z
    rw [show y1 = z1 from Fin.ext h1]
    exact (lo1 _ _ _ z0 z1).trans (send1L m c t z0 _ (by have := h0; simp at this; dsimp only; omega) z1)
  · idx_vars z
    rw [show y1 = z1 from Fin.ext h1]
    exact (up1 _ _ _ z0 z1).trans (send1T m c t z0 _ (by have := h0; simp at this; dsimp only; omega) z1)

/-- The second array after the run. -/
theorem final9 (c : Dev nD) : (dats m 0 c).arrAt 9 cfg0.N = fun i : S8192x1024.Idx => send 1024 (by omega) (m ((c : Thread nD τ).loc main_arg0)) (m ((c : Thread nD τ).loc main_arg1)) (m ((c : Thread nD τ).loc main_arg2)) (i 0) (i 1) := by
  refine (dats m 0 c).arrAt_eq_of_covers 9 _ (by decide +kernel) fun t hf y => ?_
  have ht : t.val < 16 := lt_of_lt_of_eq t.isLt N_0
  blk_simp
  rw [after0_9]
  idx_vars y
  refine Eq.trans (b := send 1024 (by omega) (m ((c : Thread nD τ).loc main_arg0)) (m ((c : Thread nD τ).loc main_arg1)) (m ((c : Thread nD τ).loc main_arg2)) ⟨t.val * 512 + y0.val, by omega⟩ y1) ?_ (congrArg₂ (send 1024 (by omega) _ _ _) (Fin.ext ?_) (Fin.ext ?_))
  rotate_left
  · blk_simp [idx t]
  · blk_simp [idx t]
  unfold outsAt0
  frame_out
  canon_tiles z h
  · idx_vars z
    rw [show y1 = z1 from Fin.ext h1]
    exact (lo2 _ _ _ z0 z1).trans (send2L m c t z0 _ (by have := h0; simp at this; dsimp only; omega) z1)
  · idx_vars z
    rw [show y1 = z1 from Fin.ext h1]
    exact (up2 _ _ _ z0 z1).trans (send2T m c t z0 _ (by have := h0; simp at this; dsimp only; omega) z1)

/-- The third array after the run. -/
theorem final10 (c : Dev nD) : (dats m 0 c).arrAt 10 cfg0.N = fun i : S8192x1024.Idx => send 2048 (by omega) (m ((c : Thread nD τ).loc main_arg0)) (m ((c : Thread nD τ).loc main_arg1)) (m ((c : Thread nD τ).loc main_arg2)) (i 0) (i 1) := by
  refine (dats m 0 c).arrAt_eq_of_covers 10 _ (by decide +kernel) fun t hf y => ?_
  have ht : t.val < 16 := lt_of_lt_of_eq t.isLt N_0
  blk_simp
  rw [after0_10]
  idx_vars y
  refine Eq.trans (b := send 2048 (by omega) (m ((c : Thread nD τ).loc main_arg0)) (m ((c : Thread nD τ).loc main_arg1)) (m ((c : Thread nD τ).loc main_arg2)) ⟨t.val * 512 + y0.val, by omega⟩ y1) ?_ (congrArg₂ (send 2048 (by omega) _ _ _) (Fin.ext ?_) (Fin.ext ?_))
  rotate_left
  · blk_simp [idx t]
  · blk_simp [idx t]
  unfold outsAt0
  frame_out
  canon_tiles z h
  · idx_vars z
    rw [show y1 = z1 from Fin.ext h1]
    exact (lo3 _ _ _ z0 z1).trans (send3L m c t z0 _ (by have := h0; simp at this; dsimp only; omega) z1)
  · idx_vars z
    rw [show y1 = z1 from Fin.ext h1]
    exact (up3 _ _ _ z0 z1).trans (send3T m c t z0 _ (by have := h0; simp at this; dsimp only; omega) z1)

/-- The last array after the run: what goes back to the gates in its first 3072 columns, what it held elsewhere. -/
theorem final11 (c : Dev nD) : (dats m 0 c).arrAt 11 cfg0.N
    = fun i : S8192x10752.Idx => if (i 1 : Nat) / 3072 = 0 then gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (⟨(i 1).val % 3072, Nat.mod_lt _ (by decide)⟩) else (dats m 0 c).A 11 i := by
  refine (dats m 0 c).arrAt_eq_of_coversWhere 11 (fun i : S8192x10752.Idx => gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (⟨(i 1).val % 3072, Nat.mod_lt _ (by decide)⟩)) (fun β => β (1 : Fin 2) = 0) (by decide +kernel) (fun t hf y => ?_) (fun j => Iff.rfl)
  have ht : t.val < 16 := lt_of_lt_of_eq t.isLt N_0
  blk_simp
  rw [after0_11]
  have key : ∀ z : S512x3072.Idx, (outsAt0 m c t).2.2.2 z = gates (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val * 512 + (z 0).val, by have : (z 0).val < 512 := (z 0).isLt; omega⟩ (z 1) := by
    intro y
    idx_vars y
    unfold outsAt0
    frame_out
    canon_tiles z h
    · idx_vars z
      refine (lo4 _ _ _ _ _ _ _ _ z0 z1).trans ((gatesL m c t z0 ⟨t.val * 512 + y0.val, by omega⟩ (by have := h0; simp at this; dsimp only; omega) z1).trans ?_)
      exact congrArg (gates _ _ _ _ _ _ _) (Fin.ext h1.symm)
    · idx_vars z
      refine (up4 _ _ _ _ _ _ _ _ z0 z1).trans ((gatesT m c t z0 ⟨t.val * 512 + y0.val, by omega⟩ (by have := h0; simp at this; dsimp only; omega) z1).trans ?_)
      exact congrArg (gates _ _ _ _ _ _ _) (Fin.ext h1.symm)
  refine (key _).trans (congrArg₂ (gates _ _ _ _ _ _) (Fin.ext ?_) (Fin.ext ?_))
  · blk_simp [idx t]
  · have : (y 1).val < 3072 := lt_of_lt_of_le (y 1).isLt (win0_11.xsize_le (cfg0.grid.coords t) 1)
    blk_simp [idx t]
    show (y 1).val = (y 1).val % 3072
    exact (Nat.mod_eq_of_lt this).symm

/-- The seventh argument as the region finds it: the copy the program makes of it. -/
theorem entry11 (c : Dev nD) : (dats m 0 c).A 11 = m ((c : Thread nD τ).loc main_arg6) := by
  rw [A_eq]
  entry_read
  rfl

section R

open Cert.Reference39Ideal.Read

variable (d : FVec Ideal S8192x1024 .f32) (w : FVec Ideal S1024x1024 .bf16) (p dp : FVec Ideal S8192x10752 .bf16) (b1 b2 b3 : FVec Ideal S8192x1024 .bf16) (r : Fin 8192) (l : Fin 1024)

/-- The reference's first result. -/
theorem ref34 : (val_main_v34 (F := Ideal) d w p : FVec Ideal S8192x1024 .bf16) (ix2 r l) = send 0 (by omega) d w p r l := by
  pointwise [val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  refine (mul_comm (G := EReal) _ _).trans ?_
  unfold send
  simp only [Nat.zero_add]
  rfl

/-- The reference's second result. -/
theorem ref35 : (val_main_v35 (F := Ideal) d w p : FVec Ideal S8192x1024 .bf16) (ix2 r l) = send 1024 (by omega) d w p r l := by
  pointwise [val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  refine (mul_comm (G := EReal) _ _).trans ?_
  unfold send
  rfl

/-- The reference's third result. -/
theorem ref36 : (val_main_v36 (F := Ideal) d w p : FVec Ideal S8192x1024 .bf16) (ix2 r l) = send 2048 (by omega) d w p r l := by
  pointwise [val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  refine (mul_comm (G := EReal) _ _).trans ?_
  unfold send
  rfl

/-- The reference's gradient of the gates. -/
theorem ref33 (q : Fin 3072) : (val_main_v33 (F := Ideal) d w p b1 b2 b3 : FVec Ideal Reference39Ideal.S8192x3072 .bf16) (ix2 r q) = gates d w p b1 b2 b3 r q := by
  unfold gates
  by_cases h1 : q.val < 1024
  · rw [dif_pos h1]
    pointwise [h1, val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
    exact (mul_assoc (G := EReal) _ _ _).symm
  · rw [dif_neg h1]
    by_cases h2 : q.val < 2048
    · rw [dif_pos h2]
      have h3 : q.val - 1024 < 1024 := by omega
      pointwise [h1, h3, val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
      exact (mul_assoc (G := EReal) _ _ _).symm
    · rw [dif_neg h2]
      have h3 : ¬q.val - 1024 < 1024 := by omega
      pointwise [h1, h3, Nat.sub_sub, val_main_v36, val_main_v35, val_main_v34, val_main_v33, val_main_v32, val_main_v31, val_main_v30, val_main_v29, val_main_v28, val_main_v27, val_main_v26, val_main_v25, val_main_v24, val_main_v22, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
      exact (mul_assoc (G := EReal) _ _ _).symm

/-- The reference's last result: the seventh argument with the gates' gradient put in its first columns. -/
theorem ref37 (q : Fin 10752) : (val_main_v37 (F := Ideal) d w p b1 b2 b3 dp : FVec Ideal S8192x10752 .bf16) (ix2 r q)
    = if q.val / 3072 = 0 then gates d w p b1 b2 b3 r ⟨q.val % 3072, by omega⟩ else dp (ix2 r q) := by
  pointwise [val_main_v37, val_main_c, val_main_c_2]
  have s0 : ∀ z, Host.clampedStart Reference39Ideal.S8192x10752 Reference39Ideal.S8192x3072 z
      (fun k => BitVec.toInt (![constantI Reference39Ideal.S_ 32 0#32, constantI Reference39Ideal.S_ 32 0#32] k (Shape.Idx.first Reference39Ideal.Gen.h_S_))) 0 = 0 :=
    fun z => Host.clampedStart_of_le z _ 0 0 rfl (by show 0 + 8192 ≤ 8192; omega)
  have s1 : ∀ z, Host.clampedStart Reference39Ideal.S8192x10752 Reference39Ideal.S8192x3072 z
      (fun k => BitVec.toInt (![constantI Reference39Ideal.S_ 32 0#32, constantI Reference39Ideal.S_ 32 0#32] k (Shape.Idx.first Reference39Ideal.Gen.h_S_))) 1 = 0 :=
    fun z => Host.clampedStart_of_le z _ 1 0 rfl (by show 0 + 3072 ≤ 10752; omega)
  split
  · rename_i h
    have h1 := h.2.1
    have h2 := h.2.2
    rw [s1] at h1 h2
    rw [if_pos (by omega)]
    refine (congrArg (val_main_v33 (F := Ideal) d w p b1 b2 b3) (?_ : _ = ix2 r (⟨q.val % 3072, by omega⟩ : Fin 3072))).trans (ref33 d w p b1 b2 b3 r _)
    refine congrArg₂ ix2 ?_ ?_
    · exact Fin.ext (by show r.val - _ = r.val; rw [s0]; omega)
    · exact Fin.ext (by show q.val - _ = q.val % 3072; rw [s1]; omega)
  · rename_i h
    rw [if_neg]
    intro e
    refine h ⟨?_, ?_, ?_⟩
    · rw [s0]; omega
    · rw [s1]; omega
    · rw [s1]; omega

end R

/-- The kernel's results are the reference's. -/
theorem algebraic : Cert.algebraic_Kernel39Ideal_Reference39Ideal (hKernel39Ideal := Kernel39Ideal.Gen.facts) (hReference39Ideal := Reference39Ideal.Gen.facts) := by
  intro m g m' g' hpre hagree
  refine ⟨fun c => (Kernel39Ideal.Gen.dats m 0 c).arrAt 8 Kernel39Ideal.cfg0.N, fun c => (Kernel39Ideal.Gen.dats m 0 c).arrAt 9 Kernel39Ideal.cfg0.N, fun c => (Kernel39Ideal.Gen.dats m 0 c).arrAt 10 Kernel39Ideal.cfg0.N, fun c => (Kernel39Ideal.Gen.dats m 0 c).arrAt 11 Kernel39Ideal.cfg0.N, Kernel39Ideal.Value.run_blocks m g, ?_⟩
  refine (θ_run Reference39Ideal.defs _ _).mono (fun r h c => ?_) (Reference39Ideal.Value.run (F := Ideal) m' g')
  obtain ⟨e0, e1, e2, e3, k⟩ := h c
  obtain ⟨a0, a1, a2, a3, a4, a5, a6⟩ := hagree c
  refine ⟨e0.trans ?_, e1.trans ?_, e2.trans ?_, e3.trans ?_, k⟩
  · rw [Reference39Ideal.Read.val_main_v34_eq]
    refine Eq.trans ?_ (final8 m c).symm
    funext i
    idx_vars i
    refine (ref34 _ _ _ i0 i1).trans ?_
    rw [a0, a1, a2]
  · rw [Reference39Ideal.Read.val_main_v35_eq]
    refine Eq.trans ?_ (final9 m c).symm
    funext i
    idx_vars i
    refine (ref35 _ _ _ i0 i1).trans ?_
    rw [a0, a1, a2]
  · rw [Reference39Ideal.Read.val_main_v36_eq]
    refine Eq.trans ?_ (final10 m c).symm
    funext i
    idx_vars i
    refine (ref36 _ _ _ i0 i1).trans ?_
    rw [a0, a1, a2]
  · refine (Reference39Ideal.Read.val_main_v37_eq _ _ _ _ _ _ _).trans ?_
    refine Eq.trans ?_ (final11 m c).symm
    funext i
    idx_vars i
    refine (ref37 _ _ _ _ _ _ _ i0 i1).trans ?_
    rw [a0, a1, a2, a3, a4, a5, a6, entry11]
    rfl

end Cert.Mix.OutProjBack

end
-- ==== Proof.Mix.BranchSsd.lean ====
module

public import proofs.«01_k».proof.Defs
public import proofs.«01_k».proof.Proof.Gen.Kernel40Ideal.Value
public import proofs.«01_k».proof.Proof.Gen.Reference40Ideal.Run
public import proofs.«01_k».proof.Proof.Gen.Reference40Ideal.Read
public import proofs.«01_k».proof.Proof.Ffn.Norm
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The gated norm of the first branch and its product

Each of eight blocks of 1024 rows is written as an upper and a lower half. A row is normed in four groups of 512 columns, which
the reference makes an axis of. The logistic function of the gate is a hyperbolic tangent in the kernel. -/

namespace Cert.Mix.BranchSsd

open Cert.Kernel40Ideal Cert.Kernel40Ideal.Gen Idealize.ShloMosaic Idealize.ShloMosaic.TcCoe Idealize.SL.Sem Cert.Ffn

/-- A value gated by the logistic function: `y` times `z` times the logistic function of `z`. -/
def gated (y z : EReal) : EReal := y * (z * Ideal.div 1 (1 + Ideal.exp (-z)))

/-- The reciprocal root of the mean square of 512 numbers. -/
def groupInv (x : Fin 512 → EReal) : EReal := Ideal.rsqrt (Ideal.div (∑ k, x k * x k) (Ideal.ofBits .f32 0x44000000#32) + Ideal.ofBits .f32 0x358637BD#32)

/-- A row normed in its four groups of 512. -/
def grouped (f : Fin 2048 → EReal) (l : Fin 2048) : EReal := f l * groupInv fun k => f ⟨l.val / 512 * 512 + k.val, by omega⟩

/-- One group of it. -/
theorem grouped_eq (f : Fin 2048 → EReal) (l : Fin 2048) (o : Nat) (ho : o + 512 ≤ 2048) (hd : o % 512 = 0) (q : Fin 512) (h : l.val = o + q.val) :
    f ⟨o + q.val, by omega⟩ * groupInv (fun k => f ⟨o + k.val, by omega⟩) = grouped f l := by
  have e : l.val / 512 * 512 = o := by omega
  have e1 : l = ⟨o + q.val, by omega⟩ := Fin.ext h
  unfold grouped
  simp only [e]
  exact congrArg₂ (fun a b : EReal => a * b) (congrArg f e1.symm) rfl

section Block

variable (y z : FVec Ideal S512x2048 .bf16) (g : FVec Ideal S1x2048 .f32) (w : FVec Ideal S2048x1024 .bf16) (r : Fin 512)

/-- The gated row of a block. -/
def gatedRow (l : Fin 2048) : EReal := gated (y (ix2 r l)) (z (ix2 r l))

/-- The gated row of the upper half. -/
theorem pay4 (l : Fin 2048) : (k0_pay4 y z : FVec Ideal S512x2048 .f32) (ix2 r l) = gatedRow y z r l := by
  unfold k0_pay4
  pointwise []
  rw [half_bits, sigmoid_eq]
  rfl

/-- Its first group, normed. -/
theorem pay5 (q : Fin 512) : (k0_pay5 y z : FVec Ideal S512x512 .f32) (ix2 r q) = gatedRow y z r ⟨0 + q.val, by omega⟩ * groupInv (fun k => gatedRow y z r ⟨0 + k.val, by omega⟩) := by
  unfold k0_pay5
  pointwise []
  simp only [pay4, Nat.zero_add]
  rfl

/-- Its second group, normed. -/
theorem pay6 (q : Fin 512) : (k0_pay6 y z : FVec Ideal S512x512 .f32) (ix2 r q) = gatedRow y z r ⟨512 + q.val, by omega⟩ * groupInv (fun k => gatedRow y z r ⟨512 + k.val, by omega⟩) := by
  unfold k0_pay6
  pointwise []
  simp only [pay4]
  rfl

/-- Its third group. -/
theorem pay7 (q : Fin 512) : (k0_pay7 y z : FVec Ideal S512x512 .f32) (ix2 r q) = gatedRow y z r ⟨1024 + q.val, by omega⟩ := by
  unfold k0_pay7
  pointwise []
  simp only [pay4]

/-- The third group's mean square. -/
theorem pay8 (u : Fin 1) : (k0_pay8 y z : FVec Ideal S512x1 .f32) (ix2 r u) = Ideal.div (∑ k : Fin 512, gatedRow y z r ⟨1024 + k.val, by omega⟩ * gatedRow y z r ⟨1024 + k.val, by omega⟩) (Ideal.ofBits .f32 0x44000000#32) := by
  unfold k0_pay8
  pointwise []
  simp only [pay7]

/-- The normed row of the upper half. -/
theorem pay9 (l : Fin 2048) : (k0_pay9 g (k0_pay4 y z) (k0_pay5 y z) (k0_pay6 y z) (k0_pay7 y z) (k0_pay8 y z) : FVec Ideal S512x2048 .f32) (ix2 r l) = grouped (gatedRow y z r) l * g (ix2 (0 : Fin 1) l) := by
  unfold k0_pay9
  by_cases h0 : l.val < 512
  · pointwise [h0]
    refine congrArg (fun a : EReal => a * _) ((pay5 y z r _).trans (grouped_eq _ l 0 (by omega) (by omega) ⟨l.val, h0⟩ (Nat.zero_add _).symm))
  · by_cases h1 : l.val < 1024
    · have h2 : l.val - 512 < 512 := by omega
      pointwise [h0, h2]
      refine congrArg (fun a : EReal => a * _) ((pay6 y z r _).trans (grouped_eq _ l 512 (by omega) (by omega) ⟨l.val - 512, h2⟩ (by dsimp only; omega)))
    · have h2 : ¬l.val - 512 < 512 := by omega
      by_cases h3 : l.val < 1536
      · have h4 : l.val - 1024 < 512 := by omega
        pointwise [h0, h2, Nat.sub_sub, h4]
        simp only [pay7, pay8]
        refine congrArg (fun a : EReal => a * _) (grouped_eq (gatedRow y z r) l 1024 (by omega) (by omega) ⟨l.val - 1024, h4⟩ (by dsimp only; omega))
      · have h4 : ¬l.val - 1024 < 512 := by omega
        have h5 : l.val - 1536 < 512 := by omega
        pointwise [h0, h2, Nat.sub_sub, h4]
        simp only [pay4]
        refine congrArg (fun a : EReal => a * _) (grouped_eq (gatedRow y z r) l 1536 (by omega) (by omega) ⟨l.val - 1536, h5⟩ (by dsimp only; omega))

/-- The groups' norm of the lower half, of any three factors. -/
theorem pay15 (a b d : FVec Ideal S512x2048 .f32) (l : Fin 2048) : (k0_pay15 a b d : FVec Ideal S512x2048 .f32) (ix2 r l) = grouped (fun k => a (ix2 r k) * (b (ix2 r k) * d (ix2 r k))) l := by
  unfold k0_pay15
  by_cases h0 : l.val < 512
  · pointwise [h0]
    refine Eq.trans ?_ (grouped_eq _ l 0 (by omega) (by omega) ⟨l.val, h0⟩ (Nat.zero_add _).symm)
    simp only [Nat.zero_add]
    rfl
  · by_cases h1 : l.val < 1024
    · have h2 : l.val - 512 < 512 := by omega
      pointwise [h0, h2]
      exact grouped_eq (fun k => a (ix2 r k) * (b (ix2 r k) * d (ix2 r k))) l 512 (by omega) (by omega) ⟨l.val - 512, h2⟩ (by dsimp only; omega)
    · have h2 : ¬l.val - 512 < 512 := by omega
      by_cases h3 : l.val < 1536
      · have h4 : l.val - 1024 < 512 := by omega
        pointwise [h0, h2, Nat.sub_sub, h4]
        exact grouped_eq (fun k => a (ix2 r k) * (b (ix2 r k) * d (ix2 r k))) l 1024 (by omega) (by omega) ⟨l.val - 1024, h4⟩ (by dsimp only; omega)
      · have h4 : ¬l.val - 1024 < 512 := by omega
        have h5 : l.val - 1536 < 512 := by omega
        pointwise [h0, h2, Nat.sub_sub, h4]
        exact grouped_eq (fun k => a (ix2 r k) * (b (ix2 r k) * d (ix2 r k))) l 1536 (by omega) (by omega) ⟨l.val - 1536, h5⟩ (by dsimp only; omega)

/-- The gated row of the lower half. -/
theorem low4 (l : Fin 2048) : (k0_pay12 y : FVec Ideal S512x2048 .f32) (ix2 r l) * ((k0_pay13 z : FVec Ideal S512x2048 .f32) (ix2 r l) * (k0_pay14 z : FVec Ideal S512x2048 .f32) (ix2 r l)) = gatedRow y z r l := by
  unfold k0_pay12 k0_pay14 k0_pay13
  pointwise []
  rw [half_bits, sigmoid_eq]
  rfl

/-- The normed row of the lower half. -/
theorem pay1 (l : Fin 2048) : (k0_pay1 (k0_pay15 (k0_pay12 y) (k0_pay13 z) (k0_pay14 z)) (k0_pay16 g) : FVec Ideal S512x2048 .f32) (ix2 r l) = grouped (gatedRow y z r) l * g (ix2 (0 : Fin 1) l) := by
  unfold k0_pay1 k0_pay16
  pointwise []
  rw [pay15]
  simp only [low4]

/-- The product of the upper half. -/
theorem pay11 (l : Fin 1024) : (k0_pay11 g (k0_pay4 y z) (k0_pay5 y z) (k0_pay6 y z) (k0_pay7 y z) (k0_pay8 y z) w : FVec Ideal S512x1024 .bf16) (ix2 r l)
    = ∑ k : Fin 2048, grouped (gatedRow y z r) k * g (ix2 (0 : Fin 1) k) * w (ix2 k l) := by
  unfold k0_pay11
  pointwise []
  simp only [pay9]

/-- The product of the lower half. -/
theorem pay3 (l : Fin 1024) : (k0_pay3 (k0_pay15 (k0_pay12 y) (k0_pay13 z) (k0_pay14 z)) (k0_pay16 g) w : FVec Ideal S512x1024 .bf16) (ix2 r l)
    = ∑ k : Fin 2048, grouped (gatedRow y z r) k * g (ix2 (0 : Fin 1) k) * w (ix2 k l) := by
  unfold k0_pay3
  pointwise []
  simp only [pay1]

end Block

/-- The gated row of the array. -/
def gatedAt (y : FVec Ideal S8192x2048 .bf16) (p : FVec Ideal S8192x10752 .bf16) (r : Fin 8192) (l : Fin 2048) : EReal :=
  gated (y (ix2 r l)) (p (ix2 r (⟨6144 + l.val, by omega⟩ : Fin 10752)))

/-- The normed branch. -/
def normed (y : FVec Ideal S8192x2048 .bf16) (p : FVec Ideal S8192x10752 .bf16) (g : FVec Ideal S1x2048 .f32) (r : Fin 8192) (l : Fin 2048) : EReal :=
  grouped (gatedAt y p r) l * g (ix2 (0 : Fin 1) l)

/-- Its product with the weights. -/
def out (y : FVec Ideal S8192x2048 .bf16) (p : FVec Ideal S8192x10752 .bf16) (g : FVec Ideal S1x2048 .f32) (w : FVec Ideal S2048x1024 .bf16) (r : Fin 8192) (l : Fin 1024) : EReal :=
  ∑ k : Fin 2048, normed y p g r k * w (ix2 k l)

variable (m : (ℓ : Loc nD τ sig) → Buf (Elt Ideal) ℓ)

/-- Where each window's block lies at point `t`. -/
theorem idx : ∀ t : Fin cfg0.N, win0_0.index t = ![t.val, 0] ∧ win0_1.index t = ![t.val, 3] ∧ win0_2.index t = ![0, 0] ∧ win0_3.index t = ![0, 0]
    ∧ win0_4.index t = ![t.val, 0] ∧ win0_5.index t = ![t.val, 0] := by decide +kernel

/-- The upper half of a block. -/
abbrev top (x : FVec Ideal S1024x2048 .bf16) : FVec Ideal S512x2048 .bf16 := View.ld (Val := Elt Ideal) (S := S1024x2048) (e' := .bf16) x (Rect.unit (s := S1024x2048) ![0, 0] ![512, 2048] inb_S1024x2048_S512x2048_0_0)

/-- The lower half of a block. -/
abbrev low (x : FVec Ideal S1024x2048 .bf16) : FVec Ideal S512x2048 .bf16 := View.ld (Val := Elt Ideal) (S := S1024x2048) (e' := .bf16) x (Rect.unit (s := S1024x2048) ![512, 0] ![512, 2048] inb_S1024x2048_S512x2048_512_0)

/-- The gate's block. -/
theorem zblk (c : Dev nD) (t : Fin cfg0.N) (r : Fin 1024) (l : Fin 2048) : (X0_1 m c t : FVec Ideal S1024x2048 .bf16) (ix2 r l)
    = ((m ((c : Thread nD τ).loc main_arg1)) : FVec Ideal S8192x10752 .bf16) (ix2 (⟨t.val * 1024 + r.val, by have := lt_of_lt_of_eq t.isLt N_0; omega⟩ : Fin 8192) (⟨6144 + l.val, by omega⟩ : Fin 10752)) := by
  unfold X0_1 Pipeline.Window.fill
  rw [dif_pos (moved0_1 t (ix2 r l))]
  blk_ext! [iblk, V, idx t]

/-- The gains' block. -/
theorem gblk (c : Dev nD) (t : Fin cfg0.N) (l : Fin 2048) : (iblk m c 2 t : FVec Ideal S1x2048 .f32) (ix2 (0 : Fin 1) l) = ((m ((c : Thread nD τ).loc main_arg2)) : FVec Ideal S1x2048 .f32) (ix2 (0 : Fin 1) l) := by
  blk_ext! [iblk, V, idx t]

/-- The gated row in the upper half. -/
theorem rowT (c : Dev nD) (t : Fin cfg0.N) (r : Fin 512) (r' : Fin 8192) (h : r'.val = t.val * 1024 + r.val) : gatedRow (top (iblk m c 0 t)) (top (X0_1 m c t)) r = gatedAt (m ((c : Thread nD τ).loc main_arg0)) (m ((c : Thread nD τ).loc main_arg1)) r' := by
  funext l
  unfold gatedRow gatedAt
  refine congrArg₂ gated ?_ ?_
  · pointwise [top]
    blk_ext! [iblk, V, idx t]
  · pointwise [top]
    rw [zblk]
    blk_ext!

/-- The normed row in the upper half. -/
theorem normT (c : Dev nD) (t : Fin cfg0.N) (r : Fin 512) (r' : Fin 8192) (h : r'.val = t.val * 1024 + r.val) (l : Fin 2048) : grouped (gatedRow (top (iblk m c 0 t)) (top (X0_1 m c t)) r) l * (iblk m c 2 t : FVec Ideal S1x2048 .f32) (ix2 (0 : Fin 1) l) = normed (m ((c : Thread nD τ).loc main_arg0)) (m ((c : Thread nD τ).loc main_arg1)) (m ((c : Thread nD τ).loc main_arg2)) r' l := by
  rw [rowT m c t r r' h, gblk]
  rfl

/-- The product in the upper half. -/
theorem outT (c : Dev nD) (t : Fin cfg0.N) (r : Fin 512) (r' : Fin 8192) (h : r'.val = t.val * 1024 + r.val) (l : Fin 1024) : ∑ k : Fin 2048, grouped (gatedRow (top (iblk m c 0 t)) (top (X0_1 m c t)) r) k * (iblk m c 2 t : FVec Ideal S1x2048 .f32) (ix2 (0 : Fin 1) k) * (iblk m c 3 t : FVec Ideal S2048x1024 .bf16) (ix2 k l)
    = out (m ((c : Thread nD τ).loc main_arg0)) (m ((c : Thread nD τ).loc main_arg1)) (m ((c : Thread nD τ).loc main_arg2)) (m ((c : Thread nD τ).loc main_arg3)) r' l := by
  refine Finset.sum_congr (M := EReal) rfl fun k _ => congrArg₂ (fun a b : EReal => a * b) (normT m c t r r' h k) ?_
  blk_ext! [iblk, V, idx t]

/-- The gated row in the lower half. -/
theorem rowL (c : Dev nD) (t : Fin cfg0.N) (r : Fin 512) (r' : Fin 8192) (h : r'.val = t.val * 1024 + (512 + r.val)) : gatedRow (low (iblk m c 0 t)) (low (X0_1 m c t)) r = gatedAt (m ((c : Thread nD τ).loc main_arg0)) (m ((c : Thread nD τ).loc main_arg1)) r' := by
  funext l
  unfold gatedRow gatedAt
  refine congrArg₂ gated ?_ ?_
  · pointwise [low]
    blk_ext! [iblk, V, idx t]
  · pointwise [low]
    rw [zblk]
    blk_ext!

/-- The normed row in the lower half. -/
theorem normL (c : Dev nD) (t : Fin cfg0.N) (r : Fin 512) (r' : Fin 8192) (h : r'.val = t.val * 1024 + (512 + r.val)) (l : Fin 2048) : grouped (gatedRow (low (iblk m c 0 t)) (low (X0_1 m c t)) r) l * (iblk m c 2 t : FVec Ideal S1x2048 .f32) (ix2 (0 : Fin 1) l) = normed (m ((c : Thread nD τ).loc main_arg0)) (m ((c : Thread nD τ).loc main_arg1)) (m ((c : Thread nD τ).loc main_arg2)) r' l := by
  rw [rowL m c t r r' h, gblk]
  rfl

/-- The product in the lower half. -/
theorem outL (c : Dev nD) (t : Fin cfg0.N) (r : Fin 512) (r' : Fin 8192) (h : r'.val = t.val * 1024 + (512 + r.val)) (l : Fin 1024) : ∑ k : Fin 2048, grouped (gatedRow (low (iblk m c 0 t)) (low (X0_1 m c t)) r) k * (iblk m c 2 t : FVec Ideal S1x2048 .f32) (ix2 (0 : Fin 1) k) * (iblk m c 3 t : FVec Ideal S2048x1024 .bf16) (ix2 k l)
    = out (m ((c : Thread nD τ).loc main_arg0)) (m ((c : Thread nD τ).loc main_arg1)) (m ((c : Thread nD τ).loc main_arg2)) (m ((c : Thread nD τ).loc main_arg3)) r' l := by
  refine Finset.sum_congr (M := EReal) rfl fun k _ => congrArg₂ (fun a b : EReal => a * b) (normL m c t r r' h k) ?_
  blk_ext! [iblk, V, idx t]

/-- The first array after the run. -/
theorem final4 (c : Dev nD) : (dats m 0 c).arrAt 4 cfg0.N = fun i : S8192x2048.Idx => normed (m ((c : Thread nD τ).loc main_arg0)) (m ((c : Thread nD τ).loc main_arg1)) (m ((c : Thread nD τ).loc main_arg2)) (i 0) (i 1) := by
  refine (dats m 0 c).arrAt_eq_of_covers 4 _ (by decide +kernel) fun t hf y => ?_
  have ht : t.val < 8 := lt_of_lt_of_eq t.isLt N_0
  blk_simp
  rw [after0_4]
  idx_vars y
  refine Eq.trans (b := normed (m ((c : Thread nD τ).loc main_arg0)) (m ((c : Thread nD τ).loc main_arg1)) (m ((c : Thread nD τ).loc main_arg2)) ⟨t.val * 1024 + y0.val, by omega⟩ y1) ?_ (congrArg₂ (normed _ _ _) (Fin.ext ?_) (Fin.ext ?_))
  rotate_left
  · blk_simp [idx t]
  · blk_simp [idx t]
  unfold outsAt0
  frame_out
  canon_tiles z h
  · idx_vars z
    rw [show y1 = z1 from Fin.ext h1]
    exact (pay1 _ _ _ _ z1).trans (normL m c t z0 _ (by have := h0; simp at this; dsimp only; omega) z1)
  · idx_vars z
    rw [show y1 = z1 from Fin.ext h1]
    exact (pay9 _ _ _ _ z1).trans (normT m c t z0 _ (by have := h0; simp at this; dsimp only; omega) z1)

/-- The second array after the run. -/
theorem final5 (c : Dev nD) : (dats m 0 c).arrAt 5 cfg0.N = fun i : S8192x1024.Idx => out (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t hf y => ?_
  have ht : t.val < 8 := lt_of_lt_of_eq t.isLt N_0
  blk_simp
  rw [after0_5]
  idx_vars y
  refine Eq.trans (b := out (m ((c : Thread nD τ).loc main_arg0)) (m ((c : Thread nD τ).loc main_arg1)) (m ((c : Thread nD τ).loc main_arg2)) (m ((c : Thread nD τ).loc main_arg3)) ⟨t.val * 1024 + y0.val, by omega⟩ y1) ?_ (congrArg₂ (out _ _ _ _) (Fin.ext ?_) (Fin.ext ?_))
  rotate_left
  · blk_simp [idx t]
  · blk_simp [idx t]
  unfold outsAt0
  frame_out
  canon_tiles z h
  · idx_vars z
    rw [show y1 = z1 from Fin.ext h1]
    exact (pay3 _ _ _ _ _ z1).trans (outL m c t z0 _ (by have := h0; simp at this; dsimp only; omega) z1)
  · idx_vars z
    rw [show y1 = z1 from Fin.ext h1]
    exact (pay11 _ _ _ _ _ z1).trans (outT m c t z0 _ (by have := h0; simp at this; dsimp only; omega) z1)

section R

open Cert.Reference40Ideal.Read

variable (y : FVec Ideal S8192x2048 .bf16) (p : FVec Ideal S8192x10752 .bf16) (g : FVec Ideal S1x2048 .f32) (w : FVec Ideal S2048x1024 .bf16) (r : Fin 8192)

/-- The reference's gated row. -/
theorem ref4 (l : Fin 2048) : (val_main_v4 (F := Ideal) y p : FVec Ideal S8192x2048 .f32) (ix2 r l) = gatedAt y p r l := by
  pointwise [val_main_v4, val_main_v3, val_main_v2, val_main_v1, val_main_v0, val_main_call0_v5, val_main_call0_v4, val_main_call0_v3, val_main_call0_v2, val_main_call0_v1, val_main_call0_v0, val_main_call0_cst, val_main_call0_cst_0]
  rfl

/-- The reference's normed branch. -/
theorem ref18 (l : Fin 2048) : (val_main_v18 (F := Ideal) y p g : FVec Ideal S8192x2048 .f32) (ix2 r l) = normed y p g r l := by
  have h4 := ref4 y p r
  pointwise [val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]
  simp only [h4]
  rfl

/-- The reference's first result. -/
theorem ref19 (l : Fin 2048) : (val_main_v19 (F := Ideal) y p g : FVec Ideal S8192x2048 .bf16) (ix2 r l) = normed y p g r l :=
  ref18 y p g r l

/-- The reference's second result. -/
theorem ref22 (l : Fin 1024) : (val_main_v22 (F := Ideal) y p g w : FVec Ideal S8192x1024 .bf16) (ix2 r l) = out y p g w r l := by
  pointwise [val_main_v22, val_main_v21, val_main_v20]
  simp only [ref18]
  rfl

end R

/-- The kernel's results are the reference's. -/
theorem algebraic : Cert.algebraic_Kernel40Ideal_Reference40Ideal (hKernel40Ideal := Kernel40Ideal.Gen.facts) (hReference40Ideal := Reference40Ideal.Gen.facts) := by
  intro m g m' g' hpre hagree
  refine ⟨fun c => (Kernel40Ideal.Gen.dats m 0 c).arrAt 4 Kernel40Ideal.cfg0.N, fun c => (Kernel40Ideal.Gen.dats m 0 c).arrAt 5 Kernel40Ideal.cfg0.N, Kernel40Ideal.Value.run_blocks m g, ?_⟩
  refine (θ_run Reference40Ideal.defs _ _).mono (fun r h c => ?_) (Reference40Ideal.Value.run (F := Ideal) m' g')
  obtain ⟨e0, e1, k⟩ := h c
  obtain ⟨a0, a1, a2, a3⟩ := hagree c
  refine ⟨e0.trans ?_, e1.trans ?_, k⟩
  · rw [Reference40Ideal.Read.val_main_v19_eq]
    refine Eq.trans ?_ (final4 m c).symm
    funext i
    idx_vars i
    refine (ref19 _ _ _ i0 i1).trans ?_
    rw [a0, a1, a2]
  · rw [Reference40Ideal.Read.val_main_v22_eq]
    refine Eq.trans ?_ (final5 m c).symm
    funext i
    idx_vars i
    refine (ref22 _ _ _ _ i0 i1).trans ?_
    rw [a0, a1, a2, a3]

end Cert.Mix.BranchSsd

end
-- ==== Proof.Mix.AttForward.lean ====
module

public import proofs.«01_k».proof.Defs
public import proofs.«01_k».proof.Proof.Gen.Kernel41Ideal.Value
public import proofs.«01_k».proof.Proof.Gen.Reference41Ideal.Run
public import proofs.«01_k».proof.Proof.Gen.Reference41Ideal.Read
public import proofs.«01_k».proof.Proof.Att.Softmax
public import Idealize.ShloMosaic.Lib.Pointwise
public import Idealize.ShloMosaic.Lib.Tactic
public import Idealize.ShloMosaic.Lib.Pipeline.ValueKit
public import Idealize.ShloMosaic.Lib.Pipeline.ReadBack

@[expose] public section

set_option maxRecDepth 16384

noncomputable section

/-! # The attention of the forward pass

Four heads of 64 lanes lie side by side in 256 lanes. The kernel's masked products over all lanes are products over one head's. -/

namespace Cert.Mix.AttForward

open Cert.Kernel41Ideal Cert.Kernel41Ideal.Gen Idealize.ShloMosaic Idealize.ShloMosaic.TcCoe Idealize.SL.Sem Cert.Att

/-- Lane `i` of head `h`. -/
def lane (h : Fin 4) (i : Fin 64) : Fin 256 := ⟨64 * h.val + i.val, by omega⟩

/-- The head of a lane. -/
def headOf (l : Fin 256) : Fin 4 := ⟨l.val / 64, by omega⟩

/-- A lane of a head is in that head. -/
theorem headOf_lane (h : Fin 4) (i : Fin 64) : headOf (lane h i) = h := Fin.ext (by simp only [headOf, lane]; omega)

/-- Lanes are cut into heads of 64. -/
theorem lane_eq (h : Fin 4) (i : Fin 64) : lane h i = ⟨h.val * 64 + i.val, by omega⟩ := Fin.ext (by simp only [lane]; omega)

/-- A sum over the lanes of head `h` alone. -/
theorem sum_lanes (h : Fin 4) (f : Fin 256 → EReal) :
    (∑ l, if headOf l = h then f l else 0) = ∑ i : Fin 64, f (lane h i) := by
  rw [← Finset.sum_filter]
  refine (Finset.sum_nbij (fun i => lane h i) (fun i _ => ?_) (fun i _ j _ e => ?_) (fun l hl => ?_) fun _ _ => rfl).symm
  · simp [headOf_lane]
  · have := congrArg Fin.val e
    simp only [lane] at this
    exact Fin.ext (by omega)
  · have hl' : headOf l = h := by simpa using hl
    refine ⟨⟨l.val % 64, by omega⟩, by simp, Fin.ext ?_⟩
    subst hl'
    simp only [lane, headOf]
    omega

/-- The scale, as the programs' constant reads. -/
def scale : EReal := Ideal.ofBits .f32 0x3E000000#32

/-- The bits that name −∞. -/
theorem bot_bits : Ideal.ofBits .f32 0xFF800000#32 = ⊥ := by simp [Ideal.ofBits, Ideal.ieee]

/-- The scores of a row of queries in head `h`. -/
def score (Q : Fin 256 → EReal) (K : Fin 256 → Fin 256 → EReal) (h : Fin 4) (a : Fin 256) : EReal :=
  (∑ i : Fin 64, Q (lane h i) * K a (lane h i)) * scale

/-- The attention's outcome on a lane: the values of the lane, weighted by the weights of the lane's head. -/
def att (Q : Fin 256 → EReal) (K V : Fin 256 → Fin 256 → EReal) (l : Fin 256) : EReal :=
  ∑ a, prob (score Q K (headOf l)) a * V a l

/-- The lanes `lo ≤ l < hi` of a tile. -/
def lanes (lo hi : BitVec 32) : IVec S4096x256 1 :=
  andi (cmpi .sge (iota .tc S4096x256 32 [1] iota_S4096x256_d1_w32) (broadcast S4096x256 lo))
    (cmpi .slt (iota .tc S4096x256 32 [1] iota_S4096x256_d1_w32) (broadcast S4096x256 hi))

/-- A tile of zeros. -/
abbrev zeroT : FVec Ideal S4096x256 .f32 := broadcast S4096x256 (Scalar.ofBits .f32 0x00000000#32)

/-- The scores of the lanes `msk`. -/
def scoresT (msk : IVec S4096x256 1) (q : FVec Ideal S4096x256 .f32) (k : FVec Ideal S256x256 .bf16) : FVec Ideal S4096x256 .f32 :=
  mulf (matmul dot_S4096x256_S256x256_S4096x256_1_1_0_0_n_n none (truncf .bf16 (select msk q zeroT) bitsLt_bf16_f32) k
    (constant S4096x256 .f32 0x00000000#32)) (broadcast S4096x256 (Scalar.ofBits .f32 0x3E000000#32))

/-- The exponentials of rows of scores, less their row's greatest. -/
def expsT (s : FVec Ideal S4096x256 .f32) : FVec Ideal S4096x256 .f32 :=
  exp (subf s (broadcastTo S4096x256 (shapeCast S4096x1 (multiReduction .maximumf [1] S4096 s 0xFF800000#32 reduces_S4096x256_S4096 (.inl rfl) rfl) shapeCasts_S4096_S4096x1) broadcasts_S4096x1_S4096x256))

/-- The weights of rows of scores. -/
def probsT (s : FVec Ideal S4096x256 .f32) : FVec Ideal S4096x256 .f32 :=
  divf (expsT s) (broadcastTo S4096x256 (shapeCast S4096x1 (multiReduction .add [1] S4096 (expsT s) 0x00000000#32 reduces_S4096x256_S4096 (.inl rfl) rfl) shapeCasts_S4096_S4096x1) broadcasts_S4096x1_S4096x256)

/-- One head's part of the outcome. -/
def partT (lo hi : BitVec 32) (q : FVec Ideal S4096x256 .f32) (k v : FVec Ideal S256x256 .bf16) : FVec Ideal S4096x256 .f32 :=
  select (lanes lo hi) (matmul dot_S4096x256_S256x256_S4096x256_1_0_0_1_n_n none (truncf .bf16 (probsT (scoresT (lanes lo hi) q k)) bitsLt_bf16_f32) v
    (constant S4096x256 .f32 0x00000000#32)) zeroT

/-- The four heads' parts added up. -/
def tile (q : FVec Ideal S4096x256 .f32) (k v : FVec Ideal S256x256 .bf16) : FVec Ideal S4096x256 .f32 :=
  addf (addf (addf (addf zeroT (partT 0#32 64#32 q k v)) (partT 64#32 128#32 q k v)) (partT 128#32 192#32 q k v)) (partT 192#32 256#32 q k v)

/-- Where head `h`'s lanes begin. -/
abbrev lo (h : Fin 4) : BitVec 32 := BitVec.ofNat 32 (64 * h.val)

/-- Where they end. -/
abbrev hi (h : Fin 4) : BitVec 32 := BitVec.ofNat 32 (64 * h.val + 64)

/-- The two comparisons of a lane's number say whether the lane is the head's. -/
theorem mask_bits : ∀ (h : Fin 4) (l : Fin 256), IntOp.andi (IntOp.cmpi .sge (BitVec.ofNat 32 l.val) (lo h)) (IntOp.cmpi .slt (BitVec.ofNat 32 l.val) (hi h))
    = BitVec.ofBool (decide (headOf l = h)) := by decide +kernel

/-- A choice by a decided bit is a choice by the proposition. -/
theorem mask_select (p : Prop) [Decidable p] (a b : EReal) : Scalar.select (BitVec.ofBool (decide p)) a b = if p then a else b := by
  by_cases h : p <;> simp [h, Scalar.select]

/-- The mask of a head, at an index. -/
theorem lanes_apply (h : Fin 4) (r : Fin 4096) (l : Fin 256) : lanes (lo h) (hi h) (ix2 r l) = BitVec.ofBool (decide (headOf l = h)) := by
  rw [← mask_bits]; pointwise [lanes]

/-- The masked product over 256 lanes is the product over one head's lanes. -/
theorem scoresT_apply (h : Fin 4) (q : FVec Ideal S4096x256 .f32) (k : FVec Ideal S256x256 .bf16) (r : Fin 4096) (a : Fin 256) :
    scoresT (lanes (lo h) (hi h)) q k (ix2 r a) = score (fun l => q (ix2 r l)) (fun b l => k (ix2 b l)) h a := by
  pointwise [scoresT]
  simp only [lanes_apply, mask_select]
  exact congrArg (fun x : EReal => x * scale) (sum_lanes h fun l => q (ix2 r l) * k (ix2 a l))

/-- The weights of a row of scores. -/
theorem probsT_apply (s : FVec Ideal S4096x256 .f32) (r : Fin 4096) (a : Fin 256) :
    probsT s (ix2 r a) = prob (fun b => s (ix2 r b)) a := by
  pointwise [probsT, expsT]
  rw [bot_bits]; rfl

/-- One head's part of the outcome, at an index. -/
theorem partT_apply (h : Fin 4) (b e : BitVec 32) (hb : b = lo h) (he : e = hi h) (q : FVec Ideal S4096x256 .f32) (k v : FVec Ideal S256x256 .bf16) (r : Fin 4096) (l : Fin 256) :
    partT b e q k v (ix2 r l) = if headOf l = h then ∑ a, prob (score (fun l => q (ix2 r l)) (fun b l => k (ix2 b l)) h) a * v (ix2 a l) else 0 := by
  subst hb he
  pointwise [partT]
  rw [lanes_apply, mask_select]
  simp only [probsT_apply, scoresT_apply]

/-- Four parts, each on its own head's lanes, add up to the lane's own head's part. -/
theorem sum_heads (f : Fin 4 → EReal) (h : Fin 4) :
    (if h = 0 then f 0 else 0) + (if h = 1 then f 1 else 0) + (if h = 2 then f 2 else 0) + (if h = 3 then f 3 else 0) = f h := by
  fin_cases h <;> simp

/-- The outcome of a tile. -/
theorem tile_apply (q : FVec Ideal S4096x256 .f32) (k v : FVec Ideal S256x256 .bf16) (r : Fin 4096) (l : Fin 256) :
    tile q k v (ix2 r l) = att (fun l => q (ix2 r l)) (fun b l => k (ix2 b l)) (fun b l => v (ix2 b l)) l := by
  pointwise [tile]
  rw [partT_apply 0 _ _ (by decide) (by decide), partT_apply 1 _ _ (by decide) (by decide), partT_apply 2 _ _ (by decide) (by decide), partT_apply 3 _ _ (by decide) (by decide)]
  exact sum_heads (fun h => ∑ a, prob (score (fun l => q (ix2 r l)) (fun b l => k (ix2 b l)) h) a * v (ix2 a l)) (headOf l)

/-- What the body stores. -/
theorem stored (x : FVec Ideal S4096x256 .bf16) (z : IVec S4096x256 32) (hz : z = iota .tc S4096x256 32 [1] iota_S4096x256_d1_w32) (k v : FVec Ideal S256x256 .bf16) :
    (k0_pay1 (k0_pay2 x) k v z (k0_pay6 (k0_pay2 x) k v z (k0_pay3 x k v) k0_pay4 (k0_pay5 x) (constant S4096x256 .f32 0x00000000#32)) (k0_pay7 z) 256#32 : FVec Ideal S4096x256 .bf16)
      = truncf .bf16 (tile (extf .f32 x bitsLt_bf16_f32) k v) bitsLt_bf16_f32 := by
  subst hz
  unfold k0_pay1 k0_pay6 k0_pay3 k0_pay5 k0_pay7 k0_pay4 k0_pay2
  simp only [tile, partT, probsT, expsT, scoresT, lanes, zeroT]

variable (m : (ℓ : Loc nD τ sig) → Buf (Elt Ideal) ℓ)

/-- Where each window's block lies at point `t`. -/
theorem idx : ∀ t : Fin cfg0.N, win0_0.index t = ![t.val, 40] ∧ win0_1.index t = ![0, 0] ∧ win0_2.index t = ![t.val, 0] := by decide +kernel

/-- The outcome of a row and a lane, of the arrays the call reads. -/
def out (p : FVec Ideal S8192x10752 .bf16) (kv : FVec Ideal S256x512 .bf16) (r : Fin 8192) (l : Fin 256) : EReal :=
  att (fun l => p (ix2 r (⟨10240 + l.val, by omega⟩ : Fin 10752))) (fun a l => kv (ix2 a (⟨l.val, by omega⟩ : Fin 512)))
    (fun a l => kv (ix2 a (⟨256 + l.val, by omega⟩ : Fin 512))) l

/-- The body's block is the outcome of its queries, keys and values. -/
theorem block (x : FVec Ideal S4096x256 .bf16) (y : FVec Ideal S256x512 .bf16) (r : Fin 4096) (l : Fin 256) :
    (out0_2 (F := Ideal) x y : FVec Ideal S4096x256 .bf16) (ix2 r l)
      = att (fun l => x (ix2 r l)) (fun a l => y (ix2 a (⟨l.val, by omega⟩ : Fin 512))) (fun a l => y (ix2 a (⟨256 + l.val, by omega⟩ : Fin 512))) l := by
  have hz : (![0, 0] : Fin 2 → Nat) = fun _ => 0 := funext fun a => by fin_cases a <;> rfl
  unfold out0_2 k0_pay9
  rw [View.canon_unit_zero hz, View.ld_unit_zero (S := S4096x256) hz]
  rw [stored x (k0_pay8 (F := Ideal) x y) (by unfold k0_pay8; rfl) (View.ld (Val := Elt Ideal) (S := S256x512) (e' := .bf16) y r0_1) (View.ld (Val := Elt Ideal) (S := S256x512) (e' := .bf16) y r0_2)]
  refine (tile_apply _ _ _ r l).trans ?_
  refine Finset.sum_congr (M := EReal) rfl fun a _ => congrArg₂ (fun a b : EReal => a * b) ?_ ?_
  · refine congrArg (fun s => prob s a) (funext fun b => congrArg (fun x : EReal => x * scale) (Finset.sum_congr (M := EReal) rfl fun i _ => congrArg₂ (fun a b : EReal => a * b) rfl ?_))
    pointwise []
  · pointwise []

/-- The array after the run. -/
theorem final (c : Dev nD) : (dats m 0 c).arrAt 2 cfg0.N
    = fun i : S8192x256.Idx => out (m ((c : Thread nD τ).loc main_arg0)) (m ((c : Thread nD τ).loc main_arg1)) (i 0) (i 1) := by
  refine (dats m 0 c).arrAt_eq_of_covers 2 _ (by decide +kernel) fun t hf y => ?_
  have ht : t.val < 2 := lt_of_lt_of_eq t.isLt N_0
  blk_simp
  rw [after0_2]
  idx_vars y
  have e1 : (iblk m c 1 t : FVec Ideal S256x512 .bf16) = m ((c : Thread nD τ).loc main_arg1) := by
    funext i
    idx_vars i
    blk_ext! [iblk, V, idx t]
  refine (block (iblk m c 0 t) (iblk m c 1 t) y0 y1).trans ?_
  rw [e1]
  refine Eq.trans (b := out (m ((c : Thread nD τ).loc main_arg0)) (m ((c : Thread nD τ).loc main_arg1)) ⟨t.val * 4096 + y0.val, by omega⟩ y1) ?_ (congrArg₂ (out _ _) (Fin.ext ?_) (Fin.ext ?_))
  · refine congrArg (fun q => att q _ _ y1) (funext fun l => ?_)
    blk_ext! [iblk, V, idx t]
  · blk_simp [idx t]
  · blk_simp [idx t]

section R

open Cert.Reference41Ideal.Read

variable (p : FVec Ideal S8192x10752 .bf16) (kv : FVec Ideal S256x512 .bf16)

/-- A row of the queries. -/
def rq (r : Fin 8192) (l : Fin 256) : EReal := p (ix2 r (⟨10240 + l.val, by omega⟩ : Fin 10752))

/-- The keys. -/
def rk (a l : Fin 256) : EReal := kv (ix2 a (⟨l.val, by omega⟩ : Fin 512))

/-- The reference's scores. -/
theorem v10 (h : Fin 4) (r : Fin 8192) (a : Fin 256) : val_main_v10 (F := Ideal) p kv (ix3 h r a) = score (rq p r) (rk kv) h a := by
  pointwise [val_main_v10, val_main_v8, val_main_v5, val_main_v6, val_main_v1, val_main_v0, val_main_v3, val_main_v2, val_main_v9, val_main_cst]
  simp only [score, scale, rq, rk, lane_eq]

/-- The greatest score of a row. -/
theorem v11 (h : Fin 4) (r : Fin 8192) : val_main_v11 (F := Ideal) p kv (ix2 h r) = top (score (rq p r) (rk kv) h) := by
  pointwise [val_main_v11, val_main_cst_0]
  simp only [v10, bot_bits, top]

/-- The greatest score again, against −∞. -/
theorem v13 (h : Fin 4) (r : Fin 8192) : val_main_v13 (F := Ideal) p kv (ix2 h r) = top (score (rq p r) (rk kv) h) := by
  rw [val_main_v13_apply, v11, val_main_v12_apply, val_main_cst_1_apply]
  show max (Ideal.ofBits .f32 0xFF800000#32) _ = _
  rw [bot_bits, max_eq_right bot_le]

/-- The greatest score of a row, at each of the row's entries. -/
theorem v15 (h : Fin 4) (r : Fin 8192) (a : Fin 256) : val_main_v15 (F := Ideal) p kv (ix3 h r a) = top (score (rq p r) (rk kv) h) := by
  rw [val_main_v15_apply, val_main_v14_apply, ← v13]
  refine congrArg _ (funext fun k => ?_)
  fin_cases k <;> rfl

/-- The exponentials. -/
theorem v17 (h : Fin 4) (r : Fin 8192) (a : Fin 256) : val_main_v17 (F := Ideal) p kv (ix3 h r a) = wt (score (rq p r) (rk kv) h) a := by
  rw [val_main_v17_apply, val_main_v16_apply, v10, v15]
  rfl

/-- The weights. -/
theorem v21 (h : Fin 4) (r : Fin 8192) (a : Fin 256) : val_main_v21 (F := Ideal) p kv (ix3 h r a) = prob (score (rq p r) (rk kv) h) a := by
  pointwise [val_main_v21, val_main_v20, val_main_v19, val_main_v18, val_main_cst_2]
  simp only [v17, Ideal.ofBits_zero_f32, zero_add, prob, tot]

/-- The reference's result. -/
theorem ref (r : Fin 8192) (l : Fin 256) : (val_main_v25 (F := Ideal) p kv : FVec Ideal S8192x256 .bf16) (ix2 r l) = out p kv r l := by
  pointwise [val_main_v25, val_main_v24, val_main_v23, val_main_v22, val_main_v7, val_main_v4, val_main_v2]
  refine Finset.sum_congr (M := EReal) rfl fun a _ => (mul_comm (G := EReal) _ _).trans (congrArg (fun x : EReal => x * _) ?_)
  exact v21 p kv _ r a

end R

/-- The kernel's result is the reference's. -/
theorem algebraic : Cert.algebraic_Kernel41Ideal_Reference41Ideal (hKernel41Ideal := Kernel41Ideal.Gen.facts) (hReference41Ideal := Reference41Ideal.Gen.facts) := by
  intro m g m' g' hpre hagree
  refine ⟨fun c => (Kernel41Ideal.Gen.dats m 0 c).arrAt 2 Kernel41Ideal.cfg0.N, Kernel41Ideal.Value.run_blocks m g, ?_⟩
  refine (θ_run Reference41Ideal.defs _ _).mono (fun r h c => ?_) (Reference41Ideal.Value.run (F := Ideal) m' g')
  obtain ⟨e0, k⟩ := h c
  obtain ⟨a0, a1⟩ := hagree c
  refine ⟨e0.trans ?_, k⟩
  rw [Reference41Ideal.Read.val_main_v25_eq]
  refine Eq.trans ?_ (final m c).symm
  funext i
  idx_vars i
  refine (ref _ _ i0 i1).trans ?_
  rw [a0, a1]

end Cert.Mix.AttForward

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Run
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Run
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Kernel27Ideal.Value
public import proofs.«01_k».proof.Proof.Gen.Reference27Ideal.Run
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Kernel28Ideal.Value
public import proofs.«01_k».proof.Proof.Gen.Reference28Ideal.Run
public import proofs.«01_k».proof.Proof.Gen.Reference28Ideal.Read
public import proofs.«01_k».proof.Proof.Gen.Kernel29.Frame
public import proofs.«01_k».proof.Proof.Gen.Kernel29Ideal.Frame
public import proofs.«01_k».proof.Proof.Gen.Kernel29Ideal.Value
public import proofs.«01_k».proof.Proof.Gen.Reference29Ideal.Run
public import proofs.«01_k».proof.Proof.Gen.Reference29Ideal.Read
public import proofs.«01_k».proof.Proof.Gen.Kernel30.Frame
public import proofs.«01_k».proof.Proof.Gen.Kernel30Ideal.Frame
public import proofs.«01_k».proof.Proof.Gen.Kernel30Ideal.Value
public import proofs.«01_k».proof.Proof.Gen.Reference30Ideal.Run
public import proofs.«01_k».proof.Proof.Gen.Reference30Ideal.Read
public import proofs.«01_k».proof.Proof.Gen.Kernel31.Frame
public import proofs.«01_k».proof.Proof.Gen.Kernel31Ideal.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel33.Frame
public import proofs.«01_k».proof.Proof.Gen.Kernel33Ideal.Frame
public import proofs.«01_k».proof.Proof.Gen.Kernel33Ideal.Value
public import proofs.«01_k».proof.Proof.Gen.Reference33Ideal.Run
public import proofs.«01_k».proof.Proof.Gen.Reference33Ideal.Read
public import proofs.«01_k».proof.Proof.Gen.Kernel34.Frame
public import proofs.«01_k».proof.Proof.Gen.Kernel34Ideal.Frame
public import proofs.«01_k».proof.Proof.Gen.Kernel34Ideal.Value
public import proofs.«01_k».proof.Proof.Gen.Reference34Ideal.Run
public import proofs.«01_k».proof.Proof.Gen.Reference34Ideal.Read
public import proofs.«01_k».proof.Proof.Gen.Kernel35.Frame
public import proofs.«01_k».proof.Proof.Gen.Kernel35Ideal.Frame
public import proofs.«01_k».proof.Proof.Gen.Kernel35Ideal.Value
public import proofs.«01_k».proof.Proof.Gen.Reference35Ideal.Run
public import proofs.«01_k».proof.Proof.Gen.Reference35Ideal.Read
public import proofs.«01_k».proof.Proof.Gen.Kernel36.Frame
public import proofs.«01_k».proof.Proof.Gen.Kernel36Ideal.Frame
public import proofs.«01_k».proof.Proof.Gen.Kernel36Ideal.Value
public import proofs.«01_k».proof.Proof.Gen.Reference36Ideal.Run
public import proofs.«01_k».proof.Proof.Gen.Reference36Ideal.Read
public import proofs.«01_k».proof.Proof.Gen.Kernel37.Frame
public import proofs.«01_k».proof.Proof.Gen.Kernel37Ideal.Frame
public import proofs.«01_k».proof.Proof.Gen.Kernel37Ideal.Value
public import proofs.«01_k».proof.Proof.Gen.Reference37Ideal.Run
public import proofs.«01_k».proof.Proof.Gen.Reference37Ideal.Read
public import proofs.«01_k».proof.Proof.Gen.Kernel38.Frame
public import proofs.«01_k».proof.Proof.Gen.Kernel38Ideal.Frame
public import proofs.«01_k».proof.Proof.Gen.Kernel38Ideal.Value
public import proofs.«01_k».proof.Proof.Gen.Reference38Ideal.Run
public import proofs.«01_k».proof.Proof.Gen.Reference38Ideal.Read
public import proofs.«01_k».proof.Proof.Gen.Kernel39.Frame
public import proofs.«01_k».proof.Proof.Gen.Kernel39Ideal.Frame
public import proofs.«01_k».proof.Proof.Gen.Kernel39Ideal.Value
public import proofs.«01_k».proof.Proof.Gen.Reference39Ideal.Run
public import proofs.«01_k».proof.Proof.Gen.Reference39Ideal.Read
public import proofs.«01_k».proof.Proof.Gen.Kernel40.Frame
public import proofs.«01_k».proof.Proof.Gen.Kernel40Ideal.Frame
public import proofs.«01_k».proof.Proof.Gen.Kernel40Ideal.Value
public import proofs.«01_k».proof.Proof.Gen.Reference40Ideal.Run
public import proofs.«01_k».proof.Proof.Gen.Reference40Ideal.Read
public import proofs.«01_k».proof.Proof.Gen.Kernel41.Frame
public import proofs.«01_k».proof.Proof.Gen.Kernel41Ideal.Frame
public import proofs.«01_k».proof.Proof.Gen.Kernel41Ideal.Value
public import proofs.«01_k».proof.Proof.Gen.Reference41Ideal.Run
public import proofs.«01_k».proof.Proof.Gen.Reference41Ideal.Read
public import proofs.«01_k».proof.Proof.Att.Equation
public import proofs.«01_k».proof.Proof.Ffn.GateGrad
public import proofs.«01_k».proof.Proof.Ffn.DownWeight
public import proofs.«01_k».proof.Proof.Ffn.UpWeight
public import proofs.«01_k».proof.Proof.Ffn.DnGate
public import proofs.«01_k».proof.Proof.Ffn.InWeight
public import proofs.«01_k».proof.Proof.Ffn.GateUp
public import proofs.«01_k».proof.Proof.Ffn.InProj
public import proofs.«01_k».proof.Proof.Ffn.Down
public import proofs.«01_k».proof.Proof.Ffn.NormUp
public import proofs.«01_k».proof.Proof.Ffn.NormIn
public import proofs.«01_k».proof.Proof.Adam.Layers
public import proofs.«01_k».proof.Proof.Adam.InProj
public import proofs.«01_k».proof.Proof.Adam.Ssd
public import proofs.«01_k».proof.Proof.Adam.Out
public import proofs.«01_k».proof.Proof.Adam.Memory
public import proofs.«01_k».proof.Proof.Adam.Branch
public import proofs.«01_k».proof.Proof.Adam.Conv
public import proofs.«01_k».proof.Proof.Adam.Packed
public import proofs.«01_k».proof.Proof.Adam.First
public import proofs.«01_k».proof.Proof.Gate.Forward
public import proofs.«01_k».proof.Proof.Gate.Loss
public import proofs.«01_k».proof.Proof.Mix.OutWeight
public import proofs.«01_k».proof.Proof.Mix.SsdWeight
public import proofs.«01_k».proof.Proof.Mix.GmlpWeight
public import proofs.«01_k».proof.Proof.Mix.MemWeight
public import proofs.«01_k».proof.Proof.Mix.KvWeight
public import proofs.«01_k».proof.Proof.Mix.GmlpBack
public import proofs.«01_k».proof.Proof.Mix.MemBack
public import proofs.«01_k».proof.Proof.Mix.KvBack
public import proofs.«01_k».proof.Proof.Mix.GmlpBranch
public import proofs.«01_k».proof.Proof.Mix.MemBranch
public import proofs.«01_k».proof.Proof.Mix.Kv
public import proofs.«01_k».proof.Proof.Mix.Steps
public import proofs.«01_k».proof.Proof.Mix.OutProj
public import proofs.«01_k».proof.Proof.Mix.MixNorm
public import proofs.«01_k».proof.Proof.Mix.MemNorm
public import proofs.«01_k».proof.Proof.Mix.MemNormBack
public import proofs.«01_k».proof.Proof.Mix.OutProjBack
public import proofs.«01_k».proof.Proof.Mix.BranchSsd
public import proofs.«01_k».proof.Proof.Mix.AttForward
public import Idealize.ShloMosaic.Adequacy
public import Idealize.ShloMosaic.Init

@[expose] public section

noncomputable section

/-! # The certificate

The kernels' frames are their generated ones. The values, of each kernel and of its reference, are in `Proof/Att` (the
gradient of the attention) and in `Proof/Ffn` (the feed-forward layers and the projection into the mixing block) and in `Proof/Adam` (the optimiser) and in `Proof/Gate` (the spatial gate and the loss head) and in `Proof/Mix` (the other products of the mixing block). -/

namespace Cert.Proof

open Idealize.ShloMosaic Idealize.SL.Sem

/-- The reference of the attention runs and leaves its arguments as they were. -/
theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The reference of the gate runs and leaves its arguments as they were. -/
theorem frame_reference2 : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The reference of the lower weights runs and leaves its arguments as they were. -/
theorem frame_reference5 : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

/-- The reference of the upper weights runs and leaves its arguments as they were. -/
theorem frame_reference6 : Cert.quiescent_Reference6Ideal := fun m ρ _ =>
  (θ_run Cert.Reference6Ideal.defs _ _).mono
    (fun r h => ⟨fun c => (h c).2, sem_eq_zero_of_no_sems (by decide) r.2⟩)
    (Cert.Reference6Ideal.Value.run (F := Ideal) m ρ)

/-- The reference of the gate's product runs and leaves its arguments as they were. -/
theorem frame_reference7 : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

/-- The reference of the projection's weights runs and leaves its arguments as they were. -/
theorem frame_reference8 : Cert.quiescent_Reference8Ideal := fun m ρ _ =>
  (θ_run Cert.Reference8Ideal.defs _ _).mono
    (fun r h => ⟨fun c => (h c).2, sem_eq_zero_of_no_sems (by decide) r.2⟩)
    (Cert.Reference8Ideal.Value.run (F := Ideal) m ρ)

/-- The reference of the forward pass's gate runs and leaves its arguments as they were. -/
theorem frame_reference9 : Cert.quiescent_Reference9Ideal := fun m ρ _ =>
  (θ_run Cert.Reference9Ideal.defs _ _).mono
    (fun r h => ⟨fun c => (h c).2.2.2, sem_eq_zero_of_no_sems (by decide) r.2⟩)
    (Cert.Reference9Ideal.Value.run (F := Ideal) m ρ)

/-- The reference of the forward pass's projection runs and leaves its arguments as they were. -/
theorem frame_reference10 : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

/-- The reference of the forward pass's second product runs and leaves its arguments as they were. -/
theorem frame_reference11 : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

/-- The reference of the norm before the feed-forward layer runs and leaves its arguments as they were. -/
theorem frame_reference3 : Cert.quiescent_Reference3Ideal := fun m ρ _ =>
  (θ_run Cert.Reference3Ideal.defs _ _).mono
    (fun r h => ⟨fun c => (h c).2.2, sem_eq_zero_of_no_sems (by decide) r.2⟩)
    (Cert.Reference3Ideal.Value.run (F := Ideal) m ρ)

/-- The reference of the norm before the projection runs and leaves its arguments as they were. -/
theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

/-- The reference of the optimiser's step of the feed-forward weights runs and leaves its arguments as they were. -/
theorem frame_reference12 : Cert.quiescent_Reference12Ideal := fun m ρ _ =>
  (θ_run Cert.Reference12Ideal.defs _ _).mono
    (fun r h => ⟨fun c => (h c).2.2.2.2, sem_eq_zero_of_no_sems (by decide) r.2⟩)
    (Cert.Reference12Ideal.Value.run (F := Ideal) m ρ)

/-- The reference of the optimiser's step of the projection runs and leaves its arguments as they were. -/
theorem frame_reference13 : Cert.quiescent_Reference13Ideal := fun m ρ _ =>
  (θ_run Cert.Reference13Ideal.defs _ _).mono
    (fun r h => ⟨fun c => (h c).2.2.2.2, sem_eq_zero_of_no_sems (by decide) r.2⟩)
    (Cert.Reference13Ideal.Value.run (F := Ideal) m ρ)

/-- The reference of the optimiser's step of the first branch runs and leaves its arguments as they were. -/
theorem frame_reference14 : Cert.quiescent_Reference14Ideal := fun m ρ _ =>
  (θ_run Cert.Reference14Ideal.defs _ _).mono
    (fun r h => ⟨fun c => (h c).2.2.2.2, sem_eq_zero_of_no_sems (by decide) r.2⟩)
    (Cert.Reference14Ideal.Value.run (F := Ideal) m ρ)

/-- The reference of the optimiser's step of the square weights runs and leaves its arguments as they were. -/
theorem frame_reference15 : Cert.quiescent_Reference15Ideal := fun m ρ _ =>
  (θ_run Cert.Reference15Ideal.defs _ _).mono
    (fun r h => ⟨fun c => (h c).2.2.2.2, sem_eq_zero_of_no_sems (by decide) r.2⟩)
    (Cert.Reference15Ideal.Value.run (F := Ideal) m ρ)

/-- The reference of the optimiser's step of the memory runs and leaves its arguments as they were. -/
theorem frame_reference16 : Cert.quiescent_Reference16Ideal := fun m ρ _ =>
  (θ_run Cert.Reference16Ideal.defs _ _).mono
    (fun r h => ⟨fun c => (h c).2.2.2.2, sem_eq_zero_of_no_sems (by decide) r.2⟩)
    (Cert.Reference16Ideal.Value.run (F := Ideal) m ρ)

/-- The reference of the optimiser's step of the third branch runs and leaves its arguments as they were. -/
theorem frame_reference17 : Cert.quiescent_Reference17Ideal := fun m ρ _ =>
  (θ_run Cert.Reference17Ideal.defs _ _).mono
    (fun r h => ⟨fun c => (h c).2.2.2.2, sem_eq_zero_of_no_sems (by decide) r.2⟩)
    (Cert.Reference17Ideal.Value.run (F := Ideal) m ρ)

/-- The reference of the optimiser's step of the convolution runs and leaves its arguments as they were. -/
theorem frame_reference18 : Cert.quiescent_Reference18Ideal := fun m ρ _ =>
  (θ_run Cert.Reference18Ideal.defs _ _).mono
    (fun r h => ⟨fun c => (h c).2.2.2.2, sem_eq_zero_of_no_sems (by decide) r.2⟩)
    (Cert.Reference18Ideal.Value.run (F := Ideal) m ρ)

/-- The reference of the optimiser's step of the packed weights runs and leaves its arguments as they were. -/
theorem frame_reference19 : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run (F := Ideal) m ρ)

/-- The reference of the optimiser's step of the first norm runs and leaves its arguments as they were. -/
theorem frame_reference20 : Cert.quiescent_Reference20Ideal := fun m ρ _ =>
  (θ_run Cert.Reference20Ideal.defs _ _).mono
    (fun r h => ⟨fun c => (h c).2.2.2.2, sem_eq_zero_of_no_sems (by decide) r.2⟩)
    (Cert.Reference20Ideal.Value.run (F := Ideal) m ρ)

/-- The reference of the spatial gate runs and leaves its arguments as they were. -/
theorem frame_reference21 : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

/-- The reference of the loss head runs and leaves its arguments as they were. -/
theorem frame_reference22 : Cert.quiescent_Reference22Ideal := fun m ρ _ =>
  (θ_run Cert.Reference22Ideal.defs _ _).mono
    (fun r h => ⟨fun c => (h c).2.2.2, sem_eq_zero_of_no_sems (by decide) r.2⟩)
    (Cert.Reference22Ideal.Value.run (F := Ideal) m ρ)

/-- The reference of the output's weights runs and leaves its arguments as they were. -/
theorem frame_reference23 : Cert.quiescent_Reference23Ideal := fun m ρ _ =>
  (θ_run Cert.Reference23Ideal.defs _ _).mono
    (fun r h => ⟨fun c => (h c).2, sem_eq_zero_of_no_sems (by decide) r.2⟩)
    (Cert.Reference23Ideal.Value.run (F := Ideal) m ρ)

/-- The reference of the first branch's weights runs and leaves its arguments as they were. -/
theorem frame_reference24 : Cert.quiescent_Reference24Ideal := fun m ρ _ =>
  (θ_run Cert.Reference24Ideal.defs _ _).mono
    (fun r h => ⟨fun c => (h c).2, sem_eq_zero_of_no_sems (by decide) r.2⟩)
    (Cert.Reference24Ideal.Value.run (F := Ideal) m ρ)

/-- The reference of the second branch's weights runs and leaves its arguments as they were. -/
theorem frame_reference25 : Cert.quiescent_Reference25Ideal := fun m ρ _ =>
  (θ_run Cert.Reference25Ideal.defs _ _).mono
    (fun r h => ⟨fun c => (h c).2, sem_eq_zero_of_no_sems (by decide) r.2⟩)
    (Cert.Reference25Ideal.Value.run (F := Ideal) m ρ)

/-- The reference of the third branch's weights runs and leaves its arguments as they were. -/
theorem frame_reference26 : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

/-- The reference of the memory's weights runs and leaves its arguments as they were. -/
theorem frame_reference27 : Cert.quiescent_Reference27Ideal := fun m ρ _ =>
  (θ_run Cert.Reference27Ideal.defs _ _).mono
    (fun r h => ⟨fun c => (h c).2, sem_eq_zero_of_no_sems (by decide) r.2⟩)
    (Cert.Reference27Ideal.Value.run (F := Ideal) m ρ)

/-- The reference of the gradient behind the second branch runs and leaves its arguments as they were. -/
theorem frame_reference28 : Cert.quiescent_Reference28Ideal := fun m ρ _ =>
  (θ_run Cert.Reference28Ideal.defs _ _).mono
    (fun r h => ⟨fun c => (h c).2, sem_eq_zero_of_no_sems (by decide) r.2⟩)
    (Cert.Reference28Ideal.Value.run (F := Ideal) m ρ)

/-- The reference of the gradient behind the third branch runs and leaves its arguments as they were. -/
theorem frame_reference29 : Cert.quiescent_Reference29Ideal := fun m ρ _ =>
  (θ_run Cert.Reference29Ideal.defs _ _).mono
    (fun r h => ⟨fun c => (h c).2, sem_eq_zero_of_no_sems (by decide) r.2⟩)
    (Cert.Reference29Ideal.Value.run (F := Ideal) m ρ)

/-- The reference of the gradient behind the memory's product runs and leaves its arguments as they were. -/
theorem frame_reference30 : Cert.quiescent_Reference30Ideal := fun m ρ _ =>
  (θ_run Cert.Reference30Ideal.defs _ _).mono
    (fun r h => ⟨fun c => (h c).2, sem_eq_zero_of_no_sems (by decide) r.2⟩)
    (Cert.Reference30Ideal.Value.run (F := Ideal) m ρ)

/-- The reference of the second branch's product runs and leaves its arguments as they were. -/
theorem frame_reference31 : Cert.quiescent_Reference31Ideal := fun m ρ _ =>
  (θ_run Cert.Reference31Ideal.defs _ _).mono
    (fun r h => ⟨fun c => (h c).2, sem_eq_zero_of_no_sems (by decide) r.2⟩)
    (Cert.Reference31Ideal.Value.run (F := Ideal) m ρ)

/-- The reference of the third branch's product runs and leaves its arguments as they were. -/
theorem frame_reference32 : Cert.quiescent_Reference32Ideal := fun m ρ _ =>
  (θ_run Cert.Reference32Ideal.defs _ _).mono
    (fun r h => ⟨fun c => (h c).2, sem_eq_zero_of_no_sems (by decide) r.2⟩)
    (Cert.Reference32Ideal.Value.run (F := Ideal) m ρ)

/-- The reference of the keys and values runs and leaves its arguments as they were. -/
theorem frame_reference33 : Cert.quiescent_Reference33Ideal := fun m ρ _ =>
  (θ_run Cert.Reference33Ideal.defs _ _).mono
    (fun r h => ⟨fun c => (h c).2, sem_eq_zero_of_no_sems (by decide) r.2⟩)
    (Cert.Reference33Ideal.Value.run (F := Ideal) m ρ)

/-- The reference of the step sizes' product runs and leaves its arguments as they were. -/
theorem frame_reference34 : Cert.quiescent_Reference34Ideal := fun m ρ _ =>
  (θ_run Cert.Reference34Ideal.defs _ _).mono
    (fun r h => ⟨fun c => (h c).2, sem_eq_zero_of_no_sems (by decide) r.2⟩)
    (Cert.Reference34Ideal.Value.run (F := Ideal) m ρ)

/-- The reference of the output projection runs and leaves its arguments as they were. -/
theorem frame_reference35 : Cert.quiescent_Reference35Ideal := fun m ρ _ =>
  (θ_run Cert.Reference35Ideal.defs _ _).mono
    (fun r h => ⟨fun c => (h c).2.2, sem_eq_zero_of_no_sems (by decide) r.2⟩)
    (Cert.Reference35Ideal.Value.run (F := Ideal) m ρ)

/-- The reference of the norm before the mixing block runs and leaves its arguments as they were. -/
theorem frame_reference36 : Cert.quiescent_Reference36Ideal := fun m ρ _ =>
  (θ_run Cert.Reference36Ideal.defs _ _).mono
    (fun r h => ⟨fun c => (h c).2, sem_eq_zero_of_no_sems (by decide) r.2⟩)
    (Cert.Reference36Ideal.Value.run (F := Ideal) m ρ)

/-- The reference of the memory's norm runs and leaves its arguments as they were. -/
theorem frame_reference37 : Cert.quiescent_Reference37Ideal := fun m ρ _ =>
  (θ_run Cert.Reference37Ideal.defs _ _).mono
    (fun r h => ⟨fun c => (h c).2, sem_eq_zero_of_no_sems (by decide) r.2⟩)
    (Cert.Reference37Ideal.Value.run (F := Ideal) m ρ)

/-- The reference of the memory's norm's gradient runs and leaves its arguments as they were. -/
theorem frame_reference38 : Cert.quiescent_Reference38Ideal := fun m ρ _ =>
  (θ_run Cert.Reference38Ideal.defs _ _).mono
    (fun r h => ⟨fun c => (h c).2, sem_eq_zero_of_no_sems (by decide) r.2⟩)
    (Cert.Reference38Ideal.Value.run (F := Ideal) m ρ)

/-- The reference of the gradient behind the output projection runs and leaves its arguments as they were. -/
theorem frame_reference39 : Cert.quiescent_Reference39Ideal := fun m ρ _ =>
  (θ_run Cert.Reference39Ideal.defs _ _).mono
    (fun r h => ⟨fun c => (h c).2.2.2.2, sem_eq_zero_of_no_sems (by decide) r.2⟩)
    (Cert.Reference39Ideal.Value.run (F := Ideal) m ρ)

/-- The reference of the first branch's product runs and leaves its arguments as they were. -/
theorem frame_reference40 : Cert.quiescent_Reference40Ideal := fun m ρ _ =>
  (θ_run Cert.Reference40Ideal.defs _ _).mono
    (fun r h => ⟨fun c => (h c).2.2, sem_eq_zero_of_no_sems (by decide) r.2⟩)
    (Cert.Reference40Ideal.Value.run (F := Ideal) m ρ)

/-- The reference of the forward pass's attention runs and leaves its arguments as they were. -/
theorem frame_reference41 : Cert.quiescent_Reference41Ideal := fun m ρ _ =>
  (θ_run Cert.Reference41Ideal.defs _ _).mono
    (fun r h => ⟨fun c => (h c).2, sem_eq_zero_of_no_sems (by decide) r.2⟩)
    (Cert.Reference41Ideal.Value.run (F := Ideal) m ρ)

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Kernel33.Gen.facts, Cert.Kernel33Ideal.Gen.facts, Cert.Reference33Ideal.Gen.facts,
  Cert.Kernel34.Gen.facts, Cert.Kernel34Ideal.Gen.facts, Cert.Reference34Ideal.Gen.facts,
  Cert.Kernel35.Gen.facts, Cert.Kernel35Ideal.Gen.facts, Cert.Reference35Ideal.Gen.facts,
  Cert.Kernel36.Gen.facts, Cert.Kernel36Ideal.Gen.facts, Cert.Reference36Ideal.Gen.facts,
  Cert.Kernel37.Gen.facts, Cert.Kernel37Ideal.Gen.facts, Cert.Reference37Ideal.Gen.facts,
  Cert.Kernel38.Gen.facts, Cert.Kernel38Ideal.Gen.facts, Cert.Reference38Ideal.Gen.facts,
  Cert.Kernel39.Gen.facts, Cert.Kernel39Ideal.Gen.facts, Cert.Reference39Ideal.Gen.facts,
  Cert.Kernel40.Gen.facts, Cert.Kernel40Ideal.Gen.facts, Cert.Reference40Ideal.Gen.facts,
  Cert.Kernel41.Gen.facts, Cert.Kernel41Ideal.Gen.facts, Cert.Reference41Ideal.Gen.facts,
  Cert.Att.preFacts, Cert.Ffn.GateGrad.preFacts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.Kernel2.Gen.frame m ρ,
  fun m ρ _ => Cert.Kernel2Ideal.Gen.frame m ρ,
  fun m ρ _ => Cert.Kernel2Ideal.Gen.frame m ρ,
  frame_reference2,
  fun m ρ _ => frame_reference2 m ρ trivial,
  fun m ρ _ => Cert.Kernel5.Gen.frame m ρ,
  fun m ρ _ => Cert.Kernel5Ideal.Gen.frame m ρ,
  frame_reference5,
  fun m ρ _ => Cert.Kernel6.Gen.frame m ρ,
  fun m ρ _ => Cert.Kernel6Ideal.Gen.frame m ρ,
  frame_reference6,
  fun m ρ _ => Cert.Kernel7.Gen.frame m ρ,
  fun m ρ _ => Cert.Kernel7Ideal.Gen.frame m ρ,
  frame_reference7,
  fun m ρ _ => Cert.Kernel8.Gen.frame m ρ,
  fun m ρ _ => Cert.Kernel8Ideal.Gen.frame m ρ,
  frame_reference8,
  fun m ρ _ => Cert.Kernel9.Gen.frame m ρ,
  fun m ρ _ => Cert.Kernel9Ideal.Gen.frame m ρ,
  frame_reference9,
  fun m ρ _ => Cert.Kernel10.Gen.frame m ρ,
  fun m ρ _ => Cert.Kernel10Ideal.Gen.frame m ρ,
  frame_reference10,
  fun m ρ _ => Cert.Kernel11.Gen.frame m ρ,
  fun m ρ _ => Cert.Kernel11Ideal.Gen.frame m ρ,
  frame_reference11,
  fun m ρ _ => Cert.Kernel3.Gen.frame m ρ,
  fun m ρ _ => Cert.Kernel3Ideal.Gen.frame m ρ,
  frame_reference3,
  fun m ρ _ => Cert.Kernel4.Gen.frame m ρ,
  fun m ρ _ => Cert.Kernel4Ideal.Gen.frame m ρ,
  frame_reference4,
  fun m ρ _ => Cert.Kernel12.Gen.frame m ρ,
  fun m ρ _ => Cert.Kernel12Ideal.Gen.frame m ρ,
  frame_reference12,
  fun m ρ _ => Cert.Kernel13.Gen.frame m ρ,
  fun m ρ _ => Cert.Kernel13Ideal.Gen.frame m ρ,
  frame_reference13,
  fun m ρ _ => Cert.Kernel14.Gen.frame m ρ,
  fun m ρ _ => Cert.Kernel14Ideal.Gen.frame m ρ,
  frame_reference14,
  fun m ρ _ => Cert.Kernel15.Gen.frame m ρ,
  fun m ρ _ => Cert.Kernel15Ideal.Gen.frame m ρ,
  frame_reference15,
  fun m ρ _ => Cert.Kernel16.Gen.frame m ρ,
  fun m ρ _ => Cert.Kernel16Ideal.Gen.frame m ρ,
  frame_reference16,
  fun m ρ _ => Cert.Kernel17.Gen.frame m ρ,
  fun m ρ _ => Cert.Kernel17Ideal.Gen.frame m ρ,
  frame_reference17,
  fun m ρ _ => Cert.Kernel18.Gen.frame m ρ,
  fun m ρ _ => Cert.Kernel18Ideal.Gen.frame m ρ,
  frame_reference18,
  fun m ρ _ => Cert.Kernel19.Gen.frame m ρ,
  fun m ρ _ => Cert.Kernel19Ideal.Gen.frame m ρ,
  frame_reference19,
  fun m ρ _ => Cert.Kernel20.Gen.frame m ρ,
  fun m ρ _ => Cert.Kernel20Ideal.Gen.frame m ρ,
  frame_reference20,
  fun m ρ _ => Cert.Kernel21.Gen.frame m ρ,
  fun m ρ _ => Cert.Kernel21Ideal.Gen.frame m ρ,
  frame_reference21,
  fun m ρ _ => Cert.Kernel22.Gen.frame m ρ,
  fun m ρ _ => Cert.Kernel22Ideal.Gen.frame m ρ,
  frame_reference22,
  fun m ρ _ => Cert.Kernel23.Gen.frame m ρ,
  fun m ρ _ => Cert.Kernel23Ideal.Gen.frame m ρ,
  frame_reference23,
  fun m ρ _ => Cert.Kernel24.Gen.frame m ρ,
  fun m ρ _ => Cert.Kernel24Ideal.Gen.frame m ρ,
  frame_reference24,
  fun m ρ _ => Cert.Kernel25.Gen.frame m ρ,
  fun m ρ _ => Cert.Kernel25Ideal.Gen.frame m ρ,
  frame_reference25,
  fun m ρ _ => Cert.Kernel26.Gen.frame m ρ,
  fun m ρ _ => Cert.Kernel26Ideal.Gen.frame m ρ,
  frame_reference26,
  fun m ρ _ => Cert.Kernel27.Gen.frame m ρ,
  fun m ρ _ => Cert.Kernel27Ideal.Gen.frame m ρ,
  frame_reference27,
  fun m ρ _ => Cert.Kernel28.Gen.frame m ρ,
  fun m ρ _ => Cert.Kernel28Ideal.Gen.frame m ρ,
  frame_reference28,
  fun m ρ _ => Cert.Kernel29.Gen.frame m ρ,
  fun m ρ _ => Cert.Kernel29Ideal.Gen.frame m ρ,
  frame_reference29,
  fun m ρ _ => Cert.Kernel30.Gen.frame m ρ,
  fun m ρ _ => Cert.Kernel30Ideal.Gen.frame m ρ,
  frame_reference30,
  fun m ρ _ => Cert.Kernel31.Gen.frame m ρ,
  fun m ρ _ => Cert.Kernel31Ideal.Gen.frame m ρ,
  frame_reference31,
  fun m ρ _ => Cert.Kernel32.Gen.frame m ρ,
  fun m ρ _ => Cert.Kernel32Ideal.Gen.frame m ρ,
  frame_reference32,
  fun m ρ _ => Cert.Kernel33.Gen.frame m ρ,
  fun m ρ _ => Cert.Kernel33Ideal.Gen.frame m ρ,
  frame_reference33,
  fun m ρ _ => Cert.Kernel34.Gen.frame m ρ,
  fun m ρ _ => Cert.Kernel34Ideal.Gen.frame m ρ,
  frame_reference34,
  fun m ρ _ => Cert.Kernel35.Gen.frame m ρ,
  fun m ρ _ => Cert.Kernel35Ideal.Gen.frame m ρ,
  frame_reference35,
  fun m ρ _ => Cert.Kernel36.Gen.frame m ρ,
  fun m ρ _ => Cert.Kernel36Ideal.Gen.frame m ρ,
  frame_reference36,
  fun m ρ _ => Cert.Kernel37.Gen.frame m ρ,
  fun m ρ _ => Cert.Kernel37Ideal.Gen.frame m ρ,
  frame_reference37,
  fun m ρ _ => Cert.Kernel38.Gen.frame m ρ,
  fun m ρ _ => Cert.Kernel38Ideal.Gen.frame m ρ,
  frame_reference38,
  fun m ρ _ => Cert.Kernel39.Gen.frame m ρ,
  fun m ρ _ => Cert.Kernel39Ideal.Gen.frame m ρ,
  frame_reference39,
  fun m ρ _ => Cert.Kernel40.Gen.frame m ρ,
  fun m ρ _ => Cert.Kernel40Ideal.Gen.frame m ρ,
  frame_reference40,
  fun m ρ _ => Cert.Kernel41.Gen.frame m ρ,
  fun m ρ _ => Cert.Kernel41Ideal.Gen.frame m ρ,
  frame_reference41,
  trivial, Cert.Att.algebraic,
  trivial, Cert.Ffn.GateGrad.algebraic,
  trivial, Cert.Ffn.DownWeight.algebraic,
  trivial, Cert.Ffn.UpWeight.algebraic,
  trivial, Cert.Ffn.DnGate.algebraic,
  trivial, Cert.Ffn.InWeight.algebraic,
  trivial, Cert.Ffn.GateUp.algebraic,
  trivial, Cert.Ffn.InProj.algebraic,
  trivial, Cert.Ffn.Down.algebraic,
  trivial, Cert.Ffn.NormUp.algebraic,
  trivial, Cert.Ffn.NormIn.algebraic,
  trivial, Cert.Adam.Layers.algebraic,
  trivial, Cert.Adam.InProj.algebraic,
  trivial, Cert.Adam.Ssd.algebraic,
  trivial, Cert.Adam.Out.algebraic,
  trivial, Cert.Adam.Memory.algebraic,
  trivial, Cert.Adam.Branch.algebraic,
  trivial, Cert.Adam.Conv.algebraic,
  trivial, Cert.Adam.Packed.algebraic,
  trivial, Cert.Adam.First.algebraic,
  trivial, Cert.Gate.Forward.algebraic,
  trivial, Cert.Gate.Loss.algebraic,
  trivial, Cert.Mix.OutWeight.algebraic,
  trivial, Cert.Mix.SsdWeight.algebraic,
  trivial, Cert.Mix.GmlpWeight.algebraic,
  trivial, Cert.Mix.MemWeight.algebraic,
  trivial, Cert.Mix.KvWeight.algebraic,
  trivial, Cert.Mix.GmlpBack.algebraic,
  trivial, Cert.Mix.MemBack.algebraic,
  trivial, Cert.Mix.KvBack.algebraic,
  trivial, Cert.Mix.GmlpBranch.algebraic,
  trivial, Cert.Mix.MemBranch.algebraic,
  trivial, Cert.Mix.Kv.algebraic,
  trivial, Cert.Mix.Steps.algebraic,
  trivial, Cert.Mix.OutProj.algebraic,
  trivial, Cert.Mix.MixNorm.algebraic,
  trivial, Cert.Mix.MemNorm.algebraic,
  trivial, Cert.Mix.MemNormBack.algebraic,
  trivial, Cert.Mix.OutProjBack.algebraic,
  trivial, Cert.Mix.BranchSsd.algebraic,
  trivial, Cert.Mix.AttForward.algebraic⟩

end Cert.Proof

end
